-- ==== Defs.lean ====
def Pre_Kernel [hPre_tiles_fit : Cert.Pre_tiles_fit.Facts] (m : (ℓ : Loc Cert.Kernel.nD Cert.Kernel.τ Cert.Kernel.sig) → Buf (Elt Bits) ℓ) : Prop :=
  ∀ c : Dev Cert.Kernel.nD,
    (Cert.Pre_tiles_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_tiles_fit : Cert.Pre_tiles_fit.Facts] (m : (ℓ : Loc Cert.KernelIdeal.nD Cert.KernelIdeal.τ Cert.KernelIdeal.sig) → Buf (Elt Ideal) ℓ) : Prop :=
  ∀ c : Dev Cert.KernelIdeal.nD,
    (Cert.Pre_tiles_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tiles_fit [hPre_tiles_fit : Cert.Pre_tiles_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tiles_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] [hPre_tiles_fit : Cert.Pre_tiles_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_tiles_fit : Cert.Pre_tiles_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tiles_fit [hReferenceIdeal : Cert.ReferenceIdeal.Facts] [hPre_tiles_fit : Cert.Pre_tiles_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tiles_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_on_held_tiles [hKernelIdeal : Cert.KernelIdeal.Facts] [hReferenceIdeal : Cert.ReferenceIdeal.Facts] [hPre_tiles_fit : Cert.Pre_tiles_fit.Facts] [hOn_held_tiles : Cert.On_held_tiles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![5120, 1024]⟩ : Shape).Idx, (Cert.On_held_tiles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.KernelIdeal.nD Cert.KernelIdeal.τ).loc Cert.KernelIdeal.main_v1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![5120, 1024]⟩ : Shape).Idx, (Cert.On_held_tiles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) i = 1#1 → r.2.mem ((c.tc : Thread Cert.ReferenceIdeal.nD Cert.ReferenceIdeal.τ).loc Cert.ReferenceIdeal.main_v236) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v62)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v62) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v228) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3Ideal : Cert.Kernel3Ideal.Facts) (hReference3Ideal : Cert.Reference3Ideal.Facts) (hPre_tiles_fit : Cert.Pre_tiles_fit.Facts) (hPre_finite : Cert.Pre_finite.Facts) (hPre_finite3 : Cert.Pre_finite3.Facts) (hOn_held_tiles : Cert.On_held_tiles.Facts),
    quiescent_Kernel (hKernel := hKernel) (hPre_tiles_fit := hPre_tiles_fit)
    ∧ quiescent_KernelIdeal (hKernelIdeal := hKernelIdeal) (hPre_tiles_fit := hPre_tiles_fit)
    ∧ quiescent_ReferenceIdeal (hReferenceIdeal := hReferenceIdeal)
    ∧ quiescent_ReferenceIdeal_pre_tiles_fit (hReferenceIdeal := hReferenceIdeal) (hPre_tiles_fit := hPre_tiles_fit)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_on_held_tiles (hKernelIdeal := hKernelIdeal) (hReferenceIdeal := hReferenceIdeal) (hPre_tiles_fit := hPre_tiles_fit) (hOn_held_tiles := hOn_held_tiles)
    ∧ preserves_Kernel2_Kernel2Ideal
    ∧ algebraic_Kernel2Ideal_Reference2Ideal_pre_finite (hKernel2Ideal := hKernel2Ideal) (hReference2Ideal := hReference2Ideal) (hPre_finite := hPre_finite)
    ∧ algebraic_Kernel3Ideal_Reference3Ideal_pre_finite3 (hKernel3Ideal := hKernel3Ideal) (hReference3Ideal := hReference3Ideal) (hPre_finite3 := hPre_finite3)
-- ==== On_held_tiles.lean ====
abbrev S16 : Shape := ⟨1, ![16]⟩
abbrev S5120x1024 : Shape := ⟨2, ![5120, 1024]⟩
abbrev S8x1024x2880 : Shape := ⟨3, ![8, 1024, 2880]⟩
abbrev S8x2880x1024 : Shape := ⟨3, ![8, 2880, 1024]⟩
abbrev S5120x1 : Shape := ⟨2, ![5120, 1]⟩
abbrev S5120 : Shape := ⟨1, ![5120]⟩
abbrev S_ : Shape := ⟨0, ![]⟩
abbrev S1 : Shape := ⟨1, ![1]⟩

class Facts : Prop where
  bcast_S_S5120 : S_.BroadcastsInDim S5120 (![] : Fin 0 → Fin S5120.rank)
  bcast_S5120_S5120x1_0 : S5120.BroadcastsInDim S5120x1 (![0] : Fin 1 → Fin S5120x1.rank)
  slices_S16_S1_7 : S16.Slices ![7] S1
  shapeCasts_S1_S_ : S1.ShapeCasts S_
  slices_S16_S1_15 : S16.Slices ![15] S1
  bcast_S_S5120x1 : S_.BroadcastsInDim S5120x1 (![] : Fin 0 → Fin S5120x1.rank)
  bcast_S5120x1_S5120x1024_0_1 : S5120x1.BroadcastsInDim S5120x1024 (![0, 1] : Fin 2 → Fin S5120x1024.rank)

variable [Facts]

def fn_where {F : FTy → Type} [FloatOps F] (arg0 : IVec S5120 1) (arg1 : IVec S5120 32) (arg2 : IVec S5120 32) : IVec S5120 32 :=
  let v0 : IVec S5120 32 := select arg0 arg1 arg2
  v0

def fn_floor_divide {F : FTy → Type} [FloatOps F] (arg0 : IVec S5120 32) (arg1 : IVec S_ 32) : IVec S5120 32 :=
  let v0 : IVec S_ 32 := id arg1
  let v1 : IVec S5120 32 := broadcastInDim S5120 ![] bcast_S_S5120 v0
  let v2 : IVec S5120 32 := Host.divsi arg0 v1
  let v3 : IVec S5120 32 := signi arg0
  let v4 : IVec S_ 32 := signi v0
  let v5 : IVec S5120 32 := broadcastInDim S5120 ![] bcast_S_S5120 v4
  let v6 : IVec S5120 1 := cmpi .ne v3 v5
  let v7 : IVec S5120 32 := broadcastInDim S5120 ![] bcast_S_S5120 v0
  let v8 : IVec S5120 32 := Host.remsi arg0 v7
  let c : IVec S_ 32 := constantI S_ 32 0#32
  let v9 : IVec S5120 32 := broadcastInDim S5120 ![] bcast_S_S5120 c
  let v10 : IVec S5120 1 := cmpi .ne v8 v9
  let v11 : IVec S5120 1 := andi v6 v10
  let c_0 : IVec S_ 32 := constantI S_ 32 1#32
  let v12 : IVec S5120 32 := broadcastInDim S5120 ![] bcast_S_S5120 c_0
  let v13 : IVec S5120 32 := subi v2 v12
  let v14 : IVec S5120 32 := fn_where (F := F) v11 v13 v2
  v14

def fn {F : FTy → Type} [FloatOps F] (main_arg0 : IVec S16 32) (main_arg1 : FVec F S5120x1024 .bf16) (main_arg2 : FVec F S8x1024x2880 .f32) (main_arg3 : FVec F S8x1024x2880 .f32) (main_arg4 : FVec F S8x2880x1024 .f32) (main_arg5 : FVec F S5120x1 .f32) : IVec S5120x1024 1 :=
  let main_v0 : IVec S5120 32 := iotaInDim S5120 32 0
  let main_c : IVec S_ 32 := constantI S_ 32 128#32
  let main_v1 : IVec S5120 32 := fn_floor_divide (F := F) main_v0 main_c
  let main_v2 : IVec S5120x1 32 := broadcastInDim S5120x1 ![0] bcast_S5120_S5120x1_0 main_v1
  let main_v3 : IVec S1 32 := (extractStridedSlice S1 ![7] · slices_S16_S1_7) main_arg0
  let main_v4 : IVec S_ 32 := shapeCast S_ main_v3 shapeCasts_S1_S_
  let main_v5 : IVec S1 32 := (extractStridedSlice S1 ![15] · slices_S16_S1_15) main_arg0
  let main_v6 : IVec S_ 32 := shapeCast S_ main_v5 shapeCasts_S1_S_
  let main_v7 : IVec S_ 32 := addi main_v4 main_v6
  let main_v8 : IVec S5120x1 32 := broadcastInDim S5120x1 ![] bcast_S_S5120x1 main_v7
  let main_v9 : IVec S5120x1 1 := cmpi .slt main_v2 main_v8
  let main_v10 : IVec S5120x1024 1 := broadcastInDim S5120x1024 ![0, 1] bcast_S5120x1_S5120x1024_0_1 main_v9
  main_v10
-- ==== Pre_finite.lean ====
abbrev S2048x1024 : Shape := ⟨2, ![2048, 1024]⟩
abbrev S1024x8 : Shape := ⟨2, ![1024, 8]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S2048x1024 .f32) (main_arg1 : FVec F S1024x8 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Pre_finite3.lean ====
abbrev S1x2048x1024 : Shape := ⟨3, ![1, 2048, 1024]⟩
abbrev S1024x8 : Shape := ⟨2, ![1024, 8]⟩
abbrev S8x1024x2880 : Shape := ⟨3, ![8, 1024, 2880]⟩
abbrev S8x2880x1024 : Shape := ⟨3, ![8, 2880, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S1x2048x1024 .f32) (main_arg1 : FVec F S1024x8 .f32) (main_arg2 : FVec F S8x1024x2880 .f32) (main_arg3 : FVec F S8x1024x2880 .f32) (main_arg4 : FVec F S8x2880x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Pre_tiles_fit.lean ====
abbrev S16 : Shape := ⟨1, ![16]⟩
abbrev S5120x1024 : Shape := ⟨2, ![5120, 1024]⟩
abbrev S8x1024x2880 : Shape := ⟨3, ![8, 1024, 2880]⟩
abbrev S8x2880x1024 : Shape := ⟨3, ![8, 2880, 1024]⟩
abbrev S5120x1 : Shape := ⟨2, ![5120, 1]⟩
abbrev S8 : Shape := ⟨1, ![8]⟩
abbrev S_ : Shape := ⟨0, ![]⟩
abbrev S1 : Shape := ⟨1, ![1]⟩
abbrev S7 : Shape := ⟨1, ![7]⟩

class Facts : Prop where
  slices_S16_S8_0 : S16.Slices ![0] S8
  slices_S16_S8_8 : S16.Slices ![8] S8
  bcast_S_S8 : S_.BroadcastsInDim S8 (![] : Fin 0 → Fin S8.rank)
  reducesTo_S8_S_d0 : S8.ReducesTo [0] S_
  h_S_ : 0 < S_.numel
  slices_S8_S1_0 : S8.Slices ![0] S1
  shapeCasts_S1_S_ : S1.ShapeCasts S_
  slices_S8_S7_1 : S8.Slices ![1] S7
  slices_S8_S7_0 : S8.Slices ![0] S7
  reducesTo_S7_S_d0 : S7.ReducesTo [0] S_
  slices_S8_S1_7 : S8.Slices ![7] S1

variable [Facts]

def fn_part1 {F : FTy → Type} [FloatOps F] (main_v0 : IVec S8 32) (main_v1 : IVec S8 32) (main_v8 : IVec S_ 1) (main_v11 : IVec S_ 1) (main_v17 : IVec S_ 1) : IVec S_ 1 :=
  let main_v18 : IVec S_ 1 := andi main_v11 main_v17
  let main_v19 : IVec S_ 1 := andi main_v8 main_v18
  let main_v20 : IVec S1 32 := (extractStridedSlice S1 ![7] · slices_S8_S1_7) main_v0
  let main_v21 : IVec S_ 32 := shapeCast S_ main_v20 shapeCasts_S1_S_
  let main_v22 : IVec S1 32 := (extractStridedSlice S1 ![7] · slices_S8_S1_7) main_v1
  let main_v23 : IVec S_ 32 := shapeCast S_ main_v22 shapeCasts_S1_S_
  let main_v24 : IVec S_ 32 := addi main_v21 main_v23
  let main_c_5 : IVec S_ 32 := constantI S_ 32 39#32
  let main_v25 : IVec S_ 1 := cmpi .sle main_v24 main_c_5
  let main_v26 : IVec S_ 1 := andi main_v19 main_v25
  main_v26

def fn {F : FTy → Type} [FloatOps F] (main_arg0 : IVec S16 32) (main_arg1 : FVec F S5120x1024 .bf16) (main_arg2 : FVec F S8x1024x2880 .f32) (main_arg3 : FVec F S8x1024x2880 .f32) (main_arg4 : FVec F S8x2880x1024 .f32) (main_arg5 : FVec F S5120x1 .f32) : IVec S_ 1 :=
  let main_v0 : IVec S8 32 := (extractStridedSlice S8 ![0] · slices_S16_S8_0) main_arg0
  let main_v1 : IVec S8 32 := (extractStridedSlice S8 ![8] · slices_S16_S8_8) main_arg0
  let main_c : IVec S_ 32 := constantI S_ 32 0#32
  let main_v2 : IVec S8 32 := broadcastInDim S8 ![] bcast_S_S8 main_c
  let main_v3 : IVec S8 1 := cmpi .sge main_v1 main_v2
  let main_c_0 : IVec S_ 1 := constantI S_ 1 1#1
  let main_v4 : IVec S_ 1 := (fun x v => Host.reduce IntOp.andi x v reducesTo_S8_S_d0 h_S_) main_v3 main_c_0
  let main_c_1 : IVec S_ 32 := constantI S_ 32 16#32
  let main_v5 : IVec S8 32 := broadcastInDim S8 ![] bcast_S_S8 main_c_1
  let main_v6 : IVec S8 1 := cmpi .sle main_v1 main_v5
  let main_c_2 : IVec S_ 1 := constantI S_ 1 1#1
  let main_v7 : IVec S_ 1 := (fun x v => Host.reduce IntOp.andi x v reducesTo_S8_S_d0 h_S_) main_v6 main_c_2
  let main_v8 : IVec S_ 1 := andi main_v4 main_v7
  let main_v9 : IVec S1 32 := (extractStridedSlice S1 ![0] · slices_S8_S1_0) main_v0
  let main_v10 : IVec S_ 32 := shapeCast S_ main_v9 shapeCasts_S1_S_
  let main_c_3 : IVec S_ 32 := constantI S_ 32 0#32
  let main_v11 : IVec S_ 1 := cmpi .eq main_v10 main_c_3
  let main_v12 : IVec S7 32 := (extractStridedSlice S7 ![1] · slices_S8_S7_1) main_v0
  let main_v13 : IVec S7 32 := (extractStridedSlice S7 ![0] · slices_S8_S7_0) main_v0
  let main_v14 : IVec S7 32 := (extractStridedSlice S7 ![0] · slices_S8_S7_0) main_v1
  let main_v15 : IVec S7 32 := addi main_v13 main_v14
  let main_v16 : IVec S7 1 := cmpi .eq main_v12 main_v15
  let main_c_4 : IVec S_ 1 := constantI S_ 1 1#1
  let main_v17 : IVec S_ 1 := (fun x v => Host.reduce IntOp.andi x v reducesTo_S7_S_d0 h_S_) main_v16 main_c_4
  fn_part1 (F := F) main_v0 main_v1 main_v8 main_v11 main_v17
-- ==== Kernel.lean ====
abbrev S16 : Shape := ⟨1, ![16]⟩
abbrev S5120x1024 : Shape := ⟨2, ![5120, 1024]⟩
abbrev S8x1024x2880 : Shape := ⟨3, ![8, 1024, 2880]⟩
abbrev S8x2880x1024 : Shape := ⟨3, ![8, 2880, 1024]⟩
abbrev S5120x1 : Shape := ⟨2, ![5120, 1]⟩
abbrev S5120x2880 : Shape := ⟨2, ![5120, 2880]⟩
abbrev S128x1024 : Shape := ⟨2, ![128, 1024]⟩
abbrev S1 : Shape := ⟨1, ![1]⟩
abbrev S1x1024x2880 : Shape := ⟨3, ![1, 1024, 2880]⟩
abbrev S128x2880 : Shape := ⟨2, ![128, 2880]⟩
abbrev S1024x2880 : Shape := ⟨2, ![1024, 2880]⟩
abbrev S1x2880x1024 : Shape := ⟨3, ![1, 2880, 1024]⟩
abbrev S128x1 : Shape := ⟨2, ![128, 1]⟩
abbrev S2880x1024 : Shape := ⟨2, ![2880, 1024]⟩

abbrev nBuf : Space → Nat
  | .hbm => 7
  | .vmem => 16
  | .smem => 1
  | _ => 0

abbrev bufTy : (tb : Table) → Fin (tcTables nBuf tb) → BufTy
  | .hbm, ⟨0, _⟩ => ⟨S5120x1024, .bf16⟩
  | .hbm, ⟨1, _⟩ => ⟨S8x1024x2880, .f32⟩
  | .hbm, ⟨2, _⟩ => ⟨S8x1024x2880, .f32⟩
  | .hbm, ⟨3, _⟩ => ⟨S8x2880x1024, .f32⟩
  | .hbm, ⟨4, _⟩ => ⟨S5120x1, .f32⟩
  | .hbm, ⟨5, _⟩ => ⟨S5120x2880, .bf16⟩
  | .hbm, ⟨6, _⟩ => ⟨S5120x1024, .f32⟩
  | .local _ .vmem, ⟨0, _⟩ => ⟨S128x1024, .bf16⟩
  | .local _ .vmem, ⟨1, _⟩ => ⟨S128x1024, .bf16⟩
  | .local _ .vmem, ⟨2, _⟩ => ⟨S1x1024x2880, .f32⟩
  | .local _ .vmem, ⟨3, _⟩ => ⟨S1x1024x2880, .f32⟩
  | .local _ .vmem, ⟨4, _⟩ => ⟨S1x1024x2880, .f32⟩
  | .local _ .vmem, ⟨5, _⟩ => ⟨S1x1024x2880, .f32⟩
  | .local _ .vmem, ⟨6, _⟩ => ⟨S128x2880, .bf16⟩
  | .local _ .vmem, ⟨7, _⟩ => ⟨S128x2880, .bf16⟩
  | .local _ .vmem, ⟨8, _⟩ => ⟨S128x2880, .bf16⟩
  | .local _ .vmem, ⟨9, _⟩ => ⟨S128x2880, .bf16⟩
  | .local _ .vmem, ⟨10, _⟩ => ⟨S1x2880x1024, .f32⟩
  | .local _ .vmem, ⟨11, _⟩ => ⟨S1x2880x1024, .f32⟩
  | .local _ .vmem, ⟨12, _⟩ => ⟨S128x1, .f32⟩
  | .local _ .vmem, ⟨13, _⟩ => ⟨S128x1, .f32⟩
  | .local _ .vmem, ⟨14, _⟩ => ⟨S128x1024, .f32⟩
  | .local _ .vmem, ⟨15, _⟩ => ⟨S128x1024, .f32⟩
  | .local _ .smem, ⟨0, _⟩ => ⟨S16, .i32⟩
  | _, _ => ⟨S5120x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let c8_i32 : BitVec 32 := 8#32
  let arg0 : BitVec 32 := BitVec.ofNat 32 (i 0).val
  let v0 : BitVec 32 := Scalar.addi c8_i32 arg0
  let v1 : Index := Scalar.indexCast v0
  ![v1.toNat]
def k0_off2 (i : grid0.Coords) : Fin 1 → Nat :=
  let arg0 : BitVec 32 := BitVec.ofNat 32 (i 0).val
  let v3 : Index := Scalar.indexCast arg0
  ![v3.toNat]
def k0_cond1 (i : grid0.Coords) (v2 : BitVec 32) : BitVec 1 :=
  let arg1 : BitVec 32 := BitVec.ofNat 32 (i 1).val
  let v3 : BitVec 1 := Scalar.cmpi .slt arg1 v2
  let v4 : BitVec 32 := Scalar.extui v3
  let c0_i32 : BitVec 32 := 0#32
  let v5 : BitVec 1 := Scalar.cmpi .ne v4 c0_i32
  v5

def cc0_transform_0 (k0_off1_inb : ∀ i : grid0.Coords, ∀ a, (k0_off1 i) a + S1.size a ≤ S16.size a) (numel1_S1 : S1.numel = 1) (k0_off2_inb : ∀ i : grid0.Coords, ∀ a, (k0_off2 i) a + S1.size a ≤ S16.size a) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let v1 : Index := Scalar.indexCast v0
  let v2 : BitVec 32 := pf.at 0 (Rect.unit (s := S16) ![v1.toNat] S1.size (k0_off1_inb i)) numel1_S1
  let v3 : Index := Scalar.indexCast arg0
  let v4 : BitVec 32 := pf.at 0 (Rect.unit (s := S16) ![v3.toNat] S1.size (k0_off2_inb i)) numel1_S1
  let c1_i32 : BitVec 32 := 1#32
  let v5 : BitVec 32 := Scalar.subi v2 c1_i32
  let v6 : BitVec 32 := Scalar.minsi arg1 v5
  let c0_i32 : BitVec 32 := 0#32
  let v7 : BitVec 32 := Scalar.maxsi c0_i32 v6
  let v8 : BitVec 32 := Scalar.addi v4 v7
  let c0_i32_0 : BitVec 32 := 0#32
  let v9 : BitVec 32 := Scalar.maxsi c0_i32_0 v8
  let c0_i32_1 : BitVec 32 := 0#32
  let c0_i32_2 : BitVec 32 := 0#32
  ![v9.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (k0_off1_inb : ∀ i : grid0.Coords, ∀ a, (k0_off1 i) a + S1.size a ≤ S16.size a) (numel1_S1 : S1.numel = 1) (k0_off2_inb : ∀ i : grid0.Coords, ∀ a, (k0_off2 i) a + S1.size a ≤ S16.size a) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let v1 : Index := Scalar.indexCast v0
  let v2 : BitVec 32 := pf.at 0 (Rect.unit (s := S16) ![v1.toNat] S1.size (k0_off1_inb i)) numel1_S1
  let v3 : Index := Scalar.indexCast arg0
  let v4 : BitVec 32 := pf.at 0 (Rect.unit (s := S16) ![v3.toNat] S1.size (k0_off2_inb i)) numel1_S1
  let c1_i32 : BitVec 32 := 1#32
  let v5 : BitVec 32 := Scalar.subi v2 c1_i32
  let v6 : BitVec 32 := Scalar.minsi arg1 v5
  let c0_i32 : BitVec 32 := 0#32
  let v7 : BitVec 32 := Scalar.maxsi c0_i32 v6
  let v8 : BitVec 32 := Scalar.addi v4 v7
  let c0_i32_0 : BitVec 32 := 0#32
  let v9 : BitVec 32 := Scalar.maxsi c0_i32_0 v8
  let c0_i32_1 : BitVec 32 := 0#32
  let c0_i32_2 : BitVec 32 := 0#32
  ![v9.toNat, c0_i32_1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2880 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2880 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x2880 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 16], ![false, false]⟩

abbrev pre1 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let c8_i32 : BitVec 32 := 8#32
  let arg0 : BitVec 32 := BitVec.ofNat 32 (i 0).val
  let v0 : BitVec 32 := Scalar.addi c8_i32 arg0
  let v1 : Index := Scalar.indexCast v0
  ![v1.toNat]
def k1_off2 (i : grid1.Coords) : Fin 1 → Nat :=
  let arg0 : BitVec 32 := BitVec.ofNat 32 (i 0).val
  let v3 : Index := Scalar.indexCast arg0
  ![v3.toNat]
def k1_cond1 (i : grid1.Coords) (v2 : BitVec 32) : BitVec 1 :=
  let arg1 : BitVec 32 := BitVec.ofNat 32 (i 1).val
  let v3 : BitVec 1 := Scalar.cmpi .slt arg1 v2
  let v4 : BitVec 32 := Scalar.extui v3
  let c0_i32 : BitVec 32 := 0#32
  let v5 : BitVec 1 := Scalar.cmpi .ne v4 c0_i32
  v5

def cc1_transform_0 (k1_off1_inb : ∀ i : grid1.Coords, ∀ a, (k1_off1 i) a + S1.size a ≤ S16.size a) (numel1_S1 : S1.numel = 1) (k1_off2_inb : ∀ i : grid1.Coords, ∀ a, (k1_off2 i) a + S1.size a ≤ S16.size a) (pf : pre1.Contents (Elt F)) (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let v1 : Index := Scalar.indexCast v0
  let v2 : BitVec 32 := pf.at 0 (Rect.unit (s := S16) ![v1.toNat] S1.size (k1_off1_inb i)) numel1_S1
  let v3 : Index := Scalar.indexCast arg0
  let v4 : BitVec 32 := pf.at 0 (Rect.unit (s := S16) ![v3.toNat] S1.size (k1_off2_inb i)) numel1_S1
  let c1_i32 : BitVec 32 := 1#32
  let v5 : BitVec 32 := Scalar.subi v2 c1_i32
  let v6 : BitVec 32 := Scalar.minsi arg1 v5
  let c0_i32 : BitVec 32 := 0#32
  let v7 : BitVec 32 := Scalar.maxsi c0_i32 v6
  let v8 : BitVec 32 := Scalar.addi v4 v7
  let c0_i32_0 : BitVec 32 := 0#32
  let v9 : BitVec 32 := Scalar.maxsi c0_i32_0 v8
  let c0_i32_1 : BitVec 32 := 0#32
  let c0_i32_2 : BitVec 32 := 0#32
  ![v9.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (k1_off1_inb : ∀ i : grid1.Coords, ∀ a, (k1_off1 i) a + S1.size a ≤ S16.size a) (numel1_S1 : S1.numel = 1) (k1_off2_inb : ∀ i : grid1.Coords, ∀ a, (k1_off2 i) a + S1.size a ≤ S16.size a) (pf : pre1.Contents (Elt F)) (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let v1 : Index := Scalar.indexCast v0
  let v2 : BitVec 32 := pf.at 0 (Rect.unit (s := S16) ![v1.toNat] S1.size (k1_off1_inb i)) numel1_S1
  let v3 : Index := Scalar.indexCast arg0
  let v4 : BitVec 32 := pf.at 0 (Rect.unit (s := S16) ![v3.toNat] S1.size (k1_off2_inb i)) numel1_S1
  let c1_i32 : BitVec 32 := 1#32
  let v5 : BitVec 32 := Scalar.subi v2 c1_i32
  let v6 : BitVec 32 := Scalar.minsi arg1 v5
  let c0_i32 : BitVec 32 := 0#32
  let v7 : BitVec 32 := Scalar.maxsi c0_i32 v6
  let v8 : BitVec 32 := Scalar.addi v4 v7
  let c0_i32_0 : BitVec 32 := 0#32
  let v9 : BitVec 32 := Scalar.maxsi c0_i32_0 v8
  let c0_i32_1 : BitVec 32 := 0#32
  let c0_i32_2 : BitVec 32 := 0#32
  ![v9.toNat, c0_i32_1.toNat]

def cc1_transform_3 (k1_off1_inb : ∀ i : grid1.Coords, ∀ a, (k1_off1 i) a + S1.size a ≤ S16.size a) (numel1_S1 : S1.numel = 1) (k1_off2_inb : ∀ i : grid1.Coords, ∀ a, (k1_off2 i) a + S1.size a ≤ S16.size a) (pf : pre1.Contents (Elt F)) (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let v1 : Index := Scalar.indexCast v0
  let v2 : BitVec 32 := pf.at 0 (Rect.unit (s := S16) ![v1.toNat] S1.size (k1_off1_inb i)) numel1_S1
  let v3 : Index := Scalar.indexCast arg0
  let v4 : BitVec 32 := pf.at 0 (Rect.unit (s := S16) ![v3.toNat] S1.size (k1_off2_inb i)) numel1_S1
  let c1_i32 : BitVec 32 := 1#32
  let v5 : BitVec 32 := Scalar.subi v2 c1_i32
  let v6 : BitVec 32 := Scalar.minsi arg1 v5
  let c0_i32 : BitVec 32 := 0#32
  let v7 : BitVec 32 := Scalar.maxsi c0_i32 v6
  let v8 : BitVec 32 := Scalar.addi v4 v7
  let c0_i32_0 : BitVec 32 := 0#32
  let v9 : BitVec 32 := Scalar.maxsi c0_i32_0 v8
  let c0_i32_1 : BitVec 32 := 0#32
  let c0_i32_2 : BitVec 32 := 0#32
  ![v9.toNat, c0_i32_1.toNat]

abbrev stage1_0 : Fin 2 → Memref sig .tc .vmem S128x2880 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2880x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S16 : Shape := ⟨1, ![16]⟩
abbrev S5120x1024 : Shape := ⟨2, ![5120, 1024]⟩
abbrev S8x1024x2880 : Shape := ⟨3, ![8, 1024, 2880]⟩
abbrev S8x2880x1024 : Shape := ⟨3, ![8, 2880, 1024]⟩
abbrev S5120x1 : Shape := ⟨2, ![5120, 1]⟩
abbrev S5120 : Shape := ⟨1, ![5120]⟩
abbrev S_ : Shape := ⟨0, ![]⟩
abbrev S1 : Shape := ⟨1, ![1]⟩
abbrev S1x1024x2880 : Shape := ⟨3, ![1, 1024, 2880]⟩
abbrev S1024x2880 : Shape := ⟨2, ![1024, 2880]⟩
abbrev S5120x2880 : Shape := ⟨2, ![5120, 2880]⟩
abbrev S1x2880x1024 : Shape := ⟨3, ![1, 2880, 1024]⟩
abbrev S2880x1024 : Shape := ⟨2, ![2880, 1024]⟩

abbrev nBuf : Space → Nat
  | .hbm => 405
  | .vmem => 0
  | .smem => 0
  | _ => 0

abbrev hbmTy0_0 (i : Nat) : BufTy := match i % 128 with
  | 0 => ⟨S16, .i32⟩
  | 1 => ⟨S5120x1024, .bf16⟩
  | 2 => ⟨S8x1024x2880, .f32⟩
  | 3 => ⟨S8x1024x2880, .f32⟩
  | 4 => ⟨S8x2880x1024, .f32⟩
  | 5 => ⟨S5120x1, .f32⟩
  | 6 => ⟨S5120x1024, .f32⟩
  | 7 => ⟨S5120, .i32⟩
  | 8 => ⟨S_, .i32⟩
  | 9 => ⟨S_, .i32⟩
  | 10 => ⟨S5120, .i32⟩
  | 11 => ⟨S5120, .i32⟩
  | 12 => ⟨S5120, .i32⟩
  | 13 => ⟨S_, .i32⟩
  | 14 => ⟨S5120, .i32⟩
  | 15 => ⟨S5120, .i1⟩
  | 16 => ⟨S5120, .i32⟩
  | 17 => ⟨S5120, .i32⟩
  | 18 => ⟨S_, .i32⟩
  | 19 => ⟨S5120, .i32⟩
  | 20 => ⟨S5120, .i1⟩
  | 21 => ⟨S5120, .i1⟩
  | 22 => ⟨S_, .i32⟩
  | 23 => ⟨S5120, .i32⟩
  | 24 => ⟨S5120, .i32⟩
  | 25 => ⟨S5120, .i32⟩
  | 26 => ⟨S5120x1, .i32⟩
  | 27 => ⟨S_, .f32⟩
  | 28 => ⟨S5120x1024, .f32⟩
  | 29 => ⟨S1, .i32⟩
  | 30 => ⟨S_, .i32⟩
  | 31 => ⟨S5120x1, .i32⟩
  | 32 => ⟨S5120x1, .i1⟩
  | 33 => ⟨S1, .i32⟩
  | 34 => ⟨S_, .i32⟩
  | 35 => ⟨S_, .i32⟩
  | 36 => ⟨S5120x1, .i32⟩
  | 37 => ⟨S5120x1, .i1⟩
  | 38 => ⟨S5120x1, .i1⟩
  | 39 => ⟨S5120x1, .f32⟩
  | 40 => ⟨S5120x1024, .f32⟩
  | 41 => ⟨S5120x1024, .f32⟩
  | 42 => ⟨S1x1024x2880, .f32⟩
  | 43 => ⟨S1024x2880, .f32⟩
  | 44 => ⟨S5120x2880, .f32⟩
  | 45 => ⟨S5120x2880, .f32⟩
  | 46 => ⟨S5120x2880, .f32⟩
  | 47 => ⟨S_, .f32⟩
  | 48 => ⟨S5120x2880, .f32⟩
  | 49 => ⟨S5120x2880, .f32⟩
  | 50 => ⟨S_, .f32⟩
  | 51 => ⟨S5120x2880, .f32⟩
  | 52 => ⟨S5120x2880, .f32⟩
  | 53 => ⟨S5120x2880, .f32⟩
  | 54 => ⟨S_, .f32⟩
  | 55 => ⟨S_, .f32⟩
  | 56 => ⟨S_, .f32⟩
  | 57 => ⟨S5120x2880, .f32⟩
  | 58 => ⟨S5120x2880, .f32⟩
  | 59 => ⟨S_, .f32⟩
  | 60 => ⟨S5120x2880, .f32⟩
  | 61 => ⟨S5120x2880, .f32⟩
  | 62 => ⟨S1x1024x2880, .f32⟩
  | 63 => ⟨S1024x2880, .f32⟩
  | 64 => ⟨S5120x2880, .f32⟩
  | 65 => ⟨S5120x2880, .f32⟩
  | 66 => ⟨S1x2880x1024, .f32⟩
  | 67 => ⟨S2880x1024, .f32⟩
  | 68 => ⟨S5120x1024, .f32⟩
  | 69 => ⟨S_, .f32⟩
  | 70 => ⟨S_, .f32⟩
  | 71 => ⟨S5120x1, .f32⟩
  | 72 => ⟨S5120x1, .f32⟩
  | 73 => ⟨S5120x1024, .f32⟩
  | 74 => ⟨S5120x1024, .f32⟩
  | 75 => ⟨S5120x1024, .f32⟩
  | 76 => ⟨S1, .i32⟩
  | 77 => ⟨S_, .i32⟩
  | 78 => ⟨S5120x1, .i32⟩
  | 79 => ⟨S5120x1, .i1⟩
  | 80 => ⟨S1, .i32⟩
  | 81 => ⟨S_, .i32⟩
  | 82 => ⟨S_, .i32⟩
  | 83 => ⟨S5120x1, .i32⟩
  | 84 => ⟨S5120x1, .i1⟩
  | 85 => ⟨S5120x1, .i1⟩
  | 86 => ⟨S5120x1, .f32⟩
  | 87 => ⟨S5120x1024, .f32⟩
  | 88 => ⟨S5120x1024, .f32⟩
  | 89 => ⟨S1x1024x2880, .f32⟩
  | 90 => ⟨S1024x2880, .f32⟩
  | 91 => ⟨S5120x2880, .f32⟩
  | 92 => ⟨S5120x2880, .f32⟩
  | 93 => ⟨S5120x2880, .f32⟩
  | 94 => ⟨S_, .f32⟩
  | 95 => ⟨S5120x2880, .f32⟩
  | 96 => ⟨S5120x2880, .f32⟩
  | 97 => ⟨S_, .f32⟩
  | 98 => ⟨S5120x2880, .f32⟩
  | 99 => ⟨S5120x2880, .f32⟩
  | 100 => ⟨S5120x2880, .f32⟩
  | 101 => ⟨S_, .f32⟩
  | 102 => ⟨S_, .f32⟩
  | 103 => ⟨S_, .f32⟩
  | 104 => ⟨S5120x2880, .f32⟩
  | 105 => ⟨S5120x2880, .f32⟩
  | 106 => ⟨S_, .f32⟩
  | 107 => ⟨S5120x2880, .f32⟩
  | 108 => ⟨S5120x2880, .f32⟩
  | 109 => ⟨S1x1024x2880, .f32⟩
  | 110 => ⟨S1024x2880, .f32⟩
  | 111 => ⟨S5120x2880, .f32⟩
  | 112 => ⟨S5120x2880, .f32⟩
  | 113 => ⟨S1x2880x1024, .f32⟩
  | 114 => ⟨S2880x1024, .f32⟩
  | 115 => ⟨S5120x1024, .f32⟩
  | 116 => ⟨S_, .f32⟩
  | 117 => ⟨S_, .f32⟩
  | 118 => ⟨S5120x1, .f32⟩
  | 119 => ⟨S5120x1, .f32⟩
  | 120 => ⟨S5120x1024, .f32⟩
  | 121 => ⟨S5120x1024, .f32⟩
  | 122 => ⟨S5120x1024, .f32⟩
  | 123 => ⟨S1, .i32⟩
  | 124 => ⟨S_, .i32⟩
  | 125 => ⟨S5120x1, .i32⟩
  | 126 => ⟨S5120x1, .i1⟩
  | 127 => ⟨S1, .i32⟩
  | _ => ⟨S16, .i32⟩

abbrev hbmTy0_1 (i : Nat) : BufTy := match i % 128 with
  | 0 => ⟨S_, .i32⟩
  | 1 => ⟨S_, .i32⟩
  | 2 => ⟨S5120x1, .i32⟩
  | 3 => ⟨S5120x1, .i1⟩
  | 4 => ⟨S5120x1, .i1⟩
  | 5 => ⟨S5120x1, .f32⟩
  | 6 => ⟨S5120x1024, .f32⟩
  | 7 => ⟨S5120x1024, .f32⟩
  | 8 => ⟨S1x1024x2880, .f32⟩
  | 9 => ⟨S1024x2880, .f32⟩
  | 10 => ⟨S5120x2880, .f32⟩
  | 11 => ⟨S5120x2880, .f32⟩
  | 12 => ⟨S5120x2880, .f32⟩
  | 13 => ⟨S_, .f32⟩
  | 14 => ⟨S5120x2880, .f32⟩
  | 15 => ⟨S5120x2880, .f32⟩
  | 16 => ⟨S_, .f32⟩
  | 17 => ⟨S5120x2880, .f32⟩
  | 18 => ⟨S5120x2880, .f32⟩
  | 19 => ⟨S5120x2880, .f32⟩
  | 20 => ⟨S_, .f32⟩
  | 21 => ⟨S_, .f32⟩
  | 22 => ⟨S_, .f32⟩
  | 23 => ⟨S5120x2880, .f32⟩
  | 24 => ⟨S5120x2880, .f32⟩
  | 25 => ⟨S_, .f32⟩
  | 26 => ⟨S5120x2880, .f32⟩
  | 27 => ⟨S5120x2880, .f32⟩
  | 28 => ⟨S1x1024x2880, .f32⟩
  | 29 => ⟨S1024x2880, .f32⟩
  | 30 => ⟨S5120x2880, .f32⟩
  | 31 => ⟨S5120x2880, .f32⟩
  | 32 => ⟨S1x2880x1024, .f32⟩
  | 33 => ⟨S2880x1024, .f32⟩
  | 34 => ⟨S5120x1024, .f32⟩
  | 35 => ⟨S_, .f32⟩
  | 36 => ⟨S_, .f32⟩
  | 37 => ⟨S5120x1, .f32⟩
  | 38 => ⟨S5120x1, .f32⟩
  | 39 => ⟨S5120x1024, .f32⟩
  | 40 => ⟨S5120x1024, .f32⟩
  | 41 => ⟨S5120x1024, .f32⟩
  | 42 => ⟨S1, .i32⟩
  | 43 => ⟨S_, .i32⟩
  | 44 => ⟨S5120x1, .i32⟩
  | 45 => ⟨S5120x1, .i1⟩
  | 46 => ⟨S1, .i32⟩
  | 47 => ⟨S_, .i32⟩
  | 48 => ⟨S_, .i32⟩
  | 49 => ⟨S5120x1, .i32⟩
  | 50 => ⟨S5120x1, .i1⟩
  | 51 => ⟨S5120x1, .i1⟩
  | 52 => ⟨S5120x1, .f32⟩
  | 53 => ⟨S5120x1024, .f32⟩
  | 54 => ⟨S5120x1024, .f32⟩
  | 55 => ⟨S1x1024x2880, .f32⟩
  | 56 => ⟨S1024x2880, .f32⟩
  | 57 => ⟨S5120x2880, .f32⟩
  | 58 => ⟨S5120x2880, .f32⟩
  | 59 => ⟨S5120x2880, .f32⟩
  | 60 => ⟨S_, .f32⟩
  | 61 => ⟨S5120x2880, .f32⟩
  | 62 => ⟨S5120x2880, .f32⟩
  | 63 => ⟨S_, .f32⟩
  | 64 => ⟨S5120x2880, .f32⟩
  | 65 => ⟨S5120x2880, .f32⟩
  | 66 => ⟨S5120x2880, .f32⟩
  | 67 => ⟨S_, .f32⟩
  | 68 => ⟨S_, .f32⟩
  | 69 => ⟨S_, .f32⟩
  | 70 => ⟨S5120x2880, .f32⟩
  | 71 => ⟨S5120x2880, .f32⟩
  | 72 => ⟨S_, .f32⟩
  | 73 => ⟨S5120x2880, .f32⟩
  | 74 => ⟨S5120x2880, .f32⟩
  | 75 => ⟨S1x1024x2880, .f32⟩
  | 76 => ⟨S1024x2880, .f32⟩
  | 77 => ⟨S5120x2880, .f32⟩
  | 78 => ⟨S5120x2880, .f32⟩
  | 79 => ⟨S1x2880x1024, .f32⟩
  | 80 => ⟨S2880x1024, .f32⟩
  | 81 => ⟨S5120x1024, .f32⟩
  | 82 => ⟨S_, .f32⟩
  | 83 => ⟨S_, .f32⟩
  | 84 => ⟨S5120x1, .f32⟩
  | 85 => ⟨S5120x1, .f32⟩
  | 86 => ⟨S5120x1024, .f32⟩
  | 87 => ⟨S5120x1024, .f32⟩
  | 88 => ⟨S5120x1024, .f32⟩
  | 89 => ⟨S1, .i32⟩
  | 90 => ⟨S_, .i32⟩
  | 91 => ⟨S5120x1, .i32⟩
  | 92 => ⟨S5120x1, .i1⟩
  | 93 => ⟨S1, .i32⟩
  | 94 => ⟨S_, .i32⟩
  | 95 => ⟨S_, .i32⟩
  | 96 => ⟨S5120x1, .i32⟩
  | 97 => ⟨S5120x1, .i1⟩
  | 98 => ⟨S5120x1, .i1⟩
  | 99 => ⟨S5120x1, .f32⟩
  | 100 => ⟨S5120x1024, .f32⟩
  | 101 => ⟨S5120x1024, .f32⟩
  | 102 => ⟨S1x1024x2880, .f32⟩
  | 103 => ⟨S1024x2880, .f32⟩
  | 104 => ⟨S5120x2880, .f32⟩
  | 105 => ⟨S5120x2880, .f32⟩
  | 106 => ⟨S5120x2880, .f32⟩
  | 107 => ⟨S_, .f32⟩
  | 108 => ⟨S5120x2880, .f32⟩
  | 109 => ⟨S5120x2880, .f32⟩
  | 110 => ⟨S_, .f32⟩
  | 111 => ⟨S5120x2880, .f32⟩
  | 112 => ⟨S5120x2880, .f32⟩
  | 113 => ⟨S5120x2880, .f32⟩
  | 114 => ⟨S_, .f32⟩
  | 115 => ⟨S_, .f32⟩
  | 116 => ⟨S_, .f32⟩
  | 117 => ⟨S5120x2880, .f32⟩
  | 118 => ⟨S5120x2880, .f32⟩
  | 119 => ⟨S_, .f32⟩
  | 120 => ⟨S5120x2880, .f32⟩
  | 121 => ⟨S5120x2880, .f32⟩
  | 122 => ⟨S1x1024x2880, .f32⟩
  | 123 => ⟨S1024x2880, .f32⟩
  | 124 => ⟨S5120x2880, .f32⟩
  | 125 => ⟨S5120x2880, .f32⟩
  | 126 => ⟨S1x2880x1024, .f32⟩
  | 127 => ⟨S2880x1024, .f32⟩
  | _ => ⟨S16, .i32⟩

abbrev hbmTy0_2 (i : Nat) : BufTy := match i % 128 with
  | 0 => ⟨S5120x1024, .f32⟩
  | 1 => ⟨S_, .f32⟩
  | 2 => ⟨S_, .f32⟩
  | 3 => ⟨S5120x1, .f32⟩
  | 4 => ⟨S5120x1, .f32⟩
  | 5 => ⟨S5120x1024, .f32⟩
  | 6 => ⟨S5120x1024, .f32⟩
  | 7 => ⟨S5120x1024, .f32⟩
  | 8 => ⟨S1, .i32⟩
  | 9 => ⟨S_, .i32⟩
  | 10 => ⟨S5120x1, .i32⟩
  | 11 => ⟨S5120x1, .i1⟩
  | 12 => ⟨S1, .i32⟩
  | 13 => ⟨S_, .i32⟩
  | 14 => ⟨S_, .i32⟩
  | 15 => ⟨S5120x1, .i32⟩
  | 16 => ⟨S5120x1, .i1⟩
  | 17 => ⟨S5120x1, .i1⟩
  | 18 => ⟨S5120x1, .f32⟩
  | 19 => ⟨S5120x1024, .f32⟩
  | 20 => ⟨S5120x1024, .f32⟩
  | 21 => ⟨S1x1024x2880, .f32⟩
  | 22 => ⟨S1024x2880, .f32⟩
  | 23 => ⟨S5120x2880, .f32⟩
  | 24 => ⟨S5120x2880, .f32⟩
  | 25 => ⟨S5120x2880, .f32⟩
  | 26 => ⟨S_, .f32⟩
  | 27 => ⟨S5120x2880, .f32⟩
  | 28 => ⟨S5120x2880, .f32⟩
  | 29 => ⟨S_, .f32⟩
  | 30 => ⟨S5120x2880, .f32⟩
  | 31 => ⟨S5120x2880, .f32⟩
  | 32 => ⟨S5120x2880, .f32⟩
  | 33 => ⟨S_, .f32⟩
  | 34 => ⟨S_, .f32⟩
  | 35 => ⟨S_, .f32⟩
  | 36 => ⟨S5120x2880, .f32⟩
  | 37 => ⟨S5120x2880, .f32⟩
  | 38 => ⟨S_, .f32⟩
  | 39 => ⟨S5120x2880, .f32⟩
  | 40 => ⟨S5120x2880, .f32⟩
  | 41 => ⟨S1x1024x2880, .f32⟩
  | 42 => ⟨S1024x2880, .f32⟩
  | 43 => ⟨S5120x2880, .f32⟩
  | 44 => ⟨S5120x2880, .f32⟩
  | 45 => ⟨S1x2880x1024, .f32⟩
  | 46 => ⟨S2880x1024, .f32⟩
  | 47 => ⟨S5120x1024, .f32⟩
  | 48 => ⟨S_, .f32⟩
  | 49 => ⟨S_, .f32⟩
  | 50 => ⟨S5120x1, .f32⟩
  | 51 => ⟨S5120x1, .f32⟩
  | 52 => ⟨S5120x1024, .f32⟩
  | 53 => ⟨S5120x1024, .f32⟩
  | 54 => ⟨S5120x1024, .f32⟩
  | 55 => ⟨S1, .i32⟩
  | 56 => ⟨S_, .i32⟩
  | 57 => ⟨S5120x1, .i32⟩
  | 58 => ⟨S5120x1, .i1⟩
  | 59 => ⟨S1, .i32⟩
  | 60 => ⟨S_, .i32⟩
  | 61 => ⟨S_, .i32⟩
  | 62 => ⟨S5120x1, .i32⟩
  | 63 => ⟨S5120x1, .i1⟩
  | 64 => ⟨S5120x1, .i1⟩
  | 65 => ⟨S5120x1, .f32⟩
  | 66 => ⟨S5120x1024, .f32⟩
  | 67 => ⟨S5120x1024, .f32⟩
  | 68 => ⟨S1x1024x2880, .f32⟩
  | 69 => ⟨S1024x2880, .f32⟩
  | 70 => ⟨S5120x2880, .f32⟩
  | 71 => ⟨S5120x2880, .f32⟩
  | 72 => ⟨S5120x2880, .f32⟩
  | 73 => ⟨S_, .f32⟩
  | 74 => ⟨S5120x2880, .f32⟩
  | 75 => ⟨S5120x2880, .f32⟩
  | 76 => ⟨S_, .f32⟩
  | 77 => ⟨S5120x2880, .f32⟩
  | 78 => ⟨S5120x2880, .f32⟩
  | 79 => ⟨S5120x2880, .f32⟩
  | 80 => ⟨S_, .f32⟩
  | 81 => ⟨S_, .f32⟩
  | 82 => ⟨S_, .f32⟩
  | 83 => ⟨S5120x2880, .f32⟩
  | 84 => ⟨S5120x2880, .f32⟩
  | 85 => ⟨S_, .f32⟩
  | 86 => ⟨S5120x2880, .f32⟩
  | 87 => ⟨S5120x2880, .f32⟩
  | 88 => ⟨S1x1024x2880, .f32⟩
  | 89 => ⟨S1024x2880, .f32⟩
  | 90 => ⟨S5120x2880, .f32⟩
  | 91 => ⟨S5120x2880, .f32⟩
  | 92 => ⟨S1x2880x1024, .f32⟩
  | 93 => ⟨S2880x1024, .f32⟩
  | 94 => ⟨S5120x1024, .f32⟩
  | 95 => ⟨S_, .f32⟩
  | 96 => ⟨S_, .f32⟩
  | 97 => ⟨S5120x1, .f32⟩
  | 98 => ⟨S5120x1, .f32⟩
  | 99 => ⟨S5120x1024, .f32⟩
  | 100 => ⟨S5120x1024, .f32⟩
  | 101 => ⟨S5120x1024, .f32⟩
  | 102 => ⟨S1, .i32⟩
  | 103 => ⟨S_, .i32⟩
  | 104 => ⟨S5120x1, .i32⟩
  | 105 => ⟨S5120x1, .i1⟩
  | 106 => ⟨S1, .i32⟩
  | 107 => ⟨S_, .i32⟩
  | 108 => ⟨S_, .i32⟩
  | 109 => ⟨S5120x1, .i32⟩
  | 110 => ⟨S5120x1, .i1⟩
  | 111 => ⟨S5120x1, .i1⟩
  | 112 => ⟨S5120x1, .f32⟩
  | 113 => ⟨S5120x1024, .f32⟩
  | 114 => ⟨S5120x1024, .f32⟩
  | 115 => ⟨S1x1024x2880, .f32⟩
  | 116 => ⟨S1024x2880, .f32⟩
  | 117 => ⟨S5120x2880, .f32⟩
  | 118 => ⟨S5120x2880, .f32⟩
  | 119 => ⟨S5120x2880, .f32⟩
  | 120 => ⟨S_, .f32⟩
  | 121 => ⟨S5120x2880, .f32⟩
  | 122 => ⟨S5120x2880, .f32⟩
  | 123 => ⟨S_, .f32⟩
  | 124 => ⟨S5120x2880, .f32⟩
  | 125 => ⟨S5120x2880, .f32⟩
  | 126 => ⟨S5120x2880, .f32⟩
  | 127 => ⟨S_, .f32⟩
  | _ => ⟨S16, .i32⟩

abbrev hbmTy0_3 (i : Nat) : BufTy := match i % 128 with
  | 0 => ⟨S_, .f32⟩
  | 1 => ⟨S_, .f32⟩
  | 2 => ⟨S5120x2880, .f32⟩
  | 3 => ⟨S5120x2880, .f32⟩
  | 4 => ⟨S_, .f32⟩
  | 5 => ⟨S5120x2880, .f32⟩
  | 6 => ⟨S5120x2880, .f32⟩
  | 7 => ⟨S1x1024x2880, .f32⟩
  | 8 => ⟨S1024x2880, .f32⟩
  | 9 => ⟨S5120x2880, .f32⟩
  | 10 => ⟨S5120x2880, .f32⟩
  | 11 => ⟨S1x2880x1024, .f32⟩
  | 12 => ⟨S2880x1024, .f32⟩
  | 13 => ⟨S5120x1024, .f32⟩
  | 14 => ⟨S_, .f32⟩
  | 15 => ⟨S_, .f32⟩
  | 16 => ⟨S5120x1, .f32⟩
  | 17 => ⟨S5120x1, .f32⟩
  | 18 => ⟨S5120x1024, .f32⟩
  | 19 => ⟨S5120x1024, .f32⟩
  | 20 => ⟨S5120x1024, .f32⟩
  | _ => ⟨S16, .i32⟩

abbrev hbmTy (i : Nat) : BufTy := match i / 128 with
  | 0 => hbmTy0_0 i
  | 1 => hbmTy0_1 i
  | 2 => hbmTy0_2 i
  | 3 => hbmTy0_3 i
  | _ => ⟨S16, .i32⟩

abbrev bufTy : (tb : Table) → Fin (tcTables nBuf tb) → BufTy
  | .hbm, ⟨i, _⟩ => hbmTy i
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v21 : Ref sig .tc := ⟨.hbm, 53, rfl⟩
abbrev main_cst_0 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_2 : Ref sig .tc := ⟨.hbm, 69, rfl⟩
abbrev main_call3_v0 : Ref sig .tc := ⟨.hbm, 70, rfl⟩
abbrev main_call3_v1 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_call4_v0 : Ref sig .tc := ⟨.hbm, 92, rfl⟩
abbrev main_call4_v1 : Ref sig .tc := ⟨.hbm, 93, rfl⟩
abbrev main_call4_cst : Ref sig .tc := ⟨.hbm, 94, rfl⟩
abbrev main_call4_v2 : Ref sig .tc := ⟨.hbm, 95, rfl⟩
abbrev main_call4_v3 : Ref sig .tc := ⟨.hbm, 96, rfl⟩
abbrev main_call4_cst_0 : Ref sig .tc := ⟨.hbm, 97, rfl⟩
abbrev main_call4_v4 : Ref sig .tc := ⟨.hbm, 98, rfl⟩
abbrev main_call4_v5 : Ref sig .tc := ⟨.hbm, 99, rfl⟩
abbrev main_v50 : Ref sig .tc := ⟨.hbm, 100, rfl⟩
abbrev main_cst_3 : Ref sig .tc := ⟨.hbm, 101, rfl⟩
abbrev main_cst_4 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_5 : Ref sig .tc := ⟨.hbm, 116, rfl⟩
abbrev main_call6_v0 : Ref sig .tc := ⟨.hbm, 117, rfl⟩
abbrev main_call6_v1 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_call7_v0 : Ref sig .tc := ⟨.hbm, 139, rfl⟩
abbrev main_call7_v1 : Ref sig .tc := ⟨.hbm, 140, rfl⟩
abbrev main_call7_cst : Ref sig .tc := ⟨.hbm, 141, rfl⟩
abbrev main_call7_v2 : Ref sig .tc := ⟨.hbm, 142, rfl⟩
abbrev main_call7_v3 : Ref sig .tc := ⟨.hbm, 143, rfl⟩
abbrev main_call7_cst_0 : Ref sig .tc := ⟨.hbm, 144, rfl⟩
abbrev main_call7_v4 : Ref sig .tc := ⟨.hbm, 145, rfl⟩
abbrev main_call7_v5 : Ref sig .tc := ⟨.hbm, 146, rfl⟩
abbrev main_v79 : Ref sig .tc := ⟨.hbm, 147, rfl⟩
abbrev main_cst_6 : Ref sig .tc := ⟨.hbm, 148, rfl⟩
abbrev main_cst_7 : Ref sig .tc := ⟨.hbm, 149, rfl⟩
abbrev main_call8_v0 : Ref sig .tc := ⟨.hbm, 150, rfl⟩
abbrev main_call8_v1 : Ref sig .tc := ⟨.hbm, 151, rfl⟩
abbrev main_call8_v2 : Ref sig .tc := ⟨.hbm, 152, rfl⟩
abbrev main_call8_v3 : Ref sig .tc := ⟨.hbm, 153, rfl⟩
abbrev main_call8_v4 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_cst_8 : Ref sig .tc := ⟨.hbm, 163, rfl⟩
abbrev main_call9_v0 : Ref sig .tc := ⟨.hbm, 164, rfl⟩
abbrev main_call9_v1 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_call10_v0 : Ref sig .tc := ⟨.hbm, 186, rfl⟩
abbrev main_call10_v1 : Ref sig .tc := ⟨.hbm, 187, rfl⟩
abbrev main_call10_cst : Ref sig .tc := ⟨.hbm, 188, rfl⟩
abbrev main_call10_v2 : Ref sig .tc := ⟨.hbm, 189, rfl⟩
abbrev main_call10_v3 : Ref sig .tc := ⟨.hbm, 190, rfl⟩
abbrev main_call10_cst_0 : Ref sig .tc := ⟨.hbm, 191, rfl⟩
abbrev main_call10_v4 : Ref sig .tc := ⟨.hbm, 192, rfl⟩
abbrev main_call10_v5 : Ref sig .tc := ⟨.hbm, 193, rfl⟩
abbrev main_v108 : Ref sig .tc := ⟨.hbm, 194, rfl⟩
abbrev main_cst_9 : Ref sig .tc := ⟨.hbm, 195, rfl⟩
abbrev main_cst_10 : Ref sig .tc := ⟨.hbm, 196, rfl⟩
abbrev main_call11_v0 : Ref sig .tc := ⟨.hbm, 197, rfl⟩
abbrev main_call11_v1 : Ref sig .tc := ⟨.hbm, 198, rfl⟩
abbrev main_call11_v2 : Ref sig .tc := ⟨.hbm, 199, rfl⟩
abbrev main_call11_v3 : Ref sig .tc := ⟨.hbm, 200, rfl⟩
abbrev main_call11_v4 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_cst_11 : Ref sig .tc := ⟨.hbm, 210, rfl⟩
abbrev main_call12_v0 : Ref sig .tc := ⟨.hbm, 211, rfl⟩
abbrev main_call12_v1 : Ref sig .tc := ⟨.hbm, 212, rfl⟩
abbrev main_v117 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_call13_v0 : Ref sig .tc := ⟨.hbm, 233, rfl⟩
abbrev main_call13_v1 : Ref sig .tc := ⟨.hbm, 234, rfl⟩
abbrev main_call13_cst : Ref sig .tc := ⟨.hbm, 235, rfl⟩
abbrev main_call13_v2 : Ref sig .tc := ⟨.hbm, 236, rfl⟩
abbrev main_call13_v3 : Ref sig .tc := ⟨.hbm, 237, rfl⟩
abbrev main_call13_cst_0 : Ref sig .tc := ⟨.hbm, 238, rfl⟩
abbrev main_call13_v4 : Ref sig .tc := ⟨.hbm, 239, rfl⟩
abbrev main_call13_v5 : Ref sig .tc := ⟨.hbm, 240, rfl⟩
abbrev main_v137 : Ref sig .tc := ⟨.hbm, 241, rfl⟩
abbrev main_cst_12 : Ref sig .tc := ⟨.hbm, 242, rfl⟩
abbrev main_cst_13 : Ref sig .tc := ⟨.hbm, 243, rfl⟩
abbrev main_call14_v0 : Ref sig .tc := ⟨.hbm, 244, rfl⟩
abbrev main_call14_v1 : Ref sig .tc := ⟨.hbm, 245, rfl⟩
abbrev main_call14_v2 : Ref sig .tc := ⟨.hbm, 246, rfl⟩
abbrev main_call14_v3 : Ref sig .tc := ⟨.hbm, 247, rfl⟩
abbrev main_call14_v4 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_cst_14 : Ref sig .tc := ⟨.hbm, 257, rfl⟩
abbrev main_call15_v0 : Ref sig .tc := ⟨.hbm, 258, rfl⟩
abbrev main_call15_v1 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_call16_v0 : Ref sig .tc := ⟨.hbm, 280, rfl⟩
abbrev main_call16_v1 : Ref sig .tc := ⟨.hbm, 281, rfl⟩
abbrev main_call16_cst : Ref sig .tc := ⟨.hbm, 282, rfl⟩
abbrev main_call16_v2 : Ref sig .tc := ⟨.hbm, 283, rfl⟩
abbrev main_call16_v3 : Ref sig .tc := ⟨.hbm, 284, rfl⟩
abbrev main_call16_cst_0 : Ref sig .tc := ⟨.hbm, 285, rfl⟩
abbrev main_call16_v4 : Ref sig .tc := ⟨.hbm, 286, rfl⟩
abbrev main_call16_v5 : Ref sig .tc := ⟨.hbm, 287, rfl⟩
abbrev main_v166 : Ref sig .tc := ⟨.hbm, 288, rfl⟩
abbrev main_cst_15 : Ref sig .tc := ⟨.hbm, 289, rfl⟩
abbrev main_cst_16 : Ref sig .tc := ⟨.hbm, 290, rfl⟩
abbrev main_call17_v0 : Ref sig .tc := ⟨.hbm, 291, rfl⟩
abbrev main_call17_v1 : Ref sig .tc := ⟨.hbm, 292, rfl⟩
abbrev main_call17_v2 : Ref sig .tc := ⟨.hbm, 293, rfl⟩
abbrev main_call17_v3 : Ref sig .tc := ⟨.hbm, 294, rfl⟩
abbrev main_call17_v4 : Ref sig .tc := ⟨.hbm, 295, rfl⟩
abbrev main_v167 : Ref sig .tc := ⟨.hbm, 296, rfl⟩
abbrev main_v168 : Ref sig .tc := ⟨.hbm, 297, rfl⟩
abbrev main_v169 : Ref sig .tc := ⟨.hbm, 298, rfl⟩
abbrev main_v170 : Ref sig .tc := ⟨.hbm, 299, rfl⟩
abbrev main_v171 : Ref sig .tc := ⟨.hbm, 300, rfl⟩
abbrev main_v172 : Ref sig .tc := ⟨.hbm, 301, rfl⟩
abbrev main_v173 : Ref sig .tc := ⟨.hbm, 302, rfl⟩
abbrev main_v174 : Ref sig .tc := ⟨.hbm, 303, rfl⟩
abbrev main_cst_17 : Ref sig .tc := ⟨.hbm, 304, rfl⟩
abbrev main_call18_v0 : Ref sig .tc := ⟨.hbm, 305, rfl⟩
abbrev main_call18_v1 : Ref sig .tc := ⟨.hbm, 306, rfl⟩
abbrev main_v175 : Ref sig .tc := ⟨.hbm, 307, rfl⟩
abbrev main_v176 : Ref sig .tc := ⟨.hbm, 308, rfl⟩
abbrev main_v177 : Ref sig .tc := ⟨.hbm, 309, rfl⟩
abbrev main_v178 : Ref sig .tc := ⟨.hbm, 310, rfl⟩
abbrev main_v179 : Ref sig .tc := ⟨.hbm, 311, rfl⟩
abbrev main_v180 : Ref sig .tc := ⟨.hbm, 312, rfl⟩
abbrev main_v181 : Ref sig .tc := ⟨.hbm, 313, rfl⟩
abbrev main_v182 : Ref sig .tc := ⟨.hbm, 314, rfl⟩
abbrev main_v183 : Ref sig .tc := ⟨.hbm, 315, rfl⟩
abbrev main_v184 : Ref sig .tc := ⟨.hbm, 316, rfl⟩
abbrev main_v185 : Ref sig .tc := ⟨.hbm, 317, rfl⟩
abbrev main_v186 : Ref sig .tc := ⟨.hbm, 318, rfl⟩
abbrev main_v187 : Ref sig .tc := ⟨.hbm, 319, rfl⟩
abbrev main_v188 : Ref sig .tc := ⟨.hbm, 320, rfl⟩
abbrev main_v189 : Ref sig .tc := ⟨.hbm, 321, rfl⟩
abbrev main_v190 : Ref sig .tc := ⟨.hbm, 322, rfl⟩
abbrev main_v191 : Ref sig .tc := ⟨.hbm, 323, rfl⟩
abbrev main_v192 : Ref sig .tc := ⟨.hbm, 324, rfl⟩
abbrev main_v193 : Ref sig .tc := ⟨.hbm, 325, rfl⟩
abbrev main_v194 : Ref sig .tc := ⟨.hbm, 326, rfl⟩
abbrev main_call19_v0 : Ref sig .tc := ⟨.hbm, 327, rfl⟩
abbrev main_call19_v1 : Ref sig .tc := ⟨.hbm, 328, rfl⟩
abbrev main_call19_cst : Ref sig .tc := ⟨.hbm, 329, rfl⟩
abbrev main_call19_v2 : Ref sig .tc := ⟨.hbm, 330, rfl⟩
abbrev main_call19_v3 : Ref sig .tc := ⟨.hbm, 331, rfl⟩
abbrev main_call19_cst_0 : Ref sig .tc := ⟨.hbm, 332, rfl⟩
abbrev main_call19_v4 : Ref sig .tc := ⟨.hbm, 333, rfl⟩
abbrev main_call19_v5 : Ref sig .tc := ⟨.hbm, 334, rfl⟩
abbrev main_v195 : Ref sig .tc := ⟨.hbm, 335, rfl⟩
abbrev main_cst_18 : Ref sig .tc := ⟨.hbm, 336, rfl⟩
abbrev main_cst_19 : Ref sig .tc := ⟨.hbm, 337, rfl⟩
abbrev main_call20_v0 : Ref sig .tc := ⟨.hbm, 338, rfl⟩
abbrev main_call20_v1 : Ref sig .tc := ⟨.hbm, 339, rfl⟩
abbrev main_call20_v2 : Ref sig .tc := ⟨.hbm, 340, rfl⟩
abbrev main_call20_v3 : Ref sig .tc := ⟨.hbm, 341, rfl⟩
abbrev main_call20_v4 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_v201 : Ref sig .tc := ⟨.hbm, 348, rfl⟩
abbrev main_v202 : Ref sig .tc := ⟨.hbm, 349, rfl⟩
abbrev main_v203 : Ref sig .tc := ⟨.hbm, 350, rfl⟩
abbrev main_cst_20 : Ref sig .tc := ⟨.hbm, 351, rfl⟩
abbrev main_call21_v0 : Ref sig .tc := ⟨.hbm, 352, rfl⟩
abbrev main_call21_v1 : Ref sig .tc := ⟨.hbm, 353, rfl⟩
abbrev main_v204 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_v208 : Ref sig .tc := ⟨.hbm, 358, rfl⟩
abbrev main_v209 : Ref sig .tc := ⟨.hbm, 359, rfl⟩
abbrev main_v210 : Ref sig .tc := ⟨.hbm, 360, rfl⟩
abbrev main_v211 : Ref sig .tc := ⟨.hbm, 361, rfl⟩
abbrev main_v212 : Ref sig .tc := ⟨.hbm, 362, rfl⟩
abbrev main_v213 : Ref sig .tc := ⟨.hbm, 363, rfl⟩
abbrev main_v214 : Ref sig .tc := ⟨.hbm, 364, rfl⟩
abbrev main_v215 : Ref sig .tc := ⟨.hbm, 365, rfl⟩
abbrev main_v216 : Ref sig .tc := ⟨.hbm, 366, rfl⟩
abbrev main_v217 : Ref sig .tc := ⟨.hbm, 367, rfl⟩
abbrev main_v218 : Ref sig .tc := ⟨.hbm, 368, rfl⟩
abbrev main_v219 : Ref sig .tc := ⟨.hbm, 369, rfl⟩
abbrev main_v220 : Ref sig .tc := ⟨.hbm, 370, rfl⟩
abbrev main_v221 : Ref sig .tc := ⟨.hbm, 371, rfl⟩
abbrev main_v222 : Ref sig .tc := ⟨.hbm, 372, rfl⟩
abbrev main_v223 : Ref sig .tc := ⟨.hbm, 373, rfl⟩
abbrev main_call22_v0 : Ref sig .tc := ⟨.hbm, 374, rfl⟩
abbrev main_call22_v1 : Ref sig .tc := ⟨.hbm, 375, rfl⟩
abbrev main_call22_cst : Ref sig .tc := ⟨.hbm, 376, rfl⟩
abbrev main_call22_v2 : Ref sig .tc := ⟨.hbm, 377, rfl⟩
abbrev main_call22_v3 : Ref sig .tc := ⟨.hbm, 378, rfl⟩
abbrev main_call22_cst_0 : Ref sig .tc := ⟨.hbm, 379, rfl⟩
abbrev main_call22_v4 : Ref sig .tc := ⟨.hbm, 380, rfl⟩
abbrev main_call22_v5 : Ref sig .tc := ⟨.hbm, 381, rfl⟩
abbrev main_v224 : Ref sig .tc := ⟨.hbm, 382, rfl⟩
abbrev main_cst_21 : Ref sig .tc := ⟨.hbm, 383, rfl⟩
abbrev main_cst_22 : Ref sig .tc := ⟨.hbm, 384, rfl⟩
abbrev main_call23_v0 : Ref sig .tc := ⟨.hbm, 385, rfl⟩
abbrev main_call23_v1 : Ref sig .tc := ⟨.hbm, 386, rfl⟩
abbrev main_call23_v2 : Ref sig .tc := ⟨.hbm, 387, rfl⟩
abbrev main_call23_v3 : Ref sig .tc := ⟨.hbm, 388, rfl⟩
abbrev main_call23_v4 : Ref sig .tc := ⟨.hbm, 389, rfl⟩
abbrev main_v225 : Ref sig .tc := ⟨.hbm, 390, rfl⟩
abbrev main_v226 : Ref sig .tc := ⟨.hbm, 391, rfl⟩
abbrev main_v227 : Ref sig .tc := ⟨.hbm, 392, rfl⟩
abbrev main_v228 : Ref sig .tc := ⟨.hbm, 393, rfl⟩
abbrev main_v229 : Ref sig .tc := ⟨.hbm, 394, rfl⟩
abbrev main_v230 : Ref sig .tc := ⟨.hbm, 395, rfl⟩
abbrev main_v231 : Ref sig .tc := ⟨.hbm, 396, rfl⟩
abbrev main_v232 : Ref sig .tc := ⟨.hbm, 397, rfl⟩
abbrev main_cst_23 : Ref sig .tc := ⟨.hbm, 398, rfl⟩
abbrev main_call24_v0 : Ref sig .tc := ⟨.hbm, 399, rfl⟩
abbrev main_call24_v1 : Ref sig .tc := ⟨.hbm, 400, rfl⟩
abbrev main_v233 : Ref sig .tc := ⟨.hbm, 401, rfl⟩
abbrev main_v234 : Ref sig .tc := ⟨.hbm, 402, rfl⟩
abbrev main_v235 : Ref sig .tc := ⟨.hbm, 403, rfl⟩
abbrev main_v236 : Ref sig .tc := ⟨.hbm, 404, rfl⟩

abbrev nD : Nat := 1
abbrev τ : Topo := Topo.v7x

variable {F : FTy → Type} [FloatOps F]
-- ==== Kernel2.lean ====
abbrev S2048x1024 : Shape := ⟨2, ![2048, 1024]⟩
abbrev S1024x8 : Shape := ⟨2, ![1024, 8]⟩
abbrev S2048x2 : Shape := ⟨2, ![2048, 2]⟩
abbrev S1x8 : Shape := ⟨2, ![1, 8]⟩
abbrev S2048x8 : Shape := ⟨2, ![2048, 8]⟩
abbrev S2048 : Shape := ⟨1, ![2048]⟩
abbrev S2048x1 : Shape := ⟨2, ![2048, 1]⟩
abbrev S8 : Shape := ⟨1, ![8]⟩
abbrev S8x8 : Shape := ⟨2, ![8, 8]⟩
abbrev S128x2048 : Shape := ⟨2, ![128, 2048]⟩
abbrev S128x8 : Shape := ⟨2, ![128, 8]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S2048x2, .i32⟩
  | .hbm, ⟨3, _⟩ => ⟨S2048x2, .f32⟩
  | .hbm, ⟨4, _⟩ => ⟨S1x8, .i32⟩
  | .local _ .vmem, ⟨0, _⟩ => ⟨S2048x1024, .f32⟩
  | .local _ .vmem, ⟨1, _⟩ => ⟨S1024x8, .f32⟩
  | .local _ .vmem, ⟨2, _⟩ => ⟨S2048x2, .i32⟩
  | .local _ .vmem, ⟨3, _⟩ => ⟨S2048x2, .f32⟩
  | .local _ .vmem, ⟨4, _⟩ => ⟨S1x8, .i32⟩
  | .local _ .vmem, ⟨5, _⟩ => ⟨S2048x8, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v55 : BitVec 32 := Scalar.addi c0_i32 c16_i32
  let c1_i32 : BitVec 32 := 1#32
  ⟨c0_i32, v55, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v91 : BitVec 32 := Scalar.muli arg6 c128_i32
  let v100 : Index := Scalar.indexCast v91
  let c0_30 : Index := 0#32
  ![v100.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference2Ideal.lean ====
abbrev S2048x1024 : Shape := ⟨2, ![2048, 1024]⟩
abbrev S1024x8 : Shape := ⟨2, ![1024, 8]⟩
abbrev S2048x8 : Shape := ⟨2, ![2048, 8]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S8 : Shape := ⟨1, ![8]⟩
abbrev S1x1x8 : Shape := ⟨3, ![1, 1, 8]⟩
abbrev S2048x2x8 : Shape := ⟨3, ![2048, 2, 8]⟩
abbrev S1x8 : Shape := ⟨2, ![1, 8]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S2048x8, .f32⟩
  | .hbm, ⟨3, _⟩ => ⟨S2048x2, .f32⟩
  | .hbm, ⟨4, _⟩ => ⟨S2048x2, .i32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048x1, .f32⟩
  | .hbm, ⟨11, _⟩ => ⟨S2048x2, .f32⟩
  | .hbm, ⟨12, _⟩ => ⟨S2048x2, .f32⟩
  | .hbm, ⟨13, _⟩ => ⟨S2048x2, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x2, .f32⟩
  | .hbm, ⟨18, _⟩ => ⟨S2048x2, .f32⟩
  | .hbm, ⟨19, _⟩ => ⟨S2048x2x1, .i32⟩
  | .hbm, ⟨20, _⟩ => ⟨S8, .i32⟩
  | .hbm, ⟨21, _⟩ => ⟨S1x1x8, .i32⟩
  | .hbm, ⟨22, _⟩ => ⟨S2048x2x8, .i32⟩
  | .hbm, ⟨23, _⟩ => ⟨S2048x2x8, .i32⟩
  | .hbm, ⟨24, _⟩ => ⟨S2048x2x8, .i1⟩
  | .hbm, ⟨25, _⟩ => ⟨S_, .i1⟩
  | .hbm, ⟨26, _⟩ => ⟨S2048x8, .i1⟩
  | .hbm, ⟨27, _⟩ => ⟨S2048x8, .i32⟩
  | .hbm, ⟨28, _⟩ => ⟨S_, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S_, .i32⟩
  | .hbm, ⟨34, _⟩ => ⟨S_, .i32⟩
  | .hbm, ⟨35, _⟩ => ⟨S8, .i32⟩
  | .hbm, ⟨36, _⟩ => ⟨S8, .i32⟩
  | .hbm, ⟨37, _⟩ => ⟨S8, .i32⟩
  | .hbm, ⟨38, _⟩ => ⟨S_, .i32⟩
  | .hbm, ⟨39, _⟩ => ⟨S8, .i32⟩
  | .hbm, ⟨40, _⟩ => ⟨S8, .i1⟩
  | .hbm, ⟨41, _⟩ => ⟨S8, .i32⟩
  | .hbm, ⟨42, _⟩ => ⟨S8, .i32⟩
  | .hbm, ⟨43, _⟩ => ⟨S_, .i32⟩
  | .hbm, ⟨44, _⟩ => ⟨S8, .i32⟩
  | .hbm, ⟨45, _⟩ => ⟨S8, .i1⟩
  | .hbm, ⟨46, _⟩ => ⟨S8, .i1⟩
  | .hbm, ⟨47, _⟩ => ⟨S_, .i32⟩
  | .hbm, ⟨48, _⟩ => ⟨S8, .i32⟩
  | .hbm, ⟨49, _⟩ => ⟨S8, .i32⟩
  | .hbm, ⟨50, _⟩ => ⟨S8, .i32⟩
  | .hbm, ⟨51, _⟩ => ⟨S_, .i32⟩
  | .hbm, ⟨52, _⟩ => ⟨S8, .i32⟩
  | .hbm, ⟨53, _⟩ => ⟨S8, .i32⟩
  | .hbm, ⟨54, _⟩ => ⟨S_, .i32⟩
  | .hbm, ⟨55, _⟩ => ⟨S_, .i32⟩
  | .hbm, ⟨56, _⟩ => ⟨S8, .i32⟩
  | .hbm, ⟨57, _⟩ => ⟨S8, .i32⟩
  | .hbm, ⟨58, _⟩ => ⟨S_, .i32⟩
  | .hbm, ⟨59, _⟩ => ⟨S_, .i32⟩
  | .hbm, ⟨60, _⟩ => ⟨S2048x8, .i32⟩
  | .hbm, ⟨61, _⟩ => ⟨S2048x8, .i32⟩
  | .hbm, ⟨62, _⟩ => ⟨S1x8, .i32⟩
  | .hbm, ⟨63, _⟩ => ⟨S2048x8, .i32⟩
  | .hbm, ⟨64, _⟩ => ⟨S2048x8, .i32⟩
  | .hbm, ⟨65, _⟩ => ⟨S_, .i32⟩
  | .hbm, ⟨66, _⟩ => ⟨S2048x2, .i32⟩
  | .hbm, ⟨67, _⟩ => ⟨S2048x2, .i1⟩
  | .hbm, ⟨68, _⟩ => ⟨S_, .i32⟩
  | .hbm, ⟨69, _⟩ => ⟨S2048x2, .i32⟩
  | .hbm, ⟨70, _⟩ => ⟨S2048x2, .i32⟩
  | .hbm, ⟨71, _⟩ => ⟨S2048x2, .i32⟩
  | .hbm, ⟨72, _⟩ => ⟨S2048x2x1, .i32⟩
  | .hbm, ⟨73, _⟩ => ⟨S2048x2, .i32⟩
  | .hbm, ⟨74, _⟩ => ⟨S1x8, .i32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_call1_call0_c : Ref sig .tc := ⟨.hbm, 54, rfl⟩
abbrev main_call1_call0_v0 : Ref sig .tc := ⟨.hbm, 55, rfl⟩
abbrev main_v26 : Ref sig .tc := ⟨.hbm, 56, rfl⟩
abbrev main_v27 : Ref sig .tc := ⟨.hbm, 57, rfl⟩
abbrev main_call2_call0_c : Ref sig .tc := ⟨.hbm, 58, rfl⟩
abbrev main_call2_call0_v0 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_v33 : Ref sig .tc := ⟨.hbm, 73, rfl⟩
abbrev main_v34 : Ref sig .tc := ⟨.hbm, 74, rfl⟩

abbrev nD : Nat := 1
abbrev τ : Topo := Topo.v7x

variable {F : FTy → Type} [FloatOps F]
-- ==== Kernel3Ideal.lean ====
abbrev S1x2048x1024 : Shape := ⟨3, ![1, 2048, 1024]⟩
abbrev S1024x8 : Shape := ⟨2, ![1024, 8]⟩
abbrev S8x1024x2880 : Shape := ⟨3, ![8, 1024, 2880]⟩
abbrev S8x2880x1024 : Shape := ⟨3, ![8, 2880, 1024]⟩
abbrev S2048x1024 : Shape := ⟨2, ![2048, 1024]⟩
abbrev S2048x2 : Shape := ⟨2, ![2048, 2]⟩
abbrev S1x8 : Shape := ⟨2, ![1, 8]⟩
abbrev S2048x8 : Shape := ⟨2, ![2048, 8]⟩
abbrev S2048 : Shape := ⟨1, ![2048]⟩
abbrev S2048x1 : Shape := ⟨2, ![2048, 1]⟩
abbrev S8 : Shape := ⟨1, ![8]⟩
abbrev S8x8 : Shape := ⟨2, ![8, 8]⟩
abbrev S128x2048 : Shape := ⟨2, ![128, 2048]⟩
abbrev S128x8 : Shape := ⟨2, ![128, 8]⟩
abbrev S_ : Shape := ⟨0, ![]⟩
abbrev S16 : Shape := ⟨1, ![16]⟩
abbrev S4096 : Shape := ⟨1, ![4096]⟩
abbrev S5120 : Shape := ⟨1, ![5120]⟩
abbrev S4096x1 : Shape := ⟨2, ![4096, 1]⟩
abbrev S5120x1 : Shape := ⟨2, ![5120, 1]⟩
abbrev S4096x2 : Shape := ⟨2, ![4096, 2]⟩
abbrev S5120x1024 : Shape := ⟨2, ![5120, 1024]⟩
abbrev S5120x2880 : Shape := ⟨2, ![5120, 2880]⟩
abbrev S128x1024 : Shape := ⟨2, ![128, 1024]⟩
abbrev S1 : Shape := ⟨1, ![1]⟩
abbrev S1x1024x2880 : Shape := ⟨3, ![1, 1024, 2880]⟩
abbrev S128x2880 : Shape := ⟨2, ![128, 2880]⟩
abbrev S1024x2880 : Shape := ⟨2, ![1024, 2880]⟩
abbrev S1x2880x1024 : Shape := ⟨3, ![1, 2880, 1024]⟩
abbrev S128x1 : Shape := ⟨2, ![128, 1]⟩
abbrev S2880x1024 : Shape := ⟨2, ![2880, 1024]⟩
abbrev S4104x1024 : Shape := ⟨2, ![4104, 1024]⟩

abbrev nBuf : Space → Nat
  | .hbm => 105
  | .vmem => 22
  | .smem => 1
  | _ => 0

abbrev bufTy : (tb : Table) → Fin (tcTables nBuf tb) → BufTy
  | .hbm, ⟨0, _⟩ => ⟨S1x2048x1024, .f32⟩
  | .hbm, ⟨1, _⟩ => ⟨S1024x8, .f32⟩
  | .hbm, ⟨2, _⟩ => ⟨S8x1024x2880, .f32⟩
  | .hbm, ⟨3, _⟩ => ⟨S8x1024x2880, .f32⟩
  | .hbm, ⟨4, _⟩ => ⟨S8x2880x1024, .f32⟩
  | .hbm, ⟨5, _⟩ => ⟨S2048x1024, .f32⟩
  | .hbm, ⟨6, _⟩ => ⟨S2048x2, .i32⟩
  | .hbm, ⟨7, _⟩ => ⟨S2048x2, .f32⟩
  | .hbm, ⟨8, _⟩ => ⟨S1x8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S8, .i1⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S8, .i32⟩
  | .hbm, ⟨31, _⟩ => ⟨S_, .i32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S5120, .i32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S4096x1, .i32⟩
  | .hbm, ⟨57, _⟩ => ⟨S5120, .i32⟩
  | .hbm, ⟨58, _⟩ => ⟨S_, .f32⟩
  | .hbm, ⟨59, _⟩ => ⟨S5120x1, .f32⟩
  | .hbm, ⟨60, _⟩ => ⟨S4096, .f32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096x1, .i32⟩
  | .hbm, ⟨72, _⟩ => ⟨S4096x1, .i32⟩
  | .hbm, ⟨73, _⟩ => ⟨S4096x2, .i32⟩
  | .hbm, ⟨74, _⟩ => ⟨S5120x1, .f32⟩
  | .hbm, ⟨75, _⟩ => ⟨S_, .i32⟩
  | .hbm, ⟨76, _⟩ => ⟨S5120, .i32⟩
  | .hbm, ⟨77, _⟩ => ⟨S5120, .i32⟩
  | .hbm, ⟨78, _⟩ => ⟨S_, .i32⟩
  | .hbm, ⟨79, _⟩ => ⟨S5120, .i32⟩
  | .hbm, ⟨80, _⟩ => ⟨S5120, .i1⟩
  | .hbm, ⟨81, _⟩ => ⟨S_, .i32⟩
  | .hbm, ⟨82, _⟩ => ⟨S5120, .i32⟩
  | .hbm, ⟨83, _⟩ => ⟨S5120, .i32⟩
  | .hbm, ⟨84, _⟩ => ⟨S5120, .i32⟩
  | .hbm, ⟨85, _⟩ => ⟨S5120x1, .i32⟩
  | .hbm, ⟨86, _⟩ => ⟨S5120x1024, .f32⟩
  | .hbm, ⟨87, _⟩ => ⟨S5120x1024, .bf16⟩
  | .hbm, ⟨88, _⟩ => ⟨S5120x2880, .bf16⟩
  | .hbm, ⟨89, _⟩ => ⟨S5120x1024, .f32⟩
  | .hbm, ⟨90, _⟩ => ⟨S_, .f32⟩
  | .hbm, ⟨91, _⟩ => ⟨S4104x1024, .f32⟩
  | .hbm, ⟨92, _⟩ => ⟨S_, .i32⟩
  | .hbm, ⟨93, _⟩ => ⟨S5120, .i32⟩
  | .hbm, ⟨94, _⟩ => ⟨S5120, .i1⟩
  | .hbm, ⟨95, _⟩ => ⟨S_, .i32⟩
  | .hbm, ⟨96, _⟩ => ⟨S5120, .i32⟩
  | .hbm, ⟨97, _⟩ => ⟨S5120, .i32⟩
  | .hbm, ⟨98, _⟩ => ⟨S5120, .i32⟩
  | .hbm, ⟨99, _⟩ => ⟨S5120x1, .i32⟩
  | .hbm, ⟨100, _⟩ => ⟨S4104x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S1x2048x1024, .f32⟩
  | .local _ .vmem, ⟨0, _⟩ => ⟨S2048x1024, .f32⟩
  | .local _ .vmem, ⟨1, _⟩ => ⟨S1024x8, .f32⟩
  | .local _ .vmem, ⟨2, _⟩ => ⟨S2048x2, .i32⟩
  | .local _ .vmem, ⟨3, _⟩ => ⟨S2048x2, .f32⟩
  | .local _ .vmem, ⟨4, _⟩ => ⟨S1x8, .i32⟩
  | .local _ .vmem, ⟨5, _⟩ => ⟨S2048x8, .f32⟩
  | .local _ .vmem, ⟨6, _⟩ => ⟨S128x1024, .bf16⟩
  | .local _ .vmem, ⟨7, _⟩ => ⟨S128x1024, .bf16⟩
  | .local _ .vmem, ⟨8, _⟩ => ⟨S1x1024x2880, .f32⟩
  | .local _ .vmem, ⟨9, _⟩ => ⟨S1x1024x2880, .f32⟩
  | .local _ .vmem, ⟨10, _⟩ => ⟨S1x1024x2880, .f32⟩
  | .local _ .vmem, ⟨11, _⟩ => ⟨S1x1024x2880, .f32⟩
  | .local _ .vmem, ⟨12, _⟩ => ⟨S128x2880, .bf16⟩
  | .local _ .vmem, ⟨13, _⟩ => ⟨S128x2880, .bf16⟩
  | .local _ .vmem, ⟨14, _⟩ => ⟨S128x2880, .bf16⟩
  | .local _ .vmem, ⟨15, _⟩ => ⟨S128x2880, .bf16⟩
  | .local _ .vmem, ⟨16, _⟩ => ⟨S1x2880x1024, .f32⟩
  | .local _ .vmem, ⟨17, _⟩ => ⟨S1x2880x1024, .f32⟩
  | .local _ .vmem, ⟨18, _⟩ => ⟨S128x1, .f32⟩
  | .local _ .vmem, ⟨19, _⟩ => ⟨S128x1, .f32⟩
  | .local _ .vmem, ⟨20, _⟩ => ⟨S128x1024, .f32⟩
  | .local _ .vmem, ⟨21, _⟩ => ⟨S128x1024, .f32⟩
  | .local _ .smem, ⟨0, _⟩ => ⟨S16, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_call1_call0_c : Ref sig .tc := ⟨.hbm, 31, rfl⟩
abbrev main_call1_call0_v0 : Ref sig .tc := ⟨.hbm, 32, rfl⟩
abbrev main_v6 : Ref sig .tc := ⟨.hbm, 33, rfl⟩
abbrev main_v7 : Ref sig .tc := ⟨.hbm, 34, rfl⟩
abbrev main_v9 : Ref sig .tc := ⟨.hbm, 35, rfl⟩
abbrev main_v10 : Ref sig .tc := ⟨.hbm, 36, rfl⟩
abbrev main_c_1 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst : Ref sig .tc := ⟨.hbm, 58, rfl⟩
abbrev main_v26 : Ref sig .tc := ⟨.hbm, 59, rfl⟩
abbrev main_v27 : Ref sig .tc := ⟨.hbm, 60, rfl⟩
abbrev main_c_7 : Ref sig .tc := ⟨.hbm, 61, rfl⟩
abbrev main_v28 : Ref sig .tc := ⟨.hbm, 62, rfl⟩
abbrev main_v29 : Ref sig .tc := ⟨.hbm, 63, rfl⟩
abbrev main_c_8 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_9 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_c_10 : Ref sig .tc := ⟨.hbm, 75, rfl⟩
abbrev main_v39 : Ref sig .tc := ⟨.hbm, 76, rfl⟩
abbrev main_v40 : Ref sig .tc := ⟨.hbm, 77, rfl⟩
abbrev main_c_11 : Ref sig .tc := ⟨.hbm, 78, rfl⟩
abbrev main_v41 : Ref sig .tc := ⟨.hbm, 79, rfl⟩
abbrev main_v42 : Ref sig .tc := ⟨.hbm, 80, rfl⟩
abbrev main_c_12 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_13 : Ref sig .tc := ⟨.hbm, 90, rfl⟩
abbrev main_v51 : Ref sig .tc := ⟨.hbm, 91, rfl⟩
abbrev main_c_14 : Ref sig .tc := ⟨.hbm, 92, rfl⟩
abbrev main_v52 : Ref sig .tc := ⟨.hbm, 93, rfl⟩
abbrev main_v53 : Ref sig .tc := ⟨.hbm, 94, rfl⟩
abbrev main_c_15 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v56 : BitVec 32 := Scalar.addi c0_i32 c16_i32
  let c1_i32 : BitVec 32 := 1#32
  ⟨c0_i32, v56, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v92 : BitVec 32 := Scalar.muli arg6 c128_i32
  let v101 : Index := Scalar.indexCast v92
  let c0_30 : Index := 0#32
  ![v101.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![8, 16], ![false, false]⟩

abbrev pre1 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let c8_i32 : BitVec 32 := 8#32
  let arg0 : BitVec 32 := BitVec.ofNat 32 (i 0).val
  let v0 : BitVec 32 := Scalar.addi c8_i32 arg0
  let v1 : Index := Scalar.indexCast v0
  ![v1.toNat]
def k1_off2 (i : grid1.Coords) : Fin 1 → Nat :=
  let arg0 : BitVec 32 := BitVec.ofNat 32 (i 0).val
  let v3 : Index := Scalar.indexCast arg0
  ![v3.toNat]
def k1_cond1 (i : grid1.Coords) (v2 : BitVec 32) : BitVec 1 :=
  let arg1 : BitVec 32 := BitVec.ofNat 32 (i 1).val
  let v3 : BitVec 1 := Scalar.cmpi .slt arg1 v2
  let v4 : BitVec 32 := Scalar.extui v3
  let c0_i32 : BitVec 32 := 0#32
  let v5 : BitVec 1 := Scalar.cmpi .ne v4 c0_i32
  v5

def cc1_transform_0 (k1_off1_inb : ∀ i : grid1.Coords, ∀ a, (k1_off1 i) a + S1.size a ≤ S16.size a) (numel1_S1 : S1.numel = 1) (k1_off2_inb : ∀ i : grid1.Coords, ∀ a, (k1_off2 i) a + S1.size a ≤ S16.size a) (pf : pre1.Contents (Elt F)) (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let v1 : Index := Scalar.indexCast v0
  let v2 : BitVec 32 := pf.at 0 (Rect.unit (s := S16) ![v1.toNat] S1.size (k1_off1_inb i)) numel1_S1
  let v3 : Index := Scalar.indexCast arg0
  let v4 : BitVec 32 := pf.at 0 (Rect.unit (s := S16) ![v3.toNat] S1.size (k1_off2_inb i)) numel1_S1
  let c1_i32 : BitVec 32 := 1#32
  let v5 : BitVec 32 := Scalar.subi v2 c1_i32
  let v6 : BitVec 32 := Scalar.minsi arg1 v5
  let c0_i32 : BitVec 32 := 0#32
  let v7 : BitVec 32 := Scalar.maxsi c0_i32 v6
  let v8 : BitVec 32 := Scalar.addi v4 v7
  let c0_i32_0 : BitVec 32 := 0#32
  let v9 : BitVec 32 := Scalar.maxsi c0_i32_0 v8
  let c0_i32_1 : BitVec 32 := 0#32
  let c0_i32_2 : BitVec 32 := 0#32
  ![v9.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (k1_off1_inb : ∀ i : grid1.Coords, ∀ a, (k1_off1 i) a + S1.size a ≤ S16.size a) (numel1_S1 : S1.numel = 1) (k1_off2_inb : ∀ i : grid1.Coords, ∀ a, (k1_off2 i) a + S1.size a ≤ S16.size a) (pf : pre1.Contents (Elt F)) (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let v1 : Index := Scalar.indexCast v0
  let v2 : BitVec 32 := pf.at 0 (Rect.unit (s := S16) ![v1.toNat] S1.size (k1_off1_inb i)) numel1_S1
  let v3 : Index := Scalar.indexCast arg0
  let v4 : BitVec 32 := pf.at 0 (Rect.unit (s := S16) ![v3.toNat] S1.size (k1_off2_inb i)) numel1_S1
  let c1_i32 : BitVec 32 := 1#32
  let v5 : BitVec 32 := Scalar.subi v2 c1_i32
  let v6 : BitVec 32 := Scalar.minsi arg1 v5
  let c0_i32 : BitVec 32 := 0#32
  let v7 : BitVec 32 := Scalar.maxsi c0_i32 v6
  let v8 : BitVec 32 := Scalar.addi v4 v7
  let c0_i32_0 : BitVec 32 := 0#32
  let v9 : BitVec 32 := Scalar.maxsi c0_i32_0 v8
  let c0_i32_1 : BitVec 32 := 0#32
  let c0_i32_2 : BitVec 32 := 0#32
  ![v9.toNat, c0_i32_1.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x2880 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x2880 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x2880 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 16], ![false, false]⟩

abbrev pre2 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let c8_i32 : BitVec 32 := 8#32
  let arg0 : BitVec 32 := BitVec.ofNat 32 (i 0).val
  let v0 : BitVec 32 := Scalar.addi c8_i32 arg0
  let v1 : Index := Scalar.indexCast v0
  ![v1.toNat]
def k2_off2 (i : grid2.Coords) : Fin 1 → Nat :=
  let arg0 : BitVec 32 := BitVec.ofNat 32 (i 0).val
  let v3 : Index := Scalar.indexCast arg0
  ![v3.toNat]
def k2_cond1 (i : grid2.Coords) (v2 : BitVec 32) : BitVec 1 :=
  let arg1 : BitVec 32 := BitVec.ofNat 32 (i 1).val
  let v3 : BitVec 1 := Scalar.cmpi .slt arg1 v2
  let v4 : BitVec 32 := Scalar.extui v3
  let c0_i32 : BitVec 32 := 0#32
  let v5 : BitVec 1 := Scalar.cmpi .ne v4 c0_i32
  v5

def cc2_transform_0 (k2_off1_inb : ∀ i : grid2.Coords, ∀ a, (k2_off1 i) a + S1.size a ≤ S16.size a) (numel1_S1 : S1.numel = 1) (k2_off2_inb : ∀ i : grid2.Coords, ∀ a, (k2_off2 i) a + S1.size a ≤ S16.size a) (pf : pre2.Contents (Elt F)) (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let v1 : Index := Scalar.indexCast v0
  let v2 : BitVec 32 := pf.at 0 (Rect.unit (s := S16) ![v1.toNat] S1.size (k2_off1_inb i)) numel1_S1
  let v3 : Index := Scalar.indexCast arg0
  let v4 : BitVec 32 := pf.at 0 (Rect.unit (s := S16) ![v3.toNat] S1.size (k2_off2_inb i)) numel1_S1
  let c1_i32 : BitVec 32 := 1#32
  let v5 : BitVec 32 := Scalar.subi v2 c1_i32
  let v6 : BitVec 32 := Scalar.minsi arg1 v5
  let c0_i32 : BitVec 32 := 0#32
  let v7 : BitVec 32 := Scalar.maxsi c0_i32 v6
  let v8 : BitVec 32 := Scalar.addi v4 v7
  let c0_i32_0 : BitVec 32 := 0#32
  let v9 : BitVec 32 := Scalar.maxsi c0_i32_0 v8
  let c0_i32_1 : BitVec 32 := 0#32
  let c0_i32_2 : BitVec 32 := 0#32
  ![v9.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (k2_off1_inb : ∀ i : grid2.Coords, ∀ a, (k2_off1 i) a + S1.size a ≤ S16.size a) (numel1_S1 : S1.numel = 1) (k2_off2_inb : ∀ i : grid2.Coords, ∀ a, (k2_off2 i) a + S1.size a ≤ S16.size a) (pf : pre2.Contents (Elt F)) (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let v1 : Index := Scalar.indexCast v0
  let v2 : BitVec 32 := pf.at 0 (Rect.unit (s := S16) ![v1.toNat] S1.size (k2_off1_inb i)) numel1_S1
  let v3 : Index := Scalar.indexCast arg0
  let v4 : BitVec 32 := pf.at 0 (Rect.unit (s := S16) ![v3.toNat] S1.size (k2_off2_inb i)) numel1_S1
  let c1_i32 : BitVec 32 := 1#32
  let v5 : BitVec 32 := Scalar.subi v2 c1_i32
  let v6 : BitVec 32 := Scalar.minsi arg1 v5
  let c0_i32 : BitVec 32 := 0#32
  let v7 : BitVec 32 := Scalar.maxsi c0_i32 v6
  let v8 : BitVec 32 := Scalar.addi v4 v7
  let c0_i32_0 : BitVec 32 := 0#32
  let v9 : BitVec 32 := Scalar.maxsi c0_i32_0 v8
  let c0_i32_1 : BitVec 32 := 0#32
  let c0_i32_2 : BitVec 32 := 0#32
  ![v9.toNat, c0_i32_1.toNat]

def cc2_transform_3 (k2_off1_inb : ∀ i : grid2.Coords, ∀ a, (k2_off1 i) a + S1.size a ≤ S16.size a) (numel1_S1 : S1.numel = 1) (k2_off2_inb : ∀ i : grid2.Coords, ∀ a, (k2_off2 i) a + S1.size a ≤ S16.size a) (pf : pre2.Contents (Elt F)) (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let v1 : Index := Scalar.indexCast v0
  let v2 : BitVec 32 := pf.at 0 (Rect.unit (s := S16) ![v1.toNat] S1.size (k2_off1_inb i)) numel1_S1
  let v3 : Index := Scalar.indexCast arg0
  let v4 : BitVec 32 := pf.at 0 (Rect.unit (s := S16) ![v3.toNat] S1.size (k2_off2_inb i)) numel1_S1
  let c1_i32 : BitVec 32 := 1#32
  let v5 : BitVec 32 := Scalar.subi v2 c1_i32
  let v6 : BitVec 32 := Scalar.minsi arg1 v5
  let c0_i32 : BitVec 32 := 0#32
  let v7 : BitVec 32 := Scalar.maxsi c0_i32 v6
  let v8 : BitVec 32 := Scalar.addi v4 v7
  let c0_i32_0 : BitVec 32 := 0#32
  let v9 : BitVec 32 := Scalar.maxsi c0_i32_0 v8
  let c0_i32_1 : BitVec 32 := 0#32
  let c0_i32_2 : BitVec 32 := 0#32
  ![v9.toNat, c0_i32_1.toNat]

abbrev stage2_0 : Fin 2 → Memref sig .tc .vmem S128x2880 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2880x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S128x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S128x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== Reference3Ideal.lean ====
abbrev S1x2048x1024 : Shape := ⟨3, ![1, 2048, 1024]⟩
abbrev S1024x8 : Shape := ⟨2, ![1024, 8]⟩
abbrev S8x1024x2880 : Shape := ⟨3, ![8, 1024, 2880]⟩
abbrev S8x2880x1024 : Shape := ⟨3, ![8, 2880, 1024]⟩
abbrev S1x2048x8 : Shape := ⟨3, ![1, 2048, 8]⟩
abbrev S1x2048x2 : Shape := ⟨3, ![1, 2048, 2]⟩
abbrev S_ : Shape := ⟨0, ![]⟩
abbrev S1x2048 : Shape := ⟨2, ![1, 2048]⟩
abbrev S1x2048x1 : Shape := ⟨3, ![1, 2048, 1]⟩
abbrev S1x1024x2880 : Shape := ⟨3, ![1, 1024, 2880]⟩
abbrev S1024x2880 : Shape := ⟨2, ![1024, 2880]⟩
abbrev S1x2048x2880 : Shape := ⟨3, ![1, 2048, 2880]⟩
abbrev S1x2880x1024 : Shape := ⟨3, ![1, 2880, 1024]⟩
abbrev S2880x1024 : Shape := ⟨2, ![2880, 1024]⟩

abbrev nBuf : Space → Nat
  | .hbm => 416
  | .vmem => 0
  | .smem => 0
  | _ => 0

abbrev hbmTy0_0 (i : Nat) : BufTy := match i % 128 with
  | 0 => ⟨S1x2048x1024, .f32⟩
  | 1 => ⟨S1024x8, .f32⟩
  | 2 => ⟨S8x1024x2880, .f32⟩
  | 3 => ⟨S8x1024x2880, .f32⟩
  | 4 => ⟨S8x2880x1024, .f32⟩
  | 5 => ⟨S1x2048x8, .f32⟩
  | 6 => ⟨S1x2048x2, .f32⟩
  | 7 => ⟨S1x2048x2, .i32⟩
  | 8 => ⟨S_, .f32⟩
  | 9 => ⟨S1x2048, .f32⟩
  | 10 => ⟨S_, .f32⟩
  | 11 => ⟨S1x2048, .f32⟩
  | 12 => ⟨S1x2048, .f32⟩
  | 13 => ⟨S1x2048x1, .f32⟩
  | 14 => ⟨S1x2048x2, .f32⟩
  | 15 => ⟨S1x2048x2, .f32⟩
  | 16 => ⟨S1x2048x2, .f32⟩
  | 17 => ⟨S_, .f32⟩
  | 18 => ⟨S1x2048, .f32⟩
  | 19 => ⟨S1x2048x1, .f32⟩
  | 20 => ⟨S1x2048x2, .f32⟩
  | 21 => ⟨S1x2048x2, .f32⟩
  | 22 => ⟨S_, .f32⟩
  | 23 => ⟨S1x2048x1024, .f32⟩
  | 24 => ⟨S_, .i32⟩
  | 25 => ⟨S1x2048x2, .i32⟩
  | 26 => ⟨S1x2048x2, .i1⟩
  | 27 => ⟨S_, .i1⟩
  | 28 => ⟨S1x2048, .i1⟩
  | 29 => ⟨S1x2048x1, .i1⟩
  | 30 => ⟨S1x2048x1, .f32⟩
  | 31 => ⟨S1x2048x1024, .f32⟩
  | 32 => ⟨S1x2048x1024, .f32⟩
  | 33 => ⟨S1x1024x2880, .f32⟩
  | 34 => ⟨S1024x2880, .f32⟩
  | 35 => ⟨S1x2048x2880, .f32⟩
  | 36 => ⟨S1x2048x2880, .f32⟩
  | 37 => ⟨S1x2048x2880, .f32⟩
  | 38 => ⟨S_, .f32⟩
  | 39 => ⟨S1x2048x2880, .f32⟩
  | 40 => ⟨S1x2048x2880, .f32⟩
  | 41 => ⟨S_, .f32⟩
  | 42 => ⟨S1x2048x2880, .f32⟩
  | 43 => ⟨S1x2048x2880, .f32⟩
  | 44 => ⟨S1x2048x2880, .f32⟩
  | 45 => ⟨S_, .f32⟩
  | 46 => ⟨S_, .f32⟩
  | 47 => ⟨S_, .f32⟩
  | 48 => ⟨S1x2048x2880, .f32⟩
  | 49 => ⟨S1x2048x2880, .f32⟩
  | 50 => ⟨S_, .f32⟩
  | 51 => ⟨S1x2048x2880, .f32⟩
  | 52 => ⟨S1x2048x2880, .f32⟩
  | 53 => ⟨S1x1024x2880, .f32⟩
  | 54 => ⟨S1024x2880, .f32⟩
  | 55 => ⟨S1x2048x2880, .f32⟩
  | 56 => ⟨S1x2048x2880, .f32⟩
  | 57 => ⟨S1x2880x1024, .f32⟩
  | 58 => ⟨S2880x1024, .f32⟩
  | 59 => ⟨S1x2048x1024, .f32⟩
  | 60 => ⟨S_, .i32⟩
  | 61 => ⟨S1x2048x2, .i32⟩
  | 62 => ⟨S1x2048x2, .i1⟩
  | 63 => ⟨S_, .f32⟩
  | 64 => ⟨S_, .f32⟩
  | 65 => ⟨S1x2048x2, .f32⟩
  | 66 => ⟨S1x2048x2, .f32⟩
  | 67 => ⟨S_, .f32⟩
  | 68 => ⟨S1x2048, .f32⟩
  | 69 => ⟨S1x2048x1, .f32⟩
  | 70 => ⟨S1x2048x1024, .f32⟩
  | 71 => ⟨S1x2048x1024, .f32⟩
  | 72 => ⟨S1x2048x1024, .f32⟩
  | 73 => ⟨S_, .i32⟩
  | 74 => ⟨S1x2048x2, .i32⟩
  | 75 => ⟨S1x2048x2, .i1⟩
  | 76 => ⟨S_, .i1⟩
  | 77 => ⟨S1x2048, .i1⟩
  | 78 => ⟨S1x2048x1, .i1⟩
  | 79 => ⟨S1x2048x1, .f32⟩
  | 80 => ⟨S1x2048x1024, .f32⟩
  | 81 => ⟨S1x2048x1024, .f32⟩
  | 82 => ⟨S1x1024x2880, .f32⟩
  | 83 => ⟨S1024x2880, .f32⟩
  | 84 => ⟨S1x2048x2880, .f32⟩
  | 85 => ⟨S1x2048x2880, .f32⟩
  | 86 => ⟨S1x2048x2880, .f32⟩
  | 87 => ⟨S_, .f32⟩
  | 88 => ⟨S1x2048x2880, .f32⟩
  | 89 => ⟨S1x2048x2880, .f32⟩
  | 90 => ⟨S_, .f32⟩
  | 91 => ⟨S1x2048x2880, .f32⟩
  | 92 => ⟨S1x2048x2880, .f32⟩
  | 93 => ⟨S1x2048x2880, .f32⟩
  | 94 => ⟨S_, .f32⟩
  | 95 => ⟨S_, .f32⟩
  | 96 => ⟨S_, .f32⟩
  | 97 => ⟨S1x2048x2880, .f32⟩
  | 98 => ⟨S1x2048x2880, .f32⟩
  | 99 => ⟨S_, .f32⟩
  | 100 => ⟨S1x2048x2880, .f32⟩
  | 101 => ⟨S1x2048x2880, .f32⟩
  | 102 => ⟨S1x1024x2880, .f32⟩
  | 103 => ⟨S1024x2880, .f32⟩
  | 104 => ⟨S1x2048x2880, .f32⟩
  | 105 => ⟨S1x2048x2880, .f32⟩
  | 106 => ⟨S1x2880x1024, .f32⟩
  | 107 => ⟨S2880x1024, .f32⟩
  | 108 => ⟨S1x2048x1024, .f32⟩
  | 109 => ⟨S_, .i32⟩
  | 110 => ⟨S1x2048x2, .i32⟩
  | 111 => ⟨S1x2048x2, .i1⟩
  | 112 => ⟨S_, .f32⟩
  | 113 => ⟨S_, .f32⟩
  | 114 => ⟨S1x2048x2, .f32⟩
  | 115 => ⟨S1x2048x2, .f32⟩
  | 116 => ⟨S_, .f32⟩
  | 117 => ⟨S1x2048, .f32⟩
  | 118 => ⟨S1x2048x1, .f32⟩
  | 119 => ⟨S1x2048x1024, .f32⟩
  | 120 => ⟨S1x2048x1024, .f32⟩
  | 121 => ⟨S1x2048x1024, .f32⟩
  | 122 => ⟨S_, .i32⟩
  | 123 => ⟨S1x2048x2, .i32⟩
  | 124 => ⟨S1x2048x2, .i1⟩
  | 125 => ⟨S_, .i1⟩
  | 126 => ⟨S1x2048, .i1⟩
  | 127 => ⟨S1x2048x1, .i1⟩
  | _ => ⟨S1x2048x1024, .f32⟩

abbrev hbmTy0_1 (i : Nat) : BufTy := match i % 128 with
  | 0 => ⟨S1x2048x1, .f32⟩
  | 1 => ⟨S1x2048x1024, .f32⟩
  | 2 => ⟨S1x2048x1024, .f32⟩
  | 3 => ⟨S1x1024x2880, .f32⟩
  | 4 => ⟨S1024x2880, .f32⟩
  | 5 => ⟨S1x2048x2880, .f32⟩
  | 6 => ⟨S1x2048x2880, .f32⟩
  | 7 => ⟨S1x2048x2880, .f32⟩
  | 8 => ⟨S_, .f32⟩
  | 9 => ⟨S1x2048x2880, .f32⟩
  | 10 => ⟨S1x2048x2880, .f32⟩
  | 11 => ⟨S_, .f32⟩
  | 12 => ⟨S1x2048x2880, .f32⟩
  | 13 => ⟨S1x2048x2880, .f32⟩
  | 14 => ⟨S1x2048x2880, .f32⟩
  | 15 => ⟨S_, .f32⟩
  | 16 => ⟨S_, .f32⟩
  | 17 => ⟨S_, .f32⟩
  | 18 => ⟨S1x2048x2880, .f32⟩
  | 19 => ⟨S1x2048x2880, .f32⟩
  | 20 => ⟨S_, .f32⟩
  | 21 => ⟨S1x2048x2880, .f32⟩
  | 22 => ⟨S1x2048x2880, .f32⟩
  | 23 => ⟨S1x1024x2880, .f32⟩
  | 24 => ⟨S1024x2880, .f32⟩
  | 25 => ⟨S1x2048x2880, .f32⟩
  | 26 => ⟨S1x2048x2880, .f32⟩
  | 27 => ⟨S1x2880x1024, .f32⟩
  | 28 => ⟨S2880x1024, .f32⟩
  | 29 => ⟨S1x2048x1024, .f32⟩
  | 30 => ⟨S_, .i32⟩
  | 31 => ⟨S1x2048x2, .i32⟩
  | 32 => ⟨S1x2048x2, .i1⟩
  | 33 => ⟨S_, .f32⟩
  | 34 => ⟨S_, .f32⟩
  | 35 => ⟨S1x2048x2, .f32⟩
  | 36 => ⟨S1x2048x2, .f32⟩
  | 37 => ⟨S_, .f32⟩
  | 38 => ⟨S1x2048, .f32⟩
  | 39 => ⟨S1x2048x1, .f32⟩
  | 40 => ⟨S1x2048x1024, .f32⟩
  | 41 => ⟨S1x2048x1024, .f32⟩
  | 42 => ⟨S1x2048x1024, .f32⟩
  | 43 => ⟨S_, .i32⟩
  | 44 => ⟨S1x2048x2, .i32⟩
  | 45 => ⟨S1x2048x2, .i1⟩
  | 46 => ⟨S_, .i1⟩
  | 47 => ⟨S1x2048, .i1⟩
  | 48 => ⟨S1x2048x1, .i1⟩
  | 49 => ⟨S1x2048x1, .f32⟩
  | 50 => ⟨S1x2048x1024, .f32⟩
  | 51 => ⟨S1x2048x1024, .f32⟩
  | 52 => ⟨S1x1024x2880, .f32⟩
  | 53 => ⟨S1024x2880, .f32⟩
  | 54 => ⟨S1x2048x2880, .f32⟩
  | 55 => ⟨S1x2048x2880, .f32⟩
  | 56 => ⟨S1x2048x2880, .f32⟩
  | 57 => ⟨S_, .f32⟩
  | 58 => ⟨S1x2048x2880, .f32⟩
  | 59 => ⟨S1x2048x2880, .f32⟩
  | 60 => ⟨S_, .f32⟩
  | 61 => ⟨S1x2048x2880, .f32⟩
  | 62 => ⟨S1x2048x2880, .f32⟩
  | 63 => ⟨S1x2048x2880, .f32⟩
  | 64 => ⟨S_, .f32⟩
  | 65 => ⟨S_, .f32⟩
  | 66 => ⟨S_, .f32⟩
  | 67 => ⟨S1x2048x2880, .f32⟩
  | 68 => ⟨S1x2048x2880, .f32⟩
  | 69 => ⟨S_, .f32⟩
  | 70 => ⟨S1x2048x2880, .f32⟩
  | 71 => ⟨S1x2048x2880, .f32⟩
  | 72 => ⟨S1x1024x2880, .f32⟩
  | 73 => ⟨S1024x2880, .f32⟩
  | 74 => ⟨S1x2048x2880, .f32⟩
  | 75 => ⟨S1x2048x2880, .f32⟩
  | 76 => ⟨S1x2880x1024, .f32⟩
  | 77 => ⟨S2880x1024, .f32⟩
  | 78 => ⟨S1x2048x1024, .f32⟩
  | 79 => ⟨S_, .i32⟩
  | 80 => ⟨S1x2048x2, .i32⟩
  | 81 => ⟨S1x2048x2, .i1⟩
  | 82 => ⟨S_, .f32⟩
  | 83 => ⟨S_, .f32⟩
  | 84 => ⟨S1x2048x2, .f32⟩
  | 85 => ⟨S1x2048x2, .f32⟩
  | 86 => ⟨S_, .f32⟩
  | 87 => ⟨S1x2048, .f32⟩
  | 88 => ⟨S1x2048x1, .f32⟩
  | 89 => ⟨S1x2048x1024, .f32⟩
  | 90 => ⟨S1x2048x1024, .f32⟩
  | 91 => ⟨S1x2048x1024, .f32⟩
  | 92 => ⟨S_, .i32⟩
  | 93 => ⟨S1x2048x2, .i32⟩
  | 94 => ⟨S1x2048x2, .i1⟩
  | 95 => ⟨S_, .i1⟩
  | 96 => ⟨S1x2048, .i1⟩
  | 97 => ⟨S1x2048x1, .i1⟩
  | 98 => ⟨S1x2048x1, .f32⟩
  | 99 => ⟨S1x2048x1024, .f32⟩
  | 100 => ⟨S1x2048x1024, .f32⟩
  | 101 => ⟨S1x1024x2880, .f32⟩
  | 102 => ⟨S1024x2880, .f32⟩
  | 103 => ⟨S1x2048x2880, .f32⟩
  | 104 => ⟨S1x2048x2880, .f32⟩
  | 105 => ⟨S1x2048x2880, .f32⟩
  | 106 => ⟨S_, .f32⟩
  | 107 => ⟨S1x2048x2880, .f32⟩
  | 108 => ⟨S1x2048x2880, .f32⟩
  | 109 => ⟨S_, .f32⟩
  | 110 => ⟨S1x2048x2880, .f32⟩
  | 111 => ⟨S1x2048x2880, .f32⟩
  | 112 => ⟨S1x2048x2880, .f32⟩
  | 113 => ⟨S_, .f32⟩
  | 114 => ⟨S_, .f32⟩
  | 115 => ⟨S_, .f32⟩
  | 116 => ⟨S1x2048x2880, .f32⟩
  | 117 => ⟨S1x2048x2880, .f32⟩
  | 118 => ⟨S_, .f32⟩
  | 119 => ⟨S1x2048x2880, .f32⟩
  | 120 => ⟨S1x2048x2880, .f32⟩
  | 121 => ⟨S1x1024x2880, .f32⟩
  | 122 => ⟨S1024x2880, .f32⟩
  | 123 => ⟨S1x2048x2880, .f32⟩
  | 124 => ⟨S1x2048x2880, .f32⟩
  | 125 => ⟨S1x2880x1024, .f32⟩
  | 126 => ⟨S2880x1024, .f32⟩
  | 127 => ⟨S1x2048x1024, .f32⟩
  | _ => ⟨S1x2048x1024, .f32⟩

abbrev hbmTy0_2 (i : Nat) : BufTy := match i % 128 with
  | 0 => ⟨S_, .i32⟩
  | 1 => ⟨S1x2048x2, .i32⟩
  | 2 => ⟨S1x2048x2, .i1⟩
  | 3 => ⟨S_, .f32⟩
  | 4 => ⟨S_, .f32⟩
  | 5 => ⟨S1x2048x2, .f32⟩
  | 6 => ⟨S1x2048x2, .f32⟩
  | 7 => ⟨S_, .f32⟩
  | 8 => ⟨S1x2048, .f32⟩
  | 9 => ⟨S1x2048x1, .f32⟩
  | 10 => ⟨S1x2048x1024, .f32⟩
  | 11 => ⟨S1x2048x1024, .f32⟩
  | 12 => ⟨S1x2048x1024, .f32⟩
  | 13 => ⟨S_, .i32⟩
  | 14 => ⟨S1x2048x2, .i32⟩
  | 15 => ⟨S1x2048x2, .i1⟩
  | 16 => ⟨S_, .i1⟩
  | 17 => ⟨S1x2048, .i1⟩
  | 18 => ⟨S1x2048x1, .i1⟩
  | 19 => ⟨S1x2048x1, .f32⟩
  | 20 => ⟨S1x2048x1024, .f32⟩
  | 21 => ⟨S1x2048x1024, .f32⟩
  | 22 => ⟨S1x1024x2880, .f32⟩
  | 23 => ⟨S1024x2880, .f32⟩
  | 24 => ⟨S1x2048x2880, .f32⟩
  | 25 => ⟨S1x2048x2880, .f32⟩
  | 26 => ⟨S1x2048x2880, .f32⟩
  | 27 => ⟨S_, .f32⟩
  | 28 => ⟨S1x2048x2880, .f32⟩
  | 29 => ⟨S1x2048x2880, .f32⟩
  | 30 => ⟨S_, .f32⟩
  | 31 => ⟨S1x2048x2880, .f32⟩
  | 32 => ⟨S1x2048x2880, .f32⟩
  | 33 => ⟨S1x2048x2880, .f32⟩
  | 34 => ⟨S_, .f32⟩
  | 35 => ⟨S_, .f32⟩
  | 36 => ⟨S_, .f32⟩
  | 37 => ⟨S1x2048x2880, .f32⟩
  | 38 => ⟨S1x2048x2880, .f32⟩
  | 39 => ⟨S_, .f32⟩
  | 40 => ⟨S1x2048x2880, .f32⟩
  | 41 => ⟨S1x2048x2880, .f32⟩
  | 42 => ⟨S1x1024x2880, .f32⟩
  | 43 => ⟨S1024x2880, .f32⟩
  | 44 => ⟨S1x2048x2880, .f32⟩
  | 45 => ⟨S1x2048x2880, .f32⟩
  | 46 => ⟨S1x2880x1024, .f32⟩
  | 47 => ⟨S2880x1024, .f32⟩
  | 48 => ⟨S1x2048x1024, .f32⟩
  | 49 => ⟨S_, .i32⟩
  | 50 => ⟨S1x2048x2, .i32⟩
  | 51 => ⟨S1x2048x2, .i1⟩
  | 52 => ⟨S_, .f32⟩
  | 53 => ⟨S_, .f32⟩
  | 54 => ⟨S1x2048x2, .f32⟩
  | 55 => ⟨S1x2048x2, .f32⟩
  | 56 => ⟨S_, .f32⟩
  | 57 => ⟨S1x2048, .f32⟩
  | 58 => ⟨S1x2048x1, .f32⟩
  | 59 => ⟨S1x2048x1024, .f32⟩
  | 60 => ⟨S1x2048x1024, .f32⟩
  | 61 => ⟨S1x2048x1024, .f32⟩
  | 62 => ⟨S_, .i32⟩
  | 63 => ⟨S1x2048x2, .i32⟩
  | 64 => ⟨S1x2048x2, .i1⟩
  | 65 => ⟨S_, .i1⟩
  | 66 => ⟨S1x2048, .i1⟩
  | 67 => ⟨S1x2048x1, .i1⟩
  | 68 => ⟨S1x2048x1, .f32⟩
  | 69 => ⟨S1x2048x1024, .f32⟩
  | 70 => ⟨S1x2048x1024, .f32⟩
  | 71 => ⟨S1x1024x2880, .f32⟩
  | 72 => ⟨S1024x2880, .f32⟩
  | 73 => ⟨S1x2048x2880, .f32⟩
  | 74 => ⟨S1x2048x2880, .f32⟩
  | 75 => ⟨S1x2048x2880, .f32⟩
  | 76 => ⟨S_, .f32⟩
  | 77 => ⟨S1x2048x2880, .f32⟩
  | 78 => ⟨S1x2048x2880, .f32⟩
  | 79 => ⟨S_, .f32⟩
  | 80 => ⟨S1x2048x2880, .f32⟩
  | 81 => ⟨S1x2048x2880, .f32⟩
  | 82 => ⟨S1x2048x2880, .f32⟩
  | 83 => ⟨S_, .f32⟩
  | 84 => ⟨S_, .f32⟩
  | 85 => ⟨S_, .f32⟩
  | 86 => ⟨S1x2048x2880, .f32⟩
  | 87 => ⟨S1x2048x2880, .f32⟩
  | 88 => ⟨S_, .f32⟩
  | 89 => ⟨S1x2048x2880, .f32⟩
  | 90 => ⟨S1x2048x2880, .f32⟩
  | 91 => ⟨S1x1024x2880, .f32⟩
  | 92 => ⟨S1024x2880, .f32⟩
  | 93 => ⟨S1x2048x2880, .f32⟩
  | 94 => ⟨S1x2048x2880, .f32⟩
  | 95 => ⟨S1x2880x1024, .f32⟩
  | 96 => ⟨S2880x1024, .f32⟩
  | 97 => ⟨S1x2048x1024, .f32⟩
  | 98 => ⟨S_, .i32⟩
  | 99 => ⟨S1x2048x2, .i32⟩
  | 100 => ⟨S1x2048x2, .i1⟩
  | 101 => ⟨S_, .f32⟩
  | 102 => ⟨S_, .f32⟩
  | 103 => ⟨S1x2048x2, .f32⟩
  | 104 => ⟨S1x2048x2, .f32⟩
  | 105 => ⟨S_, .f32⟩
  | 106 => ⟨S1x2048, .f32⟩
  | 107 => ⟨S1x2048x1, .f32⟩
  | 108 => ⟨S1x2048x1024, .f32⟩
  | 109 => ⟨S1x2048x1024, .f32⟩
  | 110 => ⟨S1x2048x1024, .f32⟩
  | 111 => ⟨S_, .i32⟩
  | 112 => ⟨S1x2048x2, .i32⟩
  | 113 => ⟨S1x2048x2, .i1⟩
  | 114 => ⟨S_, .i1⟩
  | 115 => ⟨S1x2048, .i1⟩
  | 116 => ⟨S1x2048x1, .i1⟩
  | 117 => ⟨S1x2048x1, .f32⟩
  | 118 => ⟨S1x2048x1024, .f32⟩
  | 119 => ⟨S1x2048x1024, .f32⟩
  | 120 => ⟨S1x1024x2880, .f32⟩
  | 121 => ⟨S1024x2880, .f32⟩
  | 122 => ⟨S1x2048x2880, .f32⟩
  | 123 => ⟨S1x2048x2880, .f32⟩
  | 124 => ⟨S1x2048x2880, .f32⟩
  | 125 => ⟨S_, .f32⟩
  | 126 => ⟨S1x2048x2880, .f32⟩
  | 127 => ⟨S1x2048x2880, .f32⟩
  | _ => ⟨S1x2048x1024, .f32⟩

abbrev hbmTy0_3 (i : Nat) : BufTy := match i % 128 with
  | 0 => ⟨S_, .f32⟩
  | 1 => ⟨S1x2048x2880, .f32⟩
  | 2 => ⟨S1x2048x2880, .f32⟩
  | 3 => ⟨S1x2048x2880, .f32⟩
  | 4 => ⟨S_, .f32⟩
  | 5 => ⟨S_, .f32⟩
  | 6 => ⟨S_, .f32⟩
  | 7 => ⟨S1x2048x2880, .f32⟩
  | 8 => ⟨S1x2048x2880, .f32⟩
  | 9 => ⟨S_, .f32⟩
  | 10 => ⟨S1x2048x2880, .f32⟩
  | 11 => ⟨S1x2048x2880, .f32⟩
  | 12 => ⟨S1x1024x2880, .f32⟩
  | 13 => ⟨S1024x2880, .f32⟩
  | 14 => ⟨S1x2048x2880, .f32⟩
  | 15 => ⟨S1x2048x2880, .f32⟩
  | 16 => ⟨S1x2880x1024, .f32⟩
  | 17 => ⟨S2880x1024, .f32⟩
  | 18 => ⟨S1x2048x1024, .f32⟩
  | 19 => ⟨S_, .i32⟩
  | 20 => ⟨S1x2048x2, .i32⟩
  | 21 => ⟨S1x2048x2, .i1⟩
  | 22 => ⟨S_, .f32⟩
  | 23 => ⟨S_, .f32⟩
  | 24 => ⟨S1x2048x2, .f32⟩
  | 25 => ⟨S1x2048x2, .f32⟩
  | 26 => ⟨S_, .f32⟩
  | 27 => ⟨S1x2048, .f32⟩
  | 28 => ⟨S1x2048x1, .f32⟩
  | 29 => ⟨S1x2048x1024, .f32⟩
  | 30 => ⟨S1x2048x1024, .f32⟩
  | 31 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | 3 => hbmTy0_3 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v23 : Ref sig .tc := ⟨.hbm, 44, rfl⟩
abbrev main_cst_4 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_v34 : Ref sig .tc := ⟨.hbm, 66, rfl⟩
abbrev main_cst_8 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_9 : Ref sig .tc := ⟨.hbm, 73, rfl⟩
abbrev main_v40 : Ref sig .tc := ⟨.hbm, 74, rfl⟩
abbrev main_v41 : Ref sig .tc := ⟨.hbm, 75, rfl⟩
abbrev main_c_10 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v50 : Ref sig .tc := ⟨.hbm, 93, rfl⟩
abbrev main_cst_11 : Ref sig .tc := ⟨.hbm, 94, rfl⟩
abbrev main_cst_12 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_13 : Ref sig .tc := ⟨.hbm, 109, rfl⟩
abbrev main_v59 : Ref sig .tc := ⟨.hbm, 110, rfl⟩
abbrev main_v60 : Ref sig .tc := ⟨.hbm, 111, rfl⟩
abbrev main_cst_14 : Ref sig .tc := ⟨.hbm, 112, rfl⟩
abbrev main_call5_v0 : Ref sig .tc := ⟨.hbm, 113, rfl⟩
abbrev main_call5_v1 : Ref sig .tc := ⟨.hbm, 114, rfl⟩
abbrev main_v61 : Ref sig .tc := ⟨.hbm, 115, rfl⟩
abbrev main_cst_15 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_c_16 : Ref sig .tc := ⟨.hbm, 122, rfl⟩
abbrev main_v67 : Ref sig .tc := ⟨.hbm, 123, rfl⟩
abbrev main_v68 : Ref sig .tc := ⟨.hbm, 124, rfl⟩
abbrev main_c_17 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_call6_v0 : Ref sig .tc := ⟨.hbm, 134, rfl⟩
abbrev main_call6_v1 : Ref sig .tc := ⟨.hbm, 135, rfl⟩
abbrev main_call6_cst : Ref sig .tc := ⟨.hbm, 136, rfl⟩
abbrev main_call6_v2 : Ref sig .tc := ⟨.hbm, 137, rfl⟩
abbrev main_call6_v3 : Ref sig .tc := ⟨.hbm, 138, rfl⟩
abbrev main_call6_cst_0 : Ref sig .tc := ⟨.hbm, 139, rfl⟩
abbrev main_call6_v4 : Ref sig .tc := ⟨.hbm, 140, rfl⟩
abbrev main_call6_v5 : Ref sig .tc := ⟨.hbm, 141, rfl⟩
abbrev main_v77 : Ref sig .tc := ⟨.hbm, 142, rfl⟩
abbrev main_cst_18 : Ref sig .tc := ⟨.hbm, 143, rfl⟩
abbrev main_cst_19 : Ref sig .tc := ⟨.hbm, 144, rfl⟩
abbrev main_call7_v0 : Ref sig .tc := ⟨.hbm, 145, rfl⟩
abbrev main_call7_v1 : Ref sig .tc := ⟨.hbm, 146, rfl⟩
abbrev main_call7_v2 : Ref sig .tc := ⟨.hbm, 147, rfl⟩
abbrev main_call7_v3 : Ref sig .tc := ⟨.hbm, 148, rfl⟩
abbrev main_call7_v4 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_c_20 : Ref sig .tc := ⟨.hbm, 158, rfl⟩
abbrev main_v86 : Ref sig .tc := ⟨.hbm, 159, rfl⟩
abbrev main_v87 : Ref sig .tc := ⟨.hbm, 160, rfl⟩
abbrev main_cst_21 : Ref sig .tc := ⟨.hbm, 161, rfl⟩
abbrev main_call8_v0 : Ref sig .tc := ⟨.hbm, 162, rfl⟩
abbrev main_call8_v1 : Ref sig .tc := ⟨.hbm, 163, rfl⟩
abbrev main_v88 : Ref sig .tc := ⟨.hbm, 164, rfl⟩
abbrev main_cst_22 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_c_23 : Ref sig .tc := ⟨.hbm, 171, rfl⟩
abbrev main_v94 : Ref sig .tc := ⟨.hbm, 172, rfl⟩
abbrev main_v95 : Ref sig .tc := ⟨.hbm, 173, rfl⟩
abbrev main_c_24 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_call9_v0 : Ref sig .tc := ⟨.hbm, 183, rfl⟩
abbrev main_call9_v1 : Ref sig .tc := ⟨.hbm, 184, rfl⟩
abbrev main_call9_cst : Ref sig .tc := ⟨.hbm, 185, rfl⟩
abbrev main_call9_v2 : Ref sig .tc := ⟨.hbm, 186, rfl⟩
abbrev main_call9_v3 : Ref sig .tc := ⟨.hbm, 187, rfl⟩
abbrev main_call9_cst_0 : Ref sig .tc := ⟨.hbm, 188, rfl⟩
abbrev main_call9_v4 : Ref sig .tc := ⟨.hbm, 189, rfl⟩
abbrev main_call9_v5 : Ref sig .tc := ⟨.hbm, 190, rfl⟩
abbrev main_v104 : Ref sig .tc := ⟨.hbm, 191, rfl⟩
abbrev main_cst_25 : Ref sig .tc := ⟨.hbm, 192, rfl⟩
abbrev main_cst_26 : Ref sig .tc := ⟨.hbm, 193, rfl⟩
abbrev main_call10_v0 : Ref sig .tc := ⟨.hbm, 194, rfl⟩
abbrev main_call10_v1 : Ref sig .tc := ⟨.hbm, 195, rfl⟩
abbrev main_call10_v2 : Ref sig .tc := ⟨.hbm, 196, rfl⟩
abbrev main_call10_v3 : Ref sig .tc := ⟨.hbm, 197, rfl⟩
abbrev main_call10_v4 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_c_27 : Ref sig .tc := ⟨.hbm, 207, rfl⟩
abbrev main_v113 : Ref sig .tc := ⟨.hbm, 208, rfl⟩
abbrev main_v114 : Ref sig .tc := ⟨.hbm, 209, rfl⟩
abbrev main_cst_28 : Ref sig .tc := ⟨.hbm, 210, rfl⟩
abbrev main_call11_v0 : Ref sig .tc := ⟨.hbm, 211, rfl⟩
abbrev main_call11_v1 : Ref sig .tc := ⟨.hbm, 212, rfl⟩
abbrev main_v115 : Ref sig .tc := ⟨.hbm, 213, rfl⟩
abbrev main_cst_29 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_c_30 : Ref sig .tc := ⟨.hbm, 220, rfl⟩
abbrev main_v121 : Ref sig .tc := ⟨.hbm, 221, rfl⟩
abbrev main_v122 : Ref sig .tc := ⟨.hbm, 222, rfl⟩
abbrev main_c_31 : Ref sig .tc := ⟨.hbm, 223, rfl⟩
abbrev main_v123 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_call12_v0 : Ref sig .tc := ⟨.hbm, 232, rfl⟩
abbrev main_call12_v1 : Ref sig .tc := ⟨.hbm, 233, rfl⟩
abbrev main_call12_cst : Ref sig .tc := ⟨.hbm, 234, rfl⟩
abbrev main_call12_v2 : Ref sig .tc := ⟨.hbm, 235, rfl⟩
abbrev main_call12_v3 : Ref sig .tc := ⟨.hbm, 236, rfl⟩
abbrev main_call12_cst_0 : Ref sig .tc := ⟨.hbm, 237, rfl⟩
abbrev main_call12_v4 : Ref sig .tc := ⟨.hbm, 238, rfl⟩
abbrev main_call12_v5 : Ref sig .tc := ⟨.hbm, 239, rfl⟩
abbrev main_v131 : Ref sig .tc := ⟨.hbm, 240, rfl⟩
abbrev main_cst_32 : Ref sig .tc := ⟨.hbm, 241, rfl⟩
abbrev main_cst_33 : Ref sig .tc := ⟨.hbm, 242, rfl⟩
abbrev main_call13_v0 : Ref sig .tc := ⟨.hbm, 243, rfl⟩
abbrev main_call13_v1 : Ref sig .tc := ⟨.hbm, 244, rfl⟩
abbrev main_call13_v2 : Ref sig .tc := ⟨.hbm, 245, rfl⟩
abbrev main_call13_v3 : Ref sig .tc := ⟨.hbm, 246, rfl⟩
abbrev main_call13_v4 : Ref sig .tc := ⟨.hbm, 247, rfl⟩
abbrev main_v132 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_v137 : Ref sig .tc := ⟨.hbm, 253, rfl⟩
abbrev main_v138 : Ref sig .tc := ⟨.hbm, 254, rfl⟩
abbrev main_v139 : Ref sig .tc := ⟨.hbm, 255, rfl⟩
abbrev main_c_34 : Ref sig .tc := ⟨.hbm, 256, rfl⟩
abbrev main_v140 : Ref sig .tc := ⟨.hbm, 257, rfl⟩
abbrev main_v141 : Ref sig .tc := ⟨.hbm, 258, rfl⟩
abbrev main_cst_35 : Ref sig .tc := ⟨.hbm, 259, rfl⟩
abbrev main_call14_v0 : Ref sig .tc := ⟨.hbm, 260, rfl⟩
abbrev main_call14_v1 : Ref sig .tc := ⟨.hbm, 261, rfl⟩
abbrev main_v142 : Ref sig .tc := ⟨.hbm, 262, rfl⟩
abbrev main_cst_36 : Ref sig .tc := ⟨.hbm, 263, rfl⟩
abbrev main_v143 : Ref sig .tc := ⟨.hbm, 264, rfl⟩
abbrev main_v144 : Ref sig .tc := ⟨.hbm, 265, rfl⟩
abbrev main_v145 : Ref sig .tc := ⟨.hbm, 266, rfl⟩
abbrev main_v146 : Ref sig .tc := ⟨.hbm, 267, rfl⟩
abbrev main_v147 : Ref sig .tc := ⟨.hbm, 268, rfl⟩
abbrev main_c_37 : Ref sig .tc := ⟨.hbm, 269, rfl⟩
abbrev main_v148 : Ref sig .tc := ⟨.hbm, 270, rfl⟩
abbrev main_v149 : Ref sig .tc := ⟨.hbm, 271, rfl⟩
abbrev main_c_38 : Ref sig .tc := ⟨.hbm, 272, rfl⟩
abbrev main_v150 : Ref sig .tc := ⟨.hbm, 273, rfl⟩
abbrev main_v151 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩
abbrev main_v155 : Ref sig .tc := ⟨.hbm, 278, rfl⟩
abbrev main_v156 : Ref sig .tc := ⟨.hbm, 279, rfl⟩
abbrev main_v157 : Ref sig .tc := ⟨.hbm, 280, rfl⟩
abbrev main_call15_v0 : Ref sig .tc := ⟨.hbm, 281, rfl⟩
abbrev main_call15_v1 : Ref sig .tc := ⟨.hbm, 282, rfl⟩
abbrev main_call15_cst : Ref sig .tc := ⟨.hbm, 283, rfl⟩
abbrev main_call15_v2 : Ref sig .tc := ⟨.hbm, 284, rfl⟩
abbrev main_call15_v3 : Ref sig .tc := ⟨.hbm, 285, rfl⟩
abbrev main_call15_cst_0 : Ref sig .tc := ⟨.hbm, 286, rfl⟩
abbrev main_call15_v4 : Ref sig .tc := ⟨.hbm, 287, rfl⟩
abbrev main_call15_v5 : Ref sig .tc := ⟨.hbm, 288, rfl⟩
abbrev main_v158 : Ref sig .tc := ⟨.hbm, 289, rfl⟩
abbrev main_cst_39 : Ref sig .tc := ⟨.hbm, 290, rfl⟩
abbrev main_cst_40 : Ref sig .tc := ⟨.hbm, 291, rfl⟩
abbrev main_call16_v0 : Ref sig .tc := ⟨.hbm, 292, rfl⟩
abbrev main_call16_v1 : Ref sig .tc := ⟨.hbm, 293, rfl⟩
abbrev main_call16_v2 : Ref sig .tc := ⟨.hbm, 294, rfl⟩
abbrev main_call16_v3 : Ref sig .tc := ⟨.hbm, 295, rfl⟩
abbrev main_call16_v4 : Ref sig .tc := ⟨.hbm, 296, rfl⟩
abbrev main_v159 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_v165 : Ref sig .tc := ⟨.hbm, 303, rfl⟩
abbrev main_v166 : Ref sig .tc := ⟨.hbm, 304, rfl⟩
abbrev main_c_41 : Ref sig .tc := ⟨.hbm, 305, rfl⟩
abbrev main_v167 : Ref sig .tc := ⟨.hbm, 306, rfl⟩
abbrev main_v168 : Ref sig .tc := ⟨.hbm, 307, rfl⟩
abbrev main_cst_42 : Ref sig .tc := ⟨.hbm, 308, rfl⟩
abbrev main_call17_v0 : Ref sig .tc := ⟨.hbm, 309, rfl⟩
abbrev main_call17_v1 : Ref sig .tc := ⟨.hbm, 310, rfl⟩
abbrev main_v169 : Ref sig .tc := ⟨.hbm, 311, rfl⟩
abbrev main_cst_43 : Ref sig .tc := ⟨.hbm, 312, rfl⟩
abbrev main_v170 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_c_44 : Ref sig .tc := ⟨.hbm, 318, rfl⟩
abbrev main_v175 : Ref sig .tc := ⟨.hbm, 319, rfl⟩
abbrev main_v176 : Ref sig .tc := ⟨.hbm, 320, rfl⟩
abbrev main_c_45 : Ref sig .tc := ⟨.hbm, 321, rfl⟩
abbrev main_v177 : Ref sig .tc := ⟨.hbm, 322, rfl⟩
abbrev main_v178 : Ref sig .tc := ⟨.hbm, 323, rfl⟩
abbrev main_v179 : Ref sig .tc := ⟨.hbm, 324, rfl⟩
abbrev main_v180 : Ref sig .tc := ⟨.hbm, 325, rfl⟩
abbrev main_v181 : Ref sig .tc := ⟨.hbm, 326, rfl⟩
abbrev main_v182 : Ref sig .tc := ⟨.hbm, 327, rfl⟩
abbrev main_v183 : Ref sig .tc := ⟨.hbm, 328, rfl⟩
abbrev main_v184 : Ref sig .tc := ⟨.hbm, 329, rfl⟩
abbrev main_call18_v0 : Ref sig .tc := ⟨.hbm, 330, rfl⟩
abbrev main_call18_v1 : Ref sig .tc := ⟨.hbm, 331, rfl⟩
abbrev main_call18_cst : Ref sig .tc := ⟨.hbm, 332, rfl⟩
abbrev main_call18_v2 : Ref sig .tc := ⟨.hbm, 333, rfl⟩
abbrev main_call18_v3 : Ref sig .tc := ⟨.hbm, 334, rfl⟩
abbrev main_call18_cst_0 : Ref sig .tc := ⟨.hbm, 335, rfl⟩
abbrev main_call18_v4 : Ref sig .tc := ⟨.hbm, 336, rfl⟩
abbrev main_call18_v5 : Ref sig .tc := ⟨.hbm, 337, rfl⟩
abbrev main_v185 : Ref sig .tc := ⟨.hbm, 338, rfl⟩
abbrev main_cst_46 : Ref sig .tc := ⟨.hbm, 339, rfl⟩
abbrev main_cst_47 : Ref sig .tc := ⟨.hbm, 340, rfl⟩
abbrev main_call19_v0 : Ref sig .tc := ⟨.hbm, 341, rfl⟩
abbrev main_call19_v1 : Ref sig .tc := ⟨.hbm, 342, rfl⟩
abbrev main_call19_v2 : Ref sig .tc := ⟨.hbm, 343, rfl⟩
abbrev main_call19_v3 : Ref sig .tc := ⟨.hbm, 344, rfl⟩
abbrev main_call19_v4 : Ref sig .tc := ⟨.hbm, 345, rfl⟩
abbrev main_v186 : Ref sig .tc := ⟨.hbm, 346, rfl⟩
abbrev main_v187 : Ref sig .tc := ⟨.hbm, 347, rfl⟩
abbrev main_v188 : Ref sig .tc := ⟨.hbm, 348, rfl⟩
abbrev main_v189 : Ref sig .tc := ⟨.hbm, 349, rfl⟩
abbrev main_v190 : Ref sig .tc := ⟨.hbm, 350, rfl⟩
abbrev main_v191 : Ref sig .tc := ⟨.hbm, 351, rfl⟩
abbrev main_v192 : Ref sig .tc := ⟨.hbm, 352, rfl⟩
abbrev main_v193 : Ref sig .tc := ⟨.hbm, 353, rfl⟩
abbrev main_c_48 : Ref sig .tc := ⟨.hbm, 354, rfl⟩
abbrev main_v194 : Ref sig .tc := ⟨.hbm, 355, rfl⟩
abbrev main_v195 : Ref sig .tc := ⟨.hbm, 356, rfl⟩
abbrev main_cst_49 : Ref sig .tc := ⟨.hbm, 357, rfl⟩
abbrev main_call20_v0 : Ref sig .tc := ⟨.hbm, 358, rfl⟩
abbrev main_call20_v1 : Ref sig .tc := ⟨.hbm, 359, rfl⟩
abbrev main_v196 : Ref sig .tc := ⟨.hbm, 360, rfl⟩
abbrev main_cst_50 : Ref sig .tc := ⟨.hbm, 361, rfl⟩
abbrev main_v197 : Ref sig .tc := ⟨.hbm, 362, rfl⟩
abbrev main_v198 : Ref sig .tc := ⟨.hbm, 363, rfl⟩
abbrev main_v199 : Ref sig .tc := ⟨.hbm, 364, rfl⟩
abbrev main_v200 : Ref sig .tc := ⟨.hbm, 365, rfl⟩
abbrev main_v201 : Ref sig .tc := ⟨.hbm, 366, rfl⟩
abbrev main_c_51 : Ref sig .tc := ⟨.hbm, 367, rfl⟩
abbrev main_v202 : Ref sig .tc := ⟨.hbm, 368, rfl⟩
abbrev main_v203 : Ref sig .tc := ⟨.hbm, 369, rfl⟩
abbrev main_c_52 : Ref sig .tc := ⟨.hbm, 370, rfl⟩
abbrev main_v204 : Ref sig .tc := ⟨.hbm, 371, rfl⟩
abbrev main_v205 : Ref sig .tc := ⟨.hbm, 372, rfl⟩
abbrev main_v206 : Ref sig .tc := ⟨.hbm, 373, rfl⟩
abbrev main_v207 : Ref sig .tc := ⟨.hbm, 374, rfl⟩
abbrev main_v208 : Ref sig .tc := ⟨.hbm, 375, rfl⟩
abbrev main_v209 : Ref sig .tc := ⟨.hbm, 376, rfl⟩
abbrev main_v210 : Ref sig .tc := ⟨.hbm, 377, rfl⟩
abbrev main_v211 : Ref sig .tc := ⟨.hbm, 378, rfl⟩
abbrev main_call21_v0 : Ref sig .tc := ⟨.hbm, 379, rfl⟩
abbrev main_call21_v1 : Ref sig .tc := ⟨.hbm, 380, rfl⟩
abbrev main_call21_cst : Ref sig .tc := ⟨.hbm, 381, rfl⟩
abbrev main_call21_v2 : Ref sig .tc := ⟨.hbm, 382, rfl⟩
abbrev main_call21_v3 : Ref sig .tc := ⟨.hbm, 383, rfl⟩
abbrev main_call21_cst_0 : Ref sig .tc := ⟨.hbm, 384, rfl⟩
abbrev main_call21_v4 : Ref sig .tc := ⟨.hbm, 385, rfl⟩
abbrev main_call21_v5 : Ref sig .tc := ⟨.hbm, 386, rfl⟩
abbrev main_v212 : Ref sig .tc := ⟨.hbm, 387, rfl⟩
abbrev main_cst_53 : Ref sig .tc := ⟨.hbm, 388, rfl⟩
abbrev main_cst_54 : Ref sig .tc := ⟨.hbm, 389, rfl⟩
abbrev main_call22_v0 : Ref sig .tc := ⟨.hbm, 390, rfl⟩
abbrev main_call22_v1 : Ref sig .tc := ⟨.hbm, 391, rfl⟩
abbrev main_call22_v2 : Ref sig .tc := ⟨.hbm, 392, rfl⟩
abbrev main_call22_v3 : Ref sig .tc := ⟨.hbm, 393, rfl⟩
abbrev main_call22_v4 : Ref sig .tc := ⟨.hbm, 394, rfl⟩
abbrev main_v213 : Ref sig .tc := ⟨.hbm, 395, rfl⟩
abbrev main_v214 : Ref sig .tc := ⟨.hbm, 396, rfl⟩
abbrev main_v215 : Ref sig .tc := ⟨.hbm, 397, rfl⟩
abbrev main_v216 : Ref sig .tc := ⟨.hbm, 398, rfl⟩
abbrev main_v217 : Ref sig .tc := ⟨.hbm, 399, rfl⟩
abbrev main_v218 : Ref sig .tc := ⟨.hbm, 400, rfl⟩
abbrev main_v219 : Ref sig .tc := ⟨.hbm, 401, rfl⟩
abbrev main_v220 : Ref sig .tc := ⟨.hbm, 402, rfl⟩
abbrev main_c_55 : Ref sig .tc := ⟨.hbm, 403, rfl⟩
abbrev main_v221 : Ref sig .tc := ⟨.hbm, 404, rfl⟩
abbrev main_v222 : Ref sig .tc := ⟨.hbm, 405, rfl⟩
abbrev main_cst_56 : Ref sig .tc := ⟨.hbm, 406, rfl⟩
abbrev main_call23_v0 : Ref sig .tc := ⟨.hbm, 407, rfl⟩
abbrev main_call23_v1 : Ref sig .tc := ⟨.hbm, 408, rfl⟩
abbrev main_v223 : Ref sig .tc := ⟨.hbm, 409, rfl⟩
abbrev main_cst_57 : Ref sig .tc := ⟨.hbm, 410, rfl⟩
abbrev main_v224 : Ref sig .tc := ⟨.hbm, 411, rfl⟩
abbrev main_v225 : Ref sig .tc := ⟨.hbm, 412, rfl⟩
abbrev main_v226 : Ref sig .tc := ⟨.hbm, 413, rfl⟩
abbrev main_v227 : Ref sig .tc := ⟨.hbm, 414, rfl⟩
abbrev main_v228 : Ref sig .tc := ⟨.hbm, 415, rfl⟩

abbrev nD : Nat := 1
abbrev τ : Topo := Topo.v7x

variable {F : FTy → Type} [FloatOps F]
-- ==== Proof.Tiles.lean ====
/-
  The arithmetic of the tile tables.

  The kernel's grid has 8 experts and 16 tile slots for each, 128 points in row-major order. Expert `e` owns the `n e` tiles from `s e`
  on; `Fits n s` says that the ranges follow one another from tile 0 on and end at 39 at most. At a point `t` the kernel addresses the
  tile `tileAt n s t`: the slot's own tile while the slot is below `n e`, and the expert's last tile afterwards.

  Two facts are used of it. The last point of a run of equal tiles is what decides a tile's contents, and if that tile is one that
  expert `e` owns, the point is one of expert `e` (`Fits.last_owner`). Every owned tile is the tile of such a point (`Fits.last_exists`).
-/
module

public import Idealize.ShloMosaic.PureOps
public import Idealize.ShloMosaic.Lib.Tactic

@[expose] public section

namespace Cert.Tiles

open Idealize.ShloMosaic

/-- The tile ranges follow one another from tile 0 on, at most 16 tiles each and at most 39 in all. -/
structure Fits (n s : ℕ → ℕ) : Prop where
  n_le : ∀ e < 8, n e ≤ 16
  s_zero : s 0 = 0
  s_succ : ∀ e < 7, s (e + 1) = s e + n e
  total : s 7 + n 7 ≤ 39

/-- The tile addressed at point `t` of the grid (`t / 16` the expert, `t % 16` the slot). -/
def tileAt (n s : ℕ → ℕ) (t : ℕ) : ℕ := s (t / 16) + min (t % 16) (n (t / 16) - 1)

/-- `t` is the last point of a run of points at one tile. -/
def LastOf (n s : ℕ → ℕ) (t : ℕ) : Prop := t + 1 = 128 ∨ tileAt n s (t + 1) ≠ tileAt n s t

variable {n s : ℕ → ℕ}

/-- The ranges in order: an earlier expert's range ends where a later one's begins, or before it. -/
theorem Fits.mono (h : Fits n s) {e e' : ℕ} (he : e < e') (he' : e' < 8) : s e + n e ≤ s e' := by
  induction e' with
  | zero => omega
  | succ k ih =>
    have hk := h.s_succ k (by omega)
    rcases Nat.lt_or_ge e k with hlt | hge
    · have := ih hlt (by omega); omega
    · have : e = k := by omega
      subst this; omega

theorem Fits.end_le (h : Fits n s) {e : ℕ} (he : e < 8) : s e + n e ≤ s 7 + n 7 := by
  rcases Nat.lt_or_ge e 7 with hlt | hge
  · have := h.mono hlt (by omega); omega
  · have : e = 7 := by omega
    subst this; exact le_rfl

/-- Every tile addressed is one of the 40 there are. -/
theorem Fits.tileAt_lt (h : Fits n s) {t : ℕ} (ht : t < 128) : tileAt n s t < 40 := by
  have he : t / 16 < 8 := by omega
  have h1 := h.end_le he
  have h2 := h.total
  unfold tileAt
  omega

/-- A tile below the total is owned by some expert. -/
theorem Fits.owner (h : Fits n s) {j : ℕ} (hj : j < s 7 + n 7) : ∃ e < 8, ∃ i < n e, j = s e + i := by
  have h0 := h.s_zero
  by_contra hc
  have hk : ∀ e < 8, s e ≤ j → s e + n e ≤ j := fun e he hs => by
    by_contra hlt
    exact hc ⟨e, he, j - s e, by omega, by omega⟩
  have hall : ∀ e < 8, s e + n e ≤ j := by
    intro e
    induction e with
    | zero => intro he; exact hk 0 he (by omega)
    | succ k ih =>
      intro he
      have := ih (by omega)
      have := h.s_succ k (by omega)
      exact hk (k + 1) he (by omega)
  have := hall 7 (by omega)
  omega

/-- Only one expert owns a tile, and at one place. -/
theorem Fits.owner_unique (h : Fits n s) {e e' i i' : ℕ} (he : e < 8) (he' : e' < 8) (hi : i < n e) (hi' : i' < n e')
    (heq : s e + i = s e' + i') : e = e' ∧ i = i' := by
  rcases Nat.lt_trichotomy e e' with hlt | rfl | hgt
  · have := h.mono hlt he'; omega
  · exact ⟨rfl, by omega⟩
  · have := h.mono hgt he; omega

/-- The last point of a run at a tile that expert `e` owns is a point of expert `e`. -/
theorem Fits.last_owner (h : Fits n s) {t e i : ℕ} (ht : t < 128) (he : e < 8) (hi : i < n e)
    (hlast : LastOf n s t) (htile : tileAt n s t = s e + i) : t / 16 = e ∧ min (t % 16) (n e - 1) = i := by
  have ht8 : t / 16 < 8 := by omega
  by_cases hn : 0 < n (t / 16)
  · have hm : min (t % 16) (n (t / 16) - 1) < n (t / 16) := by omega
    obtain ⟨h1, h2⟩ := h.owner_unique ht8 he hm hi htile
    subst h1
    exact ⟨rfl, h2⟩
  · exfalso
    have hn0 : n (t / 16) = 0 := by omega
    have htile' : s (t / 16) = s e + i := by rw [← htile]; unfold tileAt; omega
    rcases Nat.lt_trichotomy (t / 16) e with hlt | heq | hgt
    · rcases hlast with hend | hne
      · omega
      · apply hne
        by_cases hrow : (t + 1) / 16 = t / 16
        · unfold tileAt; rw [hrow, hn0]; omega
        · have h1 : (t + 1) / 16 = t / 16 + 1 := by omega
          have h2 : (t + 1) % 16 = 0 := by omega
          have h3 := h.s_succ (t / 16) (by omega)
          unfold tileAt; rw [h1, h2, h3, hn0]; omega
    · rw [heq] at hn0; omega
    · have := h.mono hgt ht8; omega

/-- Every owned tile is the tile of the last point of a run. -/
theorem Fits.last_exists (h : Fits n s) {e i : ℕ} (he : e < 8) (hi : i < n e) :
    ∃ t < 128, LastOf n s t ∧ tileAt n s t = s e + i := by
  have hn := h.n_le e he
  by_cases hl : i + 1 < n e
  · refine ⟨16 * e + i, by omega, .inr ?_, ?_⟩
    · have h1 : (16 * e + i) / 16 = e := by omega
      have h2 : (16 * e + i) % 16 = i := by omega
      have h3 : (16 * e + i + 1) / 16 = e := by omega
      have h4 : (16 * e + i + 1) % 16 = i + 1 := by omega
      unfold tileAt; rw [h1, h2, h3, h4]; omega
    · have h1 : (16 * e + i) / 16 = e := by omega
      have h2 : (16 * e + i) % 16 = i := by omega
      unfold tileAt; rw [h1, h2]; omega
  · have h1 : (16 * e + 15) / 16 = e := by omega
    have h2 : (16 * e + 15) % 16 = 15 := by omega
    refine ⟨16 * e + 15, by omega, ?_, ?_⟩
    · rcases Nat.lt_or_ge e 7 with hlt | hge
      · right
        have h3 : (16 * e + 15 + 1) / 16 = e + 1 := by omega
        have h4 : (16 * e + 15 + 1) % 16 = 0 := by omega
        have h5 := h.s_succ e hlt
        unfold tileAt; rw [h1, h2, h3, h4]; omega
      · left; omega
    · unfold tileAt; rw [h1, h2]; omega

/-- At a slot at or above the expert's count the tile is the previous point's, of the same expert. -/
theorem tileAt_idle {t : ℕ} (hn : 0 < n (t / 16)) (hidle : n (t / 16) ≤ t % 16) :
    0 < t ∧ (t - 1) / 16 = t / 16 ∧ min ((t - 1) % 16) (n (t / 16) - 1) = min (t % 16) (n (t / 16) - 1) := by
  have h1 : (t - 1) / 16 = t / 16 := by omega
  have h2 : (t - 1) % 16 = t % 16 - 1 := by omega
  exact ⟨by omega, h1, by rw [h2]; omega⟩

/-! ### The same, as the kernel computes it of 32-bit words -/

/-- The number a table's word denotes. -/
abbrev num (T : ℕ → BitVec 32) (e : ℕ) : ℕ := (T e).toNat

theorem toInt_ofNat_small {k : ℕ} (hk : k < 2 ^ 31) : (BitVec.ofNat 32 k).toInt = (k : ℤ) := by
  have hkk : (BitVec.ofNat 32 k).toNat = k := by rw [BitVec.toNat_ofNat]; omega
  rw [BitVec.toInt_eq_toNat_of_lt (by omega), hkk]

theorem slt_eq (x y : BitVec 32) (hx : x.toNat < 2 ^ 31) (hy : y.toNat < 2 ^ 31) : x.slt y = decide (x.toNat < y.toNat) := by
  rw [BitVec.slt_eq_decide, BitVec.toInt_eq_toNat_of_lt (by omega), BitVec.toInt_eq_toNat_of_lt (by omega)]
  simp

/-- The larger of 0 and a word that is not negative is the word. -/
theorem maxsi_zero (x : BitVec 32) (hx : x.toNat < 2 ^ 31) : Scalar.maxsi 0#32 x = x := by
  show (if x.slt 0#32 then 0#32 else x) = x
  rw [slt_eq x 0#32 hx (by decide)]
  simp

/-- The smaller of a slot and the count less one, for a count that is not 0. -/
theorem minsi_pred (ct : BitVec 32) (k : ℕ) (hct : ct.toNat ≤ 16) (hk : k < 16) (h0 : ct.toNat ≠ 0) :
    Scalar.minsi (BitVec.ofNat 32 k) (Scalar.subi ct 1#32) = BitVec.ofNat 32 (min k (ct.toNat - 1)) := by
  have hkk : (BitVec.ofNat 32 k).toNat = k := by rw [BitVec.toNat_ofNat]; omega
  have hs : (ct - 1#32).toNat = ct.toNat - 1 := by
    rw [BitVec.toNat_sub_of_le (by rw [BitVec.le_def]; simp; omega)]; simp
  show (if (BitVec.ofNat 32 k).slt (ct - 1#32) then BitVec.ofNat 32 k else ct - 1#32) = _
  rw [slt_eq _ _ (by omega) (by omega), hkk, hs]
  apply BitVec.eq_of_toNat_eq
  rw [BitVec.toNat_ofNat]
  by_cases h : k < ct.toNat - 1
  · rw [if_pos (by simpa using h), hkk]; omega
  · rw [if_neg (by simpa using h), hs]; omega

/-- The smaller of a slot and the count less one, for the count 0, is negative: the larger of it and 0 is 0. -/
theorem maxsi_minsi_zero (k : ℕ) (hk : k < 16) :
    Scalar.maxsi 0#32 (Scalar.minsi (BitVec.ofNat 32 k) (Scalar.subi 0#32 1#32)) = 0#32 := by
  have : ∀ k : Fin 16, Scalar.maxsi 0#32 (Scalar.minsi (BitVec.ofNat 32 k.val) (Scalar.subi 0#32 1#32)) = 0#32 := by decide
  exact this ⟨k, hk⟩

/-- The block index the kernel computes from a start word, a count word and a slot. -/
theorem toNat_tile (st ct : BitVec 32) (k : ℕ) (hst : st.toNat ≤ 1000) (hct : ct.toNat ≤ 16) (hk : k < 16) :
    (Scalar.maxsi 0#32 (Scalar.addi st (Scalar.maxsi 0#32 (Scalar.minsi (BitVec.ofNat 32 k) (Scalar.subi ct 1#32))))).toNat
      = st.toNat + min k (ct.toNat - 1) := by
  have hadd : ∀ j : ℕ, j < 100 → (Scalar.maxsi 0#32 (Scalar.addi st (BitVec.ofNat 32 j))).toNat = st.toNat + j := fun j hj => by
    have h1 : (st + BitVec.ofNat 32 j).toNat = st.toNat + j := by
      rw [BitVec.toNat_add, BitVec.toNat_ofNat]; omega
    rw [maxsi_zero _ (by show (st + BitVec.ofNat 32 j).toNat < _; omega)]
    exact h1
  by_cases h0 : ct.toNat = 0
  · have hc : ct = 0#32 := BitVec.eq_of_toNat_eq (by simpa using h0)
    subst hc
    rw [maxsi_minsi_zero k hk, hadd 0 (by omega)]
    simp
  · rw [minsi_pred ct k hct hk h0, maxsi_zero (BitVec.ofNat 32 (min k (ct.toNat - 1))) (by rw [BitVec.toNat_ofNat]; omega), hadd (min k (ct.toNat - 1)) (by omega)]

/-- The kernel's test "the slot is below the count", as it computes it. -/
theorem slot_lt (ct : BitVec 32) (k : ℕ) (hct : ct.toNat ≤ 16) (hk : k < 16) :
    Scalar.cmpi .ne (Scalar.extui (Scalar.cmpi .slt (BitVec.ofNat 32 k) ct) : BitVec 32) 0#32 = 1#1 ↔ k < ct.toNat := by
  have hkk : (BitVec.ofNat 32 k).toNat = k := by rw [BitVec.toNat_ofNat]; omega
  have hb : Scalar.cmpi .slt (BitVec.ofNat 32 k) ct = BitVec.ofBool (decide (k < ct.toNat)) := by
    show BitVec.ofBool ((BitVec.ofNat 32 k).slt ct) = _
    rw [slt_eq _ _ (by omega) (by omega), hkk]
  rw [hb]
  by_cases h : k < ct.toNat
  · rw [decide_eq_true h]; simp only [h, iff_true]; decide
  · rw [decide_eq_false h]; simp only [h, iff_false]; decide

end Cert.Tiles

end
-- ==== Proof.Tables.lean ====
/-
  The prefetched table of the two expert calls, read as numbers.

  The table has 16 words: the first tile of each expert and then the number of its tiles. `startOf T` and `countOf T` read them as
  natural numbers, `Fit T` is the precondition in those numbers (`fit_of_pre`). Under it both calls' side conditions hold
  (`ok0_of_fit`, `ok1_of_fit`), every window over the rows is at the block `tileAt` of its point (`rows0_0_eq` and the like), and a point
  stores its output exactly if its slot is below the expert's count (`cond0_iff`, `cond1_iff`).
-/
module

public import proofs.«01_k».proof.Proof.Tiles
public import proofs.«01_k».proof.Proof.Gen.KernelIdeal.Launch
public import proofs.«01_k».proof.Proof.Gen.Pre_tiles_fit
public import Idealize.ShloMosaic.Lib.ReduceAll
public import Idealize.ShloMosaic.Lib.ValueIdxCore

@[expose] public section

noncomputable section

namespace Cert.Moe

open Cert.KernelIdeal Cert.KernelIdeal.Gen Cert.Tiles
open Idealize.ShloMosaic Idealize.ShloMosaic.TcCoe Idealize.SL.Sem

variable {F : FTy → Type} [FloatOps F]

/-- The table's word `k`. -/
def wordOf (T : S16.Idx → BitVec 32) (k : ℕ) : BitVec 32 := if h : k < 16 then T (ValueIdx.ix1 ⟨k, h⟩) else 0#32

/-- The first tile of expert `e`, and the number of its tiles. -/
def startOf (T : S16.Idx → BitVec 32) (e : ℕ) : ℕ := (wordOf T e).toNat
def countOf (T : S16.Idx → BitVec 32) (e : ℕ) : ℕ := (wordOf T (8 + e)).toNat

/-- The precondition on the table, in natural numbers. -/
abbrev Fit (T : S16.Idx → BitVec 32) : Prop := Fits (countOf T) (startOf T)

/-- The tile addressed at the grid point with coordinates `i`. -/
def tileOf (T : S16.Idx → BitVec 32) (e k : ℕ) : ℕ := startOf T e + min k (countOf T e - 1)

theorem tileAt_eq (T : S16.Idx → BitVec 32) (t : ℕ) : tileAt (countOf T) (startOf T) t = tileOf T (t / 16) (t % 16) := rfl

theorem start_le {T : S16.Idx → BitVec 32} (h : Fit T) {e : ℕ} (he : e < 8) : startOf T e ≤ 39 := by
  have := h.end_le he; have := h.total; omega

theorem tileOf_lt {T : S16.Idx → BitVec 32} (h : Fit T) {e k : ℕ} (he : e < 8) : tileOf T e k < 40 := by
  have h1 := h.end_le he; have h2 := h.total
  unfold tileOf; omega

/-! ### What the calls compute of the words -/

theorem off1_nat (e : Fin 8) : (![(Scalar.indexCast (Scalar.addi 8#32 (BitVec.ofNat 32 e.val))).toNat] : Fin 1 → ℕ) = ![8 + e.val] := by
  have : ∀ e : Fin 8, (Scalar.indexCast (Scalar.addi 8#32 (BitVec.ofNat 32 e.val))).toNat = 8 + e.val := by decide
  rw [this e]

theorem off2_nat (e : Fin 8) : (![(Scalar.indexCast (BitVec.ofNat 32 e.val)).toNat] : Fin 1 → ℕ) = ![e.val] := by
  have : ∀ e : Fin 8, (Scalar.indexCast (BitVec.ofNat 32 e.val)).toNat = e.val := by decide
  rw [this e]

/-- A word read at a unit rectangle at offset `k`. -/
theorem at_word (T : S16.Idx → BitVec 32) (off : Fin 1 → ℕ) (k : ℕ) (hk : k < 16) (hoff : off = ![k])
    (h : ∀ a, off a + S1.size a ≤ S16.size a) (h1 : (Rect.unit (s := S16) off S1.size h).shape.numel = 1) :
    T ((Rect.unit (s := S16) off S1.size h).emb (Shape.Idx.first (h1.symm ▸ Nat.one_pos))) = wordOf T k := by
  subst hoff
  unfold wordOf
  rw [dif_pos hk]
  congr 1
  funext a
  obtain rfl : a = 0 := Subsingleton.elim _ _
  apply Fin.ext
  have hlt := (Shape.Idx.first (s := (Rect.unit (s := S16) ![k] S1.size h).shape) (h1.symm ▸ Nat.one_pos) 0).isLt
  have hz : (Shape.Idx.first (s := (Rect.unit (s := S16) ![k] S1.size h).shape) (h1.symm ▸ Nat.one_pos) 0).val = 0 := by
    have : (Rect.unit (s := S16) ![k] S1.size h).shape.size 0 = 1 := rfl
    omega
  rw [Rect.emb_apply]
  show ![k] 0 + 1 * _ = k
  rw [hz]; rfl

/-- The block index the kernel computes at a grid point, of the words it reads there: the point's tile. -/
theorem tile_word (T : S16.Idx → BitVec 32) (hfit : Fit T) (e : Fin 8) (k : Fin 16)
    (h1 : ∀ a, (![(Scalar.indexCast (Scalar.addi 8#32 (BitVec.ofNat 32 e.val))).toNat] : Fin 1 → ℕ) a + S1.size a ≤ S16.size a)
    (g1 : (Rect.unit (s := S16) _ S1.size h1).shape.numel = 1)
    (h2 : ∀ a, (![(Scalar.indexCast (BitVec.ofNat 32 e.val)).toNat] : Fin 1 → ℕ) a + S1.size a ≤ S16.size a)
    (g2 : (Rect.unit (s := S16) _ S1.size h2).shape.numel = 1) :
    (Scalar.maxsi 0#32 (Scalar.addi (T ((Rect.unit (s := S16) _ S1.size h2).emb (Shape.Idx.first (g2.symm ▸ Nat.one_pos))))
      (Scalar.maxsi 0#32 (Scalar.minsi (BitVec.ofNat 32 k.val)
        (Scalar.subi (T ((Rect.unit (s := S16) _ S1.size h1).emb (Shape.Idx.first (g1.symm ▸ Nat.one_pos)))) 1#32))))).toNat
      = tileOf T e.val k.val := by
  have he := e.isLt
  have hw1 := at_word T _ (8 + e.val) (by omega) (off1_nat e) h1 g1
  have hw2 := at_word T _ e.val (by omega) (off2_nat e) h2 g2
  rw [hw1, hw2]
  exact toNat_tile (wordOf T e.val) (wordOf T (8 + e.val)) k.val
    (by have := start_le hfit he; unfold startOf at this; omega) (hfit.n_le _ he) k.isLt

theorem rows0_0_eq [Facts] (pf : pre0.Contents (Elt F)) (hfit : Fit (pf 0)) (i : grid0.Coords) :
    cc0_transform_0 k0_off1_inb numel1_S1 k0_off2_inb pf i = ![tileOf (pf 0) (i 0).val (i 1).val, 0] := by
  have key := tile_word (pf 0) hfit (i 0) (i 1) (k0_off1_inb i) numel1_S1 (k0_off2_inb i) numel1_S1
  unfold cc0_transform_0
  exact congrArg (fun x => ![x, 0]) key

theorem rows0_3_eq [Facts] (pf : pre0.Contents (Elt F)) (hfit : Fit (pf 0)) (i : grid0.Coords) :
    cc0_transform_3 k0_off1_inb numel1_S1 k0_off2_inb pf i = ![tileOf (pf 0) (i 0).val (i 1).val, 0] := by
  have key := tile_word (pf 0) hfit (i 0) (i 1) (k0_off1_inb i) numel1_S1 (k0_off2_inb i) numel1_S1
  unfold cc0_transform_3
  exact congrArg (fun x => ![x, 0]) key

theorem rows1_0_eq [Facts] (pf : pre1.Contents (Elt F)) (hfit : Fit (pf 0)) (i : grid1.Coords) :
    cc1_transform_0 k1_off1_inb numel1_S1 k1_off2_inb pf i = ![tileOf (pf 0) (i 0).val (i 1).val, 0] := by
  have key := tile_word (pf 0) hfit (i 0) (i 1) (k1_off1_inb i) numel1_S1 (k1_off2_inb i) numel1_S1
  unfold cc1_transform_0
  exact congrArg (fun x => ![x, 0]) key

theorem rows1_2_eq [Facts] (pf : pre1.Contents (Elt F)) (hfit : Fit (pf 0)) (i : grid1.Coords) :
    cc1_transform_2 k1_off1_inb numel1_S1 k1_off2_inb pf i = ![tileOf (pf 0) (i 0).val (i 1).val, 0] := by
  have key := tile_word (pf 0) hfit (i 0) (i 1) (k1_off1_inb i) numel1_S1 (k1_off2_inb i) numel1_S1
  unfold cc1_transform_2
  exact congrArg (fun x => ![x, 0]) key

theorem rows1_3_eq [Facts] (pf : pre1.Contents (Elt F)) (hfit : Fit (pf 0)) (i : grid1.Coords) :
    cc1_transform_3 k1_off1_inb numel1_S1 k1_off2_inb pf i = ![tileOf (pf 0) (i 0).val (i 1).val, 0] := by
  have key := tile_word (pf 0) hfit (i 0) (i 1) (k1_off1_inb i) numel1_S1 (k1_off2_inb i) numel1_S1
  unfold cc1_transform_3
  exact congrArg (fun x => ![x, 0]) key

/-! ### The side conditions -/

/-- A block of 128 rows at a block index below 40 lies inside 5120 rows and begins at an even row. -/
theorem rows_block {w : ℕ} (h0 : 0 < w) (p : ℕ) (hp : p ∣ 128) (ix : Fin 2 → ℕ) (j : ℕ) (hix : ix = ![j, 0]) (hj : j < 40) :
    ∃ h : (∀ a, (ix a + 1) * (⟨2, ![128, w]⟩ : Shape).size a ≤ (⟨2, ![5120, w]⟩ : Shape).size a),
      (Rect.block (s := ⟨2, ![5120, w]⟩) (⟨2, ![128, w]⟩ : Shape).size ix h).WholeWords p := by
  subst hix
  refine ⟨fun a => ?_, .inl ?_⟩
  · fin_cases a <;> simp <;> omega
  · refine .inr ⟨le_rfl, rfl, .inl ⟨?_, hp⟩⟩
    exact hp.mul_left j

theorem ok0_of_fit [Facts] (pf : pre0.Contents (Elt F)) (hfit : Fit (pf 0)) : ok0 pf := by
  have hb : ∀ i : grid0.Coords, tileOf (pf 0) (i 0).val (i 1).val < 40 := fun i => tileOf_lt hfit (i 0).isLt
  refine ⟨fun i => ?_, fun i => ?_⟩
  · obtain ⟨h, hw⟩ := rows_block (w := 1024) (by decide) (EltTy.packing .bf16) (by decide) _ _ (rows0_0_eq pf hfit i) (hb i)
    exact ⟨h, .inr hw⟩
  · obtain ⟨h, hw⟩ := rows_block (w := 2880) (by decide) (EltTy.packing .bf16) (by decide) _ _ (rows0_3_eq pf hfit i) (hb i)
    exact ⟨h, .inr hw⟩

theorem ok1_of_fit [Facts] (pf : pre1.Contents (Elt F)) (hfit : Fit (pf 0)) : ok1 pf := by
  have hb : ∀ i : grid1.Coords, tileOf (pf 0) (i 0).val (i 1).val < 40 := fun i => tileOf_lt hfit (i 0).isLt
  refine ⟨fun i => ?_, fun i => ?_, fun i => ?_⟩
  · obtain ⟨h, hw⟩ := rows_block (w := 2880) (by decide) (EltTy.packing .bf16) (by decide) _ _ (rows1_0_eq pf hfit i) (hb i)
    exact ⟨h, .inr hw⟩
  · obtain ⟨h, hw⟩ := rows_block (w := 1) (by decide) (EltTy.packing .f32) (by decide) _ _ (rows1_2_eq pf hfit i) (hb i)
    exact ⟨h, .inr hw⟩
  · obtain ⟨h, hw⟩ := rows_block (w := 1024) (by decide) (EltTy.packing .f32) (by decide) _ _ (rows1_3_eq pf hfit i) (hb i)
    exact ⟨h, .inr hw⟩

/-! ### Where the calls store -/

theorem cond0_iff (i : grid0.Coords) (T : S16.Idx → BitVec 32) (hfit : Fit T) :
    k0_cond1 i (wordOf T (8 + (i 0).val)) = 1#1 ↔ (i 1).val < countOf T (i 0).val :=
  slot_lt (wordOf T (8 + (i 0).val)) (i 1).val (hfit.n_le _ (i 0).isLt) (i 1).isLt

theorem cond1_iff (i : grid1.Coords) (T : S16.Idx → BitVec 32) (hfit : Fit T) :
    k1_cond1 i (wordOf T (8 + (i 0).val)) = 1#1 ↔ (i 1).val < countOf T (i 0).val :=
  slot_lt (wordOf T (8 + (i 0).val)) (i 1).val (hfit.n_le _ (i 0).isLt) (i 1).isLt

/-- The word a body loads at a grid point. -/
theorem count_word0 (T : S16.Idx → BitVec 32) (i : grid0.Coords) (h : ∀ a, k0_off1 i a + S1.size a ≤ S16.size a)
    (h1 : (Rect.unit (s := S16) (k0_off1 i) S1.size h).shape.numel = 1) :
    T ((Rect.unit (s := S16) (k0_off1 i) S1.size h).emb (Shape.Idx.first (h1.symm ▸ Nat.one_pos))) = wordOf T (8 + (i 0).val) :=
  at_word T _ (8 + (i 0).val) (by have : (i 0).val < 8 := (i 0).isLt; omega) (off1_nat (i 0)) h h1

theorem count_word1 (T : S16.Idx → BitVec 32) (i : grid1.Coords) (h : ∀ a, k1_off1 i a + S1.size a ≤ S16.size a)
    (h1 : (Rect.unit (s := S16) (k1_off1 i) S1.size h).shape.numel = 1) :
    T ((Rect.unit (s := S16) (k1_off1 i) S1.size h).emb (Shape.Idx.first (h1.symm ▸ Nat.one_pos))) = wordOf T (8 + (i 0).val) :=
  at_word T _ (8 + (i 0).val) (by have : (i 0).val < 8 := (i 0).isLt; omega) (off1_nat (i 0)) h h1

/-! ### The precondition -/

theorem fit_of_pre [Cert.Pre_tiles_fit.Facts] (T : IVec S16 32) (x1 : FVec F S5120x1024 .bf16) (x2 : FVec F S8x1024x2880 .f32)
    (x3 : FVec F S8x1024x2880 .f32) (x4 : FVec F S8x2880x1024 .f32) (x5 : FVec F S5120x1 .f32)
    (h : Cert.Pre_tiles_fit.fn (F := F) T x1 x2 x3 x4 x5 = fun _ => 1#1) : Fit T := by
  have and1 : ∀ x y : BitVec 1, IntOp.andi x y = 1#1 → x = 1#1 ∧ y = 1#1 := by decide
  have of1 : ∀ b : Bool, BitVec.ofBool b = 1#1 → b = true := by decide
  have h' := congrFun h (fun a => a.elim0)
  unfold Cert.Pre_tiles_fit.fn Cert.Pre_tiles_fit.fn_part1 at h'
  obtain ⟨h1, hT⟩ := and1 _ _ h'
  obtain ⟨h2, h3⟩ := and1 _ _ h1
  obtain ⟨hge, hle⟩ := and1 _ _ h2
  obtain ⟨hz, hsucc⟩ := and1 _ _ h3
  have hge' := fun i => Host.reduce_andi_all _ _ _ _ _ hge i
  have hle' := fun i => Host.reduce_andi_all _ _ _ _ _ hle i
  have hsucc' := fun i => Host.reduce_andi_all _ _ _ _ _ hsucc i
  have word0 : ∀ (e : Fin 8), (extractStridedSlice Cert.Pre_tiles_fit.S8 ![0] T Cert.Pre_tiles_fit.Facts.slices_S16_S8_0) (ValueIdx.ix1 e)
      = wordOf T e.val := fun e => by
    have := e.isLt
    unfold wordOf extractStridedSlice
    rw [dif_pos (by omega)]
    congr 1; funext a; obtain rfl : a = 0 := Subsingleton.elim _ _
    exact Fin.ext (Nat.zero_add _)
  have word8 : ∀ (e : Fin 8), (extractStridedSlice Cert.Pre_tiles_fit.S8 ![8] T Cert.Pre_tiles_fit.Facts.slices_S16_S8_8) (ValueIdx.ix1 e)
      = wordOf T (8 + e.val) := fun e => by
    have := e.isLt
    unfold wordOf extractStridedSlice
    rw [dif_pos (by omega)]
    congr 1; funext a; obtain rfl : a = 0 := Subsingleton.elim _ _
    rfl
  -- the counts
  have cnt : ∀ e < 8, countOf T e ≤ 16 := fun e he => by
    have w := word8 ⟨e, he⟩
    dsimp only at w
    have g1 : (0#32).sle (wordOf T (8 + e)) = true := by rw [← w]; exact of1 _ (hge' (ValueIdx.ix1 ⟨e, he⟩))
    have g2 : (wordOf T (8 + e)).sle 16#32 = true := by rw [← w]; exact of1 _ (hle' (ValueIdx.ix1 ⟨e, he⟩))
    rw [BitVec.sle_eq_decide, decide_eq_true_eq] at g1 g2
    rw [show (0#32 : BitVec 32).toInt = 0 by decide] at g1
    rw [show (16#32 : BitVec 32).toInt = 16 by decide] at g2
    rw [BitVec.toInt_eq_toNat_cond] at g1 g2
    unfold countOf
    split at g1 <;> omega
  -- the first start
  have one_of : ∀ {α : Type} (x : Cert.Pre_tiles_fit.S1.Idx → α) (h : Cert.Pre_tiles_fit.S1.ShapeCasts Cert.Pre_tiles_fit.S_) (j),
      shapeCast Cert.Pre_tiles_fit.S_ x h j = x (ValueIdx.ix1 0) := fun x h j => by
    unfold shapeCast
    congr 1; funext a; obtain rfl : a = 0 := Subsingleton.elim _ _
    exact Subsingleton.elim (α := Fin 1) _ _
  have hzero : wordOf T 0 = 0#32 := by
    have g := of1 _ hz
    rw [one_of] at g
    have g' := eq_of_beq g
    refine Eq.trans (word0 0).symm (Eq.trans ?_ g')
    refine congrArg T ?_
    funext a; obtain rfl : a = 0 := Subsingleton.elim _ _
    rfl
  -- each next start
  have hnext : ∀ e < 7, wordOf T (e + 1) = wordOf T e + wordOf T (8 + e) := fun e he => by
    have g := eq_of_beq (of1 _ (hsucc' (ValueIdx.ix1 ⟨e, he⟩)))
    rw [← word0 ⟨e, by omega⟩, ← word8 ⟨e, by omega⟩]
    have w1 := word0 ⟨e + 1, by omega⟩
    dsimp only at w1
    rw [← w1]
    refine Eq.trans ?_ (g.trans ?_)
    · show T _ = T _
      congr 1; funext a; obtain rfl : a = 0 := Subsingleton.elim _ _
      apply Fin.ext; show 0 + (e + 1) = 0 + (1 + e); omega
    · show T _ + T _ = T _ + T _
      congr 2 <;>
      · funext a; obtain rfl : a = 0 := Subsingleton.elim _ _
        apply Fin.ext
        first
          | (show 0 + (0 + e) = 0 + e; omega)
          | (show 8 + (0 + e) = 8 + e; omega)
  have hend : (wordOf T 7 + wordOf T 15).sle 39#32 = true := by
    have a1 := one_of (extractStridedSlice Cert.Pre_tiles_fit.S1 ![7]
      (extractStridedSlice Cert.Pre_tiles_fit.S8 ![0] T Cert.Pre_tiles_fit.Facts.slices_S16_S8_0) Cert.Pre_tiles_fit.Facts.slices_S8_S1_7)
      Cert.Pre_tiles_fit.Facts.shapeCasts_S1_S_ (fun a => a.elim0)
    have a2 := one_of (extractStridedSlice Cert.Pre_tiles_fit.S1 ![7]
      (extractStridedSlice Cert.Pre_tiles_fit.S8 ![8] T Cert.Pre_tiles_fit.Facts.slices_S16_S8_8) Cert.Pre_tiles_fit.Facts.slices_S8_S1_7)
      Cert.Pre_tiles_fit.Facts.shapeCasts_S1_S_ (fun a => a.elim0)
    have b1 : (extractStridedSlice Cert.Pre_tiles_fit.S1 ![7]
      (extractStridedSlice Cert.Pre_tiles_fit.S8 ![0] T Cert.Pre_tiles_fit.Facts.slices_S16_S8_0) Cert.Pre_tiles_fit.Facts.slices_S8_S1_7)
      (ValueIdx.ix1 0) = wordOf T 7 := by
      refine Eq.trans ?_ (word0 7)
      refine congrArg T ?_
      funext a; obtain rfl : a = 0 := Subsingleton.elim _ _
      rfl
    have b2 : (extractStridedSlice Cert.Pre_tiles_fit.S1 ![7]
      (extractStridedSlice Cert.Pre_tiles_fit.S8 ![8] T Cert.Pre_tiles_fit.Facts.slices_S16_S8_8) Cert.Pre_tiles_fit.Facts.slices_S8_S1_7)
      (ValueIdx.ix1 0) = wordOf T 15 := by
      refine Eq.trans ?_ (word8 7)
      refine congrArg T ?_
      funext a; obtain rfl : a = 0 := Subsingleton.elim _ _
      rfl
    have g := of1 _ hT
    rw [← a1.trans b1, ← a2.trans b2]
    exact g
  have hstart : ∀ e < 8, startOf T e ≤ 16 * e := by
    intro e
    induction e with
    | zero => intro _; unfold startOf; rw [hzero]; decide
    | succ k ih =>
      intro hk
      have h1 := ih (by omega); have h2 := cnt k (by omega)
      unfold startOf countOf at *
      rw [hnext k (by omega), BitVec.toNat_add]
      omega
  refine ⟨cnt, by unfold startOf; rw [hzero]; rfl, fun e he => ?_, ?_⟩
  · have h1 := hstart e (by omega); have h2 := cnt e (by omega)
    unfold startOf countOf at *
    rw [hnext e he, BitVec.toNat_add]
    omega
  · have h1 := hstart 7 (by omega); have h2 := cnt 7 (by omega)
    unfold startOf countOf at *
    have h3 : (wordOf T 7 + wordOf T 15).toNat = (wordOf T 7).toNat + (wordOf T (8 + 7)).toNat := by
      rw [BitVec.toNat_add]
      show ((wordOf T 7).toNat + (wordOf T (8 + 7)).toNat) % _ = _
      omega
    rw [BitVec.sle_eq_decide, decide_eq_true_eq, BitVec.toInt_eq_toNat_of_lt (by omega), h3, show (39#32 : BitVec 32).toInt = 39 by decide] at hend
    omega

end Cert.Moe

end
-- ==== Proof.Bodies.lean ====
/- What one grid point of each of the two expert calls does to its staging buffers: where the point is live (its slot is below
   the number of the expert's tiles) the output's buffer is overwritten by the tile's values; where it is not, nothing changes. -/
module

public import proofs.«01_k».proof.Proof.Tables
public import Idealize.ShloMosaic.Lib.Pipeline.RegionsLoop
public import Idealize.ShloMosaic.Lib.VecWindow
public import proofs.«01_k».proof.Proof.Gen.KernelIdeal.Skeleton

@[expose] public section

noncomputable section

namespace Cert.Moe

open Cert.KernelIdeal Cert.KernelIdeal.Gen
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline library's once for each of the two calls, beside the counters. -/
abbrev UU : Type := IProdConst (Fin 2) (UR sig nD τ) × Counters

local notation "𝕄" => MT nD τ sig Unit (Elt F) ℕ UU ℕ

/-- The buffer of memref `M` on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Owning a whole memref at contents `X` is holding its buffer at some contents that read `X`. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt c M f) := by
  unfold owns; rw [hM.set_eq_univ]

/-- One point of the gate-and-up call: from the table and the four staging buffers, the body runs to its end and leaves the table
    and the inputs as they were, and the output's buffer at the tile's values where the point is live, as found where it is not. -/
theorem gateup_run (D : Defs nD τ sig (Elt F) Λ₀) (c : Dev nD) (i : grid0.Coords)
    (M3 : Memref sig .tc .vmem S128x1024 .bf16) (h3 : M3.IsWhole) (M4 : Memref sig .tc .vmem S1x1024x2880 .f32) (h4 : M4.IsWhole)
    (M5 : Memref sig .tc .vmem S1x1024x2880 .f32) (h5 : M5.IsWhole) (M6 : Memref sig .tc .vmem S128x2880 .bf16) (h6 : M6.IsWhole)
    (T : S16.Idx → BitVec 32) (X3 : S128x1024.Idx → Elt F .bf16)
    (X4 X5 : S1x1024x2880.Idx → Elt F .f32) (X6 : S128x2880.Idx → Elt F .bf16)
    (E : Set ℕ) (Q : PUnit → sProp 𝕄) :
    iprop(pt c (Memref.whole main_arg0) T ∗ owns (c : Thread nD τ) M3 fullShare X3 ∗ owns (c : Thread nD τ) M4 fullShare X4
        ∗ owns (c : Thread nD τ) M5 fullShare X5 ∗ owns (c : Thread nD τ) M6 fullShare X6
        ∗ (iprop(pt c (Memref.whole main_arg0) T ∗ owns (c : Thread nD τ) M3 fullShare X3 ∗ owns (c : Thread nD τ) M4 fullShare X4
            ∗ owns (c : Thread nD τ) M5 fullShare X5
            ∗ owns (c : Thread nD τ) M6 fullShare (if k0_cond1 i (wordOf T (8 + (i 0).val)) = 1#1 then k0_pay1 X3 X4 X5 else X6)) -∗ Q ⟨⟩))
      ⊢ wp frame (wpE D Variants.none c none) E (cc0__gateup_body i (Memref.whole main_arg0) (Memref.isWhole_whole _) M3 h3 M4 h4 M5 h5 M6 h6) Q := by
  rw [cc0__gateup_body_eq_skeleton]; unfold cc0__gateup_body_skel
  simp only [owns_pt c M3 h3, owns_pt c M4 h4, owns_pt c M5 h5, owns_pt c M6 h6]
  iintro ⟨H2, ⟨%f3, %e3, H3⟩, ⟨%f4, %e4, H4⟩, ⟨%f5, %e5, H5⟩, ⟨%f6, %e6, H6⟩, Hk⟩
  sl_exec!
  sl_step
  iapply Hk
  isplitl [H2]; · iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _
  isplitr; swap
  · iexact H6
  ipureintro
  have hw : (gateup_run.sl.r (F := F) i T : BitVec 32) = wordOf T (8 + (i 0).val) := by unfold gateup_run.sl.r; exact count_word0 T i (k0_off1_inb i) numel1_S1
  rw [hw]
  split
  · rw [Idealize.ShloMosaic.View.read_writes_full, Idealize.ShloMosaic.View.readAt_full, Idealize.ShloMosaic.View.readAt_full, Idealize.ShloMosaic.View.readAt_full, e3, e4, e5]
  · exact e6

/-- One point of the down call, likewise. -/
theorem down_run (D : Defs nD τ sig (Elt F) Λ₀) (c : Dev nD) (i : grid1.Coords)
    (M3 : Memref sig .tc .vmem S128x2880 .bf16) (h3 : M3.IsWhole) (M4 : Memref sig .tc .vmem S1x2880x1024 .f32) (h4 : M4.IsWhole)
    (M5 : Memref sig .tc .vmem S128x1 .f32) (h5 : M5.IsWhole) (M6 : Memref sig .tc .vmem S128x1024 .f32) (h6 : M6.IsWhole)
    (T : S16.Idx → BitVec 32) (X3 : S128x2880.Idx → Elt F .bf16)
    (X4 : S1x2880x1024.Idx → Elt F .f32) (X5 : S128x1.Idx → Elt F .f32) (X6 : S128x1024.Idx → Elt F .f32)
    (E : Set ℕ) (Q : PUnit → sProp 𝕄) :
    iprop(pt c (Memref.whole main_arg0) T ∗ owns (c : Thread nD τ) M3 fullShare X3 ∗ owns (c : Thread nD τ) M4 fullShare X4
        ∗ owns (c : Thread nD τ) M5 fullShare X5 ∗ owns (c : Thread nD τ) M6 fullShare X6
        ∗ (iprop(pt c (Memref.whole main_arg0) T ∗ owns (c : Thread nD τ) M3 fullShare X3 ∗ owns (c : Thread nD τ) M4 fullShare X4
            ∗ owns (c : Thread nD τ) M5 fullShare X5
            ∗ owns (c : Thread nD τ) M6 fullShare (if k1_cond1 i (wordOf T (8 + (i 0).val)) = 1#1 then k1_pay1 X3 X4 X5 else X6)) -∗ Q ⟨⟩))
      ⊢ wp frame (wpE D Variants.none c none) E (cc1__down_body i (Memref.whole main_arg0) (Memref.isWhole_whole _) M3 h3 M4 h4 M5 h5 M6 h6) Q := by
  rw [cc1__down_body_eq_skeleton]; unfold cc1__down_body_skel
  simp only [owns_pt c M3 h3, owns_pt c M4 h4, owns_pt c M5 h5, owns_pt c M6 h6]
  iintro ⟨H2, ⟨%f3, %e3, H3⟩, ⟨%f4, %e4, H4⟩, ⟨%f5, %e5, H5⟩, ⟨%f6, %e6, H6⟩, Hk⟩
  sl_exec!
  sl_step
  iapply Hk
  isplitl [H2]; · iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _
  isplitr; swap
  · iexact H6
  ipureintro
  have hw : (down_run.sl.r (F := F) i T : BitVec 32) = wordOf T (8 + (i 0).val) := by unfold down_run.sl.r; exact count_word1 T i (k1_off1_inb i) numel1_S1
  rw [hw]
  split
  · rw [Idealize.ShloMosaic.View.read_writes_full, Idealize.ShloMosaic.View.readAt_full, Idealize.ShloMosaic.View.readAt_full, Idealize.ShloMosaic.View.readAt_full, e3, e4, e5]
  · exact e6

end Cert.Moe
-- ==== Proof.RelRegion.lean ====
/- A kernel region whose pipeline reads tables and whose last contents are known only up to a relation, as a region of the
   run: entered from every unscoped buffer held at a valuation, left with every unscoped buffer held at a valuation that
   differs from it on the windows' arrays alone, each of these at contents it may hold after every write-back. -/
module

public import Idealize.ShloMosaic.Lib.Pipeline.RegionArraysT
public import Idealize.ShloMosaic.Lib.Pipeline.RegionsForgetR
public import Idealize.ShloMosaic.Lib.Pipeline.Value
public import Idealize.ShloMosaic.Lib.Pipeline.ArrRel

@[expose] public section

noncomputable section

namespace Cert.Moe

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

/-- A property that every element has which some write-back may write is a property, after all of them, of every element some
    write-back covers, whatever the array may then hold. -/
theorem arrAt_forall_rel {Λ₀ : Idealize.SL.Sem.Labels} {cfg : Cfg sig Λ₀} {c : Dev nD} [∀ e, Nonempty (Val e)] (rd : RDat τ Val Ix Name U Lvl cfg c) (w : Fin cfg.W)
    {G : Buf Val ((cfg.win w).arr.view.loc (c.tc : Thread nD τ))} (hG : rd.ArrAt w cfg.N G)
    (Q : ((cfg.win w).arr.view.loc (c.tc : Thread nD τ)).2.ty.Idx → Val ((cfg.win w).arr.view.loc (c.tc : Thread nD τ)).2.ty.elt → Prop)
    (hQ : ∀ t, (cfg.win w).flush t = true → ∀ X, rd.Leaves w t X → ∀ y : ((cfg.win w).xblock (cfg.grid.coords t)).Idx,
      Q (((cfg.win w).blk t).view.emb y) (_root_.cast (congrArg Val ((cfg.win w).blk t).view.elt_eq.symm) (X ((cfg.win w).xinj (cfg.grid.coords t) y))))
    (t : Fin cfg.N) (hf : (cfg.win w).flush t = true) (i) (hi : i ∈ ((cfg.win w).blk t).view.set) : Q i (G i) := by
  obtain ⟨X, hX, hA⟩ := hG.exists_exact
  have hA := hA (Function.update (fun _ _ _ => Classical.arbitrary _) w X) fun u _ _ => by rw [Function.update_self]
  rw [hA]
  refine Dat.arrAt_forall_of_flushed _ w Q (fun u hu y => ?_) cfg.N t i t.isLt hf hi
  have := hQ u hu _ (hX u u.isLt hu) y
  unfold Dat.flushed
  rw [RDat.withAfter_after, Function.update_self]
  exact this

variable {Λ₀ : Idealize.SL.Sem.Labels} {P : Type} [Fintype P]
variable [∀ e, Nonempty (Val e)] (pcs : P → PCfg sig Λ₀ Val) (a : (p : P) → (pcs p).Adm)

/-- The windows' arrays of pipeline `p` held whole at contents `G` are the buffers behind them held at any valuation that has
    them at `G`. -/
theorem rel_arrays_held {p : P} (kit : PLaunchFacts (nD := nD) (τ := τ) pcs p) (c : Dev nD)
    (rd : RDat τ Val Ix Name U Lvl (pin pcs a p) c) (hshare : ∀ w, rd.share w = fullShare)
    (G : (w : Fin (pin pcs a p).W) → Buf Val (((pin pcs a p).win w).arr.view.loc (c.tc : Thread nD τ))) (Wc : Valuation τ sig Val)
    (hG : ∀ w, G w = Wc (Proc.devRef .tc (arrRef (pin pcs a p).spec w))) :
    (rd.arrays G : sProp 𝕄) = StableHlo.held (c.tc : Thread nD τ) (arrRefs (pcs p).spec) Wc := by
  have h : (rd.arrays G : sProp 𝕄) = bigSep Finset.univ fun w =>
      (((c.tc : Thread nD τ).loc (arrRef (pin pcs a p).spec w)) ↦{fullShare} G w : sProp 𝕄) := by
    unfold RDat.arrays
    exact bigSep_congr fun w _ => by rw [(kit.arr_whole w).set_eq_univ, hshare]
  rw [h]
  unfold StableHlo.held arrRefs
  rw [bigSep_map, show Finset.univ.image (arrRef (pcs p).spec) = Finset.univ.map ⟨arrRef (pcs p).spec, kit.win.arr_inj⟩ from
    (Finset.map_eq_image ⟨arrRef (pcs p).spec, kit.win.arr_inj⟩ Finset.univ).symm, bigSep_map]
  exact bigSep_congr fun w _ => by rw [hG]; rfl

open Classical in
/-- The valuation that has the windows' arrays of `win` at `G` and every other buffer as `V` has it. -/
def putArrays {gr W : Nat} (win : Fin W → WinSpec sig gr)
    (G : (w : Fin W) → (Proc.devRef (τ := τ) .tc (arrRef win w)).ty.Contents Val) (V : Valuation τ sig Val) : Valuation τ sig Val := fun b =>
  if h : ∃ w, Proc.devRef .tc (arrRef win w) = b then h.choose_spec ▸ G h.choose else V b

theorem putArrays_arr {gr W : Nat} (win : Fin W → WinSpec sig gr) (hinj : Function.Injective (arrRef win))
    (G : (w : Fin W) → (Proc.devRef (τ := τ) .tc (arrRef win w)).ty.Contents Val) (V : Valuation τ sig Val) (w : Fin W) :
    putArrays win G V (Proc.devRef .tc (arrRef win w)) = G w := by
  unfold putArrays
  have h : ∃ w', (Proc.devRef .tc (arrRef win w') : DevRef τ sig) = Proc.devRef .tc (arrRef win w) := ⟨w, rfl⟩
  rw [dif_pos h]
  have hw : h.choose = w := hinj (Proc.devRef_injective _ h.choose_spec)
  have key : ∀ (w' : Fin W) (e : (Proc.devRef .tc (arrRef win w') : DevRef τ sig) = Proc.devRef .tc (arrRef win w)),
      w' = w → (e ▸ G w' : (Proc.devRef (τ := τ) .tc (arrRef win w)).ty.Contents Val) = G w := by
    intro w' e hw'; subst hw'; rfl
  exact key _ h.choose_spec hw

theorem putArrays_ne {gr W : Nat} (win : Fin W → WinSpec sig gr)
    (G : (w : Fin W) → (Proc.devRef (τ := τ) .tc (arrRef win w)).ty.Contents Val) (V : Valuation τ sig Val) (b : DevRef τ sig)
    (hb : ∀ w, Proc.devRef .tc (arrRef win w) ≠ b) : putArrays win G V b = V b := by
  unfold putArrays
  rw [dif_neg (fun ⟨w, h⟩ => hb w h)]

/-- The region. `rd` is the proof data of every pipeline; at `p` the data owes nothing, shares nothing, starts from the arrays
    as `V` has them, and its invariant is the scoped buffers no window stages beside the tables, as `V` has them too. -/
def relRegion {p : P} (rd : (q : P) → (c : Dev nD) → RDat τ Val Ix Name U Lvl (pin pcs a q) c) (ι : Ix)
    (defs₀ : Defs nD τ sig Val Λ₀) (𝒱₀ : Variants) (L : GSem nD τ sig → Finset Ix) (lv : GSem nD τ sig → Ix → Lvl)
    (kit : PLaunchFacts (nD := nD) (τ := τ) pcs p)
    (hbody : ∀ c, (rd p c).BodyObligation defs₀ 𝒱₀ ι Set.univ)
    (howed : ∀ c t, (rd p c).owed t = 0) (hrec : ∀ c, (rd p c).recorded 0 = Set.univ)
    (hshare : ∀ c w, (rd p c).share w = fullShare)
    (hΦ : ∀ c t, (rd p c).Φ t = iprop(scopedRest (pin pcs a p).spec c ∗ tablesAt pcs a p c))
    (V : Dev nD → Valuation τ sig Val)
    (hA : ∀ c w, (rd p c).A w = V c (Proc.devRef .tc (arrRef (pin pcs a p).spec w)))
    (hT : ∀ c k, (a p).1 k = V c (Proc.devRef .tc ((pcs p).pre.ref k)))
    (R : Dev nD → sProp 𝕄) : RDat.RegionSeg pcs a rd ι defs₀ 𝒱₀ L lv p where
  win := kit.win.to₀
  block_pos := kit.block_pos
  stage_whole := kit.stage_whole
  K := PEmpty
  osem k := k.elim
  ho := OwnSemFacts.none _
  hbody := hbody
  hwaits c := RDat.hwaits_of_owed_zero pcs a rd ι L lv p howed c
  pre c := iprop(StableHlo.held (c.tc : Thread nD τ) (ucRefs τ sig) (V c) ∗ R c ∗ ∃ W, owes (c : Thread nD τ) 0 W)
  post c := iprop(∃ V' : Valuation τ sig Val, ⌜(∀ w, (rd p c).ArrAt w (pin pcs a p).N (V' (Proc.devRef .tc (arrRef (pin pcs a p).spec w))))
      ∧ ∀ b, b ∉ arrRefs (pcs p).spec → V' b = V c b⌝
    ∗ StableHlo.held (c.tc : Thread nD τ) (ucRefs τ sig) V' ∗ R c ∗ ∃ W, owes (c : Thread nD τ) 0 W)
  X c := iprop(emp)
  Y c := tablesAt pcs a p c
  Z c := iprop(StableHlo.held (c.tc : Thread nD τ) ((ucRefs τ sig \ arrRefs (pcs p).spec) \ tblRefs (pcs p).pre) (V c) ∗ R c)
  hentry c := by
    rw [ownSems0_none]
    rw [StableHlo.held_sub_split (c.tc : Thread nD τ) (arrRefs_sub_ucRefs (pcs p).spec kit.win.arr_unscoped) (V c),
      StableHlo.held_sub_split (c.tc : Thread nD τ) (tblRefs_sub_ucRefs_sdiff (pcs p).spec (pcs p).pre kit.pre.unscoped kit.pre.disj) (V c),
      ← rel_arrays_held pcs a kit c (rd p c) (hshare c) (rd p c).A (V c) (hA c),
      ← prefHeld_held (pcs p).pre kit.pre.inj c (a p).1 (V c) (hT c)]
    iintro ⟨⟨⟨Ha, Hpf, Hz⟩, HR, HO⟩, -, -⟩
    imodintro
    isplitl [Ha]; · iexact Ha
    isplitl [Hpf]; · iexact Hpf
    isplitl [HO]
    · unfold RDat.owesAt owesWithin RDat.bound
      rw [howed c 0, hrec c]
      icases HO with ⟨%W, HO⟩; iexists W; isplitr; · ipureintro; exact fun _ _ => Or.inl trivial
      iexact HO
    isplitr; · iempintro
    isplitl [Hz]; · iexact Hz
    iexact HR
  hin c := by
    rw [hΦ c 0]
    iintro ⟨-, Hpf, Hr⟩
    isplitl [Hr]; · iexact Hr
    iexact Hpf
  hout c := by
    rw [hΦ c (Fin.last _), ownSems0_none]
    iintro ⟨Hr, Hpf⟩
    isplitl [Hpf]; · iexact Hpf
    isplitr; · iempintro
    iexact Hr
  hexit c := by
    have hx : ((rd p c).arraysAt (pin pcs a p).N : sProp 𝕄)
        ⊢ iprop(∃ A : (w : Fin (pin pcs a p).W) → Buf Val (((pin pcs a p).win w).arr.view.loc (c.tc : Thread nD τ)),
          ⌜∀ w, (rd p c).ArrAt w (pin pcs a p).N (A w)⌝ ∗ (rd p c).arrays A) := by
      unfold RDat.arraysAt RDat.arrays
      refine (BI.bigSep_exists_pi Finset.univ _).trans ?_
      iintro ⟨%A, H⟩
      ihave H' := (BI.bigSep_pure_sep Finset.univ (fun w => (rd p c).ArrAt w (pin pcs a p).N (A w)) _) $$ H
      icases H' with ⟨%hA, H⟩
      iexists A
      isplitr
      · ipureintro; exact fun w => hA w (Finset.mem_univ w)
      iexact H
    iintro ⟨Ha, HO, Hpf, Hz, HR⟩
    ihave Ha := hx $$ Ha
    icases Ha with ⟨%A, %hA', Ha⟩
    imodintro
    iexists putArrays (pin pcs a p).spec A (V c)
    have hput : ∀ w, A w = putArrays (pin pcs a p).spec A (V c) (Proc.devRef .tc (arrRef (pin pcs a p).spec w)) := fun w =>
      (putArrays_arr (τ := τ) (pin pcs a p).spec kit.win.arr_inj A (V c) w).symm
    have hne : ∀ b, b ∉ arrRefs (pcs p).spec → putArrays (pin pcs a p).spec A (V c) b = V c b := fun b hb =>
      putArrays_ne (pin pcs a p).spec A (V c) b fun w hw => hb (by
        rw [← hw]
        exact Finset.mem_map.mpr ⟨_, Finset.mem_image.mpr ⟨w, Finset.mem_univ w, rfl⟩, rfl⟩)
    isplitr
    · ipureintro
      exact ⟨fun w => by rw [← hput w]; exact hA' w, hne⟩
    rw [StableHlo.held_sub_split (c.tc : Thread nD τ) (arrRefs_sub_ucRefs (pcs p).spec kit.win.arr_unscoped) (putArrays (pin pcs a p).spec A (V c)),
      ← rel_arrays_held pcs a kit c (rd p c) (hshare c) A (putArrays (pin pcs a p).spec A (V c)) hput,
      StableHlo.held_congr (c.tc : Thread nD τ) (S := ucRefs τ sig \ arrRefs (pcs p).spec) (fun b hb => hne b (Finset.mem_sdiff.mp hb).2),
      StableHlo.held_sub_split (c.tc : Thread nD τ) (tblRefs_sub_ucRefs_sdiff (pcs p).spec (pcs p).pre kit.pre.unscoped kit.pre.disj) (V c),
      ← prefHeld_held (pcs p).pre kit.pre.inj c (a p).1 (V c) (hT c)]
    isplitl [Ha Hpf Hz]
    · isplitl [Ha]; · iexact Ha
      isplitl [Hpf]; · iexact Hpf
      iexact Hz
    isplitl [HR]; · iexact HR
    unfold RDat.owesAt owesWithin
    rw [howed c (Fin.last _)]
    icases HO with ⟨%W, -, HO⟩; iexists W; iexact HO

end Cert.Moe
-- ==== Proof.Region0.lean ====
/- The gate-and-up call as a region of the run: at a live point the body puts the tile's values in the output's buffer, at any other
   point it leaves the buffer as found; so once an expert's points are over, every tile it owns holds that tile's values. -/
module

public import proofs.«01_k».proof.Proof.Bodies
public import proofs.«01_k».proof.Proof.RelRegion
public import Idealize.ShloMosaic.Lib.Pipeline.Value
public import Idealize.ShloMosaic.Lib.Pipeline.ArrRel

@[expose] public section

set_option backward.isDefEq.respectTransparency.types false

noncomputable section

namespace Cert.Moe

open Cert.KernelIdeal Cert.KernelIdeal.Gen Cert.Tiles
open Idealize.ShloMosaic Idealize.ShloMosaic.TcCoe Idealize.ShloMosaic.Tactic Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Rows `128 j` to `128 j + 127` of an array of 5120 rows. -/
def rowsAt {n : ℕ} {α : Type} (A : (⟨2, ![5120, n]⟩ : Shape).Idx → α) (j : ℕ) : (⟨2, ![128, n]⟩ : Shape).Idx → α := fun y =>
  A (ValueIdx.ix2 ⟨(j * 128 + (y 0).val) % 5120, Nat.mod_lt _ (by decide)⟩ (y 1))

/-- Expert `e`'s slab of an array of eight. -/
def slabAt {m n : ℕ} {α : Type} (A : (⟨3, ![8, m, n]⟩ : Shape).Idx → α) (e : ℕ) : (⟨3, ![1, m, n]⟩ : Shape).Idx → α := fun y =>
  A (ValueIdx.ix3 ⟨e % 8, Nat.mod_lt _ (by decide)⟩ (y 1) (y 2))

/-- What the gate-and-up call computes for tile `j` with expert `e`'s weights. -/
def tileH (xs : S5120x1024.Idx → Elt F .bf16) (gw uw : S8x1024x2880.Idx → Elt F .f32) (e j : ℕ) : S128x2880.Idx → Elt F .bf16 :=
  k0_pay1 (rowsAt xs j) (slabAt gw e) (slabAt uw e)

/-- A point's coordinates: the expert, and the slot among its tiles. -/
theorem coord0 (t : Fin grid0.N) : (grid0.coords t 0).val = t.val / 16 ∧ (grid0.coords t 1).val = t.val % 16 := by
  have h : t.val < 128 := N_0 ▸ t.isLt
  have h0 := Grid.coords_val (G := grid0) t 0 (S := 16) (B := 8) (by decide) rfl
  have h1 := Grid.coords_val (G := grid0) t 1 (S := 1) (B := 16) (by decide) rfl
  omega

variable (a : (p : Fin 2) → (pcfgs (F := F) p).Adm)

/-- The proof data of the gate-and-up call: entered from the buffers at `V`. -/
def rd0 (V : Dev nD → Valuation τ sig (Elt F)) (c : Dev nD) : RDat τ (Elt F) Unit ℕ UU ℕ (pin pcfgs a 0) c where
  A w := V c (Proc.devRef .tc (arrRef (pin pcfgs a 0).spec w))
  after := fun
    | 0 => fun _ Y X => X = Y
    | 1 => fun _ Y X => X = Y
    | 2 => fun _ Y X => X = Y
    | 3 => fun t Y X => X = if t.val % 16 < countOf ((a 0).1 0) (t.val / 16) then
        tileH (V c main_arg1) (V c main_arg2) (V c main_arg3) (t.val / 16) (tileOf ((a 0).1 0) (t.val / 16) (t.val % 16)) else Y
    | ⟨_ + 4, h⟩ => absurd h (Nat.not_lt.2 (Nat.le_add_left _ _))
  Φ _ := iprop(scopedRest (pin pcfgs a 0).spec c ∗ tablesAt pcfgs a 0 c)
  q _ := fullShare
  owed _ := 0

variable {a} (hfit : Fit ((a 0).1 0))
include hfit

theorem index0_0 (t : Fin grid0.N) : ((pin pcfgs a 0).win 0).index t = ![tileOf ((a 0).1 0) (t.val / 16) (t.val % 16), 0] := by
  refine (rows0_0_eq (a 0).1 hfit (grid0.coords t)).trans ?_
  rw [(coord0 t).1, (coord0 t).2]

theorem index0_3 (t : Fin grid0.N) : ((pin pcfgs a 0).win 3).index t = ![tileOf ((a 0).1 0) (t.val / 16) (t.val % 16), 0] := by
  refine (rows0_3_eq (a 0).1 hfit (grid0.coords t)).trans ?_
  rw [(coord0 t).1, (coord0 t).2]

theorem read0_0 (V : Dev nD → Valuation τ sig (Elt F)) (c : Dev nD) (t : Fin grid0.N) (d) :
    (rd0 a V c).fetched 0 t d = rowsAt (V c main_arg1) (tileOf ((a 0).1 0) (t.val / 16) (t.val % 16)) := by
  have ht : t.val < 128 := N_0 ▸ t.isLt
  have hj := tileOf_lt hfit (show t.val / 16 < 8 by omega) (k := t.val % 16)
  refine funext fun (y : S128x1024.Idx) => ?_
  have hy0 : (y 0).val < 128 := (y 0).isLt
  show V c main_arg1 _ = V c main_arg1 _
  congr 1
  refine funext fun (k : Fin 2) => Fin.ext ?_
  refine (((pin pcfgs a 0).win 0).rect_emb_val t y k rfl).trans ?_
  rw [index0_0 hfit t]
  match k with
  | 0 => exact (Nat.mod_eq_of_lt (show tileOf ((a 0).1 0) (t.val / 16) (t.val % 16) * 128 + (y 0).val < 5120 by omega)).symm
  | 1 => show 0 * 1024 + (y 1).val = (y 1).val; omega

omit hfit in
theorem index0_1 (t : Fin grid0.N) : ((pin pcfgs a 0).win 1).index t = ![t.val / 16, 0, 0] := by
  have ht : t.val < 128 := N_0 ▸ t.isLt
  show ![(BitVec.ofNat 32 (grid0.coords t 0).val).toNat, 0, 0] = _
  rw [(coord0 t).1, BitVec.toNat_ofNat, Nat.mod_eq_of_lt (by omega)]

omit hfit in
theorem read0_1 (V : Dev nD → Valuation τ sig (Elt F)) (c : Dev nD) (t : Fin grid0.N) (d) :
    (rd0 a V c).fetched 1 t d = slabAt (V c main_arg2) (t.val / 16) := by
  have ht : t.val < 128 := N_0 ▸ t.isLt
  refine funext fun (y : S1x1024x2880.Idx) => ?_
  have hy0 : (y 0).val < 1 := (y 0).isLt
  show V c main_arg2 _ = V c main_arg2 _
  congr 1
  refine funext fun (k : Fin 3) => Fin.ext ?_
  refine (((pin pcfgs a 0).win 1).rect_emb_val t y k rfl).trans ?_
  rw [index0_1 t]
  match k with
  | 0 => show t.val / 16 * 1 + (y 0).val = t.val / 16 % 8; omega
  | 1 => show 0 * 1024 + (y 1).val = (y 1).val; omega
  | 2 => show 0 * 2880 + (y 2).val = (y 2).val; omega

omit hfit in
theorem index0_2 (t : Fin grid0.N) : ((pin pcfgs a 0).win 2).index t = ![t.val / 16, 0, 0] := by
  have ht : t.val < 128 := N_0 ▸ t.isLt
  show ![(BitVec.ofNat 32 (grid0.coords t 0).val).toNat, 0, 0] = _
  rw [(coord0 t).1, BitVec.toNat_ofNat, Nat.mod_eq_of_lt (by omega)]

omit hfit in
theorem read0_2 (V : Dev nD → Valuation τ sig (Elt F)) (c : Dev nD) (t : Fin grid0.N) (d) :
    (rd0 a V c).fetched 2 t d = slabAt (V c main_arg3) (t.val / 16) := by
  have ht : t.val < 128 := N_0 ▸ t.isLt
  refine funext fun (y : S1x1024x2880.Idx) => ?_
  have hy0 : (y 0).val < 1 := (y 0).isLt
  show V c main_arg3 _ = V c main_arg3 _
  congr 1
  refine funext fun (k : Fin 3) => Fin.ext ?_
  refine (((pin pcfgs a 0).win 2).rect_emb_val t y k rfl).trans ?_
  rw [index0_2 t]
  match k with
  | 0 => show t.val / 16 * 1 + (y 0).val = t.val / 16 % 8; omega
  | 1 => show 0 * 1024 + (y 1).val = (y 1).val; omega
  | 2 => show 0 * 2880 + (y 2).val = (y 2).val; omega

omit hfit in
/-- What the body finds in the input windows. -/
theorem finds0_in (V : Dev nD → Valuation τ sig (Elt F)) (c : Dev nD) (w : Fin 4) (hw : w.val < 3) (t : Fin grid0.N) (Y) (h : (rd0 a V c).Finds w t Y) :
    ∃ d, Y = (rd0 a V c).fetched w t d := by
  refine RDat.finds_in_eq_fetched (rd0 a V c) w ?_ (fun _ _ _ => ?_) (fun t Y X hX => ?_) t Y h
  · match w, hw with | 0, _ => rfl | 1, _ => rfl | 2, _ => rfl | ⟨n + 3, _⟩, h => exact absurd h (Nat.not_lt.2 (Nat.le_add_left _ _))
  · match w, hw with | 0, _ => rfl | 1, _ => rfl | 2, _ => rfl | ⟨n + 3, _⟩, h => exact absurd h (Nat.not_lt.2 (Nat.le_add_left _ _))
  · match w, hw, Y, X, hX with
    | 0, _, _, _, hX => exact hX
    | 1, _, _, _, hX => exact hX
    | 2, _, _, _, hX => exact hX
    | ⟨n + 3, _⟩, h, _, _, _ => exact absurd h (Nat.not_lt.2 (Nat.le_add_left _ _))

omit hfit in
/-- The one table of the call, held whole. -/
theorem tables0 (c : Dev nD) : (tablesAt pcfgs a 0 c : sProp 𝕄) = pt c (Memref.whole main_arg0) ((a 0).1 0) := by
  unfold tablesAt prefHeld
  exact bigSep_univ_eq_bigSepL [(0 : Fin 1)] (by decide) (by decide) _

/-- The body meets its obligation. -/
theorem body0 (V : Dev nD → Valuation τ sig (Elt F)) (c : Dev nD) :
    (rd0 a V c).BodyObligation defs₀ Variants.none () Set.univ := by
  intro t Y hY
  have ht : t.val < 128 := N_0 ▸ t.isLt
  have e0 : Y 0 = rowsAt (V c main_arg1) (tileOf ((a 0).1 0) (t.val / 16) (t.val % 16)) := by
    obtain ⟨d, e⟩ := finds0_in V c 0 (by decide) t _ (hY 0)
    exact e.trans (read0_0 hfit V c t d)
  have e1 : Y 1 = slabAt (V c main_arg2) (t.val / 16) := by
    obtain ⟨d, e⟩ := finds0_in V c 1 (by decide) t _ (hY 1)
    exact e.trans (read0_1 V c t d)
  have e2 : Y 2 = slabAt (V c main_arg3) (t.val / 16) := by
    obtain ⟨d, e⟩ := finds0_in V c 2 (by decide) t _ (hY 2)
    exact e.trans (read0_2 V c t d)
  refine (sep_mono .rfl (sep_mono .rfl (Entails.of_eq (bigSep_W0 _)))).trans ?_
  refine BIBase.Entails.trans ?_ (wp_mono _ _ _ fun _ => sep_mono .rfl (sep_mono .rfl (Entails.of_eq (bigSep_W0 _).symm)))
  refine BIBase.Entails.trans ?_ (gateup_run defs₀ c (grid0.coords t) _ (stage_whole0 0 _) _ (stage_whole0 1 _) _ (stage_whole0 2 _) _ (stage_whole0 3 _) ((a 0).1 0) (Y 0) (Y 1) (Y 2) (Y 3) Set.univ _)
  have hΦ : ∀ s, (rd0 a V c).Φ s = iprop(scopedRest (pin pcfgs a 0).spec c ∗ pt c (Memref.whole main_arg0) ((a 0).1 0)) := fun s => by
    rw [← tables0]; rfl
  have ho : (rd0 a V c).owesAt () t.castSucc = (rd0 a V c).owesAt () t.succ := rfl
  rw [hΦ, hΦ, ho]
  have hlive : (k0_cond1 (grid0.coords t) (wordOf ((a 0).1 0) (8 + (grid0.coords t 0).val)) = 1#1) ↔
      (t.val % 16 < countOf ((a 0).1 0) (t.val / 16)) := by
    rw [← (coord0 t).1, ← (coord0 t).2]; exact cond0_iff (grid0.coords t) _ hfit
  have hout : (rd0 a V c).after 3 t (Y 3) (if k0_cond1 (grid0.coords t) (wordOf ((a 0).1 0) (8 + (grid0.coords t 0).val)) = 1#1 then k0_pay1 (Y 0) (Y 1) (Y 2) else Y 3) := by
    show (if _ then _ else _) = if _ then _ else _
    by_cases h : t.val % 16 < countOf ((a 0).1 0) (t.val / 16)
    · rw [if_pos (hlive.mpr h), if_pos h]
      unfold tileH
      rw [e0, e1, e2]
    · rw [if_neg (fun hc => h (hlive.mp hc)), if_neg h]
  iintro ⟨⟨Hs, Ht⟩, HO, H0, H1, H2, H3⟩
  isplitl [Ht]; · iexact Ht
  isplitl [H0]; · iexact H0
  isplitl [H1]; · iexact H1
  isplitl [H2]; · iexact H2
  isplitl [H3]; · iexact H3
  iintro ⟨Ht, H0, H1, H2, H3⟩
  isplitl [Hs Ht]
  · isplitl [Hs]; · iexact Hs
    iexact Ht
  isplitl [HO]; · iexact HO
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  iexists _
  isplitr; · ipureintro; exact hout
  iexact H3

/-- The output's block does not move between two points at one tile. -/
theorem flush0_false (t u : Fin grid0.N) (hu : u.val + 1 = t.val)
    (h : tileOf ((a 0).1 0) (t.val / 16) (t.val % 16) = tileOf ((a 0).1 0) (u.val / 16) (u.val % 16)) :
    ((pin pcfgs a 0).win 3).flush u ≠ true := by
  have ht : t.val < 128 := N_0 ▸ t.isLt
  intro hf
  unfold Window.flush at hf
  rw [Bool.and_eq_true] at hf
  rcases (Bool.or_eq_true _ _).mp hf.2 with h1 | h1
  · have h1 := of_decide_eq_true h1
    have h2 : u.val + 1 = 128 := h1.trans N_0
    omega
  · obtain ⟨hlt, hne⟩ := of_decide_eq_true h1
    refine hne ?_
    have e : (⟨u.val + 1, hlt⟩ : Fin grid0.N) = t := Fin.ext hu
    have e1 := index0_3 hfit ⟨u.val + 1, hlt⟩
    have e2 := index0_3 hfit u
    refine e1.trans (Eq.trans ?_ e2.symm)
    rw [e, h]

/-- A write-back is at the last of a run of points at one tile. -/
theorem flush0_last (t : Fin grid0.N) (hf : ((pin pcfgs a 0).win 3).flush t = true) : LastOf (countOf ((a 0).1 0)) (startOf ((a 0).1 0)) t.val := by
  have ht : t.val < 128 := N_0 ▸ t.isLt
  by_cases h128 : t.val + 1 = 128
  · exact .inl h128
  refine .inr fun he => ?_
  exact flush0_false hfit ⟨t.val + 1, by have := N_0; omega⟩ t rfl he hf

/-- Conversely, at the last of a run there is one. -/
theorem last_flush0 (t : Fin grid0.N) (hl : LastOf (countOf ((a 0).1 0)) (startOf ((a 0).1 0)) t.val) : ((pin pcfgs a 0).win 3).flush t = true := by
  have ht : t.val < 128 := N_0 ▸ t.isLt
  unfold Window.flush
  rw [Bool.and_eq_true]
  refine ⟨rfl, (Bool.or_eq_true _ _).mpr ?_⟩
  rcases hl with h | h
  · exact .inl (decide_eq_true (h.trans N_0.symm))
  · by_cases h128 : t.val + 1 = 128
    · exact .inl (decide_eq_true (h128.trans N_0.symm))
    have hlt : t.val + 1 < grid0.N := by have := N_0; omega
    refine .inr (decide_eq_true ⟨hlt, fun he => h ?_⟩)
    have e1 := index0_3 hfit ⟨t.val + 1, hlt⟩
    have e2 := index0_3 hfit t
    exact congrFun (e1.symm.trans (he.trans e2)) 0

/-- What the body may leave in the output's buffer at a point of an expert that has a tile. -/
theorem leaves0 (V : Dev nD → Valuation τ sig (Elt F)) (c : Dev nD) : ∀ (k : ℕ) (hk : k < grid0.N) (X : S128x2880.Idx → Elt F .bf16),
    0 < countOf ((a 0).1 0) (k / 16) → (rd0 a V c).Leaves 3 ⟨k, hk⟩ X →
    X = tileH (V c main_arg1) (V c main_arg2) (V c main_arg3) (k / 16) (tileOf ((a 0).1 0) (k / 16) (k % 16)) := by
  intro k
  induction k with
  | zero =>
    rintro hk X hpos ⟨Y, -, hX⟩
    have hX' : X = (if 0 < countOf ((a 0).1 0) (0 / 16) then _ else Y : S128x2880.Idx → Elt F .bf16) := hX
    exact hX'.trans (if_pos hpos)
  | succ k ih =>
    rintro hk X hpos ⟨Y, hY, hX⟩
    have hX' : X = (if (k + 1) % 16 < countOf ((a 0).1 0) ((k + 1) / 16) then _ else Y : S128x2880.Idx → Elt F .bf16) := hX
    by_cases hlive : (k + 1) % 16 < countOf ((a 0).1 0) ((k + 1) / 16)
    · exact hX'.trans (if_pos hlive)
    · have hX' := hX'.trans (if_neg hlive)
      obtain ⟨-, h1, h2⟩ := tileAt_idle (n := countOf ((a 0).1 0)) hpos (Nat.not_lt.mp hlive)
      have h1 : k / 16 = (k + 1) / 16 := h1
      have h2 : min (k % 16) _ = min ((k + 1) % 16) _ := h2
      have htile : tileOf ((a 0).1 0) ((k + 1) / 16) ((k + 1) % 16) = tileOf ((a 0).1 0) (k / 16) (k % 16) := by
        unfold tileOf; rw [h1, h2]
      have hk' : k < grid0.N := Nat.lt_of_succ_lt hk
      rcases ((rd0 a V c).finds_of_pos (w := (3 : Fin 4)) (t := ⟨k + 1, hk⟩) rfl (Nat.succ_ne_zero k) Y).mp hY with hf | hL
      · exact absurd hf (flush0_false hfit ⟨k + 1, hk⟩ ⟨k, hk'⟩ rfl htile)
      · rw [hX', htile, ← h1]
        exact ih hk' Y (h1 ▸ hpos) hL

/-- Where an element of the output's block of a point lies in the output. -/
def pos0 (a : (p : Fin 2) → (pcfgs (F := F) p).Adm) (u : Fin grid0.N) (y : S128x2880.Idx) : S5120x2880.Idx := (((pin pcfgs a 0).win 3).blk u).view.emb y

theorem pos0_eq (u : Fin grid0.N) (y : S128x2880.Idx) :
    (pos0 a u y 0).val = tileOf ((a 0).1 0) (u.val / 16) (u.val % 16) * 128 + (y 0).val ∧ (pos0 a u y 1).val = (y 1).val := by
  constructor
  · refine (((pin pcfgs a 0).win 3).rect_emb_val u y (0 : Fin 2) rfl).trans ?_
    rw [index0_3 hfit u]; rfl
  · refine (((pin pcfgs a 0).win 3).rect_emb_val u y (1 : Fin 2) rfl).trans ?_
    rw [index0_3 hfit u]; exact (congrArg (· + (y 1).val) (Nat.zero_mul 2880)).trans (Nat.zero_add _)

/-- THE CALL'S RESULT: every row of a tile that expert `e` owns holds that tile's row. -/
theorem result0 (V : Dev nD → Valuation τ sig (Elt F)) (c : Dev nD) (G : S5120x2880.Idx → Elt F .bf16)
    (hG : (rd0 a V c).ArrAt 3 (pin pcfgs a 0).N G) (e i : ℕ) (he : e < 8) (hi : i < countOf ((a 0).1 0) e) :
    rowsAt G (startOf ((a 0).1 0) e + i) = tileH (V c main_arg1) (V c main_arg2) (V c main_arg3) e (startOf ((a 0).1 0) e + i) := by
  obtain ⟨t, ht, hlast, htile⟩ := Fits.last_exists hfit he hi
  have hend := Fits.end_le hfit he
  have htot := hfit.total
  have htN : t < grid0.N := by rw [N_0]; exact ht
  let Q : S5120x2880.Idx → Elt F .bf16 → Prop := fun x v => (x 0).val / 128 = startOf ((a 0).1 0) e + i →
    v = tileH (V c main_arg1) (V c main_arg2) (V c main_arg3) e (startOf ((a 0).1 0) e + i) (ValueIdx.ix2 ⟨(x 0).val % 128, Nat.mod_lt _ (by decide)⟩ (x 1))
  have hQ : ∀ u : Fin grid0.N, ((pin pcfgs a 0).win 3).flush u = true → ∀ X : S128x2880.Idx → Elt F .bf16, (rd0 a V c).Leaves 3 u X → ∀ y : S128x2880.Idx,
      Q (pos0 a u y) (X y) := fun u hu X hX y hrow => by
    obtain ⟨h0, h1⟩ := pos0_eq hfit u y
    have hu128 : u.val < 128 := N_0 ▸ u.isLt
    have hy0 : (y 0).val < 128 := (y 0).isLt
    rw [h0] at hrow
    have htl : tileAt (countOf ((a 0).1 0)) (startOf ((a 0).1 0)) u.val = startOf ((a 0).1 0) e + i := by
      rw [tileAt_eq]; omega
    obtain ⟨hue, hui⟩ := Fits.last_owner hfit hu128 he hi (flush0_last hfit u hu) htl
    have hL := leaves0 hfit V c u.val u.isLt X (by rw [hue]; omega) hX
    have htl' : tileOf ((a 0).1 0) (u.val / 16) (u.val % 16) = startOf ((a 0).1 0) e + i := htl
    rw [hL, htl', hue]
    congr 1
    refine funext fun (k : Fin 2) => Fin.ext ?_
    match k with
    | 0 => show (y 0).val = _ % 128; rw [h0]; omega
    | 1 => exact h1.symm
  refine funext fun (y : S128x2880.Idx) => ?_
  have hy0 : (y 0).val < 128 := (y 0).isLt
  have hb : (startOf ((a 0).1 0) e + i) * 128 + (y 0).val < 5120 := by omega
  have hx : (ValueIdx.ix2 ⟨((startOf ((a 0).1 0) e + i) * 128 + (y 0).val) % 5120, Nat.mod_lt _ (by decide)⟩ (y 1) : S5120x2880.Idx)
      = pos0 a ⟨t, htN⟩ y := by
    obtain ⟨h0, h1⟩ := pos0_eq hfit ⟨t, htN⟩ y
    refine funext fun (k : Fin 2) => Fin.ext ?_
    match k with
    | 0 =>
      refine Eq.trans ?_ h0.symm
      have htl' : tileOf ((a 0).1 0) (t / 16) (t % 16) = startOf ((a 0).1 0) e + i := htile
      show _ % 5120 = tileOf ((a 0).1 0) (t / 16) (t % 16) * 128 + _
      rw [htl', Nat.mod_eq_of_lt hb]
    | 1 => exact h1.symm
  have hk := arrAt_forall_rel (rd0 a V c) (3 : Fin 4) hG Q hQ ⟨t, htN⟩ (last_flush0 hfit ⟨t, htN⟩ hlast) (pos0 a ⟨t, htN⟩ y)
    (Finset.mem_map.mpr ⟨y, Finset.mem_univ _, rfl⟩)
  rw [← hx] at hk
  refine (hk ?_).trans ?_
  · show _ % 5120 / 128 = _; rw [Nat.mod_eq_of_lt hb]; omega
  · congr 1
    refine funext fun (k : Fin 2) => Fin.ext ?_
    match k with
    | 0 => show _ % 5120 % 128 = (y 0).val; rw [Nat.mod_eq_of_lt hb]; omega
    | 1 => rfl

end Cert.Moe
-- ==== Proof.Region1.lean ====
/- The down call as a region of the run: at a live point the body puts the tile's values in the output's buffer, at any other
   point it leaves the buffer as found; so once an expert's points are over, every tile it owns holds that tile's values. -/
module

public import proofs.«01_k».proof.Proof.Region0

@[expose] public section

set_option backward.isDefEq.respectTransparency.types false

noncomputable section

namespace Cert.Moe

open Cert.KernelIdeal Cert.KernelIdeal.Gen Cert.Tiles
open Idealize.ShloMosaic Idealize.ShloMosaic.TcCoe Idealize.ShloMosaic.Tactic Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- What the down call computes for tile `j` with expert `e`'s weights. -/
def tileY (h : S5120x2880.Idx → Elt F .bf16) (dw : S8x2880x1024.Idx → Elt F .f32) (ws : S5120x1.Idx → Elt F .f32) (e j : ℕ) : S128x1024.Idx → Elt F .f32 :=
  k1_pay1 (rowsAt h j) (slabAt dw e) (rowsAt ws j)

/-- A point's coordinates: the expert, and the slot among its tiles. -/
theorem coord1 (t : Fin grid1.N) : (grid1.coords t 0).val = t.val / 16 ∧ (grid1.coords t 1).val = t.val % 16 := by
  have h : t.val < 128 := N_1 ▸ t.isLt
  have h0 := Grid.coords_val (G := grid1) t 0 (S := 16) (B := 8) (by decide) rfl
  have h1 := Grid.coords_val (G := grid1) t 1 (S := 1) (B := 16) (by decide) rfl
  omega

variable (a : (p : Fin 2) → (pcfgs (F := F) p).Adm)

/-- The proof data of the down call: entered from the buffers at `V`. -/
def rd1 (V : Dev nD → Valuation τ sig (Elt F)) (c : Dev nD) : RDat τ (Elt F) Unit ℕ UU ℕ (pin pcfgs a 1) c where
  A w := V c (Proc.devRef .tc (arrRef (pin pcfgs a 1).spec w))
  after := fun
    | 0 => fun _ Y X => X = Y
    | 1 => fun _ Y X => X = Y
    | 2 => fun _ Y X => X = Y
    | 3 => fun t Y X => X = if t.val % 16 < countOf ((a 1).1 0) (t.val / 16) then
        tileY (V c main_v0) (V c main_arg4) (V c main_arg5) (t.val / 16) (tileOf ((a 1).1 0) (t.val / 16) (t.val % 16)) else Y
    | ⟨_ + 4, h⟩ => absurd h (Nat.not_lt.2 (Nat.le_add_left _ _))
  Φ _ := iprop(scopedRest (pin pcfgs a 1).spec c ∗ tablesAt pcfgs a 1 c)
  q _ := fullShare
  owed _ := 0

variable {a} (hfit : Fit ((a 1).1 0))
include hfit

theorem index1_0 (t : Fin grid1.N) : ((pin pcfgs a 1).win 0).index t = ![tileOf ((a 1).1 0) (t.val / 16) (t.val % 16), 0] := by
  refine (rows1_0_eq (a 1).1 hfit (grid1.coords t)).trans ?_
  rw [(coord1 t).1, (coord1 t).2]

theorem index1_2 (t : Fin grid1.N) : ((pin pcfgs a 1).win 2).index t = ![tileOf ((a 1).1 0) (t.val / 16) (t.val % 16), 0] := by
  refine (rows1_2_eq (a 1).1 hfit (grid1.coords t)).trans ?_
  rw [(coord1 t).1, (coord1 t).2]

theorem index1_3 (t : Fin grid1.N) : ((pin pcfgs a 1).win 3).index t = ![tileOf ((a 1).1 0) (t.val / 16) (t.val % 16), 0] := by
  refine (rows1_3_eq (a 1).1 hfit (grid1.coords t)).trans ?_
  rw [(coord1 t).1, (coord1 t).2]

theorem read1_0 (V : Dev nD → Valuation τ sig (Elt F)) (c : Dev nD) (t : Fin grid1.N) (d) :
    (rd1 a V c).fetched 0 t d = rowsAt (V c main_v0) (tileOf ((a 1).1 0) (t.val / 16) (t.val % 16)) := by
  have ht : t.val < 128 := N_1 ▸ t.isLt
  have hj := tileOf_lt hfit (show t.val / 16 < 8 by omega) (k := t.val % 16)
  refine funext fun (y : S128x2880.Idx) => ?_
  have hy0 : (y 0).val < 128 := (y 0).isLt
  show V c main_v0 _ = V c main_v0 _
  congr 1
  refine funext fun (k : Fin 2) => Fin.ext ?_
  refine (((pin pcfgs a 1).win 0).rect_emb_val t y k rfl).trans ?_
  rw [index1_0 hfit t]
  match k with
  | 0 => exact (Nat.mod_eq_of_lt (show tileOf ((a 1).1 0) (t.val / 16) (t.val % 16) * 128 + (y 0).val < 5120 by omega)).symm
  | 1 => show 0 * 2880 + (y 1).val = (y 1).val; omega

omit hfit in
theorem index1_1 (t : Fin grid1.N) : ((pin pcfgs a 1).win 1).index t = ![t.val / 16, 0, 0] := by
  have ht : t.val < 128 := N_1 ▸ t.isLt
  show ![(BitVec.ofNat 32 (grid1.coords t 0).val).toNat, 0, 0] = _
  rw [(coord1 t).1, BitVec.toNat_ofNat, Nat.mod_eq_of_lt (by omega)]

omit hfit in
theorem read1_1 (V : Dev nD → Valuation τ sig (Elt F)) (c : Dev nD) (t : Fin grid1.N) (d) :
    (rd1 a V c).fetched 1 t d = slabAt (V c main_arg4) (t.val / 16) := by
  have ht : t.val < 128 := N_1 ▸ t.isLt
  refine funext fun (y : S1x2880x1024.Idx) => ?_
  have hy0 : (y 0).val < 1 := (y 0).isLt
  show V c main_arg4 _ = V c main_arg4 _
  congr 1
  refine funext fun (k : Fin 3) => Fin.ext ?_
  refine (((pin pcfgs a 1).win 1).rect_emb_val t y k rfl).trans ?_
  rw [index1_1 t]
  match k with
  | 0 => show t.val / 16 * 1 + (y 0).val = t.val / 16 % 8; omega
  | 1 => show 0 * 2880 + (y 1).val = (y 1).val; omega
  | 2 => show 0 * 1024 + (y 2).val = (y 2).val; omega

theorem read1_2 (V : Dev nD → Valuation τ sig (Elt F)) (c : Dev nD) (t : Fin grid1.N) (d) :
    (rd1 a V c).fetched 2 t d = rowsAt (V c main_arg5) (tileOf ((a 1).1 0) (t.val / 16) (t.val % 16)) := by
  have ht : t.val < 128 := N_1 ▸ t.isLt
  have hj := tileOf_lt hfit (show t.val / 16 < 8 by omega) (k := t.val % 16)
  refine funext fun (y : S128x1.Idx) => ?_
  have hy0 : (y 0).val < 128 := (y 0).isLt
  show V c main_arg5 _ = V c main_arg5 _
  congr 1
  refine funext fun (k : Fin 2) => Fin.ext ?_
  refine (((pin pcfgs a 1).win 2).rect_emb_val t y k rfl).trans ?_
  rw [index1_2 hfit t]
  match k with
  | 0 => exact (Nat.mod_eq_of_lt (show tileOf ((a 1).1 0) (t.val / 16) (t.val % 16) * 128 + (y 0).val < 5120 by omega)).symm
  | 1 => show 0 * 1 + (y 1).val = (y 1).val; omega

omit hfit in
/-- What the body finds in the input windows. -/
theorem finds1_in (V : Dev nD → Valuation τ sig (Elt F)) (c : Dev nD) (w : Fin 4) (hw : w.val < 3) (t : Fin grid1.N) (Y) (h : (rd1 a V c).Finds w t Y) :
    ∃ d, Y = (rd1 a V c).fetched w t d := by
  refine RDat.finds_in_eq_fetched (rd1 a V c) w ?_ (fun _ _ _ => ?_) (fun t Y X hX => ?_) t Y h
  · match w, hw with | 0, _ => rfl | 1, _ => rfl | 2, _ => rfl | ⟨n + 3, _⟩, h => exact absurd h (Nat.not_lt.2 (Nat.le_add_left _ _))
  · match w, hw with | 0, _ => rfl | 1, _ => rfl | 2, _ => rfl | ⟨n + 3, _⟩, h => exact absurd h (Nat.not_lt.2 (Nat.le_add_left _ _))
  · match w, hw, Y, X, hX with
    | 0, _, _, _, hX => exact hX
    | 1, _, _, _, hX => exact hX
    | 2, _, _, _, hX => exact hX
    | ⟨n + 3, _⟩, h, _, _, _ => exact absurd h (Nat.not_lt.2 (Nat.le_add_left _ _))

omit hfit in
/-- The one table of the call, held whole. -/
theorem tables1 (c : Dev nD) : (tablesAt pcfgs a 1 c : sProp 𝕄) = pt c (Memref.whole main_arg0) ((a 1).1 0) := by
  unfold tablesAt prefHeld
  exact bigSep_univ_eq_bigSepL [(0 : Fin 1)] (by decide) (by decide) _

/-- The body meets its obligation. -/
theorem body1 (V : Dev nD → Valuation τ sig (Elt F)) (c : Dev nD) :
    (rd1 a V c).BodyObligation defs₀ Variants.none () Set.univ := by
  intro t Y hY
  have ht : t.val < 128 := N_1 ▸ t.isLt
  have e0 : Y 0 = rowsAt (V c main_v0) (tileOf ((a 1).1 0) (t.val / 16) (t.val % 16)) := by
    obtain ⟨d, e⟩ := finds1_in V c 0 (by decide) t _ (hY 0)
    exact e.trans (read1_0 hfit V c t d)
  have e1 : Y 1 = slabAt (V c main_arg4) (t.val / 16) := by
    obtain ⟨d, e⟩ := finds1_in V c 1 (by decide) t _ (hY 1)
    exact e.trans (read1_1 V c t d)
  have e2 : Y 2 = rowsAt (V c main_arg5) (tileOf ((a 1).1 0) (t.val / 16) (t.val % 16)) := by
    obtain ⟨d, e⟩ := finds1_in V c 2 (by decide) t _ (hY 2)
    exact e.trans (read1_2 hfit V c t d)
  refine (sep_mono .rfl (sep_mono .rfl (Entails.of_eq (bigSep_W1 _)))).trans ?_
  refine BIBase.Entails.trans ?_ (wp_mono _ _ _ fun _ => sep_mono .rfl (sep_mono .rfl (Entails.of_eq (bigSep_W1 _).symm)))
  refine BIBase.Entails.trans ?_ (down_run defs₀ c (grid1.coords t) _ (stage_whole1 0 _) _ (stage_whole1 1 _) _ (stage_whole1 2 _) _ (stage_whole1 3 _) ((a 1).1 0) (Y 0) (Y 1) (Y 2) (Y 3) Set.univ _)
  have hΦ : ∀ s, (rd1 a V c).Φ s = iprop(scopedRest (pin pcfgs a 1).spec c ∗ pt c (Memref.whole main_arg0) ((a 1).1 0)) := fun s => by
    rw [← tables1]; rfl
  have ho : (rd1 a V c).owesAt () t.castSucc = (rd1 a V c).owesAt () t.succ := rfl
  rw [hΦ, hΦ, ho]
  have hlive : (k1_cond1 (grid1.coords t) (wordOf ((a 1).1 0) (8 + (grid1.coords t 0).val)) = 1#1) ↔
      (t.val % 16 < countOf ((a 1).1 0) (t.val / 16)) := by
    rw [← (coord1 t).1, ← (coord1 t).2]; exact cond1_iff (grid1.coords t) _ hfit
  have hout : (rd1 a V c).after 3 t (Y 3) (if k1_cond1 (grid1.coords t) (wordOf ((a 1).1 0) (8 + (grid1.coords t 0).val)) = 1#1 then k1_pay1 (Y 0) (Y 1) (Y 2) else Y 3) := by
    show (if _ then _ else _) = if _ then _ else _
    by_cases h : t.val % 16 < countOf ((a 1).1 0) (t.val / 16)
    · rw [if_pos (hlive.mpr h), if_pos h]
      unfold tileY
      rw [e0, e1, e2]
    · rw [if_neg (fun hc => h (hlive.mp hc)), if_neg h]
  iintro ⟨⟨Hs, Ht⟩, HO, H0, H1, H2, H3⟩
  isplitl [Ht]; · iexact Ht
  isplitl [H0]; · iexact H0
  isplitl [H1]; · iexact H1
  isplitl [H2]; · iexact H2
  isplitl [H3]; · iexact H3
  iintro ⟨Ht, H0, H1, H2, H3⟩
  isplitl [Hs Ht]
  · isplitl [Hs]; · iexact Hs
    iexact Ht
  isplitl [HO]; · iexact HO
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  iexists _
  isplitr; · ipureintro; exact hout
  iexact H3

/-- The output's block does not move between two points at one tile. -/
theorem flush1_false (t u : Fin grid1.N) (hu : u.val + 1 = t.val)
    (h : tileOf ((a 1).1 0) (t.val / 16) (t.val % 16) = tileOf ((a 1).1 0) (u.val / 16) (u.val % 16)) :
    ((pin pcfgs a 1).win 3).flush u ≠ true := by
  have ht : t.val < 128 := N_1 ▸ t.isLt
  intro hf
  unfold Window.flush at hf
  rw [Bool.and_eq_true] at hf
  rcases (Bool.or_eq_true _ _).mp hf.2 with h1 | h1
  · have h1 := of_decide_eq_true h1
    have h2 : u.val + 1 = 128 := h1.trans N_1
    omega
  · obtain ⟨hlt, hne⟩ := of_decide_eq_true h1
    refine hne ?_
    have e : (⟨u.val + 1, hlt⟩ : Fin grid1.N) = t := Fin.ext hu
    have e1 := index1_3 hfit ⟨u.val + 1, hlt⟩
    have e2 := index1_3 hfit u
    refine e1.trans (Eq.trans ?_ e2.symm)
    rw [e, h]

/-- A write-back is at the last of a run of points at one tile. -/
theorem flush1_last (t : Fin grid1.N) (hf : ((pin pcfgs a 1).win 3).flush t = true) : LastOf (countOf ((a 1).1 0)) (startOf ((a 1).1 0)) t.val := by
  have ht : t.val < 128 := N_1 ▸ t.isLt
  by_cases h128 : t.val + 1 = 128
  · exact .inl h128
  refine .inr fun he => ?_
  exact flush1_false hfit ⟨t.val + 1, by have := N_1; omega⟩ t rfl he hf

/-- Conversely, at the last of a run there is one. -/
theorem last_flush1 (t : Fin grid1.N) (hl : LastOf (countOf ((a 1).1 0)) (startOf ((a 1).1 0)) t.val) : ((pin pcfgs a 1).win 3).flush t = true := by
  have ht : t.val < 128 := N_1 ▸ t.isLt
  unfold Window.flush
  rw [Bool.and_eq_true]
  refine ⟨rfl, (Bool.or_eq_true _ _).mpr ?_⟩
  rcases hl with h | h
  · exact .inl (decide_eq_true (h.trans N_1.symm))
  · by_cases h128 : t.val + 1 = 128
    · exact .inl (decide_eq_true (h128.trans N_1.symm))
    have hlt : t.val + 1 < grid1.N := by have := N_1; omega
    refine .inr (decide_eq_true ⟨hlt, fun he => h ?_⟩)
    have e1 := index1_3 hfit ⟨t.val + 1, hlt⟩
    have e2 := index1_3 hfit t
    exact congrFun (e1.symm.trans (he.trans e2)) 0

/-- What the body may leave in the output's buffer at a point of an expert that has a tile. -/
theorem leaves1 (V : Dev nD → Valuation τ sig (Elt F)) (c : Dev nD) : ∀ (k : ℕ) (hk : k < grid1.N) (X : S128x1024.Idx → Elt F .f32),
    0 < countOf ((a 1).1 0) (k / 16) → (rd1 a V c).Leaves 3 ⟨k, hk⟩ X →
    X = tileY (V c main_v0) (V c main_arg4) (V c main_arg5) (k / 16) (tileOf ((a 1).1 0) (k / 16) (k % 16)) := by
  intro k
  induction k with
  | zero =>
    rintro hk X hpos ⟨Y, -, hX⟩
    have hX' : X = (if 0 < countOf ((a 1).1 0) (0 / 16) then _ else Y : S128x1024.Idx → Elt F .f32) := hX
    exact hX'.trans (if_pos hpos)
  | succ k ih =>
    rintro hk X hpos ⟨Y, hY, hX⟩
    have hX' : X = (if (k + 1) % 16 < countOf ((a 1).1 0) ((k + 1) / 16) then _ else Y : S128x1024.Idx → Elt F .f32) := hX
    by_cases hlive : (k + 1) % 16 < countOf ((a 1).1 0) ((k + 1) / 16)
    · exact hX'.trans (if_pos hlive)
    · have hX' := hX'.trans (if_neg hlive)
      obtain ⟨-, h1, h2⟩ := tileAt_idle (n := countOf ((a 1).1 0)) hpos (Nat.not_lt.mp hlive)
      have h1 : k / 16 = (k + 1) / 16 := h1
      have h2 : min (k % 16) _ = min ((k + 1) % 16) _ := h2
      have htile : tileOf ((a 1).1 0) ((k + 1) / 16) ((k + 1) % 16) = tileOf ((a 1).1 0) (k / 16) (k % 16) := by
        unfold tileOf; rw [h1, h2]
      have hk' : k < grid1.N := Nat.lt_of_succ_lt hk
      rcases ((rd1 a V c).finds_of_pos (w := (3 : Fin 4)) (t := ⟨k + 1, hk⟩) rfl (Nat.succ_ne_zero k) Y).mp hY with hf | hL
      · exact absurd hf (flush1_false hfit ⟨k + 1, hk⟩ ⟨k, hk'⟩ rfl htile)
      · rw [hX', htile, ← h1]
        exact ih hk' Y (h1 ▸ hpos) hL

/-- Where an element of the output's block of a point lies in the output. -/
def pos1 (a : (p : Fin 2) → (pcfgs (F := F) p).Adm) (u : Fin grid1.N) (y : S128x1024.Idx) : S5120x1024.Idx := (((pin pcfgs a 1).win 3).blk u).view.emb y

theorem pos1_eq (u : Fin grid1.N) (y : S128x1024.Idx) :
    (pos1 a u y 0).val = tileOf ((a 1).1 0) (u.val / 16) (u.val % 16) * 128 + (y 0).val ∧ (pos1 a u y 1).val = (y 1).val := by
  constructor
  · refine (((pin pcfgs a 1).win 3).rect_emb_val u y (0 : Fin 2) rfl).trans ?_
    rw [index1_3 hfit u]; rfl
  · refine (((pin pcfgs a 1).win 3).rect_emb_val u y (1 : Fin 2) rfl).trans ?_
    rw [index1_3 hfit u]; exact (congrArg (· + (y 1).val) (Nat.zero_mul 1024)).trans (Nat.zero_add _)

/-- THE CALL'S RESULT: every row of a tile that expert `e` owns holds that tile's row. -/
theorem result1 (V : Dev nD → Valuation τ sig (Elt F)) (c : Dev nD) (G : S5120x1024.Idx → Elt F .f32)
    (hG : (rd1 a V c).ArrAt 3 (pin pcfgs a 1).N G) (e i : ℕ) (he : e < 8) (hi : i < countOf ((a 1).1 0) e) :
    rowsAt G (startOf ((a 1).1 0) e + i) = tileY (V c main_v0) (V c main_arg4) (V c main_arg5) e (startOf ((a 1).1 0) e + i) := by
  obtain ⟨t, ht, hlast, htile⟩ := Fits.last_exists hfit he hi
  have hend := Fits.end_le hfit he
  have htot := hfit.total
  have htN : t < grid1.N := by rw [N_1]; exact ht
  let Q : S5120x1024.Idx → Elt F .f32 → Prop := fun x v => (x 0).val / 128 = startOf ((a 1).1 0) e + i →
    v = tileY (V c main_v0) (V c main_arg4) (V c main_arg5) e (startOf ((a 1).1 0) e + i) (ValueIdx.ix2 ⟨(x 0).val % 128, Nat.mod_lt _ (by decide)⟩ (x 1))
  have hQ : ∀ u : Fin grid1.N, ((pin pcfgs a 1).win 3).flush u = true → ∀ X : S128x1024.Idx → Elt F .f32, (rd1 a V c).Leaves 3 u X → ∀ y : S128x1024.Idx,
      Q (pos1 a u y) (X y) := fun u hu X hX y hrow => by
    obtain ⟨h0, h1⟩ := pos1_eq hfit u y
    have hu128 : u.val < 128 := N_1 ▸ u.isLt
    have hy0 : (y 0).val < 128 := (y 0).isLt
    rw [h0] at hrow
    have htl : tileAt (countOf ((a 1).1 0)) (startOf ((a 1).1 0)) u.val = startOf ((a 1).1 0) e + i := by
      rw [tileAt_eq]; omega
    obtain ⟨hue, hui⟩ := Fits.last_owner hfit hu128 he hi (flush1_last hfit u hu) htl
    have hL := leaves1 hfit V c u.val u.isLt X (by rw [hue]; omega) hX
    have htl' : tileOf ((a 1).1 0) (u.val / 16) (u.val % 16) = startOf ((a 1).1 0) e + i := htl
    rw [hL, htl', hue]
    congr 1
    refine funext fun (k : Fin 2) => Fin.ext ?_
    match k with
    | 0 => show (y 0).val = _ % 128; rw [h0]; omega
    | 1 => exact h1.symm
  refine funext fun (y : S128x1024.Idx) => ?_
  have hy0 : (y 0).val < 128 := (y 0).isLt
  have hb : (startOf ((a 1).1 0) e + i) * 128 + (y 0).val < 5120 := by omega
  have hx : (ValueIdx.ix2 ⟨((startOf ((a 1).1 0) e + i) * 128 + (y 0).val) % 5120, Nat.mod_lt _ (by decide)⟩ (y 1) : S5120x1024.Idx)
      = pos1 a ⟨t, htN⟩ y := by
    obtain ⟨h0, h1⟩ := pos1_eq hfit ⟨t, htN⟩ y
    refine funext fun (k : Fin 2) => Fin.ext ?_
    match k with
    | 0 =>
      refine Eq.trans ?_ h0.symm
      have htl' : tileOf ((a 1).1 0) (t / 16) (t % 16) = startOf ((a 1).1 0) e + i := htile
      show _ % 5120 = tileOf ((a 1).1 0) (t / 16) (t % 16) * 128 + _
      rw [htl', Nat.mod_eq_of_lt hb]
    | 1 => exact h1.symm
  have hk := arrAt_forall_rel (rd1 a V c) (3 : Fin 4) hG Q hQ ⟨t, htN⟩ (last_flush1 hfit ⟨t, htN⟩ hlast) (pos1 a ⟨t, htN⟩ y)
    (Finset.mem_map.mpr ⟨y, Finset.mem_univ _, rfl⟩)
  rw [← hx] at hk
  refine (hk ?_).trans ?_
  · show _ % 5120 / 128 = _; rw [Nat.mod_eq_of_lt hb]; omega
  · congr 1
    refine funext fun (k : Fin 2) => Fin.ext ?_
    match k with
    | 0 => show _ % 5120 % 128 = (y 0).val; rw [Nat.mod_eq_of_lt hb]; omega
    | 1 => rfl

end Cert.Moe
-- ==== Proof.RunAll.lean ====
/- The run of the two calls, one after the other: from any memory whose first argument is an admissible table of tiles, the program
   ends with its arguments unchanged and every tile an expert owns at that expert's values. -/
module

public import proofs.«01_k».proof.Proof.Region1
public import Idealize.ShloMosaic.Lib.Pipeline.RegionsForgetR
public import Idealize.ShloMosaic.Lib.Pipeline.RegionsForgetLinks
public import Idealize.ShloMosaic.Lib.HostLoop.Plain
public import Idealize.ShloMosaic.Lib.HostLoop.Lifted
public import proofs.«01_k».proof.Proof.Gen.KernelIdeal.Regions

@[expose] public section

set_option backward.isDefEq.respectTransparency.types false

noncomputable section

namespace Cert.Moe

open Cert.KernelIdeal Cert.KernelIdeal.Gen Cert.Tiles
open Idealize.ShloMosaic Idealize.ShloMosaic.TcCoe Idealize.ShloMosaic.Tactic Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The launch memory, as the buffers' contents on each core. -/
def mem0 (m : (ℓ : Loc nD τ sig) → Buf (Elt F) ℓ) : Dev nD → Valuation τ sig (Elt F) := fun c b => m (c, b)

/-- The table of tiles in a memory. -/
def tableOf (m : (ℓ : Loc nD τ sig) → Buf (Elt F) ℓ) : S16.Idx → BitVec 32 := mem0 m 0 main_arg0

variable (m : (ℓ : Loc nD τ sig) → Buf (Elt F) ℓ) (hfit : Fit (tableOf m))

/-- Both calls read the same table, and it is admissible for each. -/
def adm : (p : Fin 2) → (pcfgs (F := F) p).Adm
  | ⟨0, _⟩ => ⟨fun k => mem0 m 0 (Proc.devRef .tc (pre0.ref k)), ok0_of_fit _ hfit⟩
  | ⟨1, _⟩ => ⟨fun k => mem0 m 0 (Proc.devRef .tc (pre1.ref k)), ok1_of_fit _ hfit⟩
  | ⟨_ + 2, h⟩ => absurd h (Nat.not_lt.2 (Nat.le_add_left _ _))

/-- The two calls' proof data at the buffers `V`. -/
def rds (V : Dev nD → Valuation τ sig (Elt F)) : (p : Fin 2) → (c : Dev nD) → RDat τ (Elt F) Unit ℕ UU ℕ (pin pcfgs (adm m hfit) p) c
  | ⟨0, _⟩ => rd0 (adm m hfit) V
  | ⟨1, _⟩ => rd1 (adm m hfit) V
  | ⟨_ + 2, h⟩ => absurd h (Nat.not_lt.2 (Nat.le_add_left _ _))

/-- No cell carries a level. -/
def lvSet : GSem nD τ sig → Finset Unit := fun _ => ∅
def lvOf : GSem nD τ sig → Unit → ℕ := fun _ _ => 0

/-- One ticket for each call, each in its own copy of the algebra. -/
def tickets (j : Fin 2) : Pipeline.Ticket (Ix := Unit) (Name := ℕ) (U := UU) (Lvl := ℕ) (nD := nD) (τ := τ) (pcfgs (F := F)) (adm m hfit) where
  p := j
  pdats _ _ := { A := fun _ => Classical.arbitrary _, after := fun _ _ _ => Classical.arbitrary _, Φ := fun _ => iprop(emp), q := fun _ => fullShare, owed := fun _ => 0 }
  EP := embAt j

/-- No loop is run on the host. -/
def noLoops : Fin 0 → Prog (TpuEff nD τ sig (Elt F) (HostLoop.Sig (Pipeline.Sig Λ₀ (Fin 2) fun p => (pcfgs (F := F) p).Adm) 0) .tc) PUnit := fun l => l.elim0

/-- The gate-and-up call, entered at the launch memory. -/
def reg0 : RDat.RegionSeg pcfgs (adm m hfit) (rds m hfit (mem0 m)) () defs₀ Variants.none lvSet lvOf 0 :=
  relRegion pcfgs (adm m hfit) (p := 0) (rds m hfit (mem0 m)) () defs₀ Variants.none lvSet lvOf launch0 (body0 (a := adm m hfit) hfit (mem0 m)) (fun _ _ => rfl) (fun _ => rfl)
    (fun _ w => by show (if _ then fullShare else fullShare) = _; split <;> rfl) (fun _ _ => rfl) (mem0 m) (fun _ _ => rfl)
    (fun c k => by rw [show c = (0 : Dev nD) from Subsingleton.elim _ _]; rfl) (fun _ => iprop(emp))

/-- The buffers the down call may be entered at: the table is still the launch's. -/
def Ok1 (m : (ℓ : Loc nD τ sig) → Buf (Elt F) ℓ) : Type := {V : Dev nD → Valuation τ sig (Elt F) // ∀ c, V c main_arg0 = tableOf m}

/-- The down call, entered at the buffers `V`. -/
def reg1 (V : Ok1 m) : RDat.RegionSeg pcfgs (adm m hfit) (rds m hfit V.1) () defs₀ Variants.none lvSet lvOf 1 :=
  relRegion pcfgs (adm m hfit) (p := 1) (rds m hfit V.1) () defs₀ Variants.none lvSet lvOf launch1 (body1 (a := adm m hfit) hfit V.1) (fun _ _ => rfl) (fun _ => rfl)
    (fun _ w => by show (if _ then fullShare else fullShare) = _; split <;> rfl) (fun _ _ => rfl) V.1 (fun _ _ => rfl)
    (fun c k => by
      match k with
      | ⟨0, _⟩ => exact (V.2 c).symm
      | ⟨_ + 1, h⟩ => exact absurd h (Nat.not_lt.2 (Nat.le_add_left _ _)))
    (fun _ => iprop(emp))

/-- The six arguments at the launch memory's contents. -/
def ArgsKept (m : (ℓ : Loc nD τ sig) → Buf (Elt F) ℓ) (c : Dev nD) (V : Valuation τ sig (Elt F)) : Prop :=
  V main_arg0 = mem0 m c main_arg0 ∧ V main_arg1 = mem0 m c main_arg1 ∧ V main_arg2 = mem0 m c main_arg2
    ∧ V main_arg3 = mem0 m c main_arg3 ∧ V main_arg4 = mem0 m c main_arg4 ∧ V main_arg5 = mem0 m c main_arg5

/-- What the first call leaves: the arguments, and every owned tile of the intermediate array at its expert's values. -/
def After0 (c : Dev nD) (V : Valuation τ sig (Elt F)) : Prop :=
  ArgsKept m c V ∧ ∀ e i, e < 8 → i < countOf (tableOf m) e →
    rowsAt (n := 2880) (V main_v0 : S5120x2880.Idx → Elt F .bf16) (startOf (tableOf m) e + i) = tileH (mem0 m c main_arg1) (mem0 m c main_arg2) (mem0 m c main_arg3) e (startOf (tableOf m) e + i)

/-- A tile of the result: the down call's value at the tile of the intermediate array. -/
def tileOut (m : (ℓ : Loc nD τ sig) → Buf (Elt F) ℓ) (c : Dev nD) (e j : ℕ) : S128x1024.Idx → Elt F .f32 :=
  k1_pay1 (tileH (mem0 m c main_arg1) (mem0 m c main_arg2) (mem0 m c main_arg3) e j)
    (slabAt (m := 2880) (n := 1024) (mem0 m c main_arg4 : S8x2880x1024.Idx → Elt F .f32) e) (rowsAt (n := 1) (mem0 m c main_arg5 : S5120x1.Idx → Elt F .f32) j)

/-- What the second call leaves: the arguments, and every owned tile of the result at its expert's values. -/
def After1 (c : Dev nD) (V : Valuation τ sig (Elt F)) : Prop :=
  ArgsKept m c V ∧ ∀ e i, e < 8 → i < countOf (tableOf m) e →
    rowsAt (n := 1024) (V main_v1 : S5120x1024.Idx → Elt F .f32) (startOf (tableOf m) e + i) = tileOut m c e (startOf (tableOf m) e + i)

/-- A buffer that is no array of the call is none of its four. -/
theorem off0 {b : DevRef τ sig} (h : b ≠ Proc.devRef .tc main_arg1 ∧ b ≠ Proc.devRef .tc main_arg2 ∧ b ≠ Proc.devRef .tc main_arg3 ∧ b ≠ Proc.devRef .tc main_v0) :
    b ∉ arrRefs (pcfgs (F := F) 0).spec := by
  intro hb
  obtain ⟨r, hr, rfl⟩ := Finset.mem_map.mp hb
  obtain ⟨w, -, rfl⟩ := Finset.mem_image.mp hr
  match w with
  | ⟨0, _⟩ => exact h.1 rfl
  | ⟨1, _⟩ => exact h.2.1 rfl
  | ⟨2, _⟩ => exact h.2.2.1 rfl
  | ⟨3, _⟩ => exact h.2.2.2 rfl
  | ⟨_ + 4, h⟩ => exact absurd h (Nat.not_lt.2 (Nat.le_add_left _ _))

theorem off1 {b : DevRef τ sig} (h : b ≠ Proc.devRef .tc main_v0 ∧ b ≠ Proc.devRef .tc main_arg4 ∧ b ≠ Proc.devRef .tc main_arg5 ∧ b ≠ Proc.devRef .tc main_v1) :
    b ∉ arrRefs (pcfgs (F := F) 1).spec := by
  intro hb
  obtain ⟨r, hr, rfl⟩ := Finset.mem_map.mp hb
  obtain ⟨w, -, rfl⟩ := Finset.mem_image.mp hr
  match w with
  | ⟨0, _⟩ => exact h.1 rfl
  | ⟨1, _⟩ => exact h.2.1 rfl
  | ⟨2, _⟩ => exact h.2.2.1 rfl
  | ⟨3, _⟩ => exact h.2.2.2 rfl
  | ⟨_ + 4, h⟩ => exact absurd h (Nat.not_lt.2 (Nat.le_add_left _ _))

/-- From what the relational data of the first call says of its arrays. -/
theorem after0_of (c : Dev nD) (V : Valuation τ sig (Elt F))
    (hA : ∀ w, (rds m hfit (mem0 m) 0 c).ArrAt w (pin pcfgs (adm m hfit) 0).N (V (Proc.devRef .tc (arrRef (pin pcfgs (adm m hfit) 0).spec w))))
    (hV : ∀ b, b ∉ arrRefs (pcfgs (F := F) 0).spec → V b = mem0 m c b) : After0 m c V := by
  have hin (w : Fin (pin pcfgs (adm m hfit) 0).W) (h : ((pin pcfgs (adm m hfit) 0).win w).isOut = false) :
      V (Proc.devRef .tc (arrRef (pin pcfgs (adm m hfit) 0).spec w)) = mem0 m c (Proc.devRef .tc (arrRef (pin pcfgs (adm m hfit) 0).spec w)) :=
    (congrFun (RDat.ArrAt_in (rd0 (adm m hfit) (mem0 m) c) w h _) _).mp (hA w)
  exact ⟨⟨hV _ (off0 (by decide)), hin 0 rfl, hin 1 rfl, hin 2 rfl, hV _ (off0 (by decide)), hV _ (off0 (by decide))⟩,
    fun e i he hi => result0 (a := adm m hfit) hfit (mem0 m) c _ (hA 3) e i he hi⟩

/-- From what the relational data of the second call says of its arrays. -/
theorem after1_of (c : Dev nD) (V1 : Ok1 m) (h0 : After0 m c (V1.1 c)) (V : Valuation τ sig (Elt F))
    (hA : ∀ w, (rds m hfit V1.1 1 c).ArrAt w (pin pcfgs (adm m hfit) 1).N (V (Proc.devRef .tc (arrRef (pin pcfgs (adm m hfit) 1).spec w))))
    (hV : ∀ b, b ∉ arrRefs (pcfgs (F := F) 1).spec → V b = V1.1 c b) : After1 m c V := by
  have hin (w : Fin (pin pcfgs (adm m hfit) 1).W) (h : ((pin pcfgs (adm m hfit) 1).win w).isOut = false) :
      V (Proc.devRef .tc (arrRef (pin pcfgs (adm m hfit) 1).spec w)) = V1.1 c (Proc.devRef .tc (arrRef (pin pcfgs (adm m hfit) 1).spec w)) :=
    (congrFun (RDat.ArrAt_in (rd1 (adm m hfit) V1.1 c) w h _) _).mp (hA w)
  obtain ⟨⟨k0, k1, k2, k3, k4, k5⟩, h0⟩ := h0
  refine ⟨⟨(hV _ (off1 (by decide))).trans k0, (hV _ (off1 (by decide))).trans k1, (hV _ (off1 (by decide))).trans k2, (hV _ (off1 (by decide))).trans k3,
    (hin 1 rfl).trans k4, (hin 2 rfl).trans k5⟩, fun e i he hi => ?_⟩
  refine (result1 (a := adm m hfit) hfit V1.1 c _ (hA 3) e i he hi).trans ?_
  have h0 := h0 e i he hi
  unfold tileY tileOut
  rw [k4, k5]
  exact congrArg (fun X => k1_pay1 X _ _) h0

/-- The two calls as segments of the run. -/
def segs : List (CSeg pcfgs (adm m hfit) (defs₀ (F := F)) Variants.none lvSet lvOf noLoops (tickets m hfit)) :=
  [CSeg.regionAtR pcfgs (adm m hfit) () (cellOf_inj (adm m hfit)) defs₀ Variants.none lvSet lvOf noLoops (tickets m hfit) 0 (rds m hfit (mem0 m)) (reg0 m hfit),
   CSeg.regionFR pcfgs (adm m hfit) () (cellOf_inj (adm m hfit)) defs₀ Variants.none lvSet lvOf noLoops (tickets m hfit) 1 (fun V : Ok1 m => rds m hfit V.1) (reg1 m hfit)
     (fun V c => After0 m c (V.1 c))]

/-- The state the run starts from, and the one it ends in. -/
def start (c : Dev nD) : sProp 𝕄 :=
  iprop(StableHlo.held (c.tc : Thread nD τ) (Pipeline.ucRefs τ sig) (mem0 m c) ∗ emp ∗ ∃ W, owes (c : Thread nD τ) 0 W)
def finish (c : Dev nD) : sProp 𝕄 :=
  iprop(∃ V : Valuation τ sig (Elt F), ⌜After1 m c V⌝ ∗ StableHlo.held (c.tc : Thread nD τ) (Pipeline.ucRefs τ sig) V)

/-- The first call's end is a possible entry of the second. -/
theorem link01 (c : Dev nD) : (reg0 m hfit).post c ⊢ (iprop(∃ V : Ok1 m, ⌜After0 m c (V.1 c)⌝ ∗ (reg1 m hfit V).pre c) : sProp 𝕄) := by
  have e : (reg0 m hfit).post c = iprop(∃ V' : Valuation τ sig (Elt F), ⌜(∀ w, (rds m hfit (mem0 m) 0 c).ArrAt w (pin pcfgs (adm m hfit) 0).N (V' (Proc.devRef .tc (arrRef (pin pcfgs (adm m hfit) 0).spec w))))
      ∧ ∀ b, b ∉ arrRefs (pcfgs (F := F) 0).spec → V' b = mem0 m c b⌝
    ∗ StableHlo.held (c.tc : Thread nD τ) (ucRefs τ sig) V' ∗ emp ∗ ∃ W, owes (c : Thread nD τ) 0 W) := rfl
  rw [e]
  iintro ⟨%V, %hV, Hh, HR, HO⟩
  have h0 : After0 m c V := after0_of m hfit c V hV.1 hV.2
  have hT : ∀ c' : Dev nD, V main_arg0 = tableOf m := fun c' => h0.1.1.trans (by rw [show c = (0 : Dev nD) from Subsingleton.elim _ _]; rfl)
  iexists ⟨fun _ => V, hT⟩
  isplitr; · ipureintro; exact h0
  rw [show (reg1 m hfit ⟨fun _ => V, hT⟩).pre c = iprop(StableHlo.held (c.tc : Thread nD τ) (ucRefs τ sig) V ∗ emp ∗ ∃ W, owes (c : Thread nD τ) 0 W) from rfl]
  isplitl [Hh]; · iexact Hh
  isplitl [HR]; · iexact HR
  iexact HO

/-- The second call's end is the run's. -/
theorem link1 (c : Dev nD) : (iprop(∃ V : Ok1 m, ⌜After0 m c (V.1 c)⌝ ∗ (reg1 m hfit V).post c) : sProp 𝕄)
    ⊢ iprop(finish m c ∗ ∃ W, owes (c.tc : Thread nD τ) (0 : CellTallies nD τ sig Unit) W) := by
  have e (V : Ok1 m) : (reg1 m hfit V).post c = iprop(∃ V' : Valuation τ sig (Elt F), ⌜(∀ w, (rds m hfit V.1 1 c).ArrAt w (pin pcfgs (adm m hfit) 1).N (V' (Proc.devRef .tc (arrRef (pin pcfgs (adm m hfit) 1).spec w))))
      ∧ ∀ b, b ∉ arrRefs (pcfgs (F := F) 1).spec → V' b = V.1 c b⌝
    ∗ StableHlo.held (c.tc : Thread nD τ) (ucRefs τ sig) V' ∗ emp ∗ ∃ W, owes (c : Thread nD τ) 0 W) := rfl
  simp only [e]
  iintro ⟨%V1, %h0, %V, %hV, Hh, -, HO⟩
  have h1 : After1 m c V := after1_of m hfit c V1 h0 V hV.1 hV.2
  isplitl [Hh]
  · unfold finish; iexists V; isplitr; · ipureintro; exact h1
    iexact Hh
  iexact HO

/-- The launch memory is the run's start. -/
theorem start_of (g : Dev nD → PrngReg) (c : Dev nD) :
    iprop(unscopedBufs c (fun b => m ((c.tc : Thread nD τ).loc b)) ∗ unscopedSems0 c ∗ owes (c.tc : Thread nD τ) (0 : CellTallies nD τ sig Unit) ∅
      ∗ Pipeline.launchCred (fun _ => (0 : CellTallies nD τ sig Unit)) c ∗ prngReg c (g c) ∗ emp) ⊢ (start m c : sProp 𝕄) := by
  rw [show unscopedBufs c (fun b => m ((c : Thread nD τ).loc b)) = StableHlo.held (c : Thread nD τ) (Pipeline.ucRefs τ sig) (mem0 m c) from Pipeline.unscopedBufs_held c (mem0 m c)]
  iintro ⟨Hh, -, HO, -⟩
  unfold start
  isplitl [Hh]; · iexact Hh
  isplitr; · iempintro
  iexists ∅; iexact HO

/-- At the end the memory is as the last call left it. -/
theorem finish_read (c : Dev nD) (s' : Phys nD τ sig (Elt F)) :
    (iprop(finish m c ∗ SI s') : sProp 𝕄) ⊢ |={Set.univ}=> iprop(⌜After1 m c (mem0 s'.mem.mem c)⌝ ∗ SI s') := by
  unfold finish StableHlo.held
  iintro ⟨⟨%V, %h1, Hh⟩, HSI⟩
  ihave Hr := (pointsTo_read_all (Pipeline.ucRefs τ sig) (fun b => ((c : Thread nD τ).1, b)) V s') $$ [Hh HSI]
  · isplitl [Hh] <;> iassumption
  icases Hr with ⟨%h, HSI⟩
  imodintro
  isplitr
  · ipureintro
    have hr (r : Ref sig .tc) (hu : r.isScoped = false) : mem0 s'.mem.mem c (Proc.devRef .tc r) = V (Proc.devRef .tc r) :=
      h (Proc.devRef .tc r) (Finset.mem_filter.mpr ⟨StableHlo.devRef_mem_tcRefs r, by simpa using hu⟩)
    obtain ⟨⟨k0, k1, k2, k3, k4, k5⟩, hv⟩ := h1
    refine ⟨⟨(hr _ rfl).trans k0, (hr _ rfl).trans k1, (hr _ rfl).trans k2, (hr _ rfl).trans k3, (hr _ rfl).trans k4, (hr _ rfl).trans k5⟩, fun e i he hi => ?_⟩
    rw [hr main_v1 rfl]; exact hv e i he hi
  iexact HSI

/-- The two calls in turn, over the labels of a program with no loop. -/
abbrev calls : Prog (TpuEff nD τ sig (Elt F) (HostLoop.Sig (Pipeline.Sig Λ₀ (Fin 2) fun p => (pcfgs (F := F) p).Adm) 0) .tc) PUnit :=
  Pipeline.chain [Prog.lift (.customCall (HostLoop.inner (Pipeline.entry 0)) ()), Prog.lift (.customCall (HostLoop.inner (Pipeline.entry 1)) ())]

include hfit in
/-- The run, over the labels of a program with no loop. -/
theorem run_calls (g : Dev nD → PrngReg) :
    θ_run (HostLoop.defs noLoops (Pipeline.defs pcfgs (defs₀ (F := F)))) (onTc (τ := τ) fun _ => calls) ⟨m, fun _ => 0, g⟩
      (fun r => (∀ c, After1 m c (mem0 r.2.mem c)) ∧ r.2.sem = fun _ => 0) :=
  Pipeline.θ_run_regions_loop_kit_sems pcfgs (adm m hfit) (cellOf_inj (adm m hfit)) defs₀ Variants.none lvSet lvOf noLoops (tickets m hfit) m g (fun _ => calls) (segs m hfit)
    (fun c Q => .rfl)
    (by unfold segs; refine List.Pairwise.cons (fun s hs => ?_) (List.pairwise_singleton _ _)
        rw [List.mem_singleton] at hs; subst hs
        show Disjoint ({0} : Finset (Fin 2)) {1}; decide)
    (O₀ := fun _ => 0) (hL := fun _ _ => rfl) (G := fun _ => iprop(emp))
    (u₀ := (fun _ => initOf (cells (pin pcfgs (adm m hfit)) (cellOf_inj (adm m hfit))) (launchToks (pin pcfgs (adm m hfit)) (cellOf_inj (adm m hfit))), 1))
    (hu₀ := by
      iintro Hu
      ihave H := (ownU_pair _ _) $$ Hu
      icases H with ⟨HX, -⟩
      imodintro
      isplitl
      · iapply (own_iprod _); iexact HX
      · iapply (show iprop(emp) ⊢ (bigSep Finset.univ fun _ : Dev nD => (iprop(emp) : sProp 𝕄)) from Entails.of_eq (bigSep_emp_const _).symm); iempintro)
    (T₀ := start m) (Tₙ := finish m)
    (hch := ⟨fun _ => .rfl, link01 m hfit, link1 m hfit⟩)
    (hinit := by
      iintro ⟨H, -⟩
      imodintro
      iapply (show _ ⊢ bigSep Finset.univ (start m) from bigSep_mono fun c _ => start_of m g c)
      iexact H)
    (QY := fun c s => After1 m c (mem0 s.mem c))
    (hfin := finish_read m)
    (hQ := fun s h hz => ⟨h, funext fun g => hz g (.inr (regions_no_unscoped g.2))⟩)

end Cert.Moe

end
-- ==== Proof.Runs.lean ====
/- The run of the whole program, at its own labels, for both printings of it. -/
module

public import proofs.«01_k».proof.Proof.RunAll
public import proofs.«01_k».proof.Proof.Gen.Kernel
public import proofs.«01_k».proof.Proof.Gen.KernelIdeal.Launch

@[expose] public section

set_option maxRecDepth 16384

noncomputable section

namespace Cert.Moe

open Idealize.ShloMosaic Idealize.SL.Sem

variable {F : FTy → Type} [FloatOps F]

/-- The program over the labels of one with no loop is the two calls. -/
theorem lifted_main (d : Dev Cert.KernelIdeal.nD) : HostLoop.liftProg (L := 0) (Cert.KernelIdeal.main (F := F) d) = calls := by
  rw [Cert.KernelIdeal.Gen.main_chain, HostLoop.liftProg_chain]
  simp only [List.map_cons, List.map_nil]
  rfl

/-- From an admissible table of tiles the program ends, its arguments unchanged, its counters at zero, and every tile an expert owns
    at that expert's values. -/
theorem run_ideal (m : (ℓ : Loc Cert.KernelIdeal.nD Cert.KernelIdeal.τ Cert.KernelIdeal.sig) → Buf (Elt F) ℓ) (hfit : Fit (tableOf m))
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c, After1 m c (mem0 r.2.mem c)) ∧ r.2.sem = fun _ => 0) := by
  refine HostLoop.θ_run_of_lift noLoops _ _ _ _ ?_
  have h := run_calls m hfit g
  simp only [lifted_main]
  exact h

/-- The two calls in turn, over any two configurations of them. -/
def twoCalls (pc : Fin 2 → Pipeline.PCfg Cert.KernelIdeal.sig Cert.KernelIdeal.Λ₀ (Elt F)) :
    Prog (TpuEff Cert.KernelIdeal.nD Cert.KernelIdeal.τ Cert.KernelIdeal.sig (Elt F) (Pipeline.Sig Cert.KernelIdeal.Λ₀ (Fin 2) fun p => (pc p).Adm) .tc) PUnit := do
  Prog.lift (.customCall (Pipeline.entry 0) ())
  Prog.lift (.customCall (Pipeline.entry 1) ())
  pure ⟨⟩

/-- A run's end, told of one pair of configurations and bodies, holds of any pair equal to it. -/
theorem run_of_eq {pc pc' : Fin 2 → Pipeline.PCfg Cert.KernelIdeal.sig Cert.KernelIdeal.Λ₀ (Elt F)}
    {d d' : Defs Cert.KernelIdeal.nD Cert.KernelIdeal.τ Cert.KernelIdeal.sig (Elt F) Cert.KernelIdeal.Λ₀} (hp : pc = pc') (hd : d = d')
    {s : MemSt Cert.KernelIdeal.nD Cert.KernelIdeal.τ Cert.KernelIdeal.sig (Elt F)}
    {Q : PUnit × MemSt Cert.KernelIdeal.nD Cert.KernelIdeal.τ Cert.KernelIdeal.sig (Elt F) → Prop}
    (h : θ_run (Pipeline.defs pc' d') (onTc fun _ => twoCalls pc') s Q) : θ_run (Pipeline.defs pc d) (onTc fun _ => twoCalls pc) s Q := by
  subst hp hd; exact h

set_option maxHeartbeats 4000000 in
/-- The two printings define the same labels. -/
theorem same_defs₀ : @Cert.Kernel.defs₀ F _ _ = @Cert.KernelIdeal.defs₀ F _ _ := by
  unfold Cert.Kernel.defs₀ Cert.KernelIdeal.defs₀
  congr 1
  funext l x
  match l, x with
  | 0, (t, s) => rfl
  | 1, (t, s) => rfl

/-- And the same configurations. -/
theorem same_pcfgs : @Cert.Kernel.pcfgs F _ _ = @Cert.KernelIdeal.pcfgs F _ _ := rfl

/-- The same of the kernel as first printed. -/
theorem run_first (m : (ℓ : Loc Cert.Kernel.nD Cert.Kernel.τ Cert.Kernel.sig) → Buf (Elt F) ℓ) (hfit : Fit (tableOf m))
    (g : Dev Cert.Kernel.nD → PrngReg) :
    θ_run (Cert.Kernel.defs (F := F)) (onTc (τ := Cert.Kernel.τ) (Cert.Kernel.main (F := F))) ⟨m, fun _ => 0, g⟩
      (fun r => (∀ c, After1 m c (mem0 r.2.mem c)) ∧ r.2.sem = fun _ => 0) :=
  run_of_eq same_pcfgs same_defs₀ (run_ideal m hfit g)

end Cert.Moe

end
-- ==== Proof.Cell.lean ====
/- One entry of the experts' result, in extended real arithmetic. -/
module

public import Idealize.ShloMosaic.Lib.Pipeline.Value
public import Idealize.ShloMosaic.Lib.IdealHost
public import Idealize.ShloMosaic.Lib.MatmulPlain
public import Idealize.ShloMosaic.Lib.StackMember

@[expose] public section

noncomputable section

namespace Cert.Moe

open Idealize.ShloMosaic
open scoped BigOperators

/-- The activation of a gate's value: times its logistic, cut at minus seven and seven. -/
def actOf (g : EReal) : EReal := min (Ideal.ofBits .f32 0x40E00000#32) (max (Ideal.ofBits .f32 0xC0E00000#32) (g * Ideal.logistic g))

/-- One entry of the result: of the row `x`, the gate weights `g`, the up weights `u`, the column `d` of the down weights and the
    row's weight `w`. -/
def cell (x : Fin 1024 → EReal) (g u : Fin 1024 → Fin 2880 → EReal) (d : Fin 2880 → EReal) (w : EReal) : EReal :=
  (∑ j : Fin 2880, actOf (∑ k : Fin 1024, x k * g k j) * (∑ k : Fin 1024, x k * u k j) * d j) * w

end Cert.Moe

end
-- ==== Proof.Values.lean ====
/- The tile values the two calls leave, read at an entry. -/
module

public import proofs.«01_k».proof.Proof.RunAll
public import proofs.«01_k».proof.Proof.Cell

@[expose] public section

noncomputable section

namespace Cert.Moe

open Cert.KernelIdeal Cert.KernelIdeal.Gen
open Idealize.ShloMosaic Idealize.ShloMosaic.TcCoe Idealize.ShloMosaic.ValueIdx
open scoped BigOperators

/-- A slab with its unit axis dropped, read at row `k` and column `j`. -/
theorem slab_apply {m n : ℕ} (v : (⟨3, ![1, m, n]⟩ : Shape).Idx → EReal) (h : (⟨3, ![1, m, n]⟩ : Shape).ShapeCasts ⟨2, ![m, n]⟩) (k : Fin m) (j : Fin n) :
    shapeCast ⟨2, ![m, n]⟩ v h (ix2 k j) = v (ix3 ⟨0, Nat.one_pos⟩ k j) := by
  refine (shapeCast_dropUnit_apply ![m, n] v h (ix2 k j)).trans (congrArg v (funext fun a => ?_))
  match a with
  | ⟨0, _⟩ => rfl
  | ⟨1, _⟩ => rfl
  | ⟨2, _⟩ => rfl

/-- A product into the zero accumulator, read at row `r` and column `c`. -/
theorem product_apply {M K N : ℕ} {φ : FTy} (l : FVec Ideal ⟨2, ![M, K]⟩ φ) (w : FVec Ideal ⟨2, ![K, N]⟩ .f32) (r : Fin M) (c : Fin N) :
    matmul (DotDims.plain M K N) none l w (constant ⟨2, ![M, N]⟩ .f32 0x00000000#32) (ix2 r c) = ∑ k : Fin K, l (ix2 r k) * w (ix2 k c) := by
  refine (Ideal.matmul_plain_apply none l w _ r c).trans ?_
  show Ideal.ofBits .f32 0x00000000#32 + _ = _
  rw [Ideal.ofBits_zero_f32, zero_add]

/-- The gate-and-up call's value for a tile, at row `y` and column `j`. -/
theorem tile_gate_apply (x : S128x1024.Idx → EReal) (g u : S1x1024x2880.Idx → EReal) (y : Fin 128) (j : Fin 2880) :
    k0_pay1 (F := Ideal) x g u (ix2 y j) = actOf (∑ k : Fin 1024, x (ix2 y k) * g (ix3 ⟨0, Nat.one_pos⟩ k j))
      * ∑ k : Fin 1024, x (ix2 y k) * u (ix3 ⟨0, Nat.one_pos⟩ k j) := by
  have h : ∀ w : S1x1024x2880.Idx → EReal,
      matmul (F := Ideal) (φ₁ := .f32) (φ₂ := .f32) dot_S128x1024_S1024x2880_S128x2880_1_0_0_1_n_n none x
        (shapeCast S1024x2880 w shapeCasts_S1x1024x2880_S1024x2880) (constant S128x2880 .f32 0x00000000#32) (ix2 y j)
      = ∑ k : Fin 1024, x (ix2 y k) * w (ix3 ⟨0, Nat.one_pos⟩ k j) := fun w =>
    (product_apply (φ := .f32) x _ y j).trans (Finset.sum_congr rfl fun k _ => congrArg (x (ix2 y k) * ·) (slab_apply w _ k j))
  rw [← h g, ← h u]
  rfl

/-- The down call's value for a tile, at row `y` and column `c`. -/
theorem tile_down_apply (v : S128x2880.Idx → EReal) (d : S1x2880x1024.Idx → EReal) (w : S128x1.Idx → EReal) (y : Fin 128) (c : Fin 1024) :
    k1_pay1 (F := Ideal) v d w (ix2 y c) = (∑ j : Fin 2880, v (ix2 y j) * d (ix3 ⟨0, Nat.one_pos⟩ j c)) * w (ix2 y ⟨0, Nat.one_pos⟩) := by
  have h : matmul (F := Ideal) (φ₁ := .f32) (φ₂ := .f32) dot_S128x2880_S2880x1024_S128x1024_1_0_0_1_n_n none v
        (shapeCast S2880x1024 d shapeCasts_S1x2880x1024_S2880x1024) (constant S128x1024 .f32 0x00000000#32) (ix2 y c)
      = ∑ j : Fin 2880, v (ix2 y j) * d (ix3 ⟨0, Nat.one_pos⟩ j c) :=
    (product_apply (φ := .f32) v _ y c).trans (Finset.sum_congr rfl fun k _ => congrArg (v (ix2 y k) * ·) (slab_apply d _ k c))
  have hw : broadcastTo S128x1024 w broadcasts_S128x1_S128x1024 (ix2 y c) = w (ix2 y ⟨0, Nat.one_pos⟩) :=
    broadcastTo_apply w _ (ix2 y c) (ix2 y ⟨0, Nat.one_pos⟩) fun a => match a with
      | ⟨0, _⟩ => by show y.val = if (128 : Nat) = 1 then 0 else _; rw [if_neg (by decide)]; rfl
      | ⟨1, _⟩ => by show 0 = if (1 : Nat) = 1 then 0 else _; rw [if_pos rfl]
  rw [← h, ← hw]
  unfold k1_pay1
  simp only [shapeCast_self]
  rfl

variable (m : (ℓ : Loc nD τ sig) → Buf (Elt Ideal) ℓ)

/-- Row `r` of tile `j = r / 128` of what the calls leave is the plain mathematics of row `r` with expert `e`'s weights. -/
theorem tileOut_apply (c : Dev nD) {e : ℕ} (he : e < 8) (r : Fin 5120) (q : Fin 1024) :
    tileOut m c e (r.val / 128) (ix2 ⟨r.val % 128, Nat.mod_lt _ (by decide)⟩ q)
      = cell (fun k => mem0 m c main_arg1 (ix2 r k)) (fun k j => mem0 m c main_arg2 (ix3 ⟨e, he⟩ k j))
          (fun k j => mem0 m c main_arg3 (ix3 ⟨e, he⟩ k j)) (fun j => mem0 m c main_arg4 (ix3 ⟨e, he⟩ j q))
          (mem0 m c main_arg5 (ix2 r ⟨0, Nat.one_pos⟩)) := by
  have hr : ∀ h : (r.val / 128 * 128 + r.val % 128) % 5120 < 5120, (⟨(r.val / 128 * 128 + r.val % 128) % 5120, h⟩ : Fin 5120) = r := fun _ =>
    Fin.ext (by have := r.isLt; show (r.val / 128 * 128 + r.val % 128) % 5120 = r.val; omega)
  have hE : ∀ h : e % 8 < 8, (⟨e % 8, h⟩ : Fin 8) = ⟨e, he⟩ := fun _ => Fin.ext (Nat.mod_eq_of_lt he)
  unfold tileOut
  refine (tile_down_apply _ _ _ _ q).trans ?_
  unfold cell tileH
  simp only [tile_gate_apply]
  unfold rowsAt slabAt
  simp only [hE, hr]

/-- An array's row is a row of its tile. -/
theorem row_of_tile (A : S5120x1024.Idx → EReal) (r : Fin 5120) (q : Fin 1024) :
    A (ix2 r q) = rowsAt (n := 1024) A (r.val / 128) (ix2 ⟨r.val % 128, Nat.mod_lt _ (by decide)⟩ q) :=
  congrArg (fun z : Fin 5120 => A (ix2 z q)) (Fin.ext (by have := r.isLt; show r.val = (r.val / 128 * 128 + r.val % 128) % 5120; omega))

/-- An entry of what the two calls leave, on a row whose tile is the expert's. -/
theorem entry_apply (c : Dev nD) (V : Valuation τ sig (Elt Ideal)) (h : After1 m c V) {e k : ℕ} (he : e < 8) (hk : k < countOf (tableOf m) e)
    (r : Fin 5120) (q : Fin 1024) (hr : r.val / 128 = startOf (tableOf m) e + k) :
    (V main_v1 : S5120x1024.Idx → EReal) (ix2 r q)
      = cell (fun k => mem0 m c main_arg1 (ix2 r k)) (fun k j => mem0 m c main_arg2 (ix3 ⟨e, he⟩ k j))
          (fun k j => mem0 m c main_arg3 (ix3 ⟨e, he⟩ k j)) (fun j => mem0 m c main_arg4 (ix3 ⟨e, he⟩ j q))
          (mem0 m c main_arg5 (ix2 r ⟨0, Nat.one_pos⟩)) := by
  have h1 := h.2 e k he hk
  rw [← hr] at h1
  exact (row_of_tile _ r q).trans ((congrFun h1 _).trans (tileOut_apply m c he r q))

end Cert.Moe

end
-- ==== Proof.Reference.lean ====
/- The reference's value: each expert's term is one function of that expert's two words of the table and of its three weight
   slabs; a row of a tile the expert owns holds the expert's values, any other row zero. -/
module

public import proofs.«01_k».proof.Proof.Gen.ReferenceIdeal.Read
public import proofs.«01_k».proof.Proof.Tables
public import proofs.«01_k».proof.Proof.Cell
public import Idealize.ShloMosaic.Lib.Decide

@[expose] public section

noncomputable section

namespace Cert.Moe

open Cert.ReferenceIdeal Cert.ReferenceIdeal.Gen Cert.ReferenceIdeal.Read
open Idealize.ShloMosaic Idealize.ShloMosaic.TcCoe

/-- The floor division of a row number by the tile's height, as the reference computes it. -/
def floorDiv (x : BitVec 32) : BitVec 32 :=
  Scalar.select (IntOp.andi (IntOp.cmpi .ne (if x = 0 then 0 else if x.msb then -1 else 1 : BitVec 32) 1#32) (IntOp.cmpi .ne (IntOp.remsi .host x 128#32) 0#32))
    (IntOp.subi (IntOp.divsi .host x 128#32) 1#32) (IntOp.divsi .host x 128#32)

theorem floorDiv_all : ∀ r : Fin 5120, floorDiv (BitVec.ofNat 32 r.val) = BitVec.ofNat 32 (r.val / 128) := by decide +kernel

theorem sign_128 : (if (128#32 : BitVec 32) = 0 then 0 else if (128#32 : BitVec 32).msb then -1 else 1 : BitVec 32) = 1#32 := by decide

/-- The tile of a row. -/
theorem tile_of_row (i : S5120x1.Idx) : val_main_v3 (F := Ideal) i = BitVec.ofNat 32 ((i 0).val / 128) := by
  rw [val_main_v3_apply]
  refine Eq.trans ?_ (floorDiv_all (i 0))
  rw [val_main_v2_apply, val_main_call0_v11_apply, val_main_call0_v13_apply, val_main_call0_v6_apply, val_main_call0_v10_apply, val_main_call0_v5_apply,
    val_main_call0_v2_apply, val_main_call0_v8_apply, val_main_call0_v9_apply, val_main_call0_v12_apply, val_main_call0_v1_apply, val_main_call0_v7_apply]
  unfold floorDiv
  rw [← sign_128]
  rfl

/-- An expert's term of the reference's sum: of its first tile `s`, the number `n` of its tiles, its weights `g`, `u` and `d`, the
    rows `x` and their weights `w`. -/
def term (s n : S_.Idx → BitVec 32) (g u : S1024x2880.Idx → EReal) (d : S2880x1024.Idx → EReal) (x : S5120x1024.Idx → EReal)
    (w : S5120x1.Idx → EReal) : S5120x1024.Idx → EReal :=
  let mask : IVec S5120x1 1 := andi (cmpi .sle (broadcastInDim S5120x1 ![] bcast_S_S5120x1 s) (val_main_v3 (F := Ideal)))
    (cmpi .slt (val_main_v3 (F := Ideal)) (broadcastInDim S5120x1 ![] bcast_S_S5120x1 (addi s n)))
  let xe : FVec Ideal S5120x1024 .f32 := mulf (extf (F := Ideal) (φ := .bf16) .f32 x bitsLt_bf16_f32)
    (broadcastInDim S5120x1024 ![0, 1] bcast_S5120x1_S5120x1024_0_1 (uitofp (F := Ideal) .f32 mask))
  let gate : FVec Ideal S5120x2880 .f32 := Host.dotGeneral dot_S5120x1024_S1024x2880_S5120x2880_1_0_0_1_n_n none xe (φ₂ := .f32) g
  let up : FVec Ideal S5120x2880 .f32 := Host.dotGeneral dot_S5120x1024_S1024x2880_S5120x2880_1_0_0_1_n_n none xe (φ₂ := .f32) u
  let act : FVec Ideal S5120x2880 .f32 := minimumf (val_main_call2_v4 (F := Ideal)) (maximumf (val_main_call2_v1 (F := Ideal))
    (mulf gate (Host.divf (val_main_call1_v4 (F := Ideal)) (addf (val_main_call1_v2 (F := Ideal)) (Host.exp (Host.negf gate))))))
  mulf (F := Ideal) (φ := .f32)
    (Host.dotGeneral dot_S5120x2880_S2880x1024_S5120x1024_1_0_0_1_n_n none (mulf act up) (φ₂ := .f32) d)
    (broadcastInDim S5120x1024 ![0, 1] bcast_S5120x1_S5120x1024_0_1 (select mask w (val_main_call3_v1 (F := Ideal))))

/-- The term of expert `e`, its words and weights read from the table and the three arrays. -/
def slot (e : Fin 8) (x0 : S16.Idx → BitVec 32) (x1 : S5120x1024.Idx → EReal) (x2 x3 : S8x1024x2880.Idx → EReal)
    (x4 : S8x2880x1024.Idx → EReal) (x5 : S5120x1.Idx → EReal) : S5120x1024.Idx → EReal :=
  term (fun _ => wordOf x0 e) (fun _ => wordOf x0 (8 + e)) (fun i => x2 (ValueIdx.ix3 e (i 0) (i 1)))
    (fun i => x3 (ValueIdx.ix3 e (i 0) (i 1))) (fun i => x4 (ValueIdx.ix3 e (i 0) (i 1))) x1 x5

/-- A word sliced from the table. -/
theorem word_slice (x0 : S16.Idx → BitVec 32) (k : ℕ) (hk : k < 16) (h : S16.Slices ![k] S1) (h' : S1.ShapeCasts S_) :
    shapeCast S_ (extractStridedSlice S1 ![k] x0 h) h' = fun _ => wordOf x0 k := by
  funext i
  refine (shapeCast_apply _ h' i (ValueIdx.ix1 ⟨0, Nat.one_pos⟩) ?_).trans ?_
  · have h1 := (S1.rowMajor (ValueIdx.ix1 ⟨0, Nat.one_pos⟩)).isLt
    have h2 := (S_.rowMajor i).isLt
    have e1 : S1.numel = 1 := rfl
    have e2 : S_.numel = 1 := rfl
    omega
  · refine (extractStridedSlice_apply ![k] x0 h _ (ValueIdx.ix1 ⟨k, hk⟩) fun a => match a with | ⟨0, _⟩ => rfl).trans ?_
    unfold wordOf; rw [dif_pos hk]

/-- An expert's slab sliced from an array of eight. -/
theorem slab_slice {m n : ℕ} (A : (⟨3, ![8, m, n]⟩ : Shape).Idx → EReal) (e : Fin 8)
    (h : (⟨3, ![8, m, n]⟩ : Shape).Slices ![e.val, 0, 0] ⟨3, ![1, m, n]⟩) (h' : (⟨3, ![1, m, n]⟩ : Shape).ShapeCasts ⟨2, ![m, n]⟩) :
    shapeCast ⟨2, ![m, n]⟩ (extractStridedSlice ⟨3, ![1, m, n]⟩ ![e.val, 0, 0] A h) h' = fun i => A (ValueIdx.ix3 e (i 0) (i 1)) := by
  funext i
  refine (shapeCast_dropUnit_apply ![m, n] _ h' i).trans ?_
  exact extractStridedSlice_apply ![e.val, 0, 0] A h _ (ValueIdx.ix3 e (i 0) (i 1)) fun a => match a with
    | ⟨0, _⟩ => rfl
    | ⟨1, _⟩ => (Nat.zero_add _).symm
    | ⟨2, _⟩ => (Nat.zero_add _).symm

/-- A term over slices is the expert's. -/
theorem term_slot (e : Fin 8) (x0 : S16.Idx → BitVec 32) (x1 : S5120x1024.Idx → EReal) (x2 x3 : S8x1024x2880.Idx → EReal)
    (x4 : S8x2880x1024.Idx → EReal) (x5 : S5120x1.Idx → EReal) (h1 : S16.Slices ![e.val] S1) (h2 : S16.Slices ![8 + e.val] S1)
    (h3 : S8x1024x2880.Slices ![e.val, 0, 0] S1x1024x2880) (h4 : S8x2880x1024.Slices ![e.val, 0, 0] S1x2880x1024) :
    term (shapeCast S_ (extractStridedSlice S1 ![e.val] x0 h1) shapeCasts_S1_S_)
      (shapeCast S_ (extractStridedSlice S1 ![8 + e.val] x0 h2) shapeCasts_S1_S_)
      (shapeCast S1024x2880 (extractStridedSlice S1x1024x2880 ![e.val, 0, 0] x2 h3) shapeCasts_S1x1024x2880_S1024x2880)
      (shapeCast S1024x2880 (extractStridedSlice S1x1024x2880 ![e.val, 0, 0] x3 h3) shapeCasts_S1x1024x2880_S1024x2880)
      (shapeCast S2880x1024 (extractStridedSlice S1x2880x1024 ![e.val, 0, 0] x4 h4) shapeCasts_S1x2880x1024_S2880x1024) x1 x5
      = slot e x0 x1 x2 x3 x4 x5 := by
  unfold slot
  rw [word_slice x0 e (by omega), word_slice x0 (8 + e) (by omega), slab_slice x2 e, slab_slice x3 e, slab_slice x4 e]

section Terms

variable (x0 : S16.Idx → BitVec 32) (x1 : S5120x1024.Idx → EReal) (x2 x3 : S8x1024x2880.Idx → EReal)
    (x4 : S8x2880x1024.Idx → EReal) (x5 : S5120x1.Idx → EReal)

/-- Term 0 of the sum is expert 0's. -/
theorem term_0 : val_main_v32 (F := Ideal) x0 x1 x2 x3 x4 x5 = slot 0 x0 x1 x2 x3 x4 x5 :=
  term_slot 0 x0 x1 x2 x3 x4 x5 slices_S16_S1_0 slices_S16_S1_8 slices_S8x1024x2880_S1x1024x2880_0_0_0 slices_S8x2880x1024_S1x2880x1024_0_0_0

/-- Term 1 of the sum is expert 1's. -/
theorem term_1 : val_main_v61 (F := Ideal) x0 x1 x2 x3 x4 x5 = slot 1 x0 x1 x2 x3 x4 x5 :=
  term_slot 1 x0 x1 x2 x3 x4 x5 slices_S16_S1_1 slices_S16_S1_9 slices_S8x1024x2880_S1x1024x2880_1_0_0 slices_S8x2880x1024_S1x2880x1024_1_0_0

/-- Term 2 of the sum is expert 2's. -/
theorem term_2 : val_main_v90 (F := Ideal) x0 x1 x2 x3 x4 x5 = slot 2 x0 x1 x2 x3 x4 x5 :=
  term_slot 2 x0 x1 x2 x3 x4 x5 slices_S16_S1_2 slices_S16_S1_10 slices_S8x1024x2880_S1x1024x2880_2_0_0 slices_S8x2880x1024_S1x2880x1024_2_0_0

/-- Term 3 of the sum is expert 3's. -/
theorem term_3 : val_main_v119 (F := Ideal) x0 x1 x2 x3 x4 x5 = slot 3 x0 x1 x2 x3 x4 x5 :=
  term_slot 3 x0 x1 x2 x3 x4 x5 slices_S16_S1_3 slices_S16_S1_11 slices_S8x1024x2880_S1x1024x2880_3_0_0 slices_S8x2880x1024_S1x2880x1024_3_0_0

/-- Term 4 of the sum is expert 4's. -/
theorem term_4 : val_main_v148 (F := Ideal) x0 x1 x2 x3 x4 x5 = slot 4 x0 x1 x2 x3 x4 x5 :=
  term_slot 4 x0 x1 x2 x3 x4 x5 slices_S16_S1_4 slices_S16_S1_12 slices_S8x1024x2880_S1x1024x2880_4_0_0 slices_S8x2880x1024_S1x2880x1024_4_0_0

/-- Term 5 of the sum is expert 5's. -/
theorem term_5 : val_main_v177 (F := Ideal) x0 x1 x2 x3 x4 x5 = slot 5 x0 x1 x2 x3 x4 x5 :=
  term_slot 5 x0 x1 x2 x3 x4 x5 slices_S16_S1_5 slices_S16_S1_13 slices_S8x1024x2880_S1x1024x2880_5_0_0 slices_S8x2880x1024_S1x2880x1024_5_0_0

/-- Term 6 of the sum is expert 6's. -/
theorem term_6 : val_main_v206 (F := Ideal) x0 x1 x2 x3 x4 x5 = slot 6 x0 x1 x2 x3 x4 x5 :=
  term_slot 6 x0 x1 x2 x3 x4 x5 slices_S16_S1_6 slices_S16_S1_14 slices_S8x1024x2880_S1x1024x2880_6_0_0 slices_S8x2880x1024_S1x2880x1024_6_0_0

/-- Term 7 of the sum is expert 7's. -/
theorem term_7 : val_main_v235 (F := Ideal) x0 x1 x2 x3 x4 x5 = slot 7 x0 x1 x2 x3 x4 x5 :=
  term_slot 7 x0 x1 x2 x3 x4 x5 slices_S16_S1_7 slices_S16_S1_15 slices_S8x1024x2880_S1x1024x2880_7_0_0 slices_S8x2880x1024_S1x2880x1024_7_0_0

/-- The reference's value is the sum of the eight terms, from zero. -/
theorem value_terms : val_main_v236 (F := Ideal) x0 x1 x2 x3 x4 x5 = fun i =>
    ((((((((0 + slot 0 x0 x1 x2 x3 x4 x5 i) + slot 1 x0 x1 x2 x3 x4 x5 i) + slot 2 x0 x1 x2 x3 x4 x5 i) + slot 3 x0 x1 x2 x3 x4 x5 i)
      + slot 4 x0 x1 x2 x3 x4 x5 i) + slot 5 x0 x1 x2 x3 x4 x5 i) + slot 6 x0 x1 x2 x3 x4 x5 i) + slot 7 x0 x1 x2 x3 x4 x5 i) := by
  funext i
  rw [← term_0, ← term_1, ← term_2, ← term_3, ← term_4, ← term_5, ← term_6, ← term_7, ← Ideal.ofBits_zero_f32]
  rfl

end Terms

/-- The mask of an expert's rows: the row's tile is not below the expert's first, and below the one past its last. -/
theorem mask_bit {s n : BitVec 32} (hs : s.toNat ≤ 39) (hn : n.toNat ≤ 39) {j : ℕ} (hj : j < 40) :
    IntOp.andi (IntOp.cmpi .sle s (BitVec.ofNat 32 j)) (IntOp.cmpi .slt (BitVec.ofNat 32 j) (IntOp.addi s n))
      = if s.toNat ≤ j ∧ j < s.toNat + n.toNat then 1#1 else 0#1 := by
  have t1 : (BitVec.ofNat 32 j).toNat = j := by rw [BitVec.toNat_ofNat]; omega
  have t2 : (s + n).toNat = s.toNat + n.toNat := by rw [BitVec.toNat_add]; omega
  have i1 := BitVec.toInt_eq_toNat_of_lt (x := s) (by omega)
  have i2 := BitVec.toInt_eq_toNat_of_lt (x := BitVec.ofNat 32 j) (by omega)
  have i3 := BitVec.toInt_eq_toNat_of_lt (x := s + n) (by omega)
  show BitVec.ofBool (decide (s.toInt ≤ (BitVec.ofNat 32 j).toInt)) &&& BitVec.ofBool (decide ((BitVec.ofNat 32 j).toInt < (s + n).toInt)) = _
  rw [i1, i2, i3, t1, t2]
  by_cases h1 : s.toNat ≤ j <;> by_cases h2 : j < s.toNat + n.toNat
  · rw [if_pos ⟨h1, h2⟩, decide_eq_true (by omega), decide_eq_true (by omega)]; rfl
  · rw [if_neg (fun h => h2 h.2), decide_eq_true (by omega), decide_eq_false (by omega)]; rfl
  · rw [if_neg (fun h => h1 h.1), decide_eq_false (by omega), decide_eq_true (by omega)]; rfl
  · rw [if_neg (fun h => h1 h.1), decide_eq_false (by omega), decide_eq_false (by omega)]; rfl

/-- An array of one column, copied over the columns, read at an index. -/
theorem columns_apply {α : Type} (y : S5120x1.Idx → α) (r : Fin 5120) (c : Fin 1024) :
    broadcastInDim S5120x1024 ![0, 1] bcast_S5120x1_S5120x1024_0_1 y (ValueIdx.ix2 r c) = y (ValueIdx.ix2 r ⟨0, Nat.one_pos⟩) :=
  broadcastInDim_apply _ bcast_S5120x1_S5120x1024_0_1 y _ _ fun a => match a with
    | ⟨0, _⟩ => by show r.val = if (5120 : Nat) = 1 then 0 else r.val; rw [if_neg (by decide)]
    | ⟨1, _⟩ => by show 0 = if (1 : Nat) = 1 then 0 else c.val; rw [if_pos rfl]

/-- A term read at row `r` and column `c`: the expert's values where the row's tile is the expert's, zero elsewhere. -/
theorem term_apply {s n : BitVec 32} (hs : s.toNat ≤ 39) (hn : n.toNat ≤ 39) (g u : S1024x2880.Idx → EReal) (d : S2880x1024.Idx → EReal)
    (x : S5120x1024.Idx → EReal) (w : S5120x1.Idx → EReal) (r : Fin 5120) (c : Fin 1024) :
    term (fun _ => s) (fun _ => n) g u d x w (ValueIdx.ix2 r c)
      = if s.toNat ≤ r.val / 128 ∧ r.val / 128 < s.toNat + n.toNat then
          cell (fun k => x (ValueIdx.ix2 r k)) (fun k j => g (ValueIdx.ix2 k j)) (fun k j => u (ValueIdx.ix2 k j))
            (fun j => d (ValueIdx.ix2 j c)) (w (ValueIdx.ix2 r ⟨0, Nat.one_pos⟩)) else 0 := by
  have hm : andi (cmpi .sle (broadcastInDim S5120x1 ![] bcast_S_S5120x1 (fun _ : S_.Idx => s)) (val_main_v3 (F := Ideal)))
      (cmpi .slt (val_main_v3 (F := Ideal)) (broadcastInDim S5120x1 ![] bcast_S_S5120x1 (addi (fun _ : S_.Idx => s) (fun _ => n))))
      (ValueIdx.ix2 r ⟨0, Nat.one_pos⟩) = if s.toNat ≤ r.val / 128 ∧ r.val / 128 < s.toNat + n.toNat then 1#1 else 0#1 := by
    rw [← mask_bit hs hn (j := r.val / 128) (by omega), ← tile_of_row (ValueIdx.ix2 r ⟨0, Nat.one_pos⟩)]
    rfl
  unfold term
  generalize (andi (cmpi .sle (broadcastInDim S5120x1 ![] bcast_S_S5120x1 (fun _ : S_.Idx => s)) (val_main_v3 (F := Ideal)))
      (cmpi .slt (val_main_v3 (F := Ideal)) (broadcastInDim S5120x1 ![] bcast_S_S5120x1 (addi (fun _ : S_.Idx => s) (fun _ => n))))) = mask at hm
  let xe : FVec Ideal S5120x1024 .f32 := mulf (extf (F := Ideal) (φ := .bf16) .f32 x bitsLt_bf16_f32)
    (broadcastInDim S5120x1024 ![0, 1] bcast_S5120x1_S5120x1024_0_1 (uitofp (F := Ideal) .f32 mask))
  let gate : FVec Ideal S5120x2880 .f32 := Host.dotGeneral dot_S5120x1024_S1024x2880_S5120x2880_1_0_0_1_n_n none xe (φ₂ := .f32) g
  let up : FVec Ideal S5120x2880 .f32 := Host.dotGeneral dot_S5120x1024_S1024x2880_S5120x2880_1_0_0_1_n_n none xe (φ₂ := .f32) u
  let act : FVec Ideal S5120x2880 .f32 := minimumf (val_main_call2_v4 (F := Ideal)) (maximumf (val_main_call2_v1 (F := Ideal))
    (mulf gate (Host.divf (val_main_call1_v4 (F := Ideal)) (addf (val_main_call1_v2 (F := Ideal)) (Host.exp (Host.negf gate))))))
  have e : broadcastInDim S5120x1024 ![0, 1] bcast_S5120x1_S5120x1024_0_1 (select mask w (val_main_call3_v1 (F := Ideal))) (ValueIdx.ix2 r c)
      = Scalar.select (mask (ValueIdx.ix2 r ⟨0, Nat.one_pos⟩)) (w (ValueIdx.ix2 r ⟨0, Nat.one_pos⟩)) 0 := by
    rw [columns_apply, ← Ideal.ofBits_zero_f32]; rfl
  show (Host.dotGeneral (F := Ideal) (φ₁ := .f32) (φ₂ := .f32) dot_S5120x2880_S2880x1024_S5120x1024_1_0_0_1_n_n none (mulf act up) d (ValueIdx.ix2 r c) : EReal)
    * broadcastInDim S5120x1024 ![0, 1] bcast_S5120x1_S5120x1024_0_1 (select mask w (val_main_call3_v1 (F := Ideal))) (ValueIdx.ix2 r c) = _
  rw [e]
  by_cases hc : s.toNat ≤ r.val / 128 ∧ r.val / 128 < s.toNat + n.toNat
  · rw [if_pos hc] at hm ⊢
    rw [hm]
    have hx : ∀ k, xe (ValueIdx.ix2 r k) = x (ValueIdx.ix2 r k) := fun k => by
      show x (ValueIdx.ix2 r k) * broadcastInDim S5120x1024 ![0, 1] bcast_S5120x1_S5120x1024_0_1 (uitofp (F := Ideal) .f32 mask) (ValueIdx.ix2 r k) = _
      rw [columns_apply]
      show x (ValueIdx.ix2 r k) * (((mask (ValueIdx.ix2 r ⟨0, Nat.one_pos⟩)).toNat : ℝ) : EReal) = _
      rw [hm]; simp
    have hg : ∀ j, gate (ValueIdx.ix2 r j) = ∑ k : Fin 1024, x (ValueIdx.ix2 r k) * g (ValueIdx.ix2 k j) := fun j =>
      (StackMember.dotGeneral_plain_apply none xe g r j).trans (Finset.sum_congr rfl fun k _ => by rw [hx])
    have hu : ∀ j, up (ValueIdx.ix2 r j) = ∑ k : Fin 1024, x (ValueIdx.ix2 r k) * u (ValueIdx.ix2 k j) := fun j =>
      (StackMember.dotGeneral_plain_apply none xe u r j).trans (Finset.sum_congr rfl fun k _ => by rw [hx])
    have ha : ∀ j, act (ValueIdx.ix2 r j) = actOf (gate (ValueIdx.ix2 r j)) := fun j => by
      unfold actOf Ideal.logistic
      rw [← Ideal.ofBits_one_f32]
      rfl
    refine congrArg (· * w (ValueIdx.ix2 r ⟨0, Nat.one_pos⟩)) ((StackMember.dotGeneral_plain_apply none (mulf act up) d r c).trans ?_)
    refine Finset.sum_congr rfl fun j _ => ?_
    show act (ValueIdx.ix2 r j) * up (ValueIdx.ix2 r j) * _ = _
    rw [ha, hg, hu]
  · rw [if_neg hc] at hm ⊢
    rw [hm]
    exact mul_zero _

/-- The terms of the sum at a row of a tile below the last held: the owner's alone is not zero. -/
theorem value_apply {x0 : S16.Idx → BitVec 32} (hfit : Fit x0) (x1 : S5120x1024.Idx → EReal) (x2 x3 : S8x1024x2880.Idx → EReal)
    (x4 : S8x2880x1024.Idx → EReal) (x5 : S5120x1.Idx → EReal) (r : Fin 5120) (c : Fin 1024) {e i : ℕ} (he : e < 8)
    (hi : i < countOf x0 e) (hr : r.val / 128 = startOf x0 e + i) :
    val_main_v236 (F := Ideal) x0 x1 x2 x3 x4 x5 (ValueIdx.ix2 r c)
      = cell (fun k => x1 (ValueIdx.ix2 r k)) (fun k j => x2 (ValueIdx.ix3 ⟨e, he⟩ k j)) (fun k j => x3 (ValueIdx.ix3 ⟨e, he⟩ k j))
          (fun j => x4 (ValueIdx.ix3 ⟨e, he⟩ j c)) (x5 (ValueIdx.ix2 r ⟨0, Nat.one_pos⟩)) := by
  have hs : ∀ f : Fin 8, slot f x0 x1 x2 x3 x4 x5 (ValueIdx.ix2 r c)
      = if startOf x0 f ≤ r.val / 128 ∧ r.val / 128 < startOf x0 f + countOf x0 f then
          cell (fun k => x1 (ValueIdx.ix2 r k)) (fun k j => x2 (ValueIdx.ix3 f k j)) (fun k j => x3 (ValueIdx.ix3 f k j))
            (fun j => x4 (ValueIdx.ix3 f j c)) (x5 (ValueIdx.ix2 r ⟨0, Nat.one_pos⟩)) else 0 := fun f =>
    term_apply (start_le hfit f.isLt) (by have := hfit.n_le f f.isLt; have : countOf x0 f = (wordOf x0 (8 + f)).toNat := rfl; omega) _ _ _ _ _ r c
  have hz : ∀ f : Fin 8, f ≠ ⟨e, he⟩ → slot f x0 x1 x2 x3 x4 x5 (ValueIdx.ix2 r c) = 0 := fun f hf => by
    rw [hs f, if_neg]
    rintro ⟨h1, h2⟩
    exact hf (Fin.ext (hfit.owner_unique f.isLt he (i := r.val / 128 - startOf x0 f) (by omega) hi (by omega)).1)
  have ho := hs ⟨e, he⟩
  rw [if_pos (by constructor <;> (show _ ; simp only [hr]; omega))] at ho
  rw [← ho, value_terms]
  have hsum : ∑ f : Fin 8, slot f x0 x1 x2 x3 x4 x5 (ValueIdx.ix2 r c) = slot ⟨e, he⟩ x0 x1 x2 x3 x4 x5 (ValueIdx.ix2 r c) :=
    Finset.sum_eq_single _ (fun f _ hf => hz f hf) (fun h => absurd (Finset.mem_univ _) h)
  rw [← hsum]
  simp only [Fin.sum_univ_eight, zero_add]

end Cert.Moe

end
-- ==== Proof.Mask.lean ====
/- Which rows the claim of values speaks of: those of the tiles below the last the table holds, each owned by one expert. -/
module

public import proofs.«01_k».proof.Proof.Reference
public import proofs.«01_k».proof.On_held_tiles

@[expose] public section

noncomputable section

namespace Cert.Moe

open Cert.ReferenceIdeal Cert.ReferenceIdeal.Gen Cert.ReferenceIdeal.Read
open Idealize.ShloMosaic Idealize.ShloMosaic.TcCoe Idealize.ShloMosaic.ValueIdx

/-- A row the mask selects has an owner: its tile is one of some expert's. -/
theorem owner_of_mask [Cert.On_held_tiles.Facts] {x0 : S16.Idx → BitVec 32} (hfit : Fit x0) (x1 : S5120x1024.Idx → EReal)
    (x2 x3 : S8x1024x2880.Idx → EReal) (x4 : S8x2880x1024.Idx → EReal) (x5 : S5120x1.Idx → EReal) (r : Fin 5120) (c : Fin 1024)
    (h : Cert.On_held_tiles.fn (F := Ideal) x0 x1 x2 x3 x4 x5 (ix2 r c) = 1#1) :
    ∃ e i, e < 8 ∧ i < countOf x0 e ∧ r.val / 128 = startOf x0 e + i := by
  have h1 : IntOp.cmpi .slt (val_main_v3 (F := Ideal) (ix2 r ⟨0, Nat.one_pos⟩)) (IntOp.addi (wordOf x0 7) (wordOf x0 15)) = 1#1 := by
    rw [← h]
    unfold Cert.On_held_tiles.fn
    refine Eq.trans ?_ (columns_apply _ r c).symm
    rw [← congrFun (word_slice x0 7 (by omega) Cert.On_held_tiles.Facts.slices_S16_S1_7 Cert.On_held_tiles.Facts.shapeCasts_S1_S_) ix0,
      ← congrFun (word_slice x0 15 (by omega) Cert.On_held_tiles.Facts.slices_S16_S1_15 Cert.On_held_tiles.Facts.shapeCasts_S1_S_) ix0]
    rfl
  rw [tile_of_row] at h1
  have hs : startOf x0 7 ≤ 39 := start_le hfit (by omega)
  have hn := hfit.n_le 7 (by omega)
  have e1 : startOf x0 7 = (wordOf x0 7).toNat := rfl
  have e2 : countOf x0 7 = (wordOf x0 15).toNat := rfl
  have hr : r.val / 128 < 40 := by have := r.isLt; omega
  have t1 : (BitVec.ofNat 32 (r.val / 128)).toNat = r.val / 128 := by rw [BitVec.toNat_ofNat]; omega
  have t2 : (wordOf x0 7 + wordOf x0 15).toNat = (wordOf x0 7).toNat + (wordOf x0 15).toNat := by rw [BitVec.toNat_add]; omega
  have i2 := BitVec.toInt_eq_toNat_of_lt (x := BitVec.ofNat 32 (r.val / 128)) (by omega)
  have i3 := BitVec.toInt_eq_toNat_of_lt (x := wordOf x0 7 + wordOf x0 15) (by omega)
  have of1 : ∀ b : Bool, BitVec.ofBool b = 1#1 → b = true := by decide
  have h2 : (BitVec.ofNat 32 (r.val / 128)).toInt < (wordOf x0 7 + wordOf x0 15).toInt := of_decide_eq_true (of1 _ h1)
  rw [i2, i3, t1, t2] at h2
  obtain ⟨e, he, i, hi, hj⟩ := hfit.owner (j := r.val / 128) (by omega)
  exact ⟨e, i, he, hi, hj⟩

end Cert.Moe

end
-- ==== Proof.RouterOut.lean ====
/- What the router's body leaves in its three result blocks, over the blocks of its two arguments. -/
module

public import proofs.«01_k».proof.Proof.Gen.Kernel2Ideal.Value
public import Idealize.ShloMosaic.Lib.Pipeline.ValueKit.Tiles
public import Idealize.ShloMosaic.Lib.Pipeline.CanonAppend
public import Idealize.ShloMosaic.Lib.ValueIdx

@[expose] public section

set_option maxRecDepth 16384

noncomputable section

namespace Cert.Router

open Cert.Kernel2Ideal Cert.Kernel2Ideal.Gen
open Idealize.ShloMosaic Idealize.ShloMosaic.ValueIdx Idealize.ShloMosaic.TcCoe Idealize.ShloMosaic.Tactic

variable {F : FTy → Type} [FloatOps F]

section Out
variable (c : Dev nD) (arg0 : Memref sig .tc .vmem S2048x1024 .f32) (harg0 : arg0.IsWhole) (arg1 : Memref sig .tc .vmem S1024x8 .f32)
  (harg1 : arg1.IsWhole) (arg2 : Memref sig .tc .vmem S2048x2 .i32) (harg2 : arg2.IsWhole) (arg3 : Memref sig .tc .vmem S2048x2 .f32)
  (harg3 : arg3.IsWhole) (arg4 : Memref sig .tc .vmem S1x8 .i32) (harg4 : arg4.IsWhole) (arg5 : Memref sig .tc .vmem S2048x8 .f32)
  (harg5 : arg5.IsWhole) (x0 : Vec F S2048x1024 .f32) (x1 : Vec F S1024x8 .f32)

theorem read0 : View.readAt (Elt F) arg0.view (Rect.unit ![0, 0] S2048x1024.size inb_S2048x1024_S2048x1024_0_0).toLoadRect (harg0.unread x0) = x0 := by
  rw [View.readAt_eq_ld, harg0.read_unread]
  exact View.ld_unit_lit (S := S2048x1024) _ _ (by decide)

theorem read1 : View.readAt (Elt F) arg1.view (Rect.unit ![0, 0] S1024x8.size inb_S1024x8_S1024x8_0_0).toLoadRect (harg1.unread x1) = x1 := by
  rw [View.readAt_eq_ld, harg1.read_unread]
  exact View.ld_unit_lit (S := S1024x8) _ _ (by decide)

/-- One trip stores one block of 128 rows. -/
theorem trip_eq (𝒱 : Variants) (bd : Option 𝒱.V) (v3 : IVec S2048x8 32) (v11 : IVec S2048x1 32) (v23 : IVec S2048x1 32) (v39 : FVec F S2048x8 .f32)
    (v41 : FVec F S1x8 .f32) (v42 : IVec S1x8 32) (k : Fin k0_t1_loop.trips) :
    tripL_k0_t1 (F := F) 𝒱 c bd arg0 harg0 arg1 harg1 arg2 harg2 arg3 harg3 arg4 harg4 arg5 harg5 v3 v11 v23 v39 v41 v42 k
      = [⟨Rect.unit (s := S2048x8) (k0_off1 k) S128x8.size (k0_off1_inb k), k0_pay14 v39 k⟩] := by
  unfold tripL_k0_t1 trip_k0_t1
  rfl

theorem trips_eq : k0_t1_loop.trips = 16 := by decide +kernel

/-- The block of 128 rows that row `i` lies in. -/
def tripOf (i : Fin 2048) : Fin k0_t1_loop.trips := ⟨i.val / 128, by rw [trips_eq]; omega⟩

/-- The scratch after all trips: each block of rows as its trip stored it. -/
def scr (v39 : FVec F S2048x8 .f32) : FVec F S2048x8 .f32 := fun y =>
  k0_pay14 v39 (tripOf (y 0)) (ix2 (⟨(y 0).val % 128, by omega⟩ : Fin 128) (y 1))

theorem pieces_mem (𝒱 : Variants) (bd : Option 𝒱.V) (v3 : IVec S2048x8 32) (v11 : IVec S2048x1 32) (v23 : IVec S2048x1 32) (v39 : FVec F S2048x8 .f32)
    (v41 : FVec F S1x8 .f32) (v42 : IVec S1x8 32) : ∀ k : ℕ, k ≤ k0_t1_loop.trips →
      ∀ p, p ∈ pb_k0_t1 (F := F) 𝒱 c bd arg0 harg0 arg1 harg1 arg2 harg2 arg3 harg3 arg4 harg4 arg5 harg5 v3 v11 v23 v39 v41 v42 k
        ↔ ∃ j : Fin k0_t1_loop.trips, j.val < k ∧ p = ⟨Rect.unit (s := S2048x8) (k0_off1 j) S128x8.size (k0_off1_inb j), k0_pay14 v39 j⟩
  | 0, _, p => by
    constructor
    · intro h
      exact absurd h List.not_mem_nil
    · rintro ⟨j, hj, _⟩
      exact absurd hj (Nat.not_lt_zero _)
  | k + 1, hk, p => by
    have e := pb_k0_t1_succ (F := F) 𝒱 c bd arg0 harg0 arg1 harg1 arg2 harg2 arg3 harg3 arg4 harg4 arg5 harg5 v3 v11 v23 v39 v41 v42 ⟨k, hk⟩
    rw [trip_eq] at e
    have ih := pieces_mem 𝒱 bd v3 v11 v23 v39 v41 v42 k (le_of_lt hk) p
    rw [show (⟨k, hk⟩ : Fin k0_t1_loop.trips).val + 1 = k + 1 from rfl] at e
    rw [e, List.mem_append, List.mem_singleton, ih]
    constructor
    · rintro (h | ⟨j, hj, h⟩)
      · exact ⟨⟨k, hk⟩, Nat.lt_succ_self k, h⟩
      · exact ⟨j, Nat.lt_succ_of_lt hj, h⟩
    · rintro ⟨j, hj, h⟩
      rcases Nat.lt_succ_iff_lt_or_eq.1 hj with h1 | h1
      · exact Or.inr ⟨j, h1, h⟩
      · refine Or.inl ?_
        have : j = ⟨k, hk⟩ := Fin.ext h1
        rw [h, this]

theorem off1_zero (j : Fin k0_t1_loop.trips) : k0_off1 j 0 = 128 * j.val := by rw [k0_off1_eq]; rfl
theorem off1_one (j : Fin k0_t1_loop.trips) : k0_off1 j 1 = 0 := by rw [k0_off1_eq]; rfl

theorem canon_pieces (𝒱 : Variants) (bd : Option 𝒱.V) (v3 : IVec S2048x8 32) (v11 : IVec S2048x1 32) (v23 : IVec S2048x1 32) (v39 : FVec F S2048x8 .f32)
    (v41 : FVec F S1x8 .f32) (v42 : IVec S1x8 32) :
    View.canon (Val := Elt F) (pb_k0_t1 (F := F) 𝒱 c bd arg0 harg0 arg1 harg1 arg2 harg2 arg3 harg3 arg4 harg4 arg5 harg5 v3 v11 v23 v39 v41 v42 k0_t1_loop.trips)
      = scr v39 := by
  funext y
  have hm := pieces_mem (F := F) c arg0 harg0 arg1 harg1 arg2 harg2 arg3 harg3 arg4 harg4 arg5 harg5 𝒱 bd v3 v11 v23 v39 v41 v42 _ (le_refl _)
  have h := View.canon_append_of_pieces (Val := Elt F) (scr v39) []
    (pb_k0_t1 (F := F) 𝒱 c bd arg0 harg0 arg1 harg1 arg2 harg2 arg3 harg3 arg4 harg4 arg5 harg5 v3 v11 v23 v39 v41 v42 k0_t1_loop.trips) ?_ y ?_
  · rw [List.append_nil] at h
    exact h
  · intro p hp
    obtain ⟨j, _, rfl⟩ := (hm p).1 hp
    intro x
    have hx0 : (x 0).val < 128 := (x 0).isLt
    have e0 : ((Rect.unit (s := S2048x8) (k0_off1 j) S128x8.size (k0_off1_inb j)).emb x 0).val = 128 * j.val + (x 0).val := by
      rw [Rect.emb_apply, ← off1_zero j]; show k0_off1 j 0 + 1 * (x 0).val = _; omega
    have e1 : ((Rect.unit (s := S2048x8) (k0_off1 j) S128x8.size (k0_off1_inb j)).emb x 1).val = (x 1).val := by
      rw [Rect.emb_apply]; show k0_off1 j 1 + 1 * (x 1).val = _; rw [off1_one]; omega
    unfold scr
    have hj : tripOf ((Rect.unit (s := S2048x8) (k0_off1 j) S128x8.size (k0_off1_inb j)).emb x 0) = j := Fin.ext (by
      show ((Rect.unit (s := S2048x8) (k0_off1 j) S128x8.size (k0_off1_inb j)).emb x 0).val / 128 = j.val
      rw [e0]; omega)
    rw [hj]
    refine congrArg (k0_pay14 v39 j) (funext fun a => ?_)
    match a with
    | ⟨0, _⟩ =>
      refine Fin.ext ?_
      show (x 0).val = ((Rect.unit (s := S2048x8) (k0_off1 j) S128x8.size (k0_off1_inb j)).emb x 0).val % 128
      rw [e0]; omega
    | ⟨1, _⟩ => exact Fin.ext e1.symm
  · have hy0 : (y 0).val < 2048 := (y 0).isLt
    have hy1 : (y 1).val < 8 := (y 1).isLt
    refine ⟨⟨Rect.unit (s := S2048x8) (k0_off1 (tripOf (y 0))) S128x8.size (k0_off1_inb (tripOf (y 0))), k0_pay14 v39 (tripOf (y 0))⟩,
      (hm _).2 ⟨tripOf (y 0), (tripOf (y 0)).isLt, rfl⟩, ?_⟩
    show y ∈ (Rect.unit (s := S2048x8) (k0_off1 (tripOf (y 0))) S128x8.size (k0_off1_inb (tripOf (y 0)))).set
    rw [Rect.mem_set_unit]
    intro a
    match a with
    | ⟨0, _⟩ =>
      show k0_off1 (tripOf (y 0)) 0 ≤ (y 0).val ∧ (y 0).val < k0_off1 (tripOf (y 0)) 0 + 128
      rw [off1_zero]
      show 128 * ((y 0).val / 128) ≤ (y 0).val ∧ (y 0).val < 128 * ((y 0).val / 128) + 128
      omega
    | ⟨1, _⟩ =>
      show k0_off1 (tripOf (y 0)) 1 ≤ (y 1).val ∧ (y 1).val < k0_off1 (tripOf (y 0)) 1 + 8
      rw [off1_one]
      omega

/-- The counts. -/
theorem out4_eq : out0_A_4 c arg0 harg0 arg1 harg1 arg2 harg2 arg3 harg3 arg4 harg4 arg5 harg5 x0 x1 = k0_pay13 x0 x1 := by
  unfold out0_A_4
  rw [View.read_writes_eq_canon _ _ _ (cover0_A_4 c arg0 harg0 arg1 harg1 arg2 harg2 arg3 harg3 arg4 harg4 arg5 harg5 x0 x1)]
  unfold kernelRun0_A
  dsimp only
  sl_unfold_words
  rw [read0, read1]
  exact View.canon_cons_unit_lit (S := S1x8) _ _ [] (by decide)

/-- The weights. -/
theorem out3_eq : out0_A_3 c arg0 harg0 arg1 harg1 arg2 harg2 arg3 harg3 arg4 harg4 arg5 harg5 x0 x1
    = k0_pay1 (k0_pay9 x0 x1) (k0_pay10 x0 x1) (iota .tc S2048x2 32 [1] iota_S2048x2_d1_w32) k0_pay16 := by
  unfold out0_A_3
  rw [View.read_writes_eq_canon _ _ _ (cover0_A_3 c arg0 harg0 arg1 harg1 arg2 harg2 arg3 harg3 arg4 harg4 arg5 harg5 x0 x1)]
  unfold kernelRun0_A
  dsimp only
  sl_unfold_words
  rw [read0, read1]
  exact View.canon_cons_unit_lit (S := S2048x2) _ _ [] (by decide)

/-- The rows' places. -/
theorem out2_eq : out0_A_2 c arg0 harg0 arg1 harg1 arg2 harg2 arg3 harg3 arg4 harg4 arg5 harg5 x0 x1
    = k0_pay15 (iota .tc S2048x8 32 [1] iota_S2048x8_d1_w32) (k0_pay4 x0 x1) (k0_pay7 x0 x1) (k0_pay12 x0 x1) (scr (k0_pay11 x0 x1)) := by
  unfold out0_A_2
  rw [View.read_writes_eq_canon _ _ _ (cover0_A_2 c arg0 harg0 arg1 harg1 arg2 harg2 arg3 harg3 arg4 harg4 arg5 harg5 x0 x1)]
  unfold kernelRun0_A
  dsimp only
  sl_unfold_words
  rw [read0, read1]
  refine (View.canon_cons_unit_lit (S := S2048x2) _ _ [] (by decide)).trans ?_
  refine congrArg _ ?_
  refine (View.readCov_eq_canon' arg5.view _ _).trans ?_
  rw [show Scf.trips (0#32) (Scalar.addi 0#32 16#32) 1#32 = k0_t1_loop.trips from rfl, canon_pieces]
  exact View.ld_unit_lit (S := S2048x8) (Val := Elt F) (e := .f32) inb_S2048x8_S2048x8_0_0 (scr (k0_pay11 x0 x1)) (by decide)

end Out

end Cert.Router

end

end
-- ==== Proof.RouterRun.lean ====
/- What the router's program leaves in its three results. -/
module

public import proofs.«01_k».proof.Proof.RouterOut

@[expose] public section

set_option maxRecDepth 16384

noncomputable section

namespace Cert.Router

open Cert.Kernel2Ideal Cert.Kernel2Ideal.Gen
open Idealize.ShloMosaic Idealize.ShloMosaic.ValueIdx Idealize.ShloMosaic.TcCoe Idealize.SL.Sem

variable {F : FTy → Type} [FloatOps F]
variable (m : (ℓ : Loc nD τ sig) → Buf (Elt F) ℓ) (ρ : Dev nD → PrngReg) (c : Dev nD)

/-- The one point of the pipeline. -/
abbrev pt0 : Fin cfg0.N := ⟨0, by decide +kernel⟩

/-- Window 0 covers its whole array. -/
theorem emb0_eq (y : S2048x1024.Idx) : (((cfg0.win 0).blk pt0).view.emb y : S2048x1024.Idx) = y := by
  funext a
  match a with
  | ⟨0, _⟩ => exact Fin.ext (((cfg0.win 0).rect_emb_val pt0 y (0 : Fin 2) rfl).trans ((congrArg (· + (y 0).val) (Nat.zero_mul _)).trans (Nat.zero_add _)))
  | ⟨1, _⟩ => exact Fin.ext (((cfg0.win 0).rect_emb_val pt0 y (1 : Fin 2) rfl).trans ((congrArg (· + (y 1).val) (Nat.zero_mul _)).trans (Nat.zero_add _)))

/-- Window 1 covers its whole array. -/
theorem emb1_eq (y : S1024x8.Idx) : (((cfg0.win 1).blk pt0).view.emb y : S1024x8.Idx) = y := by
  funext a
  match a with
  | ⟨0, _⟩ => exact Fin.ext (((cfg0.win 1).rect_emb_val pt0 y (0 : Fin 2) rfl).trans ((congrArg (· + (y 0).val) (Nat.zero_mul _)).trans (Nat.zero_add _)))
  | ⟨1, _⟩ => exact Fin.ext (((cfg0.win 1).rect_emb_val pt0 y (1 : Fin 2) rfl).trans ((congrArg (· + (y 1).val) (Nat.zero_mul _)).trans (Nat.zero_add _)))

/-- Window 2 covers its whole array. -/
theorem emb2_eq (y : S2048x2.Idx) : (((cfg0.win 2).blk pt0).view.emb y : S2048x2.Idx) = y := by
  funext a
  match a with
  | ⟨0, _⟩ => exact Fin.ext (((cfg0.win 2).rect_emb_val pt0 y (0 : Fin 2) rfl).trans ((congrArg (· + (y 0).val) (Nat.zero_mul _)).trans (Nat.zero_add _)))
  | ⟨1, _⟩ => exact Fin.ext (((cfg0.win 2).rect_emb_val pt0 y (1 : Fin 2) rfl).trans ((congrArg (· + (y 1).val) (Nat.zero_mul _)).trans (Nat.zero_add _)))

/-- Window 3 covers its whole array. -/
theorem emb3_eq (y : S2048x2.Idx) : (((cfg0.win 3).blk pt0).view.emb y : S2048x2.Idx) = y := by
  funext a
  match a with
  | ⟨0, _⟩ => exact Fin.ext (((cfg0.win 3).rect_emb_val pt0 y (0 : Fin 2) rfl).trans ((congrArg (· + (y 0).val) (Nat.zero_mul _)).trans (Nat.zero_add _)))
  | ⟨1, _⟩ => exact Fin.ext (((cfg0.win 3).rect_emb_val pt0 y (1 : Fin 2) rfl).trans ((congrArg (· + (y 1).val) (Nat.zero_mul _)).trans (Nat.zero_add _)))

/-- Window 4 covers its whole array. -/
theorem emb4_eq (y : S1x8.Idx) : (((cfg0.win 4).blk pt0).view.emb y : S1x8.Idx) = y := by
  funext a
  match a with
  | ⟨0, _⟩ => exact Fin.ext (((cfg0.win 4).rect_emb_val pt0 y (0 : Fin 2) rfl).trans ((congrArg (· + (y 0).val) (Nat.zero_mul _)).trans (Nat.zero_add _)))
  | ⟨1, _⟩ => exact Fin.ext (((cfg0.win 4).rect_emb_val pt0 y (1 : Fin 2) rfl).trans ((congrArg (· + (y 1).val) (Nat.zero_mul _)).trans (Nat.zero_add _)))

theorem block0_eq : iblk m c 0 pt0 = m ((c : Thread nD τ).loc main_arg0) := by
  funext y
  exact congrArg (m ((c : Thread nD τ).loc main_arg0)) (emb0_eq y)

theorem block1_eq : iblk m c 1 pt0 = m ((c : Thread nD τ).loc main_arg1) := by
  funext y
  exact congrArg (m ((c : Thread nD τ).loc main_arg1)) (emb1_eq y)

/-- The places as one function of the two arguments. -/
def places (x0 : Vec F S2048x1024 .f32) (x1 : Vec F S1024x8 .f32) : IVec S2048x2 32 :=
  k0_pay15 (iota .tc S2048x8 32 [1] iota_S2048x8_d1_w32) (k0_pay4 x0 x1) (k0_pay7 x0 x1) (k0_pay12 x0 x1) (scr (k0_pay11 x0 x1))

/-- The weights as one function of the two arguments. -/
def weights (x0 : Vec F S2048x1024 .f32) (x1 : Vec F S1024x8 .f32) : FVec F S2048x2 .f32 :=
  k0_pay1 (k0_pay9 x0 x1) (k0_pay10 x0 x1) (iota .tc S2048x2 32 [1] iota_S2048x2_d1_w32) k0_pay16

theorem arr2_eq : (dats m 0 c).arrAt 2 cfg0.N = places (m ((c : Thread nD τ).loc main_arg0)) (m ((c : Thread nD τ).loc main_arg1)) := by
  have h := Cert.Kernel2Ideal.Value.blocks2 m c pt0 (flush0_2 _)
  rw [Cert.Kernel2Ideal.Value.flushed2_A, out2_eq, block0_eq, block1_eq] at h
  funext y
  refine (congrArg ((dats m 0 c).arrAt 2 cfg0.N) (emb2_eq y)).symm.trans ?_
  exact congrFun h y

theorem arr3_eq : (dats m 0 c).arrAt 3 cfg0.N = weights (m ((c : Thread nD τ).loc main_arg0)) (m ((c : Thread nD τ).loc main_arg1)) := by
  have h := Cert.Kernel2Ideal.Value.blocks3 m c pt0 (flush0_3 _)
  rw [Cert.Kernel2Ideal.Value.flushed3_A, out3_eq, block0_eq, block1_eq] at h
  funext y
  refine (congrArg ((dats m 0 c).arrAt 3 cfg0.N) (emb3_eq y)).symm.trans ?_
  exact congrFun h y

theorem arr4_eq : (dats m 0 c).arrAt 4 cfg0.N = k0_pay13 (m ((c : Thread nD τ).loc main_arg0)) (m ((c : Thread nD τ).loc main_arg1)) := by
  have h := Cert.Kernel2Ideal.Value.blocks4 m c pt0 (flush0_4 _)
  rw [Cert.Kernel2Ideal.Value.flushed4_A, out4_eq, block0_eq, block1_eq] at h
  funext y
  refine (congrArg ((dats m 0 c).arrAt 4 cfg0.N) (emb4_eq y)).symm.trans ?_
  exact congrFun h y

end Cert.Router

end

end
-- ==== Proof.Choice.lean ====
/- The choice of two experts of eight by their scores, and the places that the choice gives to the tokens' rows: how many tokens an
   expert has, where its tiles start, how many earlier tokens it has. -/
module

public import Idealize.ShloMosaic.Lib.SortFacts
public import Idealize.ShloMosaic.Lib.StackMember
public import Idealize.ShloMosaic.Lib.Routing.OpsOne
public import Idealize.ShloMosaic.Lib.Routing.OpsPair
public import Idealize.ShloMosaic.Lib.IndicatorCount
public import Idealize.ShloMosaic.PureOps.Reduce

@[expose] public section

namespace Cert.Router

open Idealize.ShloMosaic

/-! ## The two best of eight -/

/-- Expert `a` goes before expert `e`: its score is greater, or as great with a smaller number. -/
def Beats (x : Fin 8 → EReal) (a e : Fin 8) : Prop := x e < x a ∨ (x e = x a ∧ a < e)

/-- Experts `a` and `b` are the first and the second. -/
structure IsTop (x : Fin 8 → EReal) (a b : Fin 8) : Prop where
  ne : a ≠ b
  first : ∀ e, e ≠ a → Beats x a e
  second : ∀ e, e ≠ a → e ≠ b → Beats x b e

theorem Beats.le {x : Fin 8 → EReal} {a e : Fin 8} (h : Beats x a e) : x e ≤ x a := by
  rcases h with h | h
  · exact le_of_lt h
  · exact le_of_eq h.1

theorem IsTop.first_le {x : Fin 8 → EReal} {a b : Fin 8} (h : IsTop x a b) (e : Fin 8) : x e ≤ x a := by
  by_cases he : e = a
  · rw [he]
  · exact (h.first e he).le

theorem IsTop.second_le {x : Fin 8 → EReal} {a b : Fin 8} (h : IsTop x a b) (e : Fin 8) (hea : e ≠ a) : x e ≤ x b := by
  by_cases he : e = b
  · rw [he]
  · exact (h.second e hea he).le

/-- An expert with the greatest score has no smaller number than the first. -/
theorem IsTop.first_num {x : Fin 8 → EReal} {a b : Fin 8} (h : IsTop x a b) (e : Fin 8) (he : x e = x a) : a ≤ e := by
  by_cases hea : e = a
  · rw [hea]
  · rcases h.first e hea with h1 | h1
    · exact absurd he (ne_of_lt h1)
    · exact le_of_lt h1.2

/-- An expert other than the first with the second's score has no smaller number than the second. -/
theorem IsTop.second_num {x : Fin 8 → EReal} {a b : Fin 8} (h : IsTop x a b) (e : Fin 8) (hea : e ≠ a) (he : x e = x b) : b ≤ e := by
  by_cases heb : e = b
  · rw [heb]
  · rcases h.second e hea heb with h1 | h1
    · exact absurd he (ne_of_lt h1)
    · exact le_of_lt h1.2

/-! ## A stable sort puts the two best first -/

/-- Where the list goes on, `before` is an insertion sort by strict order of scores: each element of the sorted list goes before the
    later ones, provided the list was in the order of the numbers. -/
theorem beats_insertBefore (x : Fin 8 → EReal) (R : Fin 8 → Fin 8 → Bool) (hR : ∀ i j, R i j = true ↔ x j < x i) (a : Fin 8) :
    ∀ l : List (Fin 8), (∀ b ∈ l, a < b) → l.Pairwise (Beats x) → (insertBefore R a l).Pairwise (Beats x)
  | [], _, _ => List.pairwise_singleton _ _
  | b :: l, hal, hl => by
    rw [List.pairwise_cons] at hl
    unfold insertBefore
    by_cases h : R b a = true
    · rw [if_pos h]
      have hlt := (hR b a).1 h
      refine List.pairwise_cons.2 ⟨fun c hc => ?_, beats_insertBefore x R hR a l (fun c hc => hal c (List.mem_cons_of_mem _ hc)) hl.2⟩
      rcases List.mem_cons.1 ((perm_insertBefore R a l).mem_iff.1 hc) with rfl | hc'
      · exact Or.inl hlt
      · exact hl.1 c hc'
    · rw [if_neg h]
      have hle : x b ≤ x a := not_lt.1 fun hlt => h ((hR b a).2 hlt)
      have hab : Beats x a b := (lt_or_eq_of_le hle).imp id fun e => ⟨e, hal b List.mem_cons_self⟩
      refine List.pairwise_cons.2 ⟨fun c hc => ?_, List.pairwise_cons.2 hl⟩
      rcases List.mem_cons.1 hc with rfl | hc'
      · exact hab
      · have hc1 := (hl.1 c hc').le
        exact (lt_or_eq_of_le (le_trans hc1 hle)).imp id fun e => ⟨e, hal c (List.mem_cons_of_mem _ hc')⟩

theorem beats_stableSort (x : Fin 8 → EReal) (R : Fin 8 → Fin 8 → Bool) (hR : ∀ i j, R i j = true ↔ x j < x i) :
    ∀ l : List (Fin 8), l.Pairwise (· < ·) → (stableSort R l).Pairwise (Beats x)
  | [], _ => List.Pairwise.nil
  | a :: l, h => by
    rw [List.pairwise_cons] at h
    unfold stableSort
    exact beats_insertBefore x R hR a _ (fun b hb => h.1 b ((perm_stableSort R l).mem_iff.1 hb)) (beats_stableSort x R hR l h.2)

/-- The first two of the sorted positions are the two best. -/
theorem isTop_sortedFrom (x : Fin 8 → EReal) (R : Fin 8 → Fin 8 → Bool) (hR : ∀ i j, R i j = true ↔ x j < x i) :
    IsTop x (sortedFrom R 0) (sortedFrom R 1) := by
  have hp : ∀ i j : Fin 8, i < j → Beats x (sortedFrom R i) (sortedFrom R j) := by
    intro i j hij
    have h := List.pairwise_iff_get.1 (beats_stableSort x R hR (List.finRange 8) (List.pairwise_lt_finRange 8))
    unfold sortedFrom
    exact h _ _ hij
  have hinj := sortedFrom_injective R
  refine ⟨fun h => absurd (hinj h) (by decide), fun e he => ?_, fun e he he' => ?_⟩
  · obtain ⟨k, rfl⟩ := sortedFrom_surjective R e
    exact hp 0 k (Nat.pos_of_ne_zero fun hk => he (congrArg _ (Fin.ext hk)))
  · obtain ⟨k, rfl⟩ := sortedFrom_surjective R e
    refine hp 1 k ?_
    have h0 : k.val ≠ 0 := fun hk => he (congrArg _ (Fin.ext hk))
    have h1 : k.val ≠ 1 := fun hk => he' (congrArg _ (Fin.ext hk))
    show 1 < k.val
    omega

/-! ## Folds that end at a known element -/

theorem fold_max_eq {ι : Type} [DecidableEq ι] (S : Finset ι) (f : ι → EReal) (z : EReal) (i : ι) (hi : i ∈ S) (hf : ∀ j ∈ S, f j ≤ f i)
    (hz : z ≤ f i) : S.fold max z f = f i :=
  le_antisymm ((Finset.fold_max_le _).2 ⟨hz, hf⟩) ((Finset.le_fold_max _).2 (Or.inr ⟨i, hi, le_refl _⟩))

theorem fold_min_spec {ι : Type} [DecidableEq ι] (S : Finset ι) (g : ι → BitVec 32) (z : BitVec 32) :
    (S.fold IntOp.minsi z g).toInt ≤ z.toInt ∧ (∀ j ∈ S, (S.fold IntOp.minsi z g).toInt ≤ (g j).toInt)
      ∧ (S.fold IntOp.minsi z g = z ∨ ∃ j ∈ S, S.fold IntOp.minsi z g = g j) := by
  induction S using Finset.induction_on with
  | empty => exact ⟨le_refl _, fun j hj => absurd hj (Finset.notMem_empty j), Or.inl rfl⟩
  | insert a S ha ih =>
    rw [Finset.fold_insert ha]
    obtain ⟨h1, h2, h3⟩ := ih
    unfold IntOp.minsi
    by_cases h : (g a).slt (S.fold IntOp.minsi z g) = true
    · have hlt : (g a).toInt < (S.fold IntOp.minsi z g).toInt := by simpa [BitVec.slt] using h
      unfold IntOp.minsi at h hlt h1 h2 h3
      rw [if_pos h]
      refine ⟨by omega, fun j hj => ?_, Or.inr ⟨a, Finset.mem_insert_self _ _, rfl⟩⟩
      rcases Finset.mem_insert.1 hj with rfl | hj'
      · exact le_refl _
      · have := h2 j hj'; omega
    · have hle : (S.fold IntOp.minsi z g).toInt ≤ (g a).toInt := by
        have : ¬ (g a).toInt < (S.fold IntOp.minsi z g).toInt := by simpa [BitVec.slt] using h
        omega
      unfold IntOp.minsi at h hle h1 h2 h3
      rw [if_neg h]
      refine ⟨h1, fun j hj => ?_, ?_⟩
      · rcases Finset.mem_insert.1 hj with rfl | hj'
        · exact hle
        · exact h2 j hj'
      · rcases h3 with h3 | ⟨j, hj, hjg⟩
        · exact Or.inl h3
        · exact Or.inr ⟨j, Finset.mem_insert_of_mem hj, hjg⟩

theorem fold_min_eq {ι : Type} [DecidableEq ι] (S : Finset ι) (g : ι → BitVec 32) (z : BitVec 32) (i : ι) (hi : i ∈ S)
    (hg : ∀ j ∈ S, (g i).toInt ≤ (g j).toInt) (hz : (g i).toInt ≤ z.toInt) : S.fold IntOp.minsi z g = g i := by
  obtain ⟨_, h2, h3⟩ := fold_min_spec S g z
  refine BitVec.eq_of_toInt_eq (le_antisymm (h2 i hi) ?_)
  rcases h3 with h3 | ⟨j, hj, h3⟩
  · rw [h3]; exact hz
  · rw [h3]; exact hg j hj

/-! ## Places -/

section Places
variable (A B : ℕ → Fin 8)

/-- 1 where token `t` has chosen expert `e`, else 0; `A` and `B` are the tokens' first and second experts. -/
def one (t : ℕ) (e : ℕ) : ℕ := if e = (A t).val ∨ e = (B t).val then 1 else 0

/-- How many of the first `n` tokens have chosen expert `e`. -/
def ahead (n : ℕ) (e : ℕ) : ℕ := ∑ t ∈ Finset.range n, one A B t e

/-- How many rows expert `e` is given: its tokens, rounded up to whole tiles. -/
def room (e : ℕ) : ℕ := (ahead A B 2048 e + 127) / 128 * 128

/-- Where the rows of expert `e` begin. -/
def start (e : ℕ) : ℕ := ∑ j ∈ Finset.range e, room A B j

/-- Token `t`'s expert of rank `k`. -/
def sel (t k : ℕ) : Fin 8 := if k = 0 then A t else B t

/-- The row that token `t` is given among the rows of its expert of rank `k`. -/
def place (t k : ℕ) : ℕ := start A B (sel A B t k).val + ahead A B t (sel A B t k).val

theorem one_le (t e : ℕ) : one A B t e ≤ 1 := by unfold one; split <;> omega

theorem ahead_le (n e : ℕ) : ahead A B n e ≤ n := by
  unfold ahead
  refine (Finset.sum_le_sum fun t _ => one_le A B t e).trans ?_
  simp

theorem room_le (e : ℕ) : room A B e ≤ 2176 := by
  have := ahead_le A B 2048 e
  unfold room; omega

theorem start_le (e : ℕ) (he : e ≤ 8) : start A B e ≤ 20000 := by
  unfold start
  refine (Finset.sum_le_sum fun j _ => room_le A B j).trans ?_
  simp only [Finset.sum_const, Finset.card_range, smul_eq_mul]
  omega

theorem place_lt (t k : ℕ) (ht : t ≤ 2048) : place A B t k < 2 ^ 31 := by
  have h1 := start_le A B (sel A B t k).val (le_of_lt (sel A B t k).isLt)
  have h2 := ahead_le A B t (sel A B t k).val
  unfold place; omega

end Places

end Cert.Router

end
-- ==== Proof.RouterTools.lean ====
/- Pointwise readings used on both sides of the router's claim: rows' greatest and smallest entries, sums of counts as reals, words and
   whole numbers, and masks. -/
module

public import proofs.«01_k».proof.Proof.Choice
public import proofs.«01_k».proof.Proof.RouterRun
public import Idealize.ShloMosaic.Lib.MatmulPlain
public import Idealize.ShloMosaic.Lib.Routing.Ops
public import Idealize.ShloMosaic.Lib.Routing.BitFacts
public import Idealize.ShloMosaic.Lib.IdealHost
public import Idealize.ShloMosaic.PureOps.Ideal.Laws

@[expose] public section

set_option maxRecDepth 16384

noncomputable section

namespace Cert.Router

open Cert.Kernel2Ideal Cert.Kernel2Ideal.Gen
open Idealize.ShloMosaic Idealize.ShloMosaic.ValueIdx Idealize.ShloMosaic.Routing

/-! ## Whole numbers as values -/

/-- The whole number `n` as a value. -/
def rn (n : ℕ) : EReal := ((n : ℝ) : EReal)

theorem rn_zero : rn 0 = 0 := by simp [rn]

theorem rn_one : rn 1 = 1 := by simp [rn]

theorem rn_add (a b : ℕ) : rn a + rn b = rn (a + b) := by
  unfold rn
  rw [← EReal.coe_add, Nat.cast_add]

theorem rn_mul (a b : ℕ) : rn a * rn b = rn (a * b) := by
  unfold rn
  rw [← EReal.coe_mul, Nat.cast_mul]

theorem rn_sum {ι : Type} (S : Finset ι) (f : ι → ℕ) : ∑ i ∈ S, rn (f i) = rn (∑ i ∈ S, f i) := by
  classical
  induction S using Finset.induction_on with
  | empty => rw [Finset.sum_empty, Finset.sum_empty, rn_zero]
  | insert a s ha ih => rw [Finset.sum_insert ha, Finset.sum_insert ha, ih, rn_add]

/-- A word that holds `n` is `n` as a value. -/
theorem sitofp_nat (n : ℕ) (h : n < 2 ^ 31) : (Scalar.sitofp .f32 (BitVec.ofNat 32 n) : Ideal .f32) = rn n := by
  show (((BitVec.ofNat 32 n).toInt : ℝ) : EReal) = rn n
  rw [StableHlo.Predicate.toInt_ofNat_small n h]
  rfl

/-- The value `n` as a word. -/
theorem fptosi_nat (n : ℕ) (h : n < 2 ^ 31) : Ideal.fptosi 32 (rn n) = BitVec.ofNat 32 n := by
  unfold Ideal.fptosi rn
  rw [Ideal.toIntClamped_coe, if_pos (by positivity), Int.floor_natCast]
  have h1 : (n : ℤ) ≤ ((2 ^ (32 - 1) : ℕ) : ℤ) - 1 := by norm_num; omega
  have h2 : -((2 ^ (32 - 1) : ℕ) : ℤ) ≤ n := by omega
  rw [min_eq_right h1, max_eq_right h2]
  exact BitVec.ofInt_natCast 32 n

/-- One bit of a decision as a value. -/
theorem sitofp_bit (p : Prop) [Decidable p] :
    (Scalar.sitofp .f32 ((BitVec.ofBool (decide p)).setWidth 32) : Ideal .f32) = rn (if p then 1 else 0) := by
  by_cases hp : p
  · simp only [hp, decide_true, if_true]
    exact sitofp_nat 1 (by norm_num)
  · simp only [hp, decide_false, if_false]
    exact sitofp_nat 0 (by norm_num)

theorem masked_sum (f : ℕ → ℕ) (n N : ℕ) (h : n ≤ N) : ∑ j : Fin N, (if j.val < n then f j.val else 0) = ∑ j ∈ Finset.range n, f j := by
  rw [← Finset.sum_range (fun j => if j < n then f j else 0), ← Finset.sum_filter]
  refine Finset.sum_congr ?_ (fun _ _ => rfl)
  ext j
  simp only [Finset.mem_filter, Finset.mem_range]
  omega

theorem picked_sum (f : Fin 8 → ℕ) (a : Fin 8) : ∑ e : Fin 8, (if e = a then f e else 0) = f a := by
  rw [Finset.sum_ite_eq' Finset.univ a f, if_pos (Finset.mem_univ a)]

/-! ## Words of experts -/

theorem select_bit {α : Type} (p : Prop) [Decidable p] (a b : α) : Scalar.select (BitVec.ofBool (decide p)) a b = if p then a else b := by
  by_cases hp : p
  · simp only [hp, decide_true, if_true]; rfl
  · simp only [hp, decide_false, if_false]; rfl

theorem cmpi_expert (e a : Fin 8) : IntOp.cmpi .eq (BitVec.ofNat 32 e.val) (BitVec.ofNat 32 a.val) = BitVec.ofBool (decide (e = a)) := by
  revert e a; decide

theorem cmpi_lt (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [slt_ofNat32 ha hb]

theorem ori_bit (p q : Prop) [Decidable p] [Decidable q] :
    IntOp.ori (BitVec.ofBool (decide p)) (BitVec.ofBool (decide q)) = BitVec.ofBool (decide (p ∨ q)) := by
  by_cases hp : p <;> by_cases hq : q <;> simp only [hp, hq, decide_true, decide_false, or_true, true_or, or_false] <;> rfl

/-! ## Rows of an array of 2048 rows and eight columns -/

theorem lift_row (h : S2048x8.Reduces [(1 : Fin 2)] S2048) (t : Fin 2048) (e : Fin 8) : h.lift (ix1 t) e = ix2 t e := by
  funext a
  match a with
  | ⟨0, _⟩ => rfl
  | ⟨1, _⟩ => rfl

theorem lift_col (h : S2048x8.Reduces [(0 : Fin 2)] S8) (e : Fin 8) (t : Fin 2048) : h.lift (ix1 e) t = ix2 t e := by
  funext a
  match a with
  | ⟨0, _⟩ => rfl
  | ⟨1, _⟩ => rfl

theorem bottom_f32 : Ideal.ofBits .f32 0xFF800000#32 = ⊥ := by simp [Ideal.ofBits, Ideal.ieee]

/-- A row's greatest entry. -/
theorem row_max (v : FVec Ideal S2048x8 .f32) (h : S2048x8.Reduces [(1 : Fin 2)] S2048) (hφ : FKind.Formats .f32)
    (hacc : 0xFF800000#32 = FKind.maximumf.neutral .f32 hφ) (t : Fin 2048) (i : Fin 8) (hi : ∀ e, v (ix2 t e) ≤ v (ix2 t i)) :
    multiReduction .maximumf [(1 : Fin 2)] S2048 v 0xFF800000#32 h hφ hacc (ix1 t) = v (ix2 t i) := by
  refine (Ideal.multiReduction_maximumf_single v _ h hφ hacc (ix1 t)).trans ?_
  have hc : v ∘ h.lift (ix1 t) = fun e : Fin 8 => v (ix2 t e) := funext fun e => congrArg v (lift_row h t e)
  refine (congrArg (fun f : Fin 8 → EReal => (Finset.univ : Finset (Fin 8)).fold max (FloatOps.ofBits (F := Ideal) .f32 0xFF800000#32) f) hc).trans ?_
  exact fold_max_eq (Finset.univ : Finset (Fin 8)) (fun e : Fin 8 => v (ix2 t e)) _ i (Finset.mem_univ i) (fun e _ => hi e)
    (le_of_eq_of_le bottom_f32 bot_le)

/-- A row's smallest word. -/
theorem row_min (v : IVec S2048x8 32) (h : S2048x8.Reduces [(1 : Fin 2)] S2048) (hacc : 2147483647#32 = IKind.minsi.neutral) (t : Fin 2048)
    (i : Fin 8) (hi : ∀ e, (v (ix2 t i)).toInt ≤ (v (ix2 t e)).toInt) (hz : (v (ix2 t i)).toInt ≤ (2147483647#32 : BitVec 32).toInt) :
    multiReductionI .minsi [(1 : Fin 2)] S2048 v 2147483647#32 h hacc (ix1 t) = v (ix2 t i) := by
  refine (multiReductionI_eq_fold .minsi v _ h hacc (ix1 t)).trans ?_
  refine (h.fold_filter_drop_single IntOp.minsi _ v (ix1 t)).trans ?_
  have hc : v ∘ h.lift (ix1 t) = fun e : Fin 8 => v (ix2 t e) := funext fun e => congrArg v (lift_row h t e)
  refine (congrArg (fun f : Fin 8 → BitVec 32 => (Finset.univ : Finset (Fin 8)).fold IntOp.minsi 2147483647#32 f) hc).trans ?_
  exact fold_min_eq (Finset.univ : Finset (Fin 8)) (fun e : Fin 8 => v (ix2 t e)) _ i (Finset.mem_univ i) (fun e _ => hi e) hz

/-- A row's sum. -/
theorem row_sum (v : FVec Ideal S2048x8 .f32) (h : S2048x8.Reduces [(1 : Fin 2)] S2048) (hφ : FKind.Formats .f32)
    (hacc : 0x00000000#32 = FKind.add.neutral .f32 hφ) (t : Fin 2048) :
    multiReduction .add [(1 : Fin 2)] S2048 v 0x00000000#32 h hφ hacc (ix1 t) = ∑ e : Fin 8, v (ix2 t e) :=
  (Ideal.multiReduction_add_single v _ h hφ hacc (ix1 t)).trans
    (Finset.sum_congr rfl fun e _ => congrArg v (lift_row h t e))

/-- A column's sum. -/
theorem col_sum (v : FVec Ideal S2048x8 .f32) (h : S2048x8.Reduces [(0 : Fin 2)] S8) (hφ : FKind.Formats .f32)
    (hacc : 0x00000000#32 = FKind.add.neutral .f32 hφ) (e : Fin 8) :
    multiReduction .add [(0 : Fin 2)] S8 v 0x00000000#32 h hφ hacc (ix1 e) = ∑ t : Fin 2048, v (ix2 t e) :=
  (Ideal.multiReduction_add_single v _ h hφ hacc (ix1 e)).trans
    (Finset.sum_congr rfl fun t _ => congrArg v (lift_col h e t))

/-- A column spread over the rows. -/
theorem spread8 {α : Type} (v : S2048x1.Idx → α) (h : S2048x1.Broadcasts S2048x8) (t : Fin 2048) (e : Fin 8) :
    broadcastTo S2048x8 v h (ix2 t e) = v (ix2 t 0) := by
  refine broadcastTo_apply v h _ _ fun a => ?_
  match a with
  | ⟨0, _⟩ => rfl
  | ⟨1, _⟩ => rfl

theorem spread2 {α : Type} (v : S2048x1.Idx → α) (h : S2048x1.Broadcasts S2048x2) (t : Fin 2048) (k : Fin 2) :
    broadcastTo S2048x2 v h (ix2 t k) = v (ix2 t 0) := by
  refine broadcastTo_apply v h _ _ fun a => ?_
  match a with
  | ⟨0, _⟩ => rfl
  | ⟨1, _⟩ => rfl

/-- A row spread over all rows. -/
theorem spread_row {α : Type} (v : S1x8.Idx → α) (h : S1x8.Broadcasts S2048x8) (t : Fin 2048) (e : Fin 8) :
    broadcastTo S2048x8 v h (ix2 t e) = v (ix2 0 e) := by
  refine broadcastTo_apply v h _ _ fun a => ?_
  match a with
  | ⟨0, _⟩ => rfl
  | ⟨1, _⟩ => rfl

/-- A vector as a column. -/
theorem as_column {α : Type} (v : S2048.Idx → α) (h : S2048.ShapeCasts S2048x1) (t : Fin 2048) : shapeCast S2048x1 v h (ix2 t 0) = v (ix1 t) :=
  cast12 v h t 0 t (by simp)

theorem as_row {α : Type} (v : S8.Idx → α) (h : S8.ShapeCasts S1x8) (e : Fin 8) : shapeCast S1x8 v h (ix2 0 e) = v (ix1 e) :=
  cast12 v h 0 e e (by simp)

theorem iota_col {a b : ℕ} (h : (⟨2, ![a, b]⟩ : Shape).Iotas .tc 32 [1]) (i : Fin a) (j : Fin b) :
    iota .tc ⟨2, ![a, b]⟩ 32 [1] h (ix2 i j) = BitVec.ofNat 32 j.val := by
  show BitVec.ofNat 32 (0 * b + j.val) = _
  rw [Nat.zero_mul, Nat.zero_add]

theorem iota_row {a b : ℕ} (h : (⟨2, ![a, b]⟩ : Shape).Iotas .tc 32 [0]) (i : Fin a) (j : Fin b) :
    iota .tc ⟨2, ![a, b]⟩ 32 [0] h (ix2 i j) = BitVec.ofNat 32 i.val := by
  show BitVec.ofNat 32 (0 * a + i.val) = _
  rw [Nat.zero_mul, Nat.zero_add]

end Cert.Router

end

end
-- ==== Proof.RouterKernel.lean ====
/- The router kernel's three results as the choice of experts gives them. -/
module

public import proofs.«01_k».proof.Proof.RouterTools

@[expose] public section

set_option maxRecDepth 16384

noncomputable section

namespace Cert.Router

open Cert.Kernel2Ideal Cert.Kernel2Ideal.Gen
open Idealize.ShloMosaic Idealize.ShloMosaic.ValueIdx Idealize.ShloMosaic.Routing

theorem expert_le : ∀ a e : Fin 8, a ≤ e → (BitVec.ofNat 32 a.val).toInt ≤ (BitVec.ofNat 32 e.val).toInt := by decide

theorem expert_le_eight : ∀ a : Fin 8, (BitVec.ofNat 32 a.val).toInt ≤ (8#32 : BitVec 32).toInt := by decide

theorem expert_le_top : ∀ a : Fin 8, (BitVec.ofNat 32 a.val).toInt ≤ (2147483647#32 : BitVec 32).toInt := by decide

theorem select_oeq (u v : FVec Ideal S2048x8 .f32) (w z : IVec S2048x8 32) (i : S2048x8.Idx) (a b : EReal) (c d : BitVec 32)
    (hu : u i = a) (hv : v i = b) (hw : w i = c) (hz : z i = d) : select (cmpf .oeq u v) w z i = if a = b then c else d := by
  show Scalar.select (BitVec.ofBool (decide ((u i : EReal) = v i))) (w i) (z i) = _
  rw [hu, hv, hw, hz, select_bit]

theorem pair_word : ∀ k : Fin 2, IntOp.cmpi .eq (BitVec.ofNat 32 k.val) 0#32 = BitVec.ofBool (decide (k = 0)) := by decide

theorem select_pair (u w : FVec Ideal S2048x2 .f32) (t : Fin 2048) (k : Fin 2) :
    select (cmpi .eq (iota .tc S2048x2 32 [1] iota_S2048x2_d1_w32) (broadcast S2048x2 0#32)) u w (ix2 t k)
      = if k = 0 then u (ix2 t k) else w (ix2 t k) := by
  show Scalar.select (IntOp.cmpi .eq (iota .tc S2048x2 32 [1] iota_S2048x2_d1_w32 (ix2 t k)) 0#32) (u (ix2 t k)) (w (ix2 t k)) = _
  rw [iota_col, pair_word, select_bit]

theorem exp_sub_at (p q : FVec Ideal S2048x1 .f32) (i : S2048x1.Idx) (a b : EReal) (hp : p i = a) (hq : q i = b) :
    exp (subf p q) i = Ideal.exp (a - b) := by
  show Ideal.exp ((p i : EReal) - q i) = _
  rw [hp, hq]

theorem first_share (p : FVec Ideal S2048x1 .f32) (i : S2048x1.Idx) (a : EReal) (hp : p i = a) :
    divf (broadcast S2048x1 (Scalar.ofBits .f32 0x3F800000#32)) (addf (broadcast S2048x1 (Scalar.ofBits .f32 0x3F800000#32)) p) i = Ideal.div 1 (1 + a) := by
  show Ideal.div (Ideal.ofBits .f32 0x3F800000#32) (Ideal.ofBits .f32 0x3F800000#32 + (p i : EReal)) = _
  rw [Ideal.ofBits_one_f32, hp]

theorem second_share (p : FVec Ideal S2048x1 .f32) (i : S2048x1.Idx) (a : EReal) (hp : p i = a) :
    divf p (addf (broadcast S2048x1 (Scalar.ofBits .f32 0x3F800000#32)) p) i = Ideal.div a (1 + a) := by
  show Ideal.div (p i : EReal) (Ideal.ofBits .f32 0x3F800000#32 + (p i : EReal)) = _
  rw [Ideal.ofBits_one_f32, hp]

variable (x0 : Vec Ideal S2048x1024 .f32) (x1 : Vec Ideal S1024x8 .f32)

/-- The score of token `t` for expert `e`. -/
def score (t : Fin 2048) (e : Fin 8) : EReal := k0_pay2 (F := Ideal) x0 x1 (ix2 t e)

theorem score_eq (t : Fin 2048) (e : Fin 8) : score x0 x1 t e = ∑ k : Fin 1024, x0 (ix2 t k) * x1 (ix2 k e) := by
  unfold score k0_pay2
  refine (Ideal.matmul_plain_apply none x0 x1 _ t e).trans ?_
  refine (congrArg (· + _) (Ideal.ofBits_zero_f32 : Ideal.ofBits .f32 0x00000000#32 = 0)).trans ?_
  exact zero_add _

variable {A B : ℕ → Fin 8} (hT : ∀ t : Fin 2048, IsTop (score x0 x1 t) (A t.val) (B t.val))

include hT

theorem pay3_at (t : Fin 2048) : k0_pay3 (F := Ideal) x0 x1 (ix2 t 0) = score x0 x1 t (A t.val) := by
  unfold k0_pay3
  refine (as_column _ _ t).trans ?_
  exact row_max _ _ _ _ t (A t.val) fun e => (hT t).first_le e

theorem pay4_at (t : Fin 2048) : k0_pay4 (F := Ideal) x0 x1 (ix2 t 0) = BitVec.ofNat 32 (A t.val).val := by
  unfold k0_pay4
  refine (as_column _ _ t).trans ?_
  have hv : ∀ e : Fin 8, select (cmpf .oeq (k0_pay2 (F := Ideal) x0 x1) (broadcastTo S2048x8 (k0_pay3 (F := Ideal) x0 x1) broadcasts_S2048x1_S2048x8))
      (iota .tc S2048x8 32 [1] iota_S2048x8_d1_w32) (broadcast S2048x8 8#32) (ix2 t e)
      = if score x0 x1 t e = score x0 x1 t (A t.val) then BitVec.ofNat 32 e.val else 8#32 := by
    intro e
    exact select_oeq _ _ _ _ (ix2 t e) _ _ _ _ rfl ((spread8 _ _ t e).trans (pay3_at x0 x1 hT t)) (iota_col _ t e) rfl
  refine (row_min _ _ _ t (A t.val) ?_ ?_).trans ?_
  · intro e
    rw [hv, hv, if_pos rfl]
    by_cases hc : score x0 x1 t e = score x0 x1 t (A t.val)
    · rw [if_pos hc]
      exact expert_le _ _ ((hT t).first_num e hc)
    · rw [if_neg hc]
      exact expert_le_eight _
  · rw [hv, if_pos rfl]
    exact expert_le_top _
  · rw [hv, if_pos rfl]

theorem pay5_at (t : Fin 2048) (e : Fin 8) : k0_pay5 (F := Ideal) x0 x1 (ix2 t e) = if e = A t.val then ⊥ else score x0 x1 t e := by
  unfold k0_pay5
  show Scalar.select (IntOp.cmpi .eq (iota .tc S2048x8 32 [1] iota_S2048x8_d1_w32 (ix2 t e))
    (broadcastTo S2048x8 (k0_pay4 (F := Ideal) x0 x1) broadcasts_S2048x1_S2048x8 (ix2 t e))) (Ideal.ofBits .f32 0xFF800000#32) (score x0 x1 t e) = _
  rw [spread8, pay4_at x0 x1 hT t, iota_col, cmpi_expert, select_bit, bottom_f32]

theorem pay6_at (t : Fin 2048) : k0_pay6 (F := Ideal) x0 x1 (ix2 t 0) = score x0 x1 t (B t.val) := by
  have hB : k0_pay5 (F := Ideal) x0 x1 (ix2 t (B t.val)) = score x0 x1 t (B t.val) := by
    rw [pay5_at x0 x1 hT, if_neg (fun h => (hT t).ne h.symm)]
  unfold k0_pay6
  refine (as_column _ _ t).trans ?_
  refine (row_max _ _ _ _ t (B t.val) fun e => ?_).trans hB
  rw [hB, pay5_at x0 x1 hT]
  split
  · exact bot_le
  · next h => exact (hT t).second_le e h

/-- The entries whose least is the second choice: an expert's number where its masked score is the second's, and eight elsewhere. -/
theorem mark_at (t : Fin 2048) (e : Fin 8) :
    select (cmpf .oeq (k0_pay5 (F := Ideal) x0 x1) (broadcastTo S2048x8 (k0_pay6 (F := Ideal) x0 x1) broadcasts_S2048x1_S2048x8))
      (iota .tc S2048x8 32 [1] iota_S2048x8_d1_w32) (broadcast S2048x8 8#32) (ix2 t e)
      = if (if e = A t.val then ⊥ else score x0 x1 t e) = score x0 x1 t (B t.val) then BitVec.ofNat 32 e.val else 8#32 :=
  select_oeq _ _ _ _ (ix2 t e) _ _ _ _ (pay5_at x0 x1 hT t e) ((spread8 _ _ t e).trans (pay6_at x0 x1 hT t)) (iota_col _ t e) rfl

theorem pay7_above (t : Fin 2048) (hb : score x0 x1 t (B t.val) ≠ ⊥) : k0_pay7 (F := Ideal) x0 x1 (ix2 t 0) = BitVec.ofNat 32 (B t.val).val := by
  unfold k0_pay7
  refine (as_column _ _ t).trans ?_
  have hv := mark_at x0 x1 hT t
  have hB : (if B t.val = A t.val then ⊥ else score x0 x1 t (B t.val)) = score x0 x1 t (B t.val) := if_neg fun h => (hT t).ne h.symm
  refine (row_min _ _ _ t (B t.val) ?_ ?_).trans ?_
  · intro e
    rw [hv, hv, if_pos hB]
    by_cases hc : (if e = A t.val then ⊥ else score x0 x1 t e) = score x0 x1 t (B t.val)
    · rw [if_pos hc]
      by_cases hea : e = A t.val
      · rw [if_pos hea] at hc
        exact absurd hc.symm hb
      · rw [if_neg hea] at hc
        exact expert_le _ _ ((hT t).second_num e hea hc)
    · rw [if_neg hc]
      exact expert_le_eight _
  · rw [hv, if_pos hB]
    exact expert_le_top _
  · rw [hv, if_pos hB]

/-- Where every score but the first's is minus infinity, the second choice is the expert of number zero. -/
theorem pay7_below (t : Fin 2048) (hb : score x0 x1 t (B t.val) = ⊥) : k0_pay7 (F := Ideal) x0 x1 (ix2 t 0) = BitVec.ofNat 32 (0 : Fin 8).val := by
  unfold k0_pay7
  refine (as_column _ _ t).trans ?_
  have hv : ∀ e : Fin 8, select (cmpf .oeq (k0_pay5 (F := Ideal) x0 x1) (broadcastTo S2048x8 (k0_pay6 (F := Ideal) x0 x1) broadcasts_S2048x1_S2048x8))
      (iota .tc S2048x8 32 [1] iota_S2048x8_d1_w32) (broadcast S2048x8 8#32) (ix2 t e) = BitVec.ofNat 32 e.val := by
    intro e
    refine (mark_at x0 x1 hT t e).trans (if_pos ?_)
    by_cases he : e = A t.val
    · rw [if_pos he, hb]
    · rw [if_neg he, hb]
      exact le_bot_iff.mp (hb ▸ (hT t).second_le e he)
  refine (row_min _ _ _ t 0 ?_ ?_).trans (hv 0)
  · intro e
    rw [hv, hv]
    exact expert_le _ _ (Fin.zero_le e)
  · rw [hv]
    exact expert_le_top _

omit hT in
/-- The second expert as the kernel chooses it, whatever the scores are. -/
def seconds (x0 : Vec Ideal S2048x1024 .f32) (x1 : Vec Ideal S1024x8 .f32) (B : ℕ → Fin 8) (t : ℕ) : Fin 8 :=
  if h : t < 2048 then (if score x0 x1 ⟨t, h⟩ (B t) = ⊥ then 0 else B t) else 0

theorem pay7_word (t : Fin 2048) : k0_pay7 (F := Ideal) x0 x1 (ix2 t 0) = BitVec.ofNat 32 (seconds x0 x1 B t.val).val := by
  have hs : seconds x0 x1 B t.val = if score x0 x1 t (B t.val) = ⊥ then 0 else B t.val := dif_pos t.isLt
  rw [hs]
  by_cases hb : score x0 x1 t (B t.val) = ⊥
  · rw [if_pos hb]
    exact pay7_below x0 x1 hT t hb
  · rw [if_neg hb]
    exact pay7_above x0 x1 hT t hb

theorem pay7_at (hL : ∀ t e, score x0 x1 t e ≠ ⊥) (t : Fin 2048) : k0_pay7 (F := Ideal) x0 x1 (ix2 t 0) = BitVec.ofNat 32 (B t.val).val :=
  pay7_above x0 x1 hT t (hL t _)

/-! ## The counts -/

omit hT

section

variable (h4 : ∀ t : Fin 2048, k0_pay4 (F := Ideal) x0 x1 (ix2 t 0) = BitVec.ofNat 32 (A t.val).val)
  (h7 : ∀ t : Fin 2048, k0_pay7 (F := Ideal) x0 x1 (ix2 t 0) = BitVec.ofNat 32 (B t.val).val)
include h4 h7

theorem pay11_at (t : Fin 2048) (e : Fin 8) : k0_pay11 (F := Ideal) x0 x1 (ix2 t e) = rn (one A B t.val e.val) := by
  unfold k0_pay11
  show (Scalar.sitofp .f32 ((IntOp.ori (IntOp.cmpi .eq (iota .tc S2048x8 32 [1] iota_S2048x8_d1_w32 (ix2 t e))
      (broadcastTo S2048x8 (k0_pay4 (F := Ideal) x0 x1) broadcasts_S2048x1_S2048x8 (ix2 t e)))
    (IntOp.cmpi .eq (iota .tc S2048x8 32 [1] iota_S2048x8_d1_w32 (ix2 t e))
      (broadcastTo S2048x8 (k0_pay7 (F := Ideal) x0 x1) broadcasts_S2048x1_S2048x8 (ix2 t e)))).setWidth 32) : Ideal .f32) = _
  rw [spread8, spread8, h4 t, h7 t, iota_col, cmpi_expert, cmpi_expert, ori_bit, sitofp_bit]
  unfold one
  simp only [Fin.ext_iff, eq_comm]

theorem pay12_at (e : Fin 8) : k0_pay12 (F := Ideal) x0 x1 (ix2 0 e) = rn (ahead A B 2048 e.val) := by
  unfold k0_pay12
  refine (as_row _ _ e).trans ?_
  refine (col_sum _ _ _ _ e).trans ?_
  refine (Finset.sum_congr rfl fun t _ => pay11_at x0 x1 h4 h7 t e).trans ?_
  rw [rn_sum]
  unfold ahead
  rw [Finset.sum_range (fun t => one A B t e.val)]

theorem pay13_at (e : Fin 8) : k0_pay13 (F := Ideal) x0 x1 (ix2 0 e) = BitVec.ofNat 32 (ahead A B 2048 e.val) := by
  unfold k0_pay13
  show Ideal.fptosi 32 (k0_pay12 (F := Ideal) x0 x1 (ix2 0 e)) = _
  rw [pay12_at x0 x1 h4 h7]
  exact fptosi_nat _ (lt_of_le_of_lt (ahead_le A B 2048 e.val) (by norm_num))

/-! ## The places -/

theorem pay14_at (k : Fin k0_t1_loop.trips) (hk : k.val < 16) (r : Fin 128) (e : Fin 8) :
    k0_pay14 (F := Ideal) (k0_pay11 (F := Ideal) x0 x1) k (ix2 r e) = rn (ahead A B (128 * k.val + r.val) e.val) := by
  have hr := r.isLt
  unfold k0_pay14
  refine (shapeCast_apply _ _ (ix2 r e) (ix2 r e) rfl).trans ?_
  refine (Ideal.matmul_plain_apply none _ (k0_pay11 (F := Ideal) x0 x1) _ r e).trans ?_
  refine (congrArg (· + _) (Ideal.ofBits_zero_f32 : Ideal.ofBits .f32 0x00000000#32 = 0)).trans ?_
  refine (zero_add _).trans ?_
  have hterm : ∀ t : Fin 2048, (sitofp .f32 (extui 32 (cmpi .slt (iota .tc S128x2048 32 [1] iota_S128x2048_d1_w32)
      (addi (iota .tc S128x2048 32 [0] iota_S128x2048_d0_w32) (broadcast S128x2048 (Scalar.muli (Scf.iv 0#32 1#32 k) 128#32)))) natLt_1_32) : FVec Ideal S128x2048 .f32) (ix2 r t)
      * k0_pay11 (F := Ideal) x0 x1 (ix2 t e) = rn (if t.val < 128 * k.val + r.val then one A B t.val e.val else 0) := by
    intro t
    have ht := t.isLt
    have hw : BitVec.ofNat 32 r.val + (0#32 + BitVec.ofNat 32 k.val * 1#32) * 128#32 = BitVec.ofNat 32 (128 * k.val + r.val) := by
      apply BitVec.eq_of_toNat_eq
      simp only [BitVec.toNat_add, BitVec.toNat_mul, BitVec.toNat_ofNat]
      omega
    have hm : (sitofp .f32 (extui 32 (cmpi .slt (iota .tc S128x2048 32 [1] iota_S128x2048_d1_w32)
      (addi (iota .tc S128x2048 32 [0] iota_S128x2048_d0_w32) (broadcast S128x2048 (Scalar.muli (Scf.iv 0#32 1#32 k) 128#32)))) natLt_1_32) : FVec Ideal S128x2048 .f32) (ix2 r t)
        = rn (if t.val < 128 * k.val + r.val then 1 else 0) := by
      show (Scalar.sitofp .f32 ((IntOp.cmpi .slt (iota .tc S128x2048 32 [1] iota_S128x2048_d1_w32 (ix2 r t))
        (iota .tc S128x2048 32 [0] iota_S128x2048_d0_w32 (ix2 r t) + (0#32 + BitVec.ofNat 32 k.val * 1#32) * 128#32)).setWidth 32) : Ideal .f32) = _
      rw [iota_col, iota_row, hw, cmpi_lt _ _ (by omega) (by omega), sitofp_bit]
    rw [hm, pay11_at x0 x1 h4 h7, rn_mul]
    congr 1
    split <;> simp
  refine (Finset.sum_congr rfl fun t _ => hterm t).trans ?_
  rw [rn_sum, masked_sum (fun t => one A B t e.val) _ _ (by omega)]
  rfl

theorem scr_at (t : Fin 2048) (e : Fin 8) : scr (F := Ideal) (k0_pay11 (F := Ideal) x0 x1) (ix2 t e) = rn (ahead A B t.val e.val) := by
  have ht := t.isLt
  have hq : (tripOf t).val = t.val / 128 := rfl
  show k0_pay14 (F := Ideal) (k0_pay11 (F := Ideal) x0 x1) (tripOf t) (ix2 ⟨t.val % 128, _⟩ e) = _
  refine (pay14_at x0 x1 h4 h7 (tripOf t) (by omega) _ e).trans ?_
  have : 128 * (tripOf t).val + t.val % 128 = t.val := by omega
  show rn (ahead A B (128 * (tripOf t).val + t.val % 128) e.val) = _
  rw [this]

omit h4 h7 in
/-- Rounding a count up to a whole number of tiles, as values. -/
theorem round_up (n : ℕ) : Ideal.liftRound Int.ceil (Ideal.div (rn n) (Ideal.ofBits .f32 0x43000000#32)) * Ideal.ofBits .f32 0x43000000#32 = rn ((n + 127) / 128 * 128) := by
  have h128 : Ideal.ofBits .f32 0x43000000#32 = ((128 : ℝ) : EReal) := by
    simp [Ideal.ofBits, Ideal.ieee, -EReal.coe_mul]; norm_num
  rw [h128, Ideal.div_coe (by norm_num)]
  unfold rn
  rw [← EReal.coe_mul, Ideal.liftRound_coe, ← EReal.coe_mul]
  have hc : ⌈(n : ℝ) * (1 / 128)⌉ = (((n + 127) / 128 : ℕ) : ℤ) := by
    rw [Int.ceil_eq_iff]
    have h1 : (n + 127) / 128 * 128 ≤ n + 127 := Nat.div_mul_le_self _ _
    have h2 : n ≤ (n + 127) / 128 * 128 := by omega
    have h1' : (((n + 127) / 128 : ℕ) : ℝ) * 128 ≤ (n : ℝ) + 127 := by exact_mod_cast h1
    have h2' : (n : ℝ) ≤ (((n + 127) / 128 : ℕ) : ℝ) * 128 := by exact_mod_cast h2
    constructor
    · rw [Int.cast_natCast]; linarith
    · rw [Int.cast_natCast]; linarith
  rw [hc, Int.cast_natCast]
  congr 1
  push_cast
  ring

omit h4 h7 in
theorem rooms_at (v : FVec Ideal S1x8 .f32) (i : S1x8.Idx) (n : ℕ) (hv : v i = rn n) :
    mulf (ceil (divf v (broadcast S1x8 (Scalar.ofBits .f32 0x43000000#32)))) (broadcast S1x8 (Scalar.ofBits .f32 0x43000000#32)) i
      = rn ((n + 127) / 128 * 128) := by
  show Ideal.liftRound Int.ceil (Ideal.div (v i : EReal) (Ideal.ofBits .f32 0x43000000#32)) * Ideal.ofBits .f32 0x43000000#32 = _
  rw [hv, round_up]

omit h4 h7 in
/-- Where each expert's tiles start. -/
theorem starts_at (v : FVec Ideal S1x8 .f32) (hv : ∀ e : Fin 8, v (ix2 0 e) = rn (room A B e.val)) (e : Fin 8) :
    matmul dot_S1x8_S8x8_S1x8_1_0_0_1_n_n none v (sitofp .f32 (extui 32 (cmpi .slt (iota .tc S8x8 32 [0] iota_S8x8_d0_w32)
      (iota .tc S8x8 32 [1] iota_S8x8_d1_w32)) natLt_1_32)) (constant S1x8 .f32 0x00000000#32) (ix2 0 e) = rn (start A B e.val) := by
  refine (Ideal.matmul_plain_apply none v _ _ 0 e).trans ?_
  refine (congrArg (· + _) (Ideal.ofBits_zero_f32 : Ideal.ofBits .f32 0x00000000#32 = 0)).trans ?_
  refine (zero_add _).trans ?_
  have hterm : ∀ j : Fin 8, v (ix2 0 j) * (sitofp .f32 (extui 32 (cmpi .slt (iota .tc S8x8 32 [0] iota_S8x8_d0_w32)
      (iota .tc S8x8 32 [1] iota_S8x8_d1_w32)) natLt_1_32) : FVec Ideal S8x8 .f32) (ix2 j e) = rn (if j.val < e.val then room A B j.val else 0) := by
    intro j
    have hm : (sitofp .f32 (extui 32 (cmpi .slt (iota .tc S8x8 32 [0] iota_S8x8_d0_w32)
      (iota .tc S8x8 32 [1] iota_S8x8_d1_w32)) natLt_1_32) : FVec Ideal S8x8 .f32) (ix2 j e) = rn (if j.val < e.val then 1 else 0) := by
      show (Scalar.sitofp .f32 ((IntOp.cmpi .slt (iota .tc S8x8 32 [0] iota_S8x8_d0_w32 (ix2 j e))
        (iota .tc S8x8 32 [1] iota_S8x8_d1_w32 (ix2 j e))).setWidth 32) : Ideal .f32) = _
      rw [iota_col, iota_row, cmpi_lt _ _ (by omega) (by omega), sitofp_bit]
    rw [hm, hv, rn_mul]
    congr 1
    split <;> simp
  refine (Finset.sum_congr rfl fun j _ => hterm j).trans ?_
  rw [rn_sum, masked_sum (fun j => room A B j) _ _ (by omega)]
  rfl

omit h4 h7 in
/-- One column of places before rounding: the sum over the experts that only the chosen expert enters. -/
theorem chosen_at (v3 : IVec S2048x8 32) (v11 : IVec S2048x1 32) (u : FVec Ideal S2048x8 .f32) (a : Fin 8) (f : Fin 8 → ℕ) (t : Fin 2048)
    (h3 : ∀ e : Fin 8, v3 (ix2 t e) = BitVec.ofNat 32 e.val) (h11 : v11 (ix2 t 0) = BitVec.ofNat 32 a.val) (hu : ∀ e, u (ix2 t e) = rn (f e))
    (k : Fin 2) :
    broadcastTo S2048x2 (shapeCast S2048x1 (shapeCast S2048x1 (multiReduction .add [(1 : Fin 2)] S2048
      (mulf (sitofp .f32 (extui 32 (cmpi .eq v3 (broadcastTo S2048x8 v11 broadcasts_S2048x1_S2048x8)) natLt_1_32)) u)
      0x00000000#32 reduces_S2048x8_S2048 (.inl rfl) rfl) shapeCasts_S2048_S2048x1) shapeCasts_S2048x1_S2048x1) broadcasts_S2048x1_S2048x2 (ix2 t k)
      = rn (f a) := by
  refine (spread2 _ _ t k).trans ?_
  refine (shapeCast_apply _ _ (ix2 t 0) (ix2 t 0) rfl).trans ?_
  refine (as_column _ _ t).trans ?_
  refine (row_sum _ _ _ _ t).trans ?_
  have hterm : ∀ e : Fin 8, (mulf (sitofp .f32 (extui 32 (cmpi .eq v3 (broadcastTo S2048x8 v11 broadcasts_S2048x1_S2048x8)) natLt_1_32)) u : FVec Ideal S2048x8 .f32) (ix2 t e)
      = rn (if e = a then f e else 0) := by
    intro e
    show (Scalar.sitofp .f32 ((IntOp.cmpi .eq (v3 (ix2 t e)) (broadcastTo S2048x8 v11 broadcasts_S2048x1_S2048x8 (ix2 t e))).setWidth 32) : Ideal .f32) * u (ix2 t e) = _
    rw [spread8, h3, h11, hu, cmpi_expert, sitofp_bit, rn_mul]
    congr 1
    split <;> simp
  refine (Finset.sum_congr rfl fun e _ => hterm e).trans ?_
  rw [rn_sum, picked_sum]

theorem places_at (t : Fin 2048) (k : Fin 2) : places (F := Ideal) x0 x1 (ix2 t k) = BitVec.ofNat 32 (place A B t.val k.val) := by
  have ht := t.isLt
  have hroom : ∀ e : Fin 8, mulf (ceil (divf (k0_pay12 (F := Ideal) x0 x1) (broadcast S1x8 (Scalar.ofBits .f32 0x43000000#32))))
      (broadcast S1x8 (Scalar.ofBits .f32 0x43000000#32)) (ix2 0 e) = rn (room A B e.val) := by
    intro e
    refine (rooms_at _ _ _ (pay12_at x0 x1 h4 h7 e)).trans ?_
    rfl
  have hbase : ∀ e : Fin 8, addf (broadcastTo S2048x8 (matmul dot_S1x8_S8x8_S1x8_1_0_0_1_n_n none
      (mulf (ceil (divf (k0_pay12 (F := Ideal) x0 x1) (broadcast S1x8 (Scalar.ofBits .f32 0x43000000#32)))) (broadcast S1x8 (Scalar.ofBits .f32 0x43000000#32)))
      (sitofp .f32 (extui 32 (cmpi .slt (iota .tc S8x8 32 [0] iota_S8x8_d0_w32) (iota .tc S8x8 32 [1] iota_S8x8_d1_w32)) natLt_1_32))
      (constant S1x8 .f32 0x00000000#32)) broadcasts_S1x8_S2048x8) (scr (F := Ideal) (k0_pay11 (F := Ideal) x0 x1)) (ix2 t e)
      = rn (start A B e.val + ahead A B t.val e.val) := by
    intro e
    refine (congrArg₂ (· + ·) ((spread_row _ _ t e).trans (starts_at _ hroom e)) (scr_at x0 x1 h4 h7 t e)).trans ?_
    exact rn_add _ _
  have h3 : ∀ e : Fin 8, iota .tc S2048x8 32 [1] iota_S2048x8_d1_w32 (ix2 t e) = BitVec.ofNat 32 e.val := fun e => iota_col _ t e
  have hA := chosen_at _ _ _ (A t.val) (fun e => start A B e.val + ahead A B t.val e.val) t h3 (h4 t) hbase k
  have hB := chosen_at _ _ _ (B t.val) (fun e => start A B e.val + ahead A B t.val e.val) t h3 (h7 t) hbase k
  unfold places k0_pay15
  refine (congrArg (Ideal.fptosi 32) (select_pair _ _ t k)).trans ?_
  have hval : (if k = 0 then rn (start A B (A t.val).val + ahead A B t.val (A t.val).val) else rn (start A B (B t.val).val + ahead A B t.val (B t.val).val))
      = rn (place A B t.val k.val) := by
    unfold place sel
    by_cases hk : k = 0
    · rw [if_pos hk, hk]; rfl
    · have hk' : k.val ≠ 0 := fun h => hk (Fin.ext h)
      rw [if_neg hk, if_neg hk']
  refine (congrArg (Ideal.fptosi 32) (?_ : _ = rn (place A B t.val k.val))).trans (fptosi_nat _ (place_lt A B t.val k.val (by omega)))
  rw [← hval]
  by_cases hk : k = 0
  · rw [if_pos hk, if_pos hk]; exact hA
  · rw [if_neg hk, if_neg hk]; exact hB

end

/-! ## The weights -/

include hT

theorem weights_at (t : Fin 2048) (k : Fin 2) : weights (F := Ideal) x0 x1 (ix2 t k)
    = if k = 0 then Ideal.div 1 (1 + Ideal.exp (score x0 x1 t (B t.val) - score x0 x1 t (A t.val)))
      else Ideal.div (Ideal.exp (score x0 x1 t (B t.val) - score x0 x1 t (A t.val)))
        (1 + Ideal.exp (score x0 x1 t (B t.val) - score x0 x1 t (A t.val))) := by
  have h8 : k0_pay8 (F := Ideal) x0 x1 (ix2 t 0) = Ideal.exp (score x0 x1 t (B t.val) - score x0 x1 t (A t.val)) := by
    unfold k0_pay8
    exact exp_sub_at _ _ _ _ _ (pay6_at x0 x1 hT t) (pay3_at x0 x1 hT t)
  have h9 : k0_pay9 (F := Ideal) x0 x1 (ix2 t 0) = Ideal.div 1 (1 + Ideal.exp (score x0 x1 t (B t.val) - score x0 x1 t (A t.val))) := by
    unfold k0_pay9
    exact first_share _ _ _ h8
  have h10 : k0_pay10 (F := Ideal) x0 x1 (ix2 t 0) = Ideal.div (Ideal.exp (score x0 x1 t (B t.val) - score x0 x1 t (A t.val)))
        (1 + Ideal.exp (score x0 x1 t (B t.val) - score x0 x1 t (A t.val))) := by
    unfold k0_pay10
    exact second_share _ _ _ h8
  unfold weights k0_pay1 k0_pay16
  refine (select_pair _ _ t k).trans ?_
  refine congrArg₂ (fun a b => if k = 0 then a else b) ?_ ?_
  · exact (spread2 _ _ t k).trans ((shapeCast_apply _ _ (ix2 t 0) (ix2 t 0) rfl).trans h9)
  · exact (spread2 _ _ t k).trans ((shapeCast_apply _ _ (ix2 t 0) (ix2 t 0) rfl).trans h10)

end Cert.Router

end

end
-- ==== Proof.RouterReference.lean ====
/- The router's reference: its three results as the choice of experts gives them. -/
module

public import proofs.«01_k».proof.Proof.RouterTools
public import proofs.«01_k».proof.Proof.Gen.Reference2Ideal.Run
public import Idealize.ShloMosaic.Lib.StackMember
public import Idealize.ShloMosaic.Lib.Routing.Words
public import Idealize.ShloMosaic.Lib.Routing.OpsPair

@[expose] public section

set_option maxRecDepth 16384

noncomputable section

namespace Cert.Router

open Cert.Reference2Ideal Cert.Reference2Ideal.Gen
open Idealize.ShloMosaic Idealize.ShloMosaic.ValueIdx Idealize.ShloMosaic.Routing

/-! ## The sort -/

/-- The positions of a row in the order of their scores, the greatest first, equal ones by number. -/
def ranked (x : FVec Ideal S2048x8 .f32) (t : Fin 2048) (k : Fin 8) : Fin 8 :=
  sortedFrom (fun i j : Fin 8 => FloatOps.cmpfTotal (F := Ideal) .gt (x (ix2 t i)) (x (ix2 t j)) == 1#1) k

theorem along_col (t : Fin 2048) (k e : Fin 8) : Shape.Idx.along (s := S2048x8) (ix2 t k) (1 : Fin 2) e = ix2 t e := by
  funext a
  match a with
  | ⟨0, _⟩ => rfl
  | ⟨1, _⟩ => rfl

theorem sort_val (x : FVec Ideal S2048x8 .f32) (y : IVec S2048x8 32) (t : Fin 2048) (k : Fin 8) :
    (Host.sort2 S2048x8 1 (fun l r => FloatOps.cmpfTotal (F := Ideal) (φ := .f32) .gt l.1 r.1) x y).1 (ix2 t k) = x (ix2 t (ranked x t k))
    ∧ (Host.sort2 S2048x8 1 (fun l r => FloatOps.cmpfTotal (F := Ideal) (φ := .f32) .gt l.1 r.1) x y).2 (ix2 t k) = y (ix2 t (ranked x t k)) := by
  have hR : (fun i j : Fin 8 => FloatOps.cmpfTotal (F := Ideal) (φ := .f32) .gt (x (Shape.Idx.along (s := S2048x8) (ix2 t k) (1 : Fin 2) i))
      (x (Shape.Idx.along (s := S2048x8) (ix2 t k) (1 : Fin 2) j)) == 1#1)
      = fun i j : Fin 8 => FloatOps.cmpfTotal (F := Ideal) .gt (x (ix2 t i)) (x (ix2 t j)) == 1#1 := by
    funext i j
    rw [along_col, along_col]
  have hS : sortedFrom (fun i j : Fin 8 => FloatOps.cmpfTotal (F := Ideal) (φ := .f32) .gt (x (Shape.Idx.along (s := S2048x8) (ix2 t k) (1 : Fin 2) i))
      (x (Shape.Idx.along (s := S2048x8) (ix2 t k) (1 : Fin 2) j)) == 1#1) k = ranked x t k := congrArg (fun R => sortedFrom R k) hR
  unfold Host.sort2
  rw [dif_pos (show (1 : ℕ) < S2048x8.rank by decide)]
  constructor
  · refine Eq.trans (congrArg (fun e : Fin 8 => x (Shape.Idx.along (s := S2048x8) (ix2 t k) (1 : Fin 2) e)) hS) ?_
    exact congrArg x (along_col t k _)
  · refine Eq.trans (congrArg (fun e : Fin 8 => y (Shape.Idx.along (s := S2048x8) (ix2 t k) (1 : Fin 2) e)) hS) ?_
    exact congrArg y (along_col t k _)

theorem slice_two {α : Type} (y : S2048x8.Idx → α) (h : S2048x8.Slices (fun _ => 0) S2048x2) (t : Fin 2048) (k : Fin 2) :
    extractStridedSlice S2048x2 (fun _ => 0) y h (ix2 t k) = y (ix2 t (k.castLE (by decide))) := by
  unfold extractStridedSlice
  refine congrArg y (funext fun a => Fin.ext ?_)
  match a with
  | ⟨0, _⟩ => exact Nat.zero_add _
  | ⟨1, _⟩ => exact Nat.zero_add _

/-- The numbers of the columns, which the sort carries along. -/
def colNums : IVec S2048x8 32 := fun i => if hd : 1 < S2048x8.rank then iotaInDim S2048x8 32 ⟨1, hd⟩ i else 0#32

theorem top_val (x : FVec Ideal S2048x8 .f32) (h : S2048x8.Slices (fun _ => 0) S2048x2) (t : Fin 2048) (k : Fin 2) :
    (Host.topK S2048x2 1 (FloatOps.cmpfTotal (F := Ideal) (φ := .f32) .gt) x h).1 (ix2 t k) = x (ix2 t (ranked x t (k.castLE (by decide)))) := by
  unfold Host.topK
  exact (slice_two (Host.sort2 S2048x8 1 (fun l r => FloatOps.cmpfTotal (F := Ideal) (φ := .f32) .gt l.1 r.1) x colNums).1 h t k).trans (sort_val x colNums t _).1

theorem top_num (x : FVec Ideal S2048x8 .f32) (h : S2048x8.Slices (fun _ => 0) S2048x2) (t : Fin 2048) (k : Fin 2) :
    (Host.topK S2048x2 1 (FloatOps.cmpfTotal (F := Ideal) (φ := .f32) .gt) x h).2 (ix2 t k)
      = BitVec.ofNat 32 (ranked x t (k.castLE (by decide))).val := by
  unfold Host.topK
  exact (slice_two (Host.sort2 S2048x8 1 (fun l r => FloatOps.cmpfTotal (F := Ideal) (φ := .f32) .gt l.1 r.1) x colNums).2 h t k).trans (sort_val x colNums t _).2

theorem isTop_ranked (x : FVec Ideal S2048x8 .f32) (t : Fin 2048) : IsTop (fun e => x (ix2 t e)) (ranked x t 0) (ranked x t 1) := by
  refine isTop_sortedFrom (fun e => x (ix2 t e)) _ fun i j => ?_
  show (BitVec.ofBool (decide ((x (ix2 t j) : EReal) < x (ix2 t i))) == 1#1) = true ↔ _
  by_cases h : (x (ix2 t j) : EReal) < x (ix2 t i)
  · simp [h]
  · simp [h]

/-! ## The reference's terms -/

variable (x0 : FVec Ideal S2048x1024 .f32) (x1 : FVec Ideal S1024x8 .f32)

def refScore : FVec Ideal S2048x8 .f32 := Host.dotGeneral dot_S2048x1024_S1024x8_S2048x8_1_0_0_1_n_n none x0 x1

theorem refScore_at (t : Fin 2048) (e : Fin 8) : refScore x0 x1 (ix2 t e) = ∑ k : Fin 1024, x0 (ix2 t k) * x1 (ix2 k e) :=
  StackMember.dotGeneral_plain_apply none x0 x1 t e

variable (x : FVec Ideal S2048x8 .f32)

def topVal : FVec Ideal S2048x2 .f32 := (Host.topK S2048x2 1 (FloatOps.cmpfTotal .gt) x sliceFits_S2048x8_S2048x2).1

def topNum : IVec S2048x2 32 := (Host.topK S2048x2 1 (FloatOps.cmpfTotal .gt) x sliceFits_S2048x8_S2048x2).2

def refHit (n : IVec S2048x2 32) : IVec S2048x8 1 :=
  Host.reduce IntOp.ori (cmpi .eq (broadcastInDim S2048x2x8 ![0, 1, 2] bcast_S2048x2x1_S2048x2x8_0_1_2 (broadcastInDim S2048x2x1 ![0, 1] bcast_S2048x2_S2048x2x1_0_1 n))
    (broadcastInDim S2048x2x8 ![0, 1, 2] bcast_S1x1x8_S2048x2x8_0_1_2 (broadcastInDim S1x1x8 ![2] bcast_S8_S1x1x8_2 (iotaInDim S8 32 0))))
    (constantI S_ 1 0#1) reducesTo_S2048x2x8_S2048x8_d1 h_S_

def refChosen (n : IVec S2048x2 32) : IVec S2048x8 32 := extui 32 (refHit n) natLt_1_32

def refCount (c : IVec S2048x8 32) : IVec S8 32 := Host.reduce IntOp.addi c (constantI S_ 32 0#32) reducesTo_S2048x8_S8_d0 h_S_

def refRoom (n : IVec S8 32) : IVec S8 32 :=
  muli (pyDiv bcast_S_S8 (addi n (broadcastInDim S8 ![] bcast_S_S8 (constantI S_ 32 127#32))) (constantI S_ 32 128#32))
    (broadcastInDim S8 ![] bcast_S_S8 (constantI S_ 32 128#32))

def refStart (r : IVec S8 32) : IVec S8 32 :=
  subi (Host.reduceWindow IntOp.addi ![8] ![1] ![7] ![0] r (broadcastInDim S_ ![] bcast_S_S_ (constantI S_ 32 0#32)) reduceWindows_S8_S8_w8s1p7_0 h_S_) r

def refAhead (c : IVec S2048x8 32) : IVec S2048x8 32 :=
  subi (Host.reduceWindow IntOp.addi ![2048, 1] ![1, 1] ![2047, 0] ![0, 0] c (broadcastInDim S_ ![] bcast_S_S_ (constantI S_ 32 0#32))
    reduceWindows_S2048x8_S2048x8_w2048s1p2047_0_w1s1p0_0 h_S_) c

def refPlaces (n : IVec S2048x2 32) : IVec S2048x2 32 :=
  Host.gather gather_S2048x8_S2048x2x1_S2048x2_n_1_0_0_1_2_11
    (addi (broadcastInDim S2048x8 ![0, 1] bcast_S1x8_S2048x8_0_1 (broadcastInDim S1x8 ![1] bcast_S8_S1x8_1 (refStart (refRoom (refCount (refChosen n))))))
      (refAhead (refChosen n)))
    (shapeCast S2048x2x1 (select (cmpi .slt n (broadcastInDim S2048x2 ![] bcast_S_S2048x2 (constantI S_ 32 0#32)))
      (addi n (broadcastInDim S2048x2 ![] bcast_S_S2048x2 (constantI S_ 32 8#32))) n) shapeCasts_S2048x2_S2048x2x1)

def refCounts (n : IVec S2048x2 32) : IVec S1x8 32 := broadcastInDim S1x8 ![1] bcast_S8_S1x8_1 (refCount (refChosen n))

def refExp (v : FVec Ideal S2048x2 .f32) : FVec Ideal S2048x2 .f32 :=
  Host.exp (subf v (broadcastInDim S2048x2 ![0, 1] bcast_S2048x1_S2048x2_0_1 (broadcastInDim S2048x1 ![0] bcast_S2048_S2048x1_0
    (maximumf (broadcastInDim S2048 ![] bcast_S_S2048 (constant S_ .f32 0xFF800000#32))
      (Host.reduce FloatOps.maximumf v (constant S_ .f32 0xFF800000#32) reducesTo_S2048x2_S2048_d1 h_S_)))))

def refWeights (v : FVec Ideal S2048x2 .f32) : FVec Ideal S2048x2 .f32 :=
  Host.divf (refExp v) (broadcastInDim S2048x2 ![0, 1] bcast_S2048x1_S2048x2_0_1 (broadcastInDim S2048x1 ![0] bcast_S2048_S2048x1_0
    (Host.reduceAdd (refExp v) (constant S_ .f32 0x00000000#32) reducesTo_S2048x2_S2048_d1 h_S_)))

/-! ## Reductions over two -/

theorem fold_two {α : Type} (op : α → α → α) [Std.Commutative op] [Std.Associative op] (z : α) (f : Fin 2 → α) :
    (Finset.univ : Finset (Fin 2)).fold op z f = op (f 0) (op (f 1) z) := by
  rw [show (Finset.univ : Finset (Fin 2)) = {0, 1} from rfl, Finset.fold_insert (by decide), Finset.fold_singleton]

theorem reduces_mid : S2048x2x8.Reduces [(1 : Fin 3)] S2048x8 := by decide

theorem reduces_pair : S2048x2.Reduces [(1 : Fin 2)] S2048 := by decide

theorem reduces_rows : S2048x8.Reduces [(0 : Fin 2)] S8 := by decide

theorem lift_mid (t : Fin 2048) (e : Fin 8) (k : Fin 2) : reduces_mid.lift (ix2 t e) k = ix3 t k e := by
  funext a
  match a with
  | ⟨0, _⟩ => rfl
  | ⟨1, _⟩ => rfl
  | ⟨2, _⟩ => rfl

theorem lift_pair (t : Fin 2048) (k : Fin 2) : reduces_pair.lift (ix1 t) k = ix2 t k := by
  funext a
  match a with
  | ⟨0, _⟩ => rfl
  | ⟨1, _⟩ => rfl

theorem reduce_mid (v : IVec S2048x2x8 1) (h : S2048x2x8.ReducesTo [(1 : Fin 3)] S2048x8) (t : Fin 2048) (e : Fin 8) :
    Host.reduce IntOp.ori v (constantI S_ 1 0#1) h h_S_ (ix2 t e) = IntOp.ori (v (ix3 t 0 e)) (v (ix3 t 1 e)) := by
  rw [Host.reduce_eq_fold, Shape.ReducesTo.drop_eq_drop h reduces_mid]
  refine (reduces_mid.fold_filter_drop_single IntOp.ori _ v (ix2 t e)).trans ?_
  have hc : v ∘ reduces_mid.lift (ix2 t e) = fun k : Fin 2 => v (ix3 t k e) := funext fun k => congrArg v (lift_mid t e k)
  refine (congrArg (fun f : Fin 2 → BitVec 1 => (Finset.univ : Finset (Fin 2)).fold IntOp.ori 0#1 f) hc).trans ?_
  rw [fold_two]
  show v (ix3 t 0 e) ||| (v (ix3 t 1 e) ||| 0#1) = _
  rw [BitVec.or_zero]
  rfl

theorem reduce_max_pair (v : FVec Ideal S2048x2 .f32) (h : S2048x2.ReducesTo [(1 : Fin 2)] S2048) (t : Fin 2048) (z : S_.Idx → EReal) (hz : ∀ i, z i = ⊥) :
    Host.reduce (FloatOps.maximumf (F := Ideal) (φ := .f32)) v z h h_S_ (ix1 t) = max (v (ix2 t 0) : EReal) (v (ix2 t 1)) := by
  rw [Host.reduce_eq_fold, Shape.ReducesTo.drop_eq_drop h reduces_pair]
  refine (reduces_pair.fold_filter_drop_single (FloatOps.maximumf (F := Ideal) (φ := .f32)) _ v (ix1 t)).trans ?_
  have hc : v ∘ reduces_pair.lift (ix1 t) = fun k : Fin 2 => v (ix2 t k) := funext fun k => congrArg v (lift_pair t k)
  refine (congrArg (fun f : Fin 2 → EReal => (Finset.univ : Finset (Fin 2)).fold (FloatOps.maximumf (F := Ideal) (φ := .f32)) (z (Shape.Idx.first h_S_)) f) hc).trans ?_
  rw [fold_two, hz]
  show max (v (ix2 t 0) : EReal) (max (v (ix2 t 1) : EReal) ⊥) = _
  rw [max_bot_right]

theorem reduce_add_pair (v : FVec Ideal S2048x2 .f32) (h : S2048x2.ReducesTo [(1 : Fin 2)] S2048) (t : Fin 2048) :
    Host.reduceAdd (F := Ideal) v (constant S_ .f32 0x00000000#32) h h_S_ (ix1 t) = (v (ix2 t 0) : EReal) + v (ix2 t 1) := by
  show Ideal.hostReduceAdd h v (Ideal.ofBits .f32 0x00000000#32) (ix1 t) = _
  rw [Ideal.hostReduceAdd_single h reduces_pair, Ideal.ofBits_zero_f32, zero_add]
  refine (Finset.sum_congr rfl fun k _ => congrArg v (lift_pair t k)).trans ?_
  exact Fin.sum_univ_two (fun k : Fin 2 => (v (ix2 t k) : EReal))

theorem fold_addi_nat {ι : Type} (S : Finset ι) (g : ι → BitVec 32) (f : ι → ℕ) (h : ∀ i ∈ S, g i = BitVec.ofNat 32 (f i)) :
    S.fold IntOp.addi 0#32 g = BitVec.ofNat 32 (∑ i ∈ S, f i) := by
  classical
  induction S using Finset.induction_on with
  | empty => rfl
  | insert a S ha ih =>
    rw [Finset.fold_insert ha, Finset.sum_insert ha, ih fun i hi => h i (Finset.mem_insert_of_mem hi), h a (Finset.mem_insert_self a S)]
    exact (BitVec.ofNat_add _ _).symm

theorem list_sum_range (f : ℕ → ℕ) (n : ℕ) : ((List.range n).map f).sum = ∑ i ∈ Finset.range n, f i := by
  induction n with
  | zero => rfl
  | succ n ih => rw [List.range_succ, List.map_append, List.sum_append, ih, Finset.sum_range_succ]; simp

/-! ## Counting and placing -/

variable (A B : ℕ → Fin 8) (n : IVec S2048x2 32)

theorem refHit_at (hn0 : ∀ t : Fin 2048, n (ix2 t 0) = BitVec.ofNat 32 (A t.val).val) (hn1 : ∀ t : Fin 2048, n (ix2 t 1) = BitVec.ofNat 32 (B t.val).val)
    (t : Fin 2048) (e : Fin 8) : refHit n (ix2 t e) = BitVec.ofBool (decide (A t.val = e ∨ B t.val = e)) := by
  have hl : ∀ k : Fin 2, broadcastInDim S2048x2x8 ![0, 1, 2] bcast_S2048x2x1_S2048x2x8_0_1_2 (broadcastInDim S2048x2x1 ![0, 1] bcast_S2048x2_S2048x2x1_0_1 n) (ix3 t k e)
      = n (ix2 t k) := by
    intro k
    refine (broadcastInDim_apply _ _ _ _ (ix3 t k 0) fun a => ?_).trans (broadcastInDim_apply _ _ _ _ (ix2 t k) fun a => ?_)
    · match a with
      | ⟨0, _⟩ => rfl
      | ⟨1, _⟩ => rfl
      | ⟨2, _⟩ => rfl
    · match a with
      | ⟨0, _⟩ => rfl
      | ⟨1, _⟩ => rfl
  have hr : ∀ k : Fin 2, broadcastInDim S2048x2x8 ![0, 1, 2] bcast_S1x1x8_S2048x2x8_0_1_2 (broadcastInDim S1x1x8 ![2] bcast_S8_S1x1x8_2 (iotaInDim S8 32 0)) (ix3 t k e)
      = BitVec.ofNat 32 e.val := by
    intro k
    refine (broadcastInDim_apply _ _ _ _ (ix3 0 0 e) fun a => ?_).trans ((broadcastInDim_apply _ _ _ _ (ix1 e) fun a => ?_).trans (iota1_ap e))
    · match a with
      | ⟨0, _⟩ => rfl
      | ⟨1, _⟩ => rfl
      | ⟨2, _⟩ => rfl
    · match a with
      | ⟨0, _⟩ => rfl
  unfold refHit
  refine (reduce_mid _ _ t e).trans ?_
  show IntOp.ori (IntOp.cmpi .eq (_ : BitVec 32) _) (IntOp.cmpi .eq (_ : BitVec 32) _) = _
  rw [hl, hl, hr, hr, hn0, hn1, cmpi_expert, cmpi_expert, ori_bit]

theorem refChosen_at (hn0 : ∀ t : Fin 2048, n (ix2 t 0) = BitVec.ofNat 32 (A t.val).val) (hn1 : ∀ t : Fin 2048, n (ix2 t 1) = BitVec.ofNat 32 (B t.val).val)
    (t : Fin 2048) (e : Fin 8) : refChosen n (ix2 t e) = BitVec.ofNat 32 (one A B t.val e.val) := by
  show (refHit n (ix2 t e)).setWidth 32 = _
  rw [refHit_at A B n hn0 hn1, setWidth_ofBool]
  unfold one
  simp only [Fin.ext_iff, eq_comm]

theorem refCount_at (c : IVec S2048x8 32) (hc : ∀ (t : Fin 2048) (e : Fin 8), c (ix2 t e) = BitVec.ofNat 32 (one A B t.val e.val)) (e : Fin 8) :
    refCount c (ix1 e) = BitVec.ofNat 32 (ahead A B 2048 e.val) := by
  unfold refCount
  rw [Host.reduce_eq_fold, Shape.ReducesTo.drop_eq_drop _ reduces_rows]
  refine (reduces_rows.fold_filter_drop_single IntOp.addi _ c (ix1 e)).trans ?_
  refine (fold_addi_nat (Finset.univ : Finset (Fin 2048)) _ (fun t : Fin 2048 => one A B t.val e.val) fun t _ => ?_).trans ?_
  · exact (congrArg c (lift_col reduces_rows e t)).trans (hc t e)
  · unfold ahead
    rw [Finset.sum_range (fun t => one A B t e.val)]

theorem refRoom_at (v : IVec S8 32) (hv : ∀ e : Fin 8, v (ix1 e) = BitVec.ofNat 32 (ahead A B 2048 e.val)) (e : Fin 8) :
    refRoom v (ix1 e) = BitVec.ofNat 32 (room A B e.val) := by
  have ha := ahead_le A B 2048 e.val
  unfold refRoom
  have h1 : addi v (broadcastInDim S8 ![] bcast_S_S8 (constantI S_ 32 127#32)) (ix1 e) = BitVec.ofNat 32 (ahead A B 2048 e.val + 127) := by
    rw [BitVec.ofNat_add, ← hv]
    rfl
  have h2 := pyDiv_ap bcast_S_S8 (addi v (broadcastInDim S8 ![] bcast_S_S8 (constantI S_ 32 127#32))) (constantI S_ 32 128#32) (ix1 e)
    (a := ahead A B 2048 e.val + 127) (b := 128) h1 rfl (by omega) (by omega) (by omega)
  rw [muli_ap, h2]
  unfold room
  rw [BitVec.ofNat_mul]
  rfl

theorem refStart_at (r : IVec S8 32) (hr : ∀ e : Fin 8, r (ix1 e) = BitVec.ofNat 32 (room A B e.val)) (e : Fin 8) :
    refStart r (ix1 e) = BitVec.ofNat 32 (start A B e.val) := by
  unfold refStart
  rw [subi_ap, hr]
  refine (congrArg (· - BitVec.ofNat 32 (room A B e.val)) (cumsum1 (N := 8) (Nm1 := 7) rfl r (room A B) hr _ rfl _ _ e)).trans ?_
  rw [list_sum_range, Finset.sum_range_succ, ofNat32_sub (Nat.le_add_left _ _), Nat.add_sub_cancel]
  rfl

theorem refAhead_at (c : IVec S2048x8 32) (hc : ∀ (t : Fin 2048) (e : Fin 8), c (ix2 t e) = BitVec.ofNat 32 (one A B t.val e.val)) (t : Fin 2048) (e : Fin 8) :
    refAhead c (ix2 t e) = BitVec.ofNat 32 (ahead A B t.val e.val) := by
  unfold refAhead
  rw [subi_ap, hc]
  refine (congrArg (· - BitVec.ofNat 32 (one A B t.val e.val)) (cumsum_rows (R := 2048) (Rm1 := 2047) (C := 8) rfl c (one A B) hc _ rfl _ _ t e)).trans ?_
  rw [list_sum_range (fun i => one A B i e.val), Finset.sum_range_succ, ofNat32_sub (Nat.le_add_left _ _), Nat.add_sub_cancel]
  rfl

theorem expert_back : ∀ a : Fin 8, (BitVec.ofNat 32 a.val).toInt.toNat = a.val := by decide

theorem gather_at (v : IVec S2048x8 32) (idx : IVec S2048x2x1 32) (t : Fin 2048) (k : Fin 2) (a : Fin 8) (hidx : idx (ix3 t k 0) = BitVec.ofNat 32 a.val) :
    Host.gather gather_S2048x8_S2048x2x1_S2048x2_n_1_0_0_1_2_11 v idx (ix2 t k) = v (ix2 t a) := by
  unfold Host.gather
  refine congrArg v (funext fun b => Fin.ext ?_)
  have hsi : gather_S2048x8_S2048x2x1_S2048x2_n_1_0_0_1_2_11.siIdx (ix2 t k) ⟨0, by decide⟩ = ix3 t k 0 := by
    funext b
    match b with
    | ⟨0, _⟩ => rfl
    | ⟨1, _⟩ => rfl
    | ⟨2, _⟩ => rfl
  have hz : GatherDims.start gather_S2048x8_S2048x2x1_S2048x2_n_1_0_0_1_2_11 (ix2 t k) idx (0 : Fin 2) = 0 :=
    GatherDims.start_batching gather_S2048x8_S2048x2x1_S2048x2_n_1_0_0_1_2_11 (ix2 t k) idx (0 : Fin 2) (List.mem_singleton.2 rfl)
  have hs : GatherDims.start gather_S2048x8_S2048x2x1_S2048x2_n_1_0_0_1_2_11 (ix2 t k) idx (1 : Fin 2) = a.val := by
    unfold GatherDims.start
    rw [dif_pos (show (1 : Fin 2) ∈ gather_S2048x8_S2048x2x1_S2048x2_n_1_0_0_1_2_11.startIndexMap from List.mem_singleton.2 rfl)]
    refine (congrArg (fun j => min (idx j).toInt.toNat (8 - 1)) hsi).trans ?_
    show min (idx (ix3 t k 0)).toInt.toNat (8 - 1) = a.val
    rw [hidx, expert_back]
    omega
  match b with
  | ⟨0, _⟩ =>
    show GatherDims.start gather_S2048x8_S2048x2x1_S2048x2_n_1_0_0_1_2_11 (ix2 t k) idx (0 : Fin 2)
      + GatherDims.batchCoord gather_S2048x8_S2048x2x1_S2048x2_n_1_0_0_1_2_11 (ix2 t k) (0 : Fin 2)
      + GatherDims.offCoord gather_S2048x8_S2048x2x1_S2048x2_n_1_0_0_1_2_11 (ix2 t k) (0 : Fin 2) = t.val
    rw [hz]
    exact (Nat.add_zero _).trans (Nat.zero_add _)
  | ⟨1, _⟩ =>
    show GatherDims.start gather_S2048x8_S2048x2x1_S2048x2_n_1_0_0_1_2_11 (ix2 t k) idx (1 : Fin 2)
      + GatherDims.batchCoord gather_S2048x8_S2048x2x1_S2048x2_n_1_0_0_1_2_11 (ix2 t k) (1 : Fin 2)
      + GatherDims.offCoord gather_S2048x8_S2048x2x1_S2048x2_n_1_0_0_1_2_11 (ix2 t k) (1 : Fin 2) = a.val
    rw [hs]
    rfl

theorem refPlaces_at (hn0 : ∀ t : Fin 2048, n (ix2 t 0) = BitVec.ofNat 32 (A t.val).val) (hn1 : ∀ t : Fin 2048, n (ix2 t 1) = BitVec.ofNat 32 (B t.val).val)
    (t : Fin 2048) (k : Fin 2) : refPlaces n (ix2 t k) = BitVec.ofNat 32 (place A B t.val k.val) := by
  have hc := refChosen_at A B n hn0 hn1
  have hnk : n (ix2 t k) = BitVec.ofNat 32 (sel A B t.val k.val).val := by
    match k with
    | ⟨0, _⟩ => exact hn0 t
    | ⟨1, _⟩ => exact hn1 t
  unfold refPlaces
  refine (gather_at _ _ t k (sel A B t.val k.val) ?_).trans ?_
  · refine (shapeCast_apply _ _ (ix3 t k 0) (ix2 t k) ?_).trans ?_
    · rw [Shape.rowMajor_val_two, Shape.rowMajor_val_three]
      show t.val * 2 + k.val = (t.val * 2 + k.val) * 1 + 0
      omega
    · show Scalar.select (IntOp.cmpi .slt (n (ix2 t k)) 0#32) (n (ix2 t k) + 8#32) (n (ix2 t k)) = _
      rw [wrap_of_lt, hnk]
      rw [hnk]
      generalize sel A B t.val k.val = a
      revert a; decide
  · rw [addi_ap, refAhead_at A B _ hc]
    refine (congrArg (· + _) ((bcCols _ _ _ t _).trans (refStart_at A B _ (refRoom_at A B _ (refCount_at A B _ hc)) _))).trans ?_
    exact (BitVec.ofNat_add _ _).symm

theorem refCounts_at (hn0 : ∀ t : Fin 2048, n (ix2 t 0) = BitVec.ofNat 32 (A t.val).val) (hn1 : ∀ t : Fin 2048, n (ix2 t 1) = BitVec.ofNat 32 (B t.val).val)
    (e : Fin 8) : refCounts n (ix2 0 e) = BitVec.ofNat 32 (ahead A B 2048 e.val) := by
  unfold refCounts
  refine (broadcastInDim_apply _ _ _ _ (ix1 e) fun a => ?_).trans (refCount_at A B _ (refChosen_at A B n hn0 hn1) e)
  match a with
  | ⟨0, _⟩ => rfl

/-! ## The weights -/

theorem column_pair (v : FVec Ideal S2048 .f32) (t : Fin 2048) (k : Fin 2) :
    broadcastInDim S2048x2 ![0, 1] bcast_S2048x1_S2048x2_0_1 (broadcastInDim S2048x1 ![0] bcast_S2048_S2048x1_0 v) (ix2 t k) = v (ix1 t) := by
  refine (broadcastInDim_apply _ _ _ _ (ix2 t 0) fun a => ?_).trans (broadcastInDim_apply _ _ _ _ (ix1 t) fun a => ?_)
  · match a with
    | ⟨0, _⟩ => rfl
    | ⟨1, _⟩ => rfl
  · match a with
    | ⟨0, _⟩ => rfl

theorem exp_sub_pair (v w : FVec Ideal S2048x2 .f32) (i : S2048x2.Idx) : Host.exp (subf v w) i = Ideal.exp ((v i : EReal) - w i) := rfl

theorem div_pair (v w : FVec Ideal S2048x2 .f32) (i : S2048x2.Idx) : Host.divf v w i = Ideal.div (v i) (w i) := rfl

theorem exp_zero_value : Ideal.exp 0 = 1 := by
  have h : Ideal.exp ((0 : ℝ) : EReal) = ((Real.exp 0 : ℝ) : EReal) := rfl
  rw [EReal.coe_zero] at h
  rw [h, Real.exp_zero, EReal.coe_one]

theorem refExp_at (v : FVec Ideal S2048x2 .f32) (t : Fin 2048) (hle : (v (ix2 t 1) : EReal) ≤ v (ix2 t 0)) (k : Fin 2) :
    refExp v (ix2 t k) = Ideal.exp ((v (ix2 t k) : EReal) - v (ix2 t 0)) := by
  have hm : maximumf (broadcastInDim S2048 ![] bcast_S_S2048 (constant S_ .f32 0xFF800000#32))
      (Host.reduce FloatOps.maximumf v (constant S_ .f32 0xFF800000#32) reducesTo_S2048x2_S2048_d1 h_S_) (ix1 t) = (v (ix2 t 0) : EReal) := by
    show max (Ideal.ofBits .f32 0xFF800000#32) (Host.reduce (FloatOps.maximumf (F := Ideal) (φ := .f32)) v (constant S_ .f32 0xFF800000#32) reducesTo_S2048x2_S2048_d1 h_S_ (ix1 t)) = _
    refine (congrArg₂ max bottom_f32 (reduce_max_pair v _ t _ (fun _ => bottom_f32))).trans ?_
    rw [max_bot_left, max_eq_left hle]
  unfold refExp
  exact (exp_sub_pair _ _ _).trans (congrArg (fun z : EReal => Ideal.exp ((v (ix2 t k) : EReal) - z)) ((column_pair _ t k).trans hm))

theorem refWeights_at (v : FVec Ideal S2048x2 .f32) (t : Fin 2048) (hle : (v (ix2 t 1) : EReal) ≤ v (ix2 t 0)) (hb : (v (ix2 t 0) : EReal) ≠ ⊥)
    (ht : (v (ix2 t 0) : EReal) ≠ ⊤) (k : Fin 2) :
    refWeights v (ix2 t k) = if k = 0 then Ideal.div 1 (1 + Ideal.exp ((v (ix2 t 1) : EReal) - v (ix2 t 0)))
      else Ideal.div (Ideal.exp ((v (ix2 t 1) : EReal) - v (ix2 t 0))) (1 + Ideal.exp ((v (ix2 t 1) : EReal) - v (ix2 t 0))) := by
  have h0 : Ideal.exp ((v (ix2 t 0) : EReal) - v (ix2 t 0)) = 1 := by
    rw [EReal.sub_self ht hb, exp_zero_value]
  have hs : Host.reduceAdd (refExp v) (constant S_ .f32 0x00000000#32) reducesTo_S2048x2_S2048_d1 h_S_ (ix1 t)
      = 1 + Ideal.exp ((v (ix2 t 1) : EReal) - v (ix2 t 0)) := by
    rw [reduce_add_pair, refExp_at v t hle, refExp_at v t hle, h0]
  unfold refWeights
  refine (div_pair _ _ _).trans ?_
  refine (congrArg₂ Ideal.div (refExp_at v t hle k) ((column_pair _ t k).trans hs)).trans ?_
  match k with
  | ⟨0, _⟩ => exact congrArg (fun a => Ideal.div a _) h0
  | ⟨1, _⟩ => rfl

end Cert.Router

end

end
-- ==== Proof.RouterValues.lean ====
/- The router's kernel and its reference agree on finite arguments. -/
module

public import proofs.«01_k».proof.Proof.RouterKernel
public import proofs.«01_k».proof.Proof.RouterReference
public import proofs.«01_k».proof.Proof.Gen.Pre_finite
public import Idealize.ShloMosaic.Lib.ReduceAll

@[expose] public section

set_option maxRecDepth 16384

noncomputable section

namespace Cert.Router

open Cert.Reference2Ideal
open Idealize.ShloMosaic Idealize.ShloMosaic.ValueIdx

/-! ## Finite arguments -/

theorem infinity_f32 : Ideal.ofBits .f32 0x7F800000#32 = ⊤ := by simp [Ideal.ofBits, Ideal.ieee]

/-- An extended real whose size is below infinity is a real number. -/
theorem real_of_size (a : EReal) (h : max a (-a) < ⊤) : ∃ r : ℝ, a = (r : EReal) := by
  have h1 : a < ⊤ := lt_of_le_of_lt (le_max_left _ _) h
  have h2 : -a < ⊤ := lt_of_le_of_lt (le_max_right _ _) h
  refine ⟨a.toReal, (EReal.coe_toReal h1.ne fun hb => ?_).symm⟩
  rw [hb, EReal.neg_bot] at h2
  exact lt_irrefl _ h2

theorem real_of_below {s : Shape} (x w : FVec Ideal s .f32) (hw : ∀ i, (w i : EReal) = ⊤) (i : s.Idx) (h : cmpf .olt (Host.absf x) w i = 1#1) :
    ∃ r : ℝ, (x i : EReal) = (r : EReal) := by
  have of1 : ∀ b : Bool, BitVec.ofBool b = 1#1 → b = true := by decide
  have h' : BitVec.ofBool (decide ((max (x i : EReal) (-(x i : EReal))) < w i)) = 1#1 := h
  refine real_of_size _ ?_
  have := of_decide_eq_true (of1 _ h')
  rwa [hw] at this

theorem reals_of_pre [Cert.Pre_finite.Facts] (x0 : FVec Ideal S2048x1024 .f32) (x1 : FVec Ideal S1024x8 .f32)
    (h : Cert.Pre_finite.fn (F := Ideal) x0 x1 = fun _ => 1#1) :
    (∀ i, ∃ r : ℝ, (x0 i : EReal) = (r : EReal)) ∧ ∀ i, ∃ r : ℝ, (x1 i : EReal) = (r : EReal) := by
  have and1 : ∀ x y : BitVec 1, IntOp.andi x y = 1#1 → x = 1#1 ∧ y = 1#1 := by decide
  have h' := congrFun h (fun a => a.elim0)
  unfold Cert.Pre_finite.fn at h'
  obtain ⟨h0, h1⟩ := and1 _ _ h'
  exact ⟨fun i => real_of_below x0 _ (fun _ => infinity_f32) i (Host.reduce_andi_all _ _ _ _ _ h0 i),
    fun i => real_of_below x1 _ (fun _ => infinity_f32) i (Host.reduce_andi_all _ _ _ _ _ h1 i)⟩

theorem real_sum {n : ℕ} (f : Fin n → EReal) (h : ∀ k, ∃ r : ℝ, f k = (r : EReal)) : ∃ r : ℝ, ∑ k, f k = (r : EReal) := by
  choose g hg using h
  refine ⟨∑ k, g k, ?_⟩
  rw [Finset.sum_congr rfl fun k _ => hg k]
  exact (map_sum (⟨⟨Real.toEReal, EReal.coe_zero⟩, EReal.coe_add⟩ : ℝ →+ EReal) g Finset.univ).symm

/-- Finite arguments have finite scores. -/
theorem score_real (x0 : FVec Ideal S2048x1024 .f32) (x1 : FVec Ideal S1024x8 .f32)
    (h0 : ∀ i, ∃ r : ℝ, (x0 i : EReal) = (r : EReal)) (h1 : ∀ i, ∃ r : ℝ, (x1 i : EReal) = (r : EReal)) (t : Fin 2048) (e : Fin 8) :
    ∃ r : ℝ, (refScore x0 x1 (ix2 t e) : EReal) = (r : EReal) := by
  rw [refScore_at]
  refine real_sum _ fun k => ?_
  obtain ⟨a, ha⟩ := h0 (ix2 t k)
  obtain ⟨b, hb⟩ := h1 (ix2 k e)
  exact ⟨a * b, by rw [ha, hb, EReal.coe_mul]⟩

/-! ## The three results -/

/-- The expert at place `k` of token `t`'s row in order. -/
def rankedNat (x : FVec Ideal S2048x8 .f32) (k : Fin 8) (t : ℕ) : Fin 8 := if h : t < 2048 then ranked x ⟨t, h⟩ k else 0

theorem rankedNat_val (x : FVec Ideal S2048x8 .f32) (k : Fin 8) (t : Fin 2048) : rankedNat x k t.val = ranked x t k := dif_pos t.isLt

theorem score_ref (x0 : FVec Ideal S2048x1024 .f32) (x1 : FVec Ideal S1024x8 .f32) (t : Fin 2048) :
    score x0 x1 t = fun e => refScore x0 x1 (ix2 t e) :=
  funext fun e => (score_eq x0 x1 t e).trans (refScore_at x0 x1 t e).symm

theorem score_top (x0 : FVec Ideal S2048x1024 .f32) (x1 : FVec Ideal S1024x8 .f32) (t : Fin 2048) :
    IsTop (score x0 x1 t) (rankedNat (refScore x0 x1) 0 t.val) (rankedNat (refScore x0 x1) 1 t.val) := by
  rw [score_ref, rankedNat_val, rankedNat_val]
  exact isTop_ranked _ t

theorem num_first (x : FVec Ideal S2048x8 .f32) (t : Fin 2048) : topNum x (ix2 t 0) = BitVec.ofNat 32 (rankedNat x 0 t.val).val := by
  rw [rankedNat_val]
  exact top_num x _ t 0

theorem num_second (x : FVec Ideal S2048x8 .f32) (t : Fin 2048) : topNum x (ix2 t 1) = BitVec.ofNat 32 (rankedNat x 1 t.val).val := by
  rw [rankedNat_val]
  exact top_num x _ t 1

section
variable (x0 : FVec Ideal S2048x1024 .f32) (x1 : FVec Ideal S1024x8 .f32)
variable (h0 : ∀ i, ∃ r : ℝ, (x0 i : EReal) = (r : EReal)) (h1 : ∀ i, ∃ r : ℝ, (x1 i : EReal) = (r : EReal))
include h0 h1

theorem score_ne_bot (t : Fin 2048) (e : Fin 8) : score x0 x1 t e ≠ ⊥ := by
  obtain ⟨r, hr⟩ := score_real x0 x1 h0 h1 t e
  rw [score_ref]
  exact fun h => EReal.coe_ne_bot r (hr.symm.trans h)

theorem places_meet : places (F := Ideal) x0 x1 = refPlaces (topNum (refScore x0 x1)) := by
  funext i
  obtain ⟨t, k, rfl⟩ : ∃ (t : Fin 2048) (k : Fin 2), i = ix2 t k := ⟨_, _, eq_ix2 i⟩
  exact (places_at x0 x1 (pay4_at x0 x1 (score_top x0 x1)) (pay7_at x0 x1 (score_top x0 x1) (score_ne_bot x0 x1 h0 h1)) t k).trans
    (refPlaces_at _ _ _ (num_first _) (num_second _) t k).symm

theorem counts_meet : Cert.Kernel2Ideal.Gen.k0_pay13 (F := Ideal) x0 x1 = refCounts (topNum (refScore x0 x1)) := by
  funext i
  obtain ⟨t, e, rfl⟩ : ∃ (t : Fin 1) (e : Fin 8), i = ix2 t e := ⟨_, _, eq_ix2 i⟩
  obtain rfl : t = 0 := Subsingleton.elim _ _
  exact (pay13_at x0 x1 (pay4_at x0 x1 (score_top x0 x1)) (pay7_at x0 x1 (score_top x0 x1) (score_ne_bot x0 x1 h0 h1)) e).trans
    (refCounts_at _ _ _ (num_first _) (num_second _) e).symm

theorem weights_meet : weights (F := Ideal) x0 x1 = refWeights (topVal (refScore x0 x1)) := by
  funext i
  obtain ⟨t, k, rfl⟩ : ∃ (t : Fin 2048) (k : Fin 2), i = ix2 t k := ⟨_, _, eq_ix2 i⟩
  have v0 : (topVal (refScore x0 x1) (ix2 t 0) : EReal) = score x0 x1 t (rankedNat (refScore x0 x1) 0 t.val) := by
    rw [score_ref, rankedNat_val]
    exact top_val _ _ t 0
  have v1 : (topVal (refScore x0 x1) (ix2 t 1) : EReal) = score x0 x1 t (rankedNat (refScore x0 x1) 1 t.val) := by
    rw [score_ref, rankedNat_val]
    exact top_val _ _ t 1
  obtain ⟨r, hr⟩ := score_real x0 x1 h0 h1 t (rankedNat (refScore x0 x1) 0 t.val)
  have hs : score x0 x1 t (rankedNat (refScore x0 x1) 0 t.val) = (r : EReal) := by rw [score_ref]; exact hr
  have hle : (topVal (refScore x0 x1) (ix2 t 1) : EReal) ≤ topVal (refScore x0 x1) (ix2 t 0) := by
    rw [v0, v1]
    exact (score_top x0 x1 t).first_le _
  have hb : (topVal (refScore x0 x1) (ix2 t 0) : EReal) ≠ ⊥ := by rw [v0, hs]; exact EReal.coe_ne_bot r
  have ht : (topVal (refScore x0 x1) (ix2 t 0) : EReal) ≠ ⊤ := by rw [v0, hs]; exact EReal.coe_ne_top r
  refine (weights_at x0 x1 (score_top x0 x1) t k).trans ?_
  rw [refWeights_at _ t hle hb ht k, v0, v1]

end

end Cert.Router

end

end
-- ==== Proof.WholeTables.lean ====
/- The table of tiles as the two expert calls of the whole program read it: both calls' side conditions hold of a table that fits,
   every window over the rows is at the block `tileAt` of its point, and a point stores its output exactly if its slot is below the
   expert's count. -/
module

public import proofs.«01_k».proof.Proof.Tables
public import proofs.«01_k».proof.Proof.Gen.Kernel3Ideal.Launch

@[expose] public section

noncomputable section

namespace Cert.Whole

open Cert.Kernel3Ideal Cert.Kernel3Ideal.Gen Cert.Tiles
open Cert.Moe (wordOf startOf countOf Fit tileOf tileAt_eq tileOf_lt tile_word off1_nat off2_nat at_word rows_block)
open Idealize.ShloMosaic Idealize.ShloMosaic.TcCoe Idealize.SL.Sem

variable {F : FTy → Type} [FloatOps F]

/-! ### The blocks -/

theorem rows1_0_eq [Facts] (pf : pre1.Contents (Elt F)) (hfit : Fit (pf 0)) (i : grid1.Coords) :
    cc1_transform_0 k1_off1_inb numel1_S1 k1_off2_inb pf i = ![tileOf (pf 0) (i 0).val (i 1).val, 0] := by
  have key := tile_word (pf 0) hfit (i 0) (i 1) (k1_off1_inb i) numel1_S1 (k1_off2_inb i) numel1_S1
  unfold cc1_transform_0
  exact congrArg (fun x => ![x, 0]) key

theorem rows1_3_eq [Facts] (pf : pre1.Contents (Elt F)) (hfit : Fit (pf 0)) (i : grid1.Coords) :
    cc1_transform_3 k1_off1_inb numel1_S1 k1_off2_inb pf i = ![tileOf (pf 0) (i 0).val (i 1).val, 0] := by
  have key := tile_word (pf 0) hfit (i 0) (i 1) (k1_off1_inb i) numel1_S1 (k1_off2_inb i) numel1_S1
  unfold cc1_transform_3
  exact congrArg (fun x => ![x, 0]) key

theorem rows2_0_eq [Facts] (pf : pre2.Contents (Elt F)) (hfit : Fit (pf 0)) (i : grid2.Coords) :
    cc2_transform_0 k2_off1_inb numel1_S1 k2_off2_inb pf i = ![tileOf (pf 0) (i 0).val (i 1).val, 0] := by
  have key := tile_word (pf 0) hfit (i 0) (i 1) (k2_off1_inb i) numel1_S1 (k2_off2_inb i) numel1_S1
  unfold cc2_transform_0
  exact congrArg (fun x => ![x, 0]) key

theorem rows2_2_eq [Facts] (pf : pre2.Contents (Elt F)) (hfit : Fit (pf 0)) (i : grid2.Coords) :
    cc2_transform_2 k2_off1_inb numel1_S1 k2_off2_inb pf i = ![tileOf (pf 0) (i 0).val (i 1).val, 0] := by
  have key := tile_word (pf 0) hfit (i 0) (i 1) (k2_off1_inb i) numel1_S1 (k2_off2_inb i) numel1_S1
  unfold cc2_transform_2
  exact congrArg (fun x => ![x, 0]) key

theorem rows2_3_eq [Facts] (pf : pre2.Contents (Elt F)) (hfit : Fit (pf 0)) (i : grid2.Coords) :
    cc2_transform_3 k2_off1_inb numel1_S1 k2_off2_inb pf i = ![tileOf (pf 0) (i 0).val (i 1).val, 0] := by
  have key := tile_word (pf 0) hfit (i 0) (i 1) (k2_off1_inb i) numel1_S1 (k2_off2_inb i) numel1_S1
  unfold cc2_transform_3
  exact congrArg (fun x => ![x, 0]) key

/-! ### The side conditions -/

theorem ok1_of_fit [Facts] (pf : pre1.Contents (Elt F)) (hfit : Fit (pf 0)) : ok1 pf := by
  have hb : ∀ i : grid1.Coords, tileOf (pf 0) (i 0).val (i 1).val < 40 := fun i => tileOf_lt hfit (i 0).isLt
  refine ⟨fun i => ?_, fun i => ?_⟩
  · obtain ⟨h, hw⟩ := rows_block (w := 1024) (by decide) (EltTy.packing .bf16) (by decide) _ _ (rows1_0_eq pf hfit i) (hb i)
    exact ⟨h, .inr hw⟩
  · obtain ⟨h, hw⟩ := rows_block (w := 2880) (by decide) (EltTy.packing .bf16) (by decide) _ _ (rows1_3_eq pf hfit i) (hb i)
    exact ⟨h, .inr hw⟩

theorem ok2_of_fit [Facts] (pf : pre2.Contents (Elt F)) (hfit : Fit (pf 0)) : ok2 pf := by
  have hb : ∀ i : grid2.Coords, tileOf (pf 0) (i 0).val (i 1).val < 40 := fun i => tileOf_lt hfit (i 0).isLt
  refine ⟨fun i => ?_, fun i => ?_, fun i => ?_⟩
  · obtain ⟨h, hw⟩ := rows_block (w := 2880) (by decide) (EltTy.packing .bf16) (by decide) _ _ (rows2_0_eq pf hfit i) (hb i)
    exact ⟨h, .inr hw⟩
  · obtain ⟨h, hw⟩ := rows_block (w := 1) (by decide) (EltTy.packing .f32) (by decide) _ _ (rows2_2_eq pf hfit i) (hb i)
    exact ⟨h, .inr hw⟩
  · obtain ⟨h, hw⟩ := rows_block (w := 1024) (by decide) (EltTy.packing .f32) (by decide) _ _ (rows2_3_eq pf hfit i) (hb i)
    exact ⟨h, .inr hw⟩

/-! ### Where the calls store -/

theorem cond1_iff (i : grid1.Coords) (T : S16.Idx → BitVec 32) (hfit : Fit T) :
    k1_cond1 i (wordOf T (8 + (i 0).val)) = 1#1 ↔ (i 1).val < countOf T (i 0).val :=
  slot_lt (wordOf T (8 + (i 0).val)) (i 1).val (hfit.n_le _ (i 0).isLt) (i 1).isLt

theorem cond2_iff (i : grid2.Coords) (T : S16.Idx → BitVec 32) (hfit : Fit T) :
    k2_cond1 i (wordOf T (8 + (i 0).val)) = 1#1 ↔ (i 1).val < countOf T (i 0).val :=
  slot_lt (wordOf T (8 + (i 0).val)) (i 1).val (hfit.n_le _ (i 0).isLt) (i 1).isLt

/-- The word a body loads at a grid point. -/
theorem count_word1 (T : S16.Idx → BitVec 32) (i : grid1.Coords) (h : ∀ a, k1_off1 i a + S1.size a ≤ S16.size a)
    (h1 : (Rect.unit (s := S16) (k1_off1 i) S1.size h).shape.numel = 1) :
    T ((Rect.unit (s := S16) (k1_off1 i) S1.size h).emb (Shape.Idx.first (h1.symm ▸ Nat.one_pos))) = wordOf T (8 + (i 0).val) :=
  at_word T _ (8 + (i 0).val) (by have : (i 0).val < 8 := (i 0).isLt; omega) (off1_nat (i 0)) h h1

theorem count_word2 (T : S16.Idx → BitVec 32) (i : grid2.Coords) (h : ∀ a, k2_off1 i a + S1.size a ≤ S16.size a)
    (h1 : (Rect.unit (s := S16) (k2_off1 i) S1.size h).shape.numel = 1) :
    T ((Rect.unit (s := S16) (k2_off1 i) S1.size h).emb (Shape.Idx.first (h1.symm ▸ Nat.one_pos))) = wordOf T (8 + (i 0).val) :=
  at_word T _ (8 + (i 0).val) (by have : (i 0).val < 8 := (i 0).isLt; omega) (off1_nat (i 0)) h h1

end Cert.Whole

end
-- ==== Proof.WholeBodies.lean ====
/- What one grid point of each of the two expert calls of the whole program does to its staging buffers: where the point is live (its slot is below
   the number of the expert's tiles) the output's buffer is overwritten by the tile's values; where it is not, nothing changes. -/
module

public import proofs.«01_k».proof.Proof.WholeTables
public import Idealize.ShloMosaic.Lib.Pipeline.RegionsLoop
public import Idealize.ShloMosaic.Lib.VecWindow
public import proofs.«01_k».proof.Proof.Gen.Kernel3Ideal.Skeleton

@[expose] public section

noncomputable section

namespace Cert.Whole

open Cert.Kernel3Ideal Cert.Kernel3Ideal.Gen
open Cert.Moe (wordOf startOf countOf Fit tileOf)
open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the pipeline library's once for each of the three calls, beside the counters. -/
abbrev UU : Type := IProdConst (Fin 3) (UR sig nD τ) × Counters

local notation "𝕄" => MT nD τ sig Unit (Elt F) ℕ UU ℕ

/-- The buffer of memref `M` on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Owning a whole memref at contents `X` is holding its buffer at some contents that read `X`. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt c M f) := by
  unfold owns; rw [hM.set_eq_univ]

/-- One point of the gate-and-up call: from the table and the four staging buffers, the body runs to its end and leaves the table
    and the inputs as they were, and the output's buffer at the tile's values where the point is live, as found where it is not. -/
theorem gateup_run (D : Defs nD τ sig (Elt F) Λ₀) (c : Dev nD) (i : grid1.Coords)
    (M3 : Memref sig .tc .vmem S128x1024 .bf16) (h3 : M3.IsWhole) (M4 : Memref sig .tc .vmem S1x1024x2880 .f32) (h4 : M4.IsWhole)
    (M5 : Memref sig .tc .vmem S1x1024x2880 .f32) (h5 : M5.IsWhole) (M6 : Memref sig .tc .vmem S128x2880 .bf16) (h6 : M6.IsWhole)
    (T : S16.Idx → BitVec 32) (X3 : S128x1024.Idx → Elt F .bf16)
    (X4 X5 : S1x1024x2880.Idx → Elt F .f32) (X6 : S128x2880.Idx → Elt F .bf16)
    (E : Set ℕ) (Q : PUnit → sProp 𝕄) :
    iprop(pt c (Memref.whole main_v8) T ∗ owns (c : Thread nD τ) M3 fullShare X3 ∗ owns (c : Thread nD τ) M4 fullShare X4
        ∗ owns (c : Thread nD τ) M5 fullShare X5 ∗ owns (c : Thread nD τ) M6 fullShare X6
        ∗ (iprop(pt c (Memref.whole main_v8) T ∗ owns (c : Thread nD τ) M3 fullShare X3 ∗ owns (c : Thread nD τ) M4 fullShare X4
            ∗ owns (c : Thread nD τ) M5 fullShare X5
            ∗ owns (c : Thread nD τ) M6 fullShare (if k1_cond1 i (wordOf T (8 + (i 0).val)) = 1#1 then k1_pay1 X3 X4 X5 else X6)) -∗ Q ⟨⟩))
      ⊢ wp frame (wpE D Variants.none c none) E (cc1__gateup_body i (Memref.whole main_v8) (Memref.isWhole_whole _) M3 h3 M4 h4 M5 h5 M6 h6) Q := by
  rw [cc1__gateup_body_eq_skeleton]; unfold cc1__gateup_body_skel
  simp only [owns_pt c M3 h3, owns_pt c M4 h4, owns_pt c M5 h5, owns_pt c M6 h6]
  iintro ⟨H2, ⟨%f3, %e3, H3⟩, ⟨%f4, %e4, H4⟩, ⟨%f5, %e5, H5⟩, ⟨%f6, %e6, H6⟩, Hk⟩
  sl_exec!
  sl_step
  iapply Hk
  isplitl [H2]; · iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _
  isplitr; swap
  · iexact H6
  ipureintro
  have hw : (gateup_run.sl.r (F := F) i T : BitVec 32) = wordOf T (8 + (i 0).val) := by unfold gateup_run.sl.r; exact count_word1 T i (k1_off1_inb i) numel1_S1
  rw [hw]
  split
  · rw [Idealize.ShloMosaic.View.read_writes_full, Idealize.ShloMosaic.View.readAt_full, Idealize.ShloMosaic.View.readAt_full, Idealize.ShloMosaic.View.readAt_full, e3, e4, e5]
  · exact e6

/-- One point of the down call, likewise. -/
theorem down_run (D : Defs nD τ sig (Elt F) Λ₀) (c : Dev nD) (i : grid2.Coords)
    (M3 : Memref sig .tc .vmem S128x2880 .bf16) (h3 : M3.IsWhole) (M4 : Memref sig .tc .vmem S1x2880x1024 .f32) (h4 : M4.IsWhole)
    (M5 : Memref sig .tc .vmem S128x1 .f32) (h5 : M5.IsWhole) (M6 : Memref sig .tc .vmem S128x1024 .f32) (h6 : M6.IsWhole)
    (T : S16.Idx → BitVec 32) (X3 : S128x2880.Idx → Elt F .bf16)
    (X4 : S1x2880x1024.Idx → Elt F .f32) (X5 : S128x1.Idx → Elt F .f32) (X6 : S128x1024.Idx → Elt F .f32)
    (E : Set ℕ) (Q : PUnit → sProp 𝕄) :
    iprop(pt c (Memref.whole main_v8) T ∗ owns (c : Thread nD τ) M3 fullShare X3 ∗ owns (c : Thread nD τ) M4 fullShare X4
        ∗ owns (c : Thread nD τ) M5 fullShare X5 ∗ owns (c : Thread nD τ) M6 fullShare X6
        ∗ (iprop(pt c (Memref.whole main_v8) T ∗ owns (c : Thread nD τ) M3 fullShare X3 ∗ owns (c : Thread nD τ) M4 fullShare X4
            ∗ owns (c : Thread nD τ) M5 fullShare X5
            ∗ owns (c : Thread nD τ) M6 fullShare (if k2_cond1 i (wordOf T (8 + (i 0).val)) = 1#1 then k2_pay1 X3 X4 X5 else X6)) -∗ Q ⟨⟩))
      ⊢ wp frame (wpE D Variants.none c none) E (cc2__down_body i (Memref.whole main_v8) (Memref.isWhole_whole _) M3 h3 M4 h4 M5 h5 M6 h6) Q := by
  rw [cc2__down_body_eq_skeleton]; unfold cc2__down_body_skel
  simp only [owns_pt c M3 h3, owns_pt c M4 h4, owns_pt c M5 h5, owns_pt c M6 h6]
  iintro ⟨H2, ⟨%f3, %e3, H3⟩, ⟨%f4, %e4, H4⟩, ⟨%f5, %e5, H5⟩, ⟨%f6, %e6, H6⟩, Hk⟩
  sl_exec!
  sl_step
  iapply Hk
  isplitl [H2]; · iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  iexists _
  isplitr; swap
  · iexact H6
  ipureintro
  have hw : (down_run.sl.r (F := F) i T : BitVec 32) = wordOf T (8 + (i 0).val) := by unfold down_run.sl.r; exact count_word2 T i (k2_off1_inb i) numel1_S1
  rw [hw]
  split
  · rw [Idealize.ShloMosaic.View.read_writes_full, Idealize.ShloMosaic.View.readAt_full, Idealize.ShloMosaic.View.readAt_full, Idealize.ShloMosaic.View.readAt_full, e3, e4, e5]
  · exact e6

end Cert.Whole
-- ==== Proof.WholeRegion1.lean ====
/- The gate-and-up call as a region of the whole program's run: at a live point the body puts the tile's values in the output's buffer, at any other
   point it leaves the buffer as found; so once an expert's points are over, every tile it owns holds that tile's values. -/
module

public import proofs.«01_k».proof.Proof.WholeBodies
public import proofs.«01_k».proof.Proof.Region1
public import Idealize.ShloMosaic.Lib.Pipeline.Value
public import Idealize.ShloMosaic.Lib.Pipeline.ArrRel

@[expose] public section

set_option backward.isDefEq.respectTransparency.types false

noncomputable section

namespace Cert.Whole

open Cert.Kernel3Ideal Cert.Kernel3Ideal.Gen Cert.Tiles
open Cert.Moe (wordOf startOf countOf Fit tileOf tileOf_lt tileAt_eq rowsAt slabAt arrAt_forall_rel)
open Idealize.ShloMosaic Idealize.ShloMosaic.TcCoe Idealize.ShloMosaic.Tactic Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- What the gate-and-up call computes for tile `j` with expert `e`'s weights. -/
def tileH (xs : S5120x1024.Idx → Elt F .bf16) (gw uw : S8x1024x2880.Idx → Elt F .f32) (e j : ℕ) : S128x2880.Idx → Elt F .bf16 :=
  k1_pay1 (rowsAt xs j) (slabAt gw e) (slabAt uw e)

/-- A point's coordinates: the expert, and the slot among its tiles. -/
theorem coord1 (t : Fin grid1.N) : (grid1.coords t 0).val = t.val / 16 ∧ (grid1.coords t 1).val = t.val % 16 := by
  have h : t.val < 128 := N_1 ▸ t.isLt
  have h0 := Grid.coords_val (G := grid1) t 0 (S := 16) (B := 8) (by decide) rfl
  have h1 := Grid.coords_val (G := grid1) t 1 (S := 1) (B := 16) (by decide) rfl
  omega

variable (a : (p : Fin 3) → (pcfgs (F := F) p).Adm)

/-- The proof data of the gate-and-up call: entered from the buffers at `V`. -/
def rd1 (V : Dev nD → Valuation τ sig (Elt F)) (c : Dev nD) : RDat τ (Elt F) Unit ℕ UU ℕ (pin pcfgs a 1) c where
  A w := V c (Proc.devRef .tc (arrRef (pin pcfgs a 1).spec w))
  after := fun
    | 0 => fun _ Y X => X = Y
    | 1 => fun _ Y X => X = Y
    | 2 => fun _ Y X => X = Y
    | 3 => fun t Y X => X = if t.val % 16 < countOf ((a 1).1 0) (t.val / 16) then
        tileH (V c main_v48) (V c main_arg2) (V c main_arg3) (t.val / 16) (tileOf ((a 1).1 0) (t.val / 16) (t.val % 16)) else Y
    | ⟨_ + 4, h⟩ => absurd h (Nat.not_lt.2 (Nat.le_add_left _ _))
  Φ _ := iprop(scopedRest (pin pcfgs a 1).spec c ∗ tablesAt pcfgs a 1 c)
  q _ := fullShare
  owed _ := 0

variable {a} (hfit : Fit ((a 1).1 0))
include hfit

theorem index1_0 (t : Fin grid1.N) : ((pin pcfgs a 1).win 0).index t = ![tileOf ((a 1).1 0) (t.val / 16) (t.val % 16), 0] := by
  refine (rows1_0_eq (a 1).1 hfit (grid1.coords t)).trans ?_
  rw [(coord1 t).1, (coord1 t).2]

theorem index1_3 (t : Fin grid1.N) : ((pin pcfgs a 1).win 3).index t = ![tileOf ((a 1).1 0) (t.val / 16) (t.val % 16), 0] := by
  refine (rows1_3_eq (a 1).1 hfit (grid1.coords t)).trans ?_
  rw [(coord1 t).1, (coord1 t).2]

theorem read1_0 (V : Dev nD → Valuation τ sig (Elt F)) (c : Dev nD) (t : Fin grid1.N) (d) :
    (rd1 a V c).fetched 0 t d = rowsAt (V c main_v48) (tileOf ((a 1).1 0) (t.val / 16) (t.val % 16)) := by
  have ht : t.val < 128 := N_1 ▸ t.isLt
  have hj := tileOf_lt hfit (show t.val / 16 < 8 by omega) (k := t.val % 16)
  refine funext fun (y : S128x1024.Idx) => ?_
  have hy0 : (y 0).val < 128 := (y 0).isLt
  show V c main_v48 _ = V c main_v48 _
  congr 1
  refine funext fun (k : Fin 2) => Fin.ext ?_
  refine (((pin pcfgs a 1).win 0).rect_emb_val t y k rfl).trans ?_
  rw [index1_0 hfit t]
  match k with
  | 0 => exact (Nat.mod_eq_of_lt (show tileOf ((a 1).1 0) (t.val / 16) (t.val % 16) * 128 + (y 0).val < 5120 by omega)).symm
  | 1 => show 0 * 1024 + (y 1).val = (y 1).val; omega

omit hfit in
theorem index1_1 (t : Fin grid1.N) : ((pin pcfgs a 1).win 1).index t = ![t.val / 16, 0, 0] := by
  have ht : t.val < 128 := N_1 ▸ t.isLt
  show ![(BitVec.ofNat 32 (grid1.coords t 0).val).toNat, 0, 0] = _
  rw [(coord1 t).1, BitVec.toNat_ofNat, Nat.mod_eq_of_lt (by omega)]

omit hfit in
theorem read1_1 (V : Dev nD → Valuation τ sig (Elt F)) (c : Dev nD) (t : Fin grid1.N) (d) :
    (rd1 a V c).fetched 1 t d = slabAt (V c main_arg2) (t.val / 16) := by
  have ht : t.val < 128 := N_1 ▸ t.isLt
  refine funext fun (y : S1x1024x2880.Idx) => ?_
  have hy0 : (y 0).val < 1 := (y 0).isLt
  show V c main_arg2 _ = V c main_arg2 _
  congr 1
  refine funext fun (k : Fin 3) => Fin.ext ?_
  refine (((pin pcfgs a 1).win 1).rect_emb_val t y k rfl).trans ?_
  rw [index1_1 t]
  match k with
  | 0 => show t.val / 16 * 1 + (y 0).val = t.val / 16 % 8; omega
  | 1 => show 0 * 1024 + (y 1).val = (y 1).val; omega
  | 2 => show 0 * 2880 + (y 2).val = (y 2).val; omega

omit hfit in
theorem index1_2 (t : Fin grid1.N) : ((pin pcfgs a 1).win 2).index t = ![t.val / 16, 0, 0] := by
  have ht : t.val < 128 := N_1 ▸ t.isLt
  show ![(BitVec.ofNat 32 (grid1.coords t 0).val).toNat, 0, 0] = _
  rw [(coord1 t).1, BitVec.toNat_ofNat, Nat.mod_eq_of_lt (by omega)]

omit hfit in
theorem read1_2 (V : Dev nD → Valuation τ sig (Elt F)) (c : Dev nD) (t : Fin grid1.N) (d) :
    (rd1 a V c).fetched 2 t d = slabAt (V c main_arg3) (t.val / 16) := by
  have ht : t.val < 128 := N_1 ▸ t.isLt
  refine funext fun (y : S1x1024x2880.Idx) => ?_
  have hy0 : (y 0).val < 1 := (y 0).isLt
  show V c main_arg3 _ = V c main_arg3 _
  congr 1
  refine funext fun (k : Fin 3) => Fin.ext ?_
  refine (((pin pcfgs a 1).win 2).rect_emb_val t y k rfl).trans ?_
  rw [index1_2 t]
  match k with
  | 0 => show t.val / 16 * 1 + (y 0).val = t.val / 16 % 8; omega
  | 1 => show 0 * 1024 + (y 1).val = (y 1).val; omega
  | 2 => show 0 * 2880 + (y 2).val = (y 2).val; omega

omit hfit in
/-- What the body finds in the input windows. -/
theorem finds1_in (V : Dev nD → Valuation τ sig (Elt F)) (c : Dev nD) (w : Fin 4) (hw : w.val < 3) (t : Fin grid1.N) (Y) (h : (rd1 a V c).Finds w t Y) :
    ∃ d, Y = (rd1 a V c).fetched w t d := by
  refine RDat.finds_in_eq_fetched (rd1 a V c) w ?_ (fun _ _ _ => ?_) (fun t Y X hX => ?_) t Y h
  · match w, hw with | 0, _ => rfl | 1, _ => rfl | 2, _ => rfl | ⟨n + 3, _⟩, h => exact absurd h (Nat.not_lt.2 (Nat.le_add_left _ _))
  · match w, hw with | 0, _ => rfl | 1, _ => rfl | 2, _ => rfl | ⟨n + 3, _⟩, h => exact absurd h (Nat.not_lt.2 (Nat.le_add_left _ _))
  · match w, hw, Y, X, hX with
    | 0, _, _, _, hX => exact hX
    | 1, _, _, _, hX => exact hX
    | 2, _, _, _, hX => exact hX
    | ⟨n + 3, _⟩, h, _, _, _ => exact absurd h (Nat.not_lt.2 (Nat.le_add_left _ _))

omit hfit in
/-- The one table of the call, held whole. -/
theorem tables1 (c : Dev nD) : (tablesAt pcfgs a 1 c : sProp 𝕄) = pt c (Memref.whole main_v8) ((a 1).1 0) := by
  unfold tablesAt prefHeld
  exact bigSep_univ_eq_bigSepL [(0 : Fin 1)] (by decide) (by decide) _

/-- The body meets its obligation. -/
theorem body1 (V : Dev nD → Valuation τ sig (Elt F)) (c : Dev nD) :
    (rd1 a V c).BodyObligation defs₀ Variants.none () Set.univ := by
  intro t Y hY
  have ht : t.val < 128 := N_1 ▸ t.isLt
  have e0 : Y 0 = rowsAt (V c main_v48) (tileOf ((a 1).1 0) (t.val / 16) (t.val % 16)) := by
    obtain ⟨d, e⟩ := finds1_in V c 0 (by decide) t _ (hY 0)
    exact e.trans (read1_0 hfit V c t d)
  have e1 : Y 1 = slabAt (V c main_arg2) (t.val / 16) := by
    obtain ⟨d, e⟩ := finds1_in V c 1 (by decide) t _ (hY 1)
    exact e.trans (read1_1 V c t d)
  have e2 : Y 2 = slabAt (V c main_arg3) (t.val / 16) := by
    obtain ⟨d, e⟩ := finds1_in V c 2 (by decide) t _ (hY 2)
    exact e.trans (read1_2 V c t d)
  refine (sep_mono .rfl (sep_mono .rfl (Entails.of_eq (bigSep_W1 _)))).trans ?_
  refine BIBase.Entails.trans ?_ (wp_mono _ _ _ fun _ => sep_mono .rfl (sep_mono .rfl (Entails.of_eq (bigSep_W1 _).symm)))
  refine BIBase.Entails.trans ?_ (gateup_run defs₀ c (grid1.coords t) _ (stage_whole1 0 _) _ (stage_whole1 1 _) _ (stage_whole1 2 _) _ (stage_whole1 3 _) ((a 1).1 0) (Y 0) (Y 1) (Y 2) (Y 3) Set.univ _)
  have hΦ : ∀ s, (rd1 a V c).Φ s = iprop(scopedRest (pin pcfgs a 1).spec c ∗ pt c (Memref.whole main_v8) ((a 1).1 0)) := fun s => by
    rw [← tables1]; rfl
  have ho : (rd1 a V c).owesAt () t.castSucc = (rd1 a V c).owesAt () t.succ := rfl
  rw [hΦ, hΦ, ho]
  have hlive : (k1_cond1 (grid1.coords t) (wordOf ((a 1).1 0) (8 + (grid1.coords t 0).val)) = 1#1) ↔
      (t.val % 16 < countOf ((a 1).1 0) (t.val / 16)) := by
    rw [← (coord1 t).1, ← (coord1 t).2]; exact cond1_iff (grid1.coords t) _ hfit
  have hout : (rd1 a V c).after 3 t (Y 3) (if k1_cond1 (grid1.coords t) (wordOf ((a 1).1 0) (8 + (grid1.coords t 0).val)) = 1#1 then k1_pay1 (Y 0) (Y 1) (Y 2) else Y 3) := by
    show (if _ then _ else _) = if _ then _ else _
    by_cases h : t.val % 16 < countOf ((a 1).1 0) (t.val / 16)
    · rw [if_pos (hlive.mpr h), if_pos h]
      unfold tileH
      rw [e0, e1, e2]
    · rw [if_neg (fun hc => h (hlive.mp hc)), if_neg h]
  iintro ⟨⟨Hs, Ht⟩, HO, H0, H1, H2, H3⟩
  isplitl [Ht]; · iexact Ht
  isplitl [H0]; · iexact H0
  isplitl [H1]; · iexact H1
  isplitl [H2]; · iexact H2
  isplitl [H3]; · iexact H3
  iintro ⟨Ht, H0, H1, H2, H3⟩
  isplitl [Hs Ht]
  · isplitl [Hs]; · iexact Hs
    iexact Ht
  isplitl [HO]; · iexact HO
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  iexists _
  isplitr; · ipureintro; exact hout
  iexact H3

/-- The output's block does not move between two points at one tile. -/
theorem flush1_false (t u : Fin grid1.N) (hu : u.val + 1 = t.val)
    (h : tileOf ((a 1).1 0) (t.val / 16) (t.val % 16) = tileOf ((a 1).1 0) (u.val / 16) (u.val % 16)) :
    ((pin pcfgs a 1).win 3).flush u ≠ true := by
  have ht : t.val < 128 := N_1 ▸ t.isLt
  intro hf
  unfold Window.flush at hf
  rw [Bool.and_eq_true] at hf
  rcases (Bool.or_eq_true _ _).mp hf.2 with h1 | h1
  · have h1 := of_decide_eq_true h1
    have h2 : u.val + 1 = 128 := h1.trans N_1
    omega
  · obtain ⟨hlt, hne⟩ := of_decide_eq_true h1
    refine hne ?_
    have e : (⟨u.val + 1, hlt⟩ : Fin grid1.N) = t := Fin.ext hu
    have e1 := index1_3 hfit ⟨u.val + 1, hlt⟩
    have e2 := index1_3 hfit u
    refine e1.trans (Eq.trans ?_ e2.symm)
    rw [e, h]

/-- A write-back is at the last of a run of points at one tile. -/
theorem flush1_last (t : Fin grid1.N) (hf : ((pin pcfgs a 1).win 3).flush t = true) : LastOf (countOf ((a 1).1 0)) (startOf ((a 1).1 0)) t.val := by
  have ht : t.val < 128 := N_1 ▸ t.isLt
  by_cases h128 : t.val + 1 = 128
  · exact .inl h128
  refine .inr fun he => ?_
  exact flush1_false hfit ⟨t.val + 1, by have := N_1; omega⟩ t rfl he hf

/-- Conversely, at the last of a run there is one. -/
theorem last_flush1 (t : Fin grid1.N) (hl : LastOf (countOf ((a 1).1 0)) (startOf ((a 1).1 0)) t.val) : ((pin pcfgs a 1).win 3).flush t = true := by
  have ht : t.val < 128 := N_1 ▸ t.isLt
  unfold Window.flush
  rw [Bool.and_eq_true]
  refine ⟨rfl, (Bool.or_eq_true _ _).mpr ?_⟩
  rcases hl with h | h
  · exact .inl (decide_eq_true (h.trans N_1.symm))
  · by_cases h128 : t.val + 1 = 128
    · exact .inl (decide_eq_true (h128.trans N_1.symm))
    have hlt : t.val + 1 < grid1.N := by have := N_1; omega
    refine .inr (decide_eq_true ⟨hlt, fun he => h ?_⟩)
    have e1 := index1_3 hfit ⟨t.val + 1, hlt⟩
    have e2 := index1_3 hfit t
    exact congrFun (e1.symm.trans (he.trans e2)) 0

/-- What the body may leave in the output's buffer at a point of an expert that has a tile. -/
theorem leaves1 (V : Dev nD → Valuation τ sig (Elt F)) (c : Dev nD) : ∀ (k : ℕ) (hk : k < grid1.N) (X : S128x2880.Idx → Elt F .bf16),
    0 < countOf ((a 1).1 0) (k / 16) → (rd1 a V c).Leaves 3 ⟨k, hk⟩ X →
    X = tileH (V c main_v48) (V c main_arg2) (V c main_arg3) (k / 16) (tileOf ((a 1).1 0) (k / 16) (k % 16)) := by
  intro k
  induction k with
  | zero =>
    rintro hk X hpos ⟨Y, -, hX⟩
    have hX' : X = (if 0 < countOf ((a 1).1 0) (0 / 16) then _ else Y : S128x2880.Idx → Elt F .bf16) := hX
    exact hX'.trans (if_pos hpos)
  | succ k ih =>
    rintro hk X hpos ⟨Y, hY, hX⟩
    have hX' : X = (if (k + 1) % 16 < countOf ((a 1).1 0) ((k + 1) / 16) then _ else Y : S128x2880.Idx → Elt F .bf16) := hX
    by_cases hlive : (k + 1) % 16 < countOf ((a 1).1 0) ((k + 1) / 16)
    · exact hX'.trans (if_pos hlive)
    · have hX' := hX'.trans (if_neg hlive)
      obtain ⟨-, h1, h2⟩ := tileAt_idle (n := countOf ((a 1).1 0)) hpos (Nat.not_lt.mp hlive)
      have h1 : k / 16 = (k + 1) / 16 := h1
      have h2 : min (k % 16) _ = min ((k + 1) % 16) _ := h2
      have htile : tileOf ((a 1).1 0) ((k + 1) / 16) ((k + 1) % 16) = tileOf ((a 1).1 0) (k / 16) (k % 16) := by
        unfold tileOf; rw [h1, h2]
      have hk' : k < grid1.N := Nat.lt_of_succ_lt hk
      rcases ((rd1 a V c).finds_of_pos (w := (3 : Fin 4)) (t := ⟨k + 1, hk⟩) rfl (Nat.succ_ne_zero k) Y).mp hY with hf | hL
      · exact absurd hf (flush1_false hfit ⟨k + 1, hk⟩ ⟨k, hk'⟩ rfl htile)
      · rw [hX', htile, ← h1]
        exact ih hk' Y (h1 ▸ hpos) hL

/-- Where an element of the output's block of a point lies in the output. -/
def pos1 (a : (p : Fin 3) → (pcfgs (F := F) p).Adm) (u : Fin grid1.N) (y : S128x2880.Idx) : S5120x2880.Idx := (((pin pcfgs a 1).win 3).blk u).view.emb y

theorem pos1_eq (u : Fin grid1.N) (y : S128x2880.Idx) :
    (pos1 a u y 0).val = tileOf ((a 1).1 0) (u.val / 16) (u.val % 16) * 128 + (y 0).val ∧ (pos1 a u y 1).val = (y 1).val := by
  constructor
  · refine (((pin pcfgs a 1).win 3).rect_emb_val u y (0 : Fin 2) rfl).trans ?_
    rw [index1_3 hfit u]; rfl
  · refine (((pin pcfgs a 1).win 3).rect_emb_val u y (1 : Fin 2) rfl).trans ?_
    rw [index1_3 hfit u]; exact (congrArg (· + (y 1).val) (Nat.zero_mul 2880)).trans (Nat.zero_add _)

/-- THE CALL'S RESULT: every row of a tile that expert `e` owns holds that tile's row. -/
theorem result1 (V : Dev nD → Valuation τ sig (Elt F)) (c : Dev nD) (G : S5120x2880.Idx → Elt F .bf16)
    (hG : (rd1 a V c).ArrAt 3 (pin pcfgs a 1).N G) (e i : ℕ) (he : e < 8) (hi : i < countOf ((a 1).1 0) e) :
    rowsAt G (startOf ((a 1).1 0) e + i) = tileH (V c main_v48) (V c main_arg2) (V c main_arg3) e (startOf ((a 1).1 0) e + i) := by
  obtain ⟨t, ht, hlast, htile⟩ := Fits.last_exists hfit he hi
  have hend := Fits.end_le hfit he
  have htot := hfit.total
  have htN : t < grid1.N := by rw [N_1]; exact ht
  let Q : S5120x2880.Idx → Elt F .bf16 → Prop := fun x v => (x 0).val / 128 = startOf ((a 1).1 0) e + i →
    v = tileH (V c main_v48) (V c main_arg2) (V c main_arg3) e (startOf ((a 1).1 0) e + i) (ValueIdx.ix2 ⟨(x 0).val % 128, Nat.mod_lt _ (by decide)⟩ (x 1))
  have hQ : ∀ u : Fin grid1.N, ((pin pcfgs a 1).win 3).flush u = true → ∀ X : S128x2880.Idx → Elt F .bf16, (rd1 a V c).Leaves 3 u X → ∀ y : S128x2880.Idx,
      Q (pos1 a u y) (X y) := fun u hu X hX y hrow => by
    obtain ⟨h0, h1⟩ := pos1_eq hfit u y
    have hu128 : u.val < 128 := N_1 ▸ u.isLt
    have hy0 : (y 0).val < 128 := (y 0).isLt
    rw [h0] at hrow
    have htl : tileAt (countOf ((a 1).1 0)) (startOf ((a 1).1 0)) u.val = startOf ((a 1).1 0) e + i := by
      rw [tileAt_eq]; omega
    obtain ⟨hue, hui⟩ := Fits.last_owner hfit hu128 he hi (flush1_last hfit u hu) htl
    have hL := leaves1 hfit V c u.val u.isLt X (by rw [hue]; omega) hX
    have htl' : tileOf ((a 1).1 0) (u.val / 16) (u.val % 16) = startOf ((a 1).1 0) e + i := htl
    rw [hL, htl', hue]
    congr 1
    refine funext fun (k : Fin 2) => Fin.ext ?_
    match k with
    | 0 => show (y 0).val = _ % 128; rw [h0]; omega
    | 1 => exact h1.symm
  refine funext fun (y : S128x2880.Idx) => ?_
  have hy0 : (y 0).val < 128 := (y 0).isLt
  have hb : (startOf ((a 1).1 0) e + i) * 128 + (y 0).val < 5120 := by omega
  have hx : (ValueIdx.ix2 ⟨((startOf ((a 1).1 0) e + i) * 128 + (y 0).val) % 5120, Nat.mod_lt _ (by decide)⟩ (y 1) : S5120x2880.Idx)
      = pos1 a ⟨t, htN⟩ y := by
    obtain ⟨h0, h1⟩ := pos1_eq hfit ⟨t, htN⟩ y
    refine funext fun (k : Fin 2) => Fin.ext ?_
    match k with
    | 0 =>
      refine Eq.trans ?_ h0.symm
      have htl' : tileOf ((a 1).1 0) (t / 16) (t % 16) = startOf ((a 1).1 0) e + i := htile
      show _ % 5120 = tileOf ((a 1).1 0) (t / 16) (t % 16) * 128 + _
      rw [htl', Nat.mod_eq_of_lt hb]
    | 1 => exact h1.symm
  have hk := arrAt_forall_rel (rd1 a V c) (3 : Fin 4) hG Q hQ ⟨t, htN⟩ (last_flush1 hfit ⟨t, htN⟩ hlast) (pos1 a ⟨t, htN⟩ y)
    (Finset.mem_map.mpr ⟨y, Finset.mem_univ _, rfl⟩)
  rw [← hx] at hk
  refine (hk ?_).trans ?_
  · show _ % 5120 / 128 = _; rw [Nat.mod_eq_of_lt hb]; omega
  · congr 1
    refine funext fun (k : Fin 2) => Fin.ext ?_
    match k with
    | 0 => show _ % 5120 % 128 = (y 0).val; rw [Nat.mod_eq_of_lt hb]; omega
    | 1 => rfl

end Cert.Whole
-- ==== Proof.WholeRegion2.lean ====
/- The down call as a region of the whole program's run: at a live point the body puts the tile's values in the output's buffer, at any other
   point it leaves the buffer as found; so once an expert's points are over, every tile it owns holds that tile's values. -/
module

public import proofs.«01_k».proof.Proof.WholeRegion1

@[expose] public section

set_option backward.isDefEq.respectTransparency.types false

noncomputable section

namespace Cert.Whole

open Cert.Kernel3Ideal Cert.Kernel3Ideal.Gen Cert.Tiles
open Cert.Moe (wordOf startOf countOf Fit tileOf tileOf_lt tileAt_eq rowsAt slabAt arrAt_forall_rel)
open Idealize.ShloMosaic Idealize.ShloMosaic.TcCoe Idealize.ShloMosaic.Tactic Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- What the down call computes for tile `j` with expert `e`'s weights. -/
def tileY (h : S5120x2880.Idx → Elt F .bf16) (dw : S8x2880x1024.Idx → Elt F .f32) (ws : S5120x1.Idx → Elt F .f32) (e j : ℕ) : S128x1024.Idx → Elt F .f32 :=
  k2_pay1 (rowsAt h j) (slabAt dw e) (rowsAt ws j)

/-- A point's coordinates: the expert, and the slot among its tiles. -/
theorem coord2 (t : Fin grid2.N) : (grid2.coords t 0).val = t.val / 16 ∧ (grid2.coords t 1).val = t.val % 16 := by
  have h : t.val < 128 := N_2 ▸ t.isLt
  have h0 := Grid.coords_val (G := grid2) t 0 (S := 16) (B := 8) (by decide) rfl
  have h1 := Grid.coords_val (G := grid2) t 1 (S := 1) (B := 16) (by decide) rfl
  omega

variable (a : (p : Fin 3) → (pcfgs (F := F) p).Adm)

/-- The proof data of the down call: entered from the buffers at `V`. -/
def rd2 (V : Dev nD → Valuation τ sig (Elt F)) (c : Dev nD) : RDat τ (Elt F) Unit ℕ UU ℕ (pin pcfgs a 2) c where
  A w := V c (Proc.devRef .tc (arrRef (pin pcfgs a 2).spec w))
  after := fun
    | 0 => fun _ Y X => X = Y
    | 1 => fun _ Y X => X = Y
    | 2 => fun _ Y X => X = Y
    | 3 => fun t Y X => X = if t.val % 16 < countOf ((a 2).1 0) (t.val / 16) then
        tileY (V c main_v49) (V c main_arg4) (V c main_v38) (t.val / 16) (tileOf ((a 2).1 0) (t.val / 16) (t.val % 16)) else Y
    | ⟨_ + 4, h⟩ => absurd h (Nat.not_lt.2 (Nat.le_add_left _ _))
  Φ _ := iprop(scopedRest (pin pcfgs a 2).spec c ∗ tablesAt pcfgs a 2 c)
  q _ := fullShare
  owed _ := 0

variable {a} (hfit : Fit ((a 2).1 0))
include hfit

theorem index2_0 (t : Fin grid2.N) : ((pin pcfgs a 2).win 0).index t = ![tileOf ((a 2).1 0) (t.val / 16) (t.val % 16), 0] := by
  refine (rows2_0_eq (a 2).1 hfit (grid2.coords t)).trans ?_
  rw [(coord2 t).1, (coord2 t).2]

theorem index2_2 (t : Fin grid2.N) : ((pin pcfgs a 2).win 2).index t = ![tileOf ((a 2).1 0) (t.val / 16) (t.val % 16), 0] := by
  refine (rows2_2_eq (a 2).1 hfit (grid2.coords t)).trans ?_
  rw [(coord2 t).1, (coord2 t).2]

theorem index2_3 (t : Fin grid2.N) : ((pin pcfgs a 2).win 3).index t = ![tileOf ((a 2).1 0) (t.val / 16) (t.val % 16), 0] := by
  refine (rows2_3_eq (a 2).1 hfit (grid2.coords t)).trans ?_
  rw [(coord2 t).1, (coord2 t).2]

theorem read2_0 (V : Dev nD → Valuation τ sig (Elt F)) (c : Dev nD) (t : Fin grid2.N) (d) :
    (rd2 a V c).fetched 0 t d = rowsAt (V c main_v49) (tileOf ((a 2).1 0) (t.val / 16) (t.val % 16)) := by
  have ht : t.val < 128 := N_2 ▸ t.isLt
  have hj := tileOf_lt hfit (show t.val / 16 < 8 by omega) (k := t.val % 16)
  refine funext fun (y : S128x2880.Idx) => ?_
  have hy0 : (y 0).val < 128 := (y 0).isLt
  show V c main_v49 _ = V c main_v49 _
  congr 1
  refine funext fun (k : Fin 2) => Fin.ext ?_
  refine (((pin pcfgs a 2).win 0).rect_emb_val t y k rfl).trans ?_
  rw [index2_0 hfit t]
  match k with
  | 0 => exact (Nat.mod_eq_of_lt (show tileOf ((a 2).1 0) (t.val / 16) (t.val % 16) * 128 + (y 0).val < 5120 by omega)).symm
  | 1 => show 0 * 2880 + (y 1).val = (y 1).val; omega

omit hfit in
theorem index2_1 (t : Fin grid2.N) : ((pin pcfgs a 2).win 1).index t = ![t.val / 16, 0, 0] := by
  have ht : t.val < 128 := N_2 ▸ t.isLt
  show ![(BitVec.ofNat 32 (grid2.coords t 0).val).toNat, 0, 0] = _
  rw [(coord2 t).1, BitVec.toNat_ofNat, Nat.mod_eq_of_lt (by omega)]

omit hfit in
theorem read2_1 (V : Dev nD → Valuation τ sig (Elt F)) (c : Dev nD) (t : Fin grid2.N) (d) :
    (rd2 a V c).fetched 1 t d = slabAt (V c main_arg4) (t.val / 16) := by
  have ht : t.val < 128 := N_2 ▸ t.isLt
  refine funext fun (y : S1x2880x1024.Idx) => ?_
  have hy0 : (y 0).val < 1 := (y 0).isLt
  show V c main_arg4 _ = V c main_arg4 _
  congr 1
  refine funext fun (k : Fin 3) => Fin.ext ?_
  refine (((pin pcfgs a 2).win 1).rect_emb_val t y k rfl).trans ?_
  rw [index2_1 t]
  match k with
  | 0 => show t.val / 16 * 1 + (y 0).val = t.val / 16 % 8; omega
  | 1 => show 0 * 2880 + (y 1).val = (y 1).val; omega
  | 2 => show 0 * 1024 + (y 2).val = (y 2).val; omega

theorem read2_2 (V : Dev nD → Valuation τ sig (Elt F)) (c : Dev nD) (t : Fin grid2.N) (d) :
    (rd2 a V c).fetched 2 t d = rowsAt (V c main_v38) (tileOf ((a 2).1 0) (t.val / 16) (t.val % 16)) := by
  have ht : t.val < 128 := N_2 ▸ t.isLt
  have hj := tileOf_lt hfit (show t.val / 16 < 8 by omega) (k := t.val % 16)
  refine funext fun (y : S128x1.Idx) => ?_
  have hy0 : (y 0).val < 128 := (y 0).isLt
  show V c main_v38 _ = V c main_v38 _
  congr 1
  refine funext fun (k : Fin 2) => Fin.ext ?_
  refine (((pin pcfgs a 2).win 2).rect_emb_val t y k rfl).trans ?_
  rw [index2_2 hfit t]
  match k with
  | 0 => exact (Nat.mod_eq_of_lt (show tileOf ((a 2).1 0) (t.val / 16) (t.val % 16) * 128 + (y 0).val < 5120 by omega)).symm
  | 1 => show 0 * 1 + (y 1).val = (y 1).val; omega

omit hfit in
/-- What the body finds in the input windows. -/
theorem finds2_in (V : Dev nD → Valuation τ sig (Elt F)) (c : Dev nD) (w : Fin 4) (hw : w.val < 3) (t : Fin grid2.N) (Y) (h : (rd2 a V c).Finds w t Y) :
    ∃ d, Y = (rd2 a V c).fetched w t d := by
  refine RDat.finds_in_eq_fetched (rd2 a V c) w ?_ (fun _ _ _ => ?_) (fun t Y X hX => ?_) t Y h
  · match w, hw with | 0, _ => rfl | 1, _ => rfl | 2, _ => rfl | ⟨n + 3, _⟩, h => exact absurd h (Nat.not_lt.2 (Nat.le_add_left _ _))
  · match w, hw with | 0, _ => rfl | 1, _ => rfl | 2, _ => rfl | ⟨n + 3, _⟩, h => exact absurd h (Nat.not_lt.2 (Nat.le_add_left _ _))
  · match w, hw, Y, X, hX with
    | 0, _, _, _, hX => exact hX
    | 1, _, _, _, hX => exact hX
    | 2, _, _, _, hX => exact hX
    | ⟨n + 3, _⟩, h, _, _, _ => exact absurd h (Nat.not_lt.2 (Nat.le_add_left _ _))

omit hfit in
/-- The one table of the call, held whole. -/
theorem tables2 (c : Dev nD) : (tablesAt pcfgs a 2 c : sProp 𝕄) = pt c (Memref.whole main_v8) ((a 2).1 0) := by
  unfold tablesAt prefHeld
  exact bigSep_univ_eq_bigSepL [(0 : Fin 1)] (by decide) (by decide) _

/-- The body meets its obligation. -/
theorem body2 (V : Dev nD → Valuation τ sig (Elt F)) (c : Dev nD) :
    (rd2 a V c).BodyObligation defs₀ Variants.none () Set.univ := by
  intro t Y hY
  have ht : t.val < 128 := N_2 ▸ t.isLt
  have e0 : Y 0 = rowsAt (V c main_v49) (tileOf ((a 2).1 0) (t.val / 16) (t.val % 16)) := by
    obtain ⟨d, e⟩ := finds2_in V c 0 (by decide) t _ (hY 0)
    exact e.trans (read2_0 hfit V c t d)
  have e1 : Y 1 = slabAt (V c main_arg4) (t.val / 16) := by
    obtain ⟨d, e⟩ := finds2_in V c 1 (by decide) t _ (hY 1)
    exact e.trans (read2_1 V c t d)
  have e2 : Y 2 = rowsAt (V c main_v38) (tileOf ((a 2).1 0) (t.val / 16) (t.val % 16)) := by
    obtain ⟨d, e⟩ := finds2_in V c 2 (by decide) t _ (hY 2)
    exact e.trans (read2_2 hfit V c t d)
  refine (sep_mono .rfl (sep_mono .rfl (Entails.of_eq (bigSep_W2 _)))).trans ?_
  refine BIBase.Entails.trans ?_ (wp_mono _ _ _ fun _ => sep_mono .rfl (sep_mono .rfl (Entails.of_eq (bigSep_W2 _).symm)))
  refine BIBase.Entails.trans ?_ (down_run defs₀ c (grid2.coords t) _ (stage_whole2 0 _) _ (stage_whole2 1 _) _ (stage_whole2 2 _) _ (stage_whole2 3 _) ((a 2).1 0) (Y 0) (Y 1) (Y 2) (Y 3) Set.univ _)
  have hΦ : ∀ s, (rd2 a V c).Φ s = iprop(scopedRest (pin pcfgs a 2).spec c ∗ pt c (Memref.whole main_v8) ((a 2).1 0)) := fun s => by
    rw [← tables2]; rfl
  have ho : (rd2 a V c).owesAt () t.castSucc = (rd2 a V c).owesAt () t.succ := rfl
  rw [hΦ, hΦ, ho]
  have hlive : (k2_cond1 (grid2.coords t) (wordOf ((a 2).1 0) (8 + (grid2.coords t 0).val)) = 1#1) ↔
      (t.val % 16 < countOf ((a 2).1 0) (t.val / 16)) := by
    rw [← (coord2 t).1, ← (coord2 t).2]; exact cond2_iff (grid2.coords t) _ hfit
  have hout : (rd2 a V c).after 3 t (Y 3) (if k2_cond1 (grid2.coords t) (wordOf ((a 2).1 0) (8 + (grid2.coords t 0).val)) = 1#1 then k2_pay1 (Y 0) (Y 1) (Y 2) else Y 3) := by
    show (if _ then _ else _) = if _ then _ else _
    by_cases h : t.val % 16 < countOf ((a 2).1 0) (t.val / 16)
    · rw [if_pos (hlive.mpr h), if_pos h]
      unfold tileY
      rw [e0, e1, e2]
    · rw [if_neg (fun hc => h (hlive.mp hc)), if_neg h]
  iintro ⟨⟨Hs, Ht⟩, HO, H0, H1, H2, H3⟩
  isplitl [Ht]; · iexact Ht
  isplitl [H0]; · iexact H0
  isplitl [H1]; · iexact H1
  isplitl [H2]; · iexact H2
  isplitl [H3]; · iexact H3
  iintro ⟨Ht, H0, H1, H2, H3⟩
  isplitl [Hs Ht]
  · isplitl [Hs]; · iexact Hs
    iexact Ht
  isplitl [HO]; · iexact HO
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  iexists _
  isplitr; · ipureintro; exact hout
  iexact H3

/-- The output's block does not move between two points at one tile. -/
theorem flush2_false (t u : Fin grid2.N) (hu : u.val + 1 = t.val)
    (h : tileOf ((a 2).1 0) (t.val / 16) (t.val % 16) = tileOf ((a 2).1 0) (u.val / 16) (u.val % 16)) :
    ((pin pcfgs a 2).win 3).flush u ≠ true := by
  have ht : t.val < 128 := N_2 ▸ t.isLt
  intro hf
  unfold Window.flush at hf
  rw [Bool.and_eq_true] at hf
  rcases (Bool.or_eq_true _ _).mp hf.2 with h1 | h1
  · have h1 := of_decide_eq_true h1
    have h2 : u.val + 1 = 128 := h1.trans N_2
    omega
  · obtain ⟨hlt, hne⟩ := of_decide_eq_true h1
    refine hne ?_
    have e : (⟨u.val + 1, hlt⟩ : Fin grid2.N) = t := Fin.ext hu
    have e1 := index2_3 hfit ⟨u.val + 1, hlt⟩
    have e2 := index2_3 hfit u
    refine e1.trans (Eq.trans ?_ e2.symm)
    rw [e, h]

/-- A write-back is at the last of a run of points at one tile. -/
theorem flush2_last (t : Fin grid2.N) (hf : ((pin pcfgs a 2).win 3).flush t = true) : LastOf (countOf ((a 2).1 0)) (startOf ((a 2).1 0)) t.val := by
  have ht : t.val < 128 := N_2 ▸ t.isLt
  by_cases h128 : t.val + 1 = 128
  · exact .inl h128
  refine .inr fun he => ?_
  exact flush2_false hfit ⟨t.val + 1, by have := N_2; omega⟩ t rfl he hf

/-- Conversely, at the last of a run there is one. -/
theorem last_flush2 (t : Fin grid2.N) (hl : LastOf (countOf ((a 2).1 0)) (startOf ((a 2).1 0)) t.val) : ((pin pcfgs a 2).win 3).flush t = true := by
  have ht : t.val < 128 := N_2 ▸ t.isLt
  unfold Window.flush
  rw [Bool.and_eq_true]
  refine ⟨rfl, (Bool.or_eq_true _ _).mpr ?_⟩
  rcases hl with h | h
  · exact .inl (decide_eq_true (h.trans N_2.symm))
  · by_cases h128 : t.val + 1 = 128
    · exact .inl (decide_eq_true (h128.trans N_2.symm))
    have hlt : t.val + 1 < grid2.N := by have := N_2; omega
    refine .inr (decide_eq_true ⟨hlt, fun he => h ?_⟩)
    have e1 := index2_3 hfit ⟨t.val + 1, hlt⟩
    have e2 := index2_3 hfit t
    exact congrFun (e1.symm.trans (he.trans e2)) 0

/-- What the body may leave in the output's buffer at a point of an expert that has a tile. -/
theorem leaves2 (V : Dev nD → Valuation τ sig (Elt F)) (c : Dev nD) : ∀ (k : ℕ) (hk : k < grid2.N) (X : S128x1024.Idx → Elt F .f32),
    0 < countOf ((a 2).1 0) (k / 16) → (rd2 a V c).Leaves 3 ⟨k, hk⟩ X →
    X = tileY (V c main_v49) (V c main_arg4) (V c main_v38) (k / 16) (tileOf ((a 2).1 0) (k / 16) (k % 16)) := by
  intro k
  induction k with
  | zero =>
    rintro hk X hpos ⟨Y, -, hX⟩
    have hX' : X = (if 0 < countOf ((a 2).1 0) (0 / 16) then _ else Y : S128x1024.Idx → Elt F .f32) := hX
    exact hX'.trans (if_pos hpos)
  | succ k ih =>
    rintro hk X hpos ⟨Y, hY, hX⟩
    have hX' : X = (if (k + 1) % 16 < countOf ((a 2).1 0) ((k + 1) / 16) then _ else Y : S128x1024.Idx → Elt F .f32) := hX
    by_cases hlive : (k + 1) % 16 < countOf ((a 2).1 0) ((k + 1) / 16)
    · exact hX'.trans (if_pos hlive)
    · have hX' := hX'.trans (if_neg hlive)
      obtain ⟨-, h1, h2⟩ := tileAt_idle (n := countOf ((a 2).1 0)) hpos (Nat.not_lt.mp hlive)
      have h1 : k / 16 = (k + 1) / 16 := h1
      have h2 : min (k % 16) _ = min ((k + 1) % 16) _ := h2
      have htile : tileOf ((a 2).1 0) ((k + 1) / 16) ((k + 1) % 16) = tileOf ((a 2).1 0) (k / 16) (k % 16) := by
        unfold tileOf; rw [h1, h2]
      have hk' : k < grid2.N := Nat.lt_of_succ_lt hk
      rcases ((rd2 a V c).finds_of_pos (w := (3 : Fin 4)) (t := ⟨k + 1, hk⟩) rfl (Nat.succ_ne_zero k) Y).mp hY with hf | hL
      · exact absurd hf (flush2_false hfit ⟨k + 1, hk⟩ ⟨k, hk'⟩ rfl htile)
      · rw [hX', htile, ← h1]
        exact ih hk' Y (h1 ▸ hpos) hL

/-- Where an element of the output's block of a point lies in the output. -/
def pos2 (a : (p : Fin 3) → (pcfgs (F := F) p).Adm) (u : Fin grid2.N) (y : S128x1024.Idx) : S5120x1024.Idx := (((pin pcfgs a 2).win 3).blk u).view.emb y

theorem pos2_eq (u : Fin grid2.N) (y : S128x1024.Idx) :
    (pos2 a u y 0).val = tileOf ((a 2).1 0) (u.val / 16) (u.val % 16) * 128 + (y 0).val ∧ (pos2 a u y 1).val = (y 1).val := by
  constructor
  · refine (((pin pcfgs a 2).win 3).rect_emb_val u y (0 : Fin 2) rfl).trans ?_
    rw [index2_3 hfit u]; rfl
  · refine (((pin pcfgs a 2).win 3).rect_emb_val u y (1 : Fin 2) rfl).trans ?_
    rw [index2_3 hfit u]; exact (congrArg (· + (y 1).val) (Nat.zero_mul 1024)).trans (Nat.zero_add _)

/-- THE CALL'S RESULT: every row of a tile that expert `e` owns holds that tile's row. -/
theorem result2 (V : Dev nD → Valuation τ sig (Elt F)) (c : Dev nD) (G : S5120x1024.Idx → Elt F .f32)
    (hG : (rd2 a V c).ArrAt 3 (pin pcfgs a 2).N G) (e i : ℕ) (he : e < 8) (hi : i < countOf ((a 2).1 0) e) :
    rowsAt G (startOf ((a 2).1 0) e + i) = tileY (V c main_v49) (V c main_arg4) (V c main_v38) e (startOf ((a 2).1 0) e + i) := by
  obtain ⟨t, ht, hlast, htile⟩ := Fits.last_exists hfit he hi
  have hend := Fits.end_le hfit he
  have htot := hfit.total
  have htN : t < grid2.N := by rw [N_2]; exact ht
  let Q : S5120x1024.Idx → Elt F .f32 → Prop := fun x v => (x 0).val / 128 = startOf ((a 2).1 0) e + i →
    v = tileY (V c main_v49) (V c main_arg4) (V c main_v38) e (startOf ((a 2).1 0) e + i) (ValueIdx.ix2 ⟨(x 0).val % 128, Nat.mod_lt _ (by decide)⟩ (x 1))
  have hQ : ∀ u : Fin grid2.N, ((pin pcfgs a 2).win 3).flush u = true → ∀ X : S128x1024.Idx → Elt F .f32, (rd2 a V c).Leaves 3 u X → ∀ y : S128x1024.Idx,
      Q (pos2 a u y) (X y) := fun u hu X hX y hrow => by
    obtain ⟨h0, h1⟩ := pos2_eq hfit u y
    have hu128 : u.val < 128 := N_2 ▸ u.isLt
    have hy0 : (y 0).val < 128 := (y 0).isLt
    rw [h0] at hrow
    have htl : tileAt (countOf ((a 2).1 0)) (startOf ((a 2).1 0)) u.val = startOf ((a 2).1 0) e + i := by
      rw [tileAt_eq]; omega
    obtain ⟨hue, hui⟩ := Fits.last_owner hfit hu128 he hi (flush2_last hfit u hu) htl
    have hL := leaves2 hfit V c u.val u.isLt X (by rw [hue]; omega) hX
    have htl' : tileOf ((a 2).1 0) (u.val / 16) (u.val % 16) = startOf ((a 2).1 0) e + i := htl
    rw [hL, htl', hue]
    congr 1
    refine funext fun (k : Fin 2) => Fin.ext ?_
    match k with
    | 0 => show (y 0).val = _ % 128; rw [h0]; omega
    | 1 => exact h1.symm
  refine funext fun (y : S128x1024.Idx) => ?_
  have hy0 : (y 0).val < 128 := (y 0).isLt
  have hb : (startOf ((a 2).1 0) e + i) * 128 + (y 0).val < 5120 := by omega
  have hx : (ValueIdx.ix2 ⟨((startOf ((a 2).1 0) e + i) * 128 + (y 0).val) % 5120, Nat.mod_lt _ (by decide)⟩ (y 1) : S5120x1024.Idx)
      = pos2 a ⟨t, htN⟩ y := by
    obtain ⟨h0, h1⟩ := pos2_eq hfit ⟨t, htN⟩ y
    refine funext fun (k : Fin 2) => Fin.ext ?_
    match k with
    | 0 =>
      refine Eq.trans ?_ h0.symm
      have htl' : tileOf ((a 2).1 0) (t / 16) (t % 16) = startOf ((a 2).1 0) e + i := htile
      show _ % 5120 = tileOf ((a 2).1 0) (t / 16) (t % 16) * 128 + _
      rw [htl', Nat.mod_eq_of_lt hb]
    | 1 => exact h1.symm
  have hk := arrAt_forall_rel (rd2 a V c) (3 : Fin 4) hG Q hQ ⟨t, htN⟩ (last_flush2 hfit ⟨t, htN⟩ hlast) (pos2 a ⟨t, htN⟩ y)
    (Finset.mem_map.mpr ⟨y, Finset.mem_univ _, rfl⟩)
  rw [← hx] at hk
  refine (hk ?_).trans ?_
  · show _ % 5120 / 128 = _; rw [Nat.mod_eq_of_lt hb]; omega
  · congr 1
    refine funext fun (k : Fin 2) => Fin.ext ?_
    match k with
    | 0 => show _ % 5120 % 128 = (y 0).val; rw [Nat.mod_eq_of_lt hb]; omega
    | 1 => rfl

end Cert.Whole
-- ==== Proof.WholeRouter.lean ====
/- The router call inside the whole program: what its body leaves in its three result blocks, over the blocks of its two arguments. -/
module

public import proofs.«01_k».proof.Proof.WholeRegion2
public import proofs.«01_k».proof.Proof.RouterRun
public import proofs.«01_k».proof.Proof.Gen.Kernel3Ideal.Launch
public import proofs.«01_k».proof.Proof.Gen.Kernel3Ideal.Skeleton
public import proofs.«01_k».proof.Proof.Gen.Kernel3Ideal.Loops
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit.Tiles
public import Idealize.ShloMosaic.Lib.Pipeline.CanonAppend
public import Idealize.ShloMosaic.Lib.ValueIdx

@[expose] public section

set_option maxRecDepth 16384

noncomputable section

namespace Cert.Whole

open Cert.Kernel3Ideal Cert.Kernel3Ideal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One staging buffer of output window 2, through which its contents are stated (`View.read_writes_of_cover`: the
    choice does not matter). -/
abbrev VO0_2 : View sig .tc .vmem S2048x2 .i32 := (Memref.whole cc0_stg2_0 : Memref sig .tc .vmem S2048x2 .i32).view
/-- One staging buffer of output window 3, through which its contents are stated (`View.read_writes_of_cover`: the
    choice does not matter). -/
abbrev VO0_3 : View sig .tc .vmem S2048x2 .f32 := (Memref.whole cc0_stg3_0 : Memref sig .tc .vmem S2048x2 .f32).view
/-- One staging buffer of output window 4, through which its contents are stated (`View.read_writes_of_cover`: the
    choice does not matter). -/
abbrev VO0_4 : View sig .tc .vmem S1x8 .i32 := (Memref.whole cc0_stg4_0 : Memref sig .tc .vmem S1x8 .i32).view
/-- One trip's resources: what the region reads (nothing) at its contents, what it writes (arg5) at
   any. -/
abbrev TripW (c : Dev nD) (arg5 : Memref sig .tc .vmem S2048x8 .f32) (f_arg5 : BufTy.Contents (Elt F) arg5.view.ty) : sProp 𝕄 :=
  iprop((arg5.view.loc (c : Thread nD τ) ↦[arg5.view.set]{fullShare} f_arg5))

/-- ONE TRIP of `k0_t1_loop` at a symbolic `k`, run by `sl_exec` (its rectangles' offsets closed
   forms of `k`, their geometry linear arithmetic): the pieces it writes into arg5 are the run's own
   finds — the witnesses `sl_close` assigns handing the buffers to the continuation.
   `@[irreducible]`: cited, never unfolded. -/
@[irreducible] def tripW (𝒱 : Variants) (c : Dev nD) (bd : Option 𝒱.V) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole) (v4 : IVec S2048x8 32) (v12 : IVec S2048x1 32) (v24 : IVec S2048x1 32) (v40 : FVec F S2048x8 .f32) (v42 : FVec F S1x8 .f32) (v43 : IVec S1x8 32) (k : Fin k0_t1_loop.trips) :
    { L_arg5 : List (View.Piece (Elt F) S2048x8 .f32) // ∀ (E : Set ℕ) (f_arg5 : BufTy.Contents (Elt F) arg5.view.ty),
      TripW (F := F) c arg5 f_arg5
      ⊢ wp frame (wpE (defs₀ (F := F)) 𝒱 (c : Thread nD τ) bd) E (k0_t1_body (F := F) arg0 harg0 arg1 harg1 arg2 harg2 arg3 harg3 arg4 harg4 arg5 harg5 v4 v12 v24 v40 v42 v43 k PUnit.unit)
          (fun _ => TripW (F := F) c arg5 (arg5.view.writes (Elt F) f_arg5 L_arg5)) } := by
  have hk : k.val < 16 := Nat.lt_of_lt_of_le k.isLt k0_t1_abs.2.1
  refine ⟨?_, fun E f_arg5 => ?run⟩
  case run =>
    unfold k0_t1_body
    iintro HW_arg5
    sl_exec
    sl_step
    sl_close

/-- The trip's piece lists (plain projections of `trip_…`, for the recursion below to cite without
   its proof). -/
abbrev tripLW (𝒱 : Variants) (c : Dev nD) (bd : Option 𝒱.V) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole) (v4 : IVec S2048x8 32) (v12 : IVec S2048x1 32) (v24 : IVec S2048x1 32) (v40 : FVec F S2048x8 .f32) (v42 : FVec F S1x8 .f32) (v43 : IVec S1x8 32) (k : Fin k0_t1_loop.trips) : List (View.Piece (Elt F) S2048x8 .f32) :=
  (tripW (F := F) 𝒱 c bd arg0 harg0 arg1 harg1 arg2 harg2 arg3 harg3 arg4 harg4 arg5 harg5 v4 v12 v24 v40 v42 v43 k).1

/-- Trip `k`'s contribution to the state the recursion `pbW` below carries (`prev`): its pieces
   in front, per written memref; past the last trip, `prev` itself. -/
@[irreducible] def pbWStep (𝒱 : Variants) (c : Dev nD) (bd : Option 𝒱.V) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole) (v4 : IVec S2048x8 32) (v12 : IVec S2048x1 32) (v24 : IVec S2048x1 32) (v40 : FVec F S2048x8 .f32) (v42 : FVec F S1x8 .f32) (v43 : IVec S1x8 32) (k : ℕ) (prev : List (View.Piece (Elt F) S2048x8 .f32)) : List (View.Piece (Elt F) S2048x8 .f32) :=
  if h : k < k0_t1_loop.trips then
    (tripLW (F := F) 𝒱 c bd arg0 harg0 arg1 harg1 arg2 harg2 arg3 harg3 arg4 harg4 arg5 harg5 v4 v12 v24 v40 v42 v43 ⟨k, h⟩) ++ prev
  else prev

/-- The pieces of the trips before `k` (last first), per written memref. -/
def pbW (𝒱 : Variants) (c : Dev nD) (bd : Option 𝒱.V) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole) (v4 : IVec S2048x8 32) (v12 : IVec S2048x1 32) (v24 : IVec S2048x1 32) (v40 : FVec F S2048x8 .f32) (v42 : FVec F S1x8 .f32) (v43 : IVec S1x8 32) : ℕ → List (View.Piece (Elt F) S2048x8 .f32)
  | 0 => []
  | k + 1 => pbWStep 𝒱 c bd arg0 harg0 arg1 harg1 arg2 harg2 arg3 harg3 arg4 harg4 arg5 harg5 v4 v12 v24 v40 v42 v43 k (pbW 𝒱 c bd arg0 harg0 arg1 harg1 arg2 harg2 arg3 harg3 arg4 harg4 arg5 harg5 v4 v12 v24 v40 v42 v43 k)

theorem pbW_succ (𝒱 : Variants) (c : Dev nD) (bd : Option 𝒱.V) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole) (v4 : IVec S2048x8 32) (v12 : IVec S2048x1 32) (v24 : IVec S2048x1 32) (v40 : FVec F S2048x8 .f32) (v42 : FVec F S1x8 .f32) (v43 : IVec S1x8 32) (k : Fin k0_t1_loop.trips) :
    pbW (F := F) 𝒱 c bd arg0 harg0 arg1 harg1 arg2 harg2 arg3 harg3 arg4 harg4 arg5 harg5 v4 v12 v24 v40 v42 v43 (k.val + 1)
      = (tripLW (F := F) 𝒱 c bd arg0 harg0 arg1 harg1 arg2 harg2 arg3 harg3 arg4 harg4 arg5 harg5 v4 v12 v24 v40 v42 v43 k) ++ (pbW (F := F) 𝒱 c bd arg0 harg0 arg1 harg1 arg2 harg2 arg3 harg3 arg4 harg4 arg5 harg5 v4 v12 v24 v40 v42 v43 k.val) := by
  rw [pbW.eq_2]; unfold pbWStep; exact dif_pos k.isLt

/-- THE INVARIANT before trip `k`: nothing read at `X_·`; arg5 holding the pieces of the trips
   before `k` written over the contents at loop entry `G_·` (stated `∃ f, … ∗ ⌜f = …⌝`, so that a
   hypothesis of any contents matches and the equation is what is proved). -/
abbrev invW (𝒱 : Variants) (c : Dev nD) (bd : Option 𝒱.V) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole) (v4 : IVec S2048x8 32) (v12 : IVec S2048x1 32) (v24 : IVec S2048x1 32) (v40 : FVec F S2048x8 .f32) (v42 : FVec F S1x8 .f32) (v43 : IVec S1x8 32) (G_arg5 : BufTy.Contents (Elt F) arg5.view.ty) (k : ℕ) (_u : PUnit) : sProp 𝕄 :=
  iprop((∃ f, (arg5.view.loc (c : Thread nD τ) ↦[arg5.view.set]{fullShare} f) ∗ ⌜f = arg5.view.writes (Elt F) G_arg5 (pbW (F := F) 𝒱 c bd arg0 harg0 arg1 harg1 arg2 harg2 arg3 harg3 arg4 harg4 arg5 harg5 v4 v12 v24 v40 v42 v43 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInvW (𝒱 : Variants) (c : Dev nD) (bd : Option 𝒱.V) (E : Set ℕ) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole) (v4 : IVec S2048x8 32) (v12 : IVec S2048x1 32) (v24 : IVec S2048x1 32) (v40 : FVec F S2048x8 .f32) (v42 : FVec F S1x8 .f32) (v43 : IVec S1x8 32) (G_arg5 : BufTy.Contents (Elt F) arg5.view.ty) :
    LoopInvTy_k0_t1 (F := F) Unit ℕ UU ℕ 𝒱 c bd E arg0 harg0 arg1 harg1 arg2 harg2 arg3 harg3 arg4 harg4 arg5 harg5 v4 v12 v24 v40 v42 v43 where
  inv := invW (F := F) 𝒱 c bd arg0 harg0 arg1 harg1 arg2 harg2 arg3 harg3 arg4 harg4 arg5 harg5 v4 v12 v24 v40 v42 v43 G_arg5
  step k acc := by
    iintro ⟨%f_arg5, HW_arg5, %h_arg5⟩
    iapply (wp_wand_r Idealize.ShloMosaic.frame (wpE (defs₀ (F := F)) 𝒱 (c : Thread nD τ) bd) E)
    isplitl [HW_arg5]
    · iapply ((tripW (F := F) 𝒱 c bd arg0 harg0 arg1 harg1 arg2 harg2 arg3 harg3 arg4 harg4 arg5 harg5 v4 v12 v24 v40 v42 v43 k).2 E f_arg5)
      iexact HW_arg5
    · iintro %_ HW_arg5
      unfold invW
      rw [pbW_succ]
      iexists _; isplitl [HW_arg5]; · iexact HW_arg5
      ipureintro; rw [h_arg5, ← View.writes_append]

-- (the run's proof term is large: the definition's epilogue — `abstractNestedProofs` — walks it past the default budget)
set_option backward.proofsInPublic true in
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole)
    (x0 : Vec F S2048x1024 .f32) (x1 : Vec F S1024x8 .f32) :
    Σ' (L2 : List (View.Piece (Elt F) S2048x2 .i32)), Σ' (L3 : List (View.Piece (Elt F) S2048x2 .f32)), { L4 : List (View.Piece (Elt F) S1x8 .i32) //
      ∀ (E : Set ℕ) (K : PUnit → sProp 𝕄),
        iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg0 fullShare x0 ∗ owns (c : Thread nD τ) arg1 fullShare x1 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ d, owns (c : Thread nD τ) arg5 fullShare d)) -∗ K ⟨⟩))
          ⊢ wp frame (wpE (defs₀ (F := F)) Variants.none c none) E (cc0__router_body arg0 harg0 arg1 harg1 arg2 harg2 arg3 harg3 arg4 harg4 arg5 harg5) K } := by
  refine ⟨?_, ?_, ?_, fun E K => ?run⟩
  case run =>
    simp only [cc0__router_body_eq_skeleton]; unfold cc0__router_body_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
    obtain rfl := harg0.eq_unread hf0; obtain rfl := harg1.eq_unread hf1
    have hrd0 : ∀ (𝒱 : Variants) (c : Dev nD) (bd : Option 𝒱.V) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole) (v3 : IVec S2048x8 32) (v11 : IVec S2048x1 32) (v23 : IVec S2048x1 32) (v39 : FVec F S2048x8 .f32) (v41 : FVec F S1x8 .f32) (v42 : IVec S1x8 32) (hrdF : BufTy.Contents (Elt F) arg5.view.ty) (hrdB : LoadRect S2048x8), arg5.view.readAt (Elt F) hrdB (arg5.view.writes (Elt F) hrdF (pbW (F := F) 𝒱 c bd arg0 harg0 arg1 harg1 arg2 harg2 arg3 harg3 arg4 harg4 arg5 harg5 v3 v11 v23 v39 v41 v42 (Scf.trips k0_t1_loop.lb k0_t1_loop.ub k0_t1_loop.st))) = arg5.view.readCov (pbW (F := F) 𝒱 c bd arg0 harg0 arg1 harg1 arg2 harg2 arg3 harg3 arg4 harg4 arg5 harg5 v3 v11 v23 v39 v41 v42 (Scf.trips k0_t1_loop.lb k0_t1_loop.ub k0_t1_loop.st)) hrdB := fun 𝒱 c bd arg0 harg0 arg1 harg1 arg2 harg2 arg3 harg3 arg4 harg4 arg5 harg5 v3 v11 v23 v39 v41 v42 hrdF hrdB => View.readAt_writes_of_cover _ hrdF _ hrdB (fun hrdJ => View.cover_of_tiledL (pbW (F := F) 𝒱 c bd arg0 harg0 arg1 harg1 arg2 harg2 arg3 harg3 arg4 harg4 arg5 harg5 v3 v11 v23 v39 v41 v42 (Scf.trips k0_t1_loop.lb k0_t1_loop.ub k0_t1_loop.st)) S128x8.size (by sl_kernel_rfl) (hrdB.idx hrdJ))
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]; · iexists _; iexact H2
    isplitl [H3]; · iexists _; iexact H3
    isplitl [H4]; · iexists _; iexact H4
    iexists _, _; isplitr; swap; · iexact HS0
    ipureintro; rfl

/-- The run's pieces for output 2 tile its block (1 store of `S2048x2`, checked by the kernel's evaluation: Lib/Ring.lean `Piece.tiledL`, linear in the pieces, through a loop's `@[irreducible]` trip theorem too), so they cover it. -/
theorem cover0_A_2 (c : Dev nD) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole)
    (x0 : Vec F S2048x1024 .f32) (x1 : Vec F S1024x8 .f32) (y : S2048x2.Idx) :
    ∃ pc ∈ (kernelRun0_A c arg0 harg0 arg1 harg1 arg2 harg2 arg3 harg3 arg4 harg4 arg5 harg5 x0 x1).1, y ∈ pc.1.set :=
  View.cover_of_tiledL (kernelRun0_A c arg0 harg0 arg1 harg1 arg2 harg2 arg3 harg3 arg4 harg4 arg5 harg5 x0 x1).1 S2048x2.size (by sl_kernel_rfl) y

/-- What the run leaves in output 2's staging buffer: its pieces read back over junk. -/
def out0_A_2 (c : Dev nD) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole)
    (x0 : Vec F S2048x1024 .f32) (x1 : Vec F S1024x8 .f32) : Vec F S2048x2 .i32 :=
  VO0_2.read (Elt F) (VO0_2.writes (Elt F) VO0_2.junk (kernelRun0_A c arg0 harg0 arg1 harg1 arg2 harg2 arg3 harg3 arg4 harg4 arg5 harg5 x0 x1).1)

/-- The run's pieces for output 3 tile its block (1 store of `S2048x2`, checked by the kernel's evaluation: Lib/Ring.lean `Piece.tiledL`, linear in the pieces, through a loop's `@[irreducible]` trip theorem too), so they cover it. -/
theorem cover0_A_3 (c : Dev nD) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole)
    (x0 : Vec F S2048x1024 .f32) (x1 : Vec F S1024x8 .f32) (y : S2048x2.Idx) :
    ∃ pc ∈ (kernelRun0_A c arg0 harg0 arg1 harg1 arg2 harg2 arg3 harg3 arg4 harg4 arg5 harg5 x0 x1).2.1, y ∈ pc.1.set :=
  View.cover_of_tiledL (kernelRun0_A c arg0 harg0 arg1 harg1 arg2 harg2 arg3 harg3 arg4 harg4 arg5 harg5 x0 x1).2.1 S2048x2.size (by sl_kernel_rfl) y

/-- What the run leaves in output 3's staging buffer: its pieces read back over junk. -/
def out0_A_3 (c : Dev nD) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole)
    (x0 : Vec F S2048x1024 .f32) (x1 : Vec F S1024x8 .f32) : Vec F S2048x2 .f32 :=
  VO0_3.read (Elt F) (VO0_3.writes (Elt F) VO0_3.junk (kernelRun0_A c arg0 harg0 arg1 harg1 arg2 harg2 arg3 harg3 arg4 harg4 arg5 harg5 x0 x1).2.1)

/-- The run's pieces for output 4 tile its block (1 store of `S1x8`, checked by the kernel's evaluation: Lib/Ring.lean `Piece.tiledL`, linear in the pieces, through a loop's `@[irreducible]` trip theorem too), so they cover it. -/
theorem cover0_A_4 (c : Dev nD) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole)
    (x0 : Vec F S2048x1024 .f32) (x1 : Vec F S1024x8 .f32) (y : S1x8.Idx) :
    ∃ pc ∈ (kernelRun0_A c arg0 harg0 arg1 harg1 arg2 harg2 arg3 harg3 arg4 harg4 arg5 harg5 x0 x1).2.2.1, y ∈ pc.1.set :=
  View.cover_of_tiledL (kernelRun0_A c arg0 harg0 arg1 harg1 arg2 harg2 arg3 harg3 arg4 harg4 arg5 harg5 x0 x1).2.2.1 S1x8.size (by sl_kernel_rfl) y

/-- What the run leaves in output 4's staging buffer: its pieces read back over junk. -/
def out0_A_4 (c : Dev nD) (arg0 : Memref sig .tc .vmem S2048x1024 .f32) (harg0 : arg0.IsWhole) (arg1 : Memref sig .tc .vmem S1024x8 .f32) (harg1 : arg1.IsWhole) (arg2 : Memref sig .tc .vmem S2048x2 .i32) (harg2 : arg2.IsWhole) (arg3 : Memref sig .tc .vmem S2048x2 .f32) (harg3 : arg3.IsWhole) (arg4 : Memref sig .tc .vmem S1x8 .i32) (harg4 : arg4.IsWhole) (arg5 : Memref sig .tc .vmem S2048x8 .f32) (harg5 : arg5.IsWhole)
    (x0 : Vec F S2048x1024 .f32) (x1 : Vec F S1024x8 .f32) : Vec F S1x8 .i32 :=
  VO0_4.read (Elt F) (VO0_4.writes (Elt F) VO0_4.junk (kernelRun0_A c arg0 harg0 arg1 harg1 arg2 harg2 arg3 harg3 arg4 harg4 arg5 harg5 x0 x1).2.2.1)

section Out
variable (c : Dev nD) (arg0 : Memref sig .tc .vmem S2048x1024 .f32) (harg0 : arg0.IsWhole) (arg1 : Memref sig .tc .vmem S1024x8 .f32)
  (harg1 : arg1.IsWhole) (arg2 : Memref sig .tc .vmem S2048x2 .i32) (harg2 : arg2.IsWhole) (arg3 : Memref sig .tc .vmem S2048x2 .f32)
  (harg3 : arg3.IsWhole) (arg4 : Memref sig .tc .vmem S1x8 .i32) (harg4 : arg4.IsWhole) (arg5 : Memref sig .tc .vmem S2048x8 .f32)
  (harg5 : arg5.IsWhole) (x0 : Vec F S2048x1024 .f32) (x1 : Vec F S1024x8 .f32)

theorem read0 : View.readAt (Elt F) arg0.view (Rect.unit ![0, 0] S2048x1024.size inb_S2048x1024_S2048x1024_0_0).toLoadRect (harg0.unread x0) = x0 := by
  rw [View.readAt_eq_ld, harg0.read_unread]
  exact View.ld_unit_lit (S := S2048x1024) _ _ (by decide)

theorem read1 : View.readAt (Elt F) arg1.view (Rect.unit ![0, 0] S1024x8.size inb_S1024x8_S1024x8_0_0).toLoadRect (harg1.unread x1) = x1 := by
  rw [View.readAt_eq_ld, harg1.read_unread]
  exact View.ld_unit_lit (S := S1024x8) _ _ (by decide)

/-- One trip stores one block of 128 rows. -/
theorem trip_eq (𝒱 : Variants) (bd : Option 𝒱.V) (v3 : IVec S2048x8 32) (v11 : IVec S2048x1 32) (v23 : IVec S2048x1 32) (v39 : FVec F S2048x8 .f32)
    (v41 : FVec F S1x8 .f32) (v42 : IVec S1x8 32) (k : Fin k0_t1_loop.trips) :
    tripLW (F := F) 𝒱 c bd arg0 harg0 arg1 harg1 arg2 harg2 arg3 harg3 arg4 harg4 arg5 harg5 v3 v11 v23 v39 v41 v42 k
      = [⟨Rect.unit (s := S2048x8) (k0_off1 k) S128x8.size (k0_off1_inb k), k0_pay14 v39 k⟩] := by
  unfold tripLW tripW
  rfl

theorem trips_eq : k0_t1_loop.trips = 16 := by decide +kernel

/-- The block of 128 rows that row `i` lies in. -/
def tripOf (i : Fin 2048) : Fin k0_t1_loop.trips := ⟨i.val / 128, by rw [trips_eq]; omega⟩

/-- The scratch after all trips: each block of rows as its trip stored it. -/
def scr (v39 : FVec F S2048x8 .f32) : FVec F S2048x8 .f32 := fun y =>
  k0_pay14 v39 (tripOf (y 0)) (ix2 (⟨(y 0).val % 128, by omega⟩ : Fin 128) (y 1))

theorem pieces_mem (𝒱 : Variants) (bd : Option 𝒱.V) (v3 : IVec S2048x8 32) (v11 : IVec S2048x1 32) (v23 : IVec S2048x1 32) (v39 : FVec F S2048x8 .f32)
    (v41 : FVec F S1x8 .f32) (v42 : IVec S1x8 32) : ∀ k : ℕ, k ≤ k0_t1_loop.trips →
      ∀ p, p ∈ pbW (F := F) 𝒱 c bd arg0 harg0 arg1 harg1 arg2 harg2 arg3 harg3 arg4 harg4 arg5 harg5 v3 v11 v23 v39 v41 v42 k
        ↔ ∃ j : Fin k0_t1_loop.trips, j.val < k ∧ p = ⟨Rect.unit (s := S2048x8) (k0_off1 j) S128x8.size (k0_off1_inb j), k0_pay14 v39 j⟩
  | 0, _, p => by
    constructor
    · intro h
      exact absurd h List.not_mem_nil
    · rintro ⟨j, hj, _⟩
      exact absurd hj (Nat.not_lt_zero _)
  | k + 1, hk, p => by
    have e := pbW_succ (F := F) 𝒱 c bd arg0 harg0 arg1 harg1 arg2 harg2 arg3 harg3 arg4 harg4 arg5 harg5 v3 v11 v23 v39 v41 v42 ⟨k, hk⟩
    rw [trip_eq] at e
    have ih := pieces_mem 𝒱 bd v3 v11 v23 v39 v41 v42 k (le_of_lt hk) p
    rw [show (⟨k, hk⟩ : Fin k0_t1_loop.trips).val + 1 = k + 1 from rfl] at e
    rw [e, List.mem_append, List.mem_singleton, ih]
    constructor
    · rintro (h | ⟨j, hj, h⟩)
      · exact ⟨⟨k, hk⟩, Nat.lt_succ_self k, h⟩
      · exact ⟨j, Nat.lt_succ_of_lt hj, h⟩
    · rintro ⟨j, hj, h⟩
      rcases Nat.lt_succ_iff_lt_or_eq.1 hj with h1 | h1
      · exact Or.inr ⟨j, h1, h⟩
      · refine Or.inl ?_
        have : j = ⟨k, hk⟩ := Fin.ext h1
        rw [h, this]

theorem off1_zero (j : Fin k0_t1_loop.trips) : k0_off1 j 0 = 128 * j.val := by rw [k0_off1_eq]; rfl
theorem off1_one (j : Fin k0_t1_loop.trips) : k0_off1 j 1 = 0 := by rw [k0_off1_eq]; rfl

theorem canon_pieces (𝒱 : Variants) (bd : Option 𝒱.V) (v3 : IVec S2048x8 32) (v11 : IVec S2048x1 32) (v23 : IVec S2048x1 32) (v39 : FVec F S2048x8 .f32)
    (v41 : FVec F S1x8 .f32) (v42 : IVec S1x8 32) :
    View.canon (Val := Elt F) (pbW (F := F) 𝒱 c bd arg0 harg0 arg1 harg1 arg2 harg2 arg3 harg3 arg4 harg4 arg5 harg5 v3 v11 v23 v39 v41 v42 k0_t1_loop.trips)
      = scr v39 := by
  funext y
  have hm := pieces_mem (F := F) c arg0 harg0 arg1 harg1 arg2 harg2 arg3 harg3 arg4 harg4 arg5 harg5 𝒱 bd v3 v11 v23 v39 v41 v42 _ (le_refl _)
  have h := View.canon_append_of_pieces (Val := Elt F) (scr v39) []
    (pbW (F := F) 𝒱 c bd arg0 harg0 arg1 harg1 arg2 harg2 arg3 harg3 arg4 harg4 arg5 harg5 v3 v11 v23 v39 v41 v42 k0_t1_loop.trips) ?_ y ?_
  · rw [List.append_nil] at h
    exact h
  · intro p hp
    obtain ⟨j, _, rfl⟩ := (hm p).1 hp
    intro x
    have hx0 : (x 0).val < 128 := (x 0).isLt
    have e0 : ((Rect.unit (s := S2048x8) (k0_off1 j) S128x8.size (k0_off1_inb j)).emb x 0).val = 128 * j.val + (x 0).val := by
      rw [Rect.emb_apply, ← off1_zero j]; show k0_off1 j 0 + 1 * (x 0).val = _; omega
    have e1 : ((Rect.unit (s := S2048x8) (k0_off1 j) S128x8.size (k0_off1_inb j)).emb x 1).val = (x 1).val := by
      rw [Rect.emb_apply]; show k0_off1 j 1 + 1 * (x 1).val = _; rw [off1_one]; omega
    unfold scr
    have hj : tripOf ((Rect.unit (s := S2048x8) (k0_off1 j) S128x8.size (k0_off1_inb j)).emb x 0) = j := Fin.ext (by
      show ((Rect.unit (s := S2048x8) (k0_off1 j) S128x8.size (k0_off1_inb j)).emb x 0).val / 128 = j.val
      rw [e0]; omega)
    rw [hj]
    refine congrArg (k0_pay14 v39 j) (funext fun a => ?_)
    match a with
    | ⟨0, _⟩ =>
      refine Fin.ext ?_
      show (x 0).val = ((Rect.unit (s := S2048x8) (k0_off1 j) S128x8.size (k0_off1_inb j)).emb x 0).val % 128
      rw [e0]; omega
    | ⟨1, _⟩ => exact Fin.ext e1.symm
  · have hy0 : (y 0).val < 2048 := (y 0).isLt
    have hy1 : (y 1).val < 8 := (y 1).isLt
    refine ⟨⟨Rect.unit (s := S2048x8) (k0_off1 (tripOf (y 0))) S128x8.size (k0_off1_inb (tripOf (y 0))), k0_pay14 v39 (tripOf (y 0))⟩,
      (hm _).2 ⟨tripOf (y 0), (tripOf (y 0)).isLt, rfl⟩, ?_⟩
    show y ∈ (Rect.unit (s := S2048x8) (k0_off1 (tripOf (y 0))) S128x8.size (k0_off1_inb (tripOf (y 0)))).set
    rw [Rect.mem_set_unit]
    intro a
    match a with
    | ⟨0, _⟩ =>
      show k0_off1 (tripOf (y 0)) 0 ≤ (y 0).val ∧ (y 0).val < k0_off1 (tripOf (y 0)) 0 + 128
      rw [off1_zero]
      show 128 * ((y 0).val / 128) ≤ (y 0).val ∧ (y 0).val < 128 * ((y 0).val / 128) + 128
      omega
    | ⟨1, _⟩ =>
      show k0_off1 (tripOf (y 0)) 1 ≤ (y 1).val ∧ (y 1).val < k0_off1 (tripOf (y 0)) 1 + 8
      rw [off1_one]
      omega

/-- The counts. -/
theorem out4_eq : out0_A_4 c arg0 harg0 arg1 harg1 arg2 harg2 arg3 harg3 arg4 harg4 arg5 harg5 x0 x1 = k0_pay13 x0 x1 := by
  unfold out0_A_4
  rw [View.read_writes_eq_canon _ _ _ (cover0_A_4 c arg0 harg0 arg1 harg1 arg2 harg2 arg3 harg3 arg4 harg4 arg5 harg5 x0 x1)]
  unfold kernelRun0_A
  dsimp only
  sl_unfold_words
  rw [read0, read1]
  exact View.canon_cons_unit_lit (S := S1x8) _ _ [] (by decide)

/-- The weights. -/
theorem out3_eq : out0_A_3 c arg0 harg0 arg1 harg1 arg2 harg2 arg3 harg3 arg4 harg4 arg5 harg5 x0 x1
    = k0_pay1 (k0_pay9 x0 x1) (k0_pay10 x0 x1) (iota .tc S2048x2 32 [1] iota_S2048x2_d1_w32) 0#32 := by
  unfold out0_A_3
  rw [View.read_writes_eq_canon _ _ _ (cover0_A_3 c arg0 harg0 arg1 harg1 arg2 harg2 arg3 harg3 arg4 harg4 arg5 harg5 x0 x1)]
  unfold kernelRun0_A
  dsimp only
  sl_unfold_words
  rw [read0, read1]
  exact View.canon_cons_unit_lit (S := S2048x2) _ _ [] (by decide)

/-- The rows' places. -/
theorem out2_eq : out0_A_2 c arg0 harg0 arg1 harg1 arg2 harg2 arg3 harg3 arg4 harg4 arg5 harg5 x0 x1
    = k0_pay15 (iota .tc S2048x8 32 [1] iota_S2048x8_d1_w32) (k0_pay4 x0 x1) (k0_pay7 x0 x1) (k0_pay12 x0 x1) (scr (k0_pay11 x0 x1)) := by
  unfold out0_A_2
  rw [View.read_writes_eq_canon _ _ _ (cover0_A_2 c arg0 harg0 arg1 harg1 arg2 harg2 arg3 harg3 arg4 harg4 arg5 harg5 x0 x1)]
  unfold kernelRun0_A
  dsimp only
  sl_unfold_words
  rw [read0, read1]
  refine (View.canon_cons_unit_lit (S := S2048x2) _ _ [] (by decide)).trans ?_
  refine congrArg _ ?_
  refine (View.readCov_eq_canon' arg5.view _ _).trans ?_
  rw [show Scf.trips (0#32) (Scalar.addi 0#32 16#32) 1#32 = k0_t1_loop.trips from rfl, canon_pieces]
  exact View.ld_unit_lit (S := S2048x8) (Val := Elt F) (e := .f32) inb_S2048x8_S2048x8_0_0 (scr (k0_pay11 x0 x1)) (by decide)

end Out

end Cert.Whole

end

end
-- ==== Proof.WholeRegion0.lean ====
/- The router as a region of the whole program's run: its one point leaves the places, the weights and the counts of the two
   arrays it reads. -/
module

public import proofs.«01_k».proof.Proof.WholeRouter
public import proofs.«01_k».proof.Proof.WholeRegion2
public import proofs.«01_k».proof.Proof.Gen.Kernel3Ideal.Points

@[expose] public section

set_option backward.isDefEq.respectTransparency.types false

noncomputable section

namespace Cert.Whole

open Cert.Kernel3Ideal Cert.Kernel3Ideal.Gen
open Cert.Moe (arrAt_forall_rel)
open Idealize.ShloMosaic Idealize.ShloMosaic.TcCoe Idealize.ShloMosaic.Tactic Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The places as one function of the two arrays. -/
def placesW (x0 : Vec F S2048x1024 .f32) (x1 : Vec F S1024x8 .f32) : IVec S2048x2 32 :=
  k0_pay15 (iota .tc S2048x8 32 [1] iota_S2048x8_d1_w32) (k0_pay4 x0 x1) (k0_pay7 x0 x1) (k0_pay12 x0 x1) (scr (k0_pay11 x0 x1))

/-- The weights as one function of the two arrays. -/
def weightsW (x0 : Vec F S2048x1024 .f32) (x1 : Vec F S1024x8 .f32) : FVec F S2048x2 .f32 :=
  k0_pay1 (k0_pay9 x0 x1) (k0_pay10 x0 x1) (iota .tc S2048x2 32 [1] iota_S2048x2_d1_w32) 0#32

variable (a : (p : Fin 3) → (pcfgs (F := F) p).Adm)

/-- The proof data of the router: entered from the buffers at `V`. -/
def rd0 (V : Dev nD → Valuation τ sig (Elt F)) (c : Dev nD) : RDat τ (Elt F) Unit ℕ UU ℕ (pin pcfgs a 0) c where
  A w := V c (Proc.devRef .tc (arrRef (pin pcfgs a 0).spec w))
  after := fun
    | 0 => fun _ Y X => X = Y
    | 1 => fun _ Y X => X = Y
    | 2 => fun _ _ X => X = placesW (V c main_v0) (V c main_arg1)
    | 3 => fun _ _ X => X = weightsW (V c main_v0) (V c main_arg1)
    | 4 => fun _ _ X => X = k0_pay13 (V c main_v0) (V c main_arg1)
    | ⟨_ + 5, h⟩ => absurd h (Nat.not_lt.2 (Nat.le_add_left _ _))
  Φ _ := iprop(scopedRest (pin pcfgs a 0).spec c ∗ tablesAt pcfgs a 0 c)
  q _ := fullShare
  owed _ := 0

variable {a}

theorem read0_0 (V : Dev nD → Valuation τ sig (Elt F)) (c : Dev nD) (t : Fin grid0.N) (d) :
    (rd0 a V c).fetched 0 t d = V c main_v0 := by
  obtain rfl := fin_N0 t
  refine funext fun (y : S2048x1024.Idx) => ?_
  show V c main_v0 _ = V c main_v0 _
  congr 1
  refine funext fun (k : Fin 2) => Fin.ext ?_
  refine (((pin pcfgs a 0).win 0).rect_emb_val t0_0 y k rfl).trans ?_
  match k with
  | 0 => exact ((congrArg (· + (y 0).val) (Nat.zero_mul _)).trans (Nat.zero_add _))
  | 1 => exact ((congrArg (· + (y 1).val) (Nat.zero_mul _)).trans (Nat.zero_add _))

theorem read0_1 (V : Dev nD → Valuation τ sig (Elt F)) (c : Dev nD) (t : Fin grid0.N) (d) :
    (rd0 a V c).fetched 1 t d = V c main_arg1 := by
  obtain rfl := fin_N0 t
  refine funext fun (y : S1024x8.Idx) => ?_
  show V c main_arg1 _ = V c main_arg1 _
  congr 1
  refine funext fun (k : Fin 2) => Fin.ext ?_
  refine (((pin pcfgs a 0).win 1).rect_emb_val t0_0 y k rfl).trans ?_
  match k with
  | 0 => exact ((congrArg (· + (y 0).val) (Nat.zero_mul _)).trans (Nat.zero_add _))
  | 1 => exact ((congrArg (· + (y 1).val) (Nat.zero_mul _)).trans (Nat.zero_add _))

/-- What the body finds in the input windows. -/
theorem finds0_in (V : Dev nD → Valuation τ sig (Elt F)) (c : Dev nD) (w : Fin 5) (hw : w.val < 2) (t : Fin grid0.N) (Y) (h : (rd0 a V c).Finds w t Y) :
    ∃ d, Y = (rd0 a V c).fetched w t d := by
  refine RDat.finds_in_eq_fetched (rd0 a V c) w ?_ (fun _ _ _ => ?_) (fun t Y X hX => ?_) t Y h
  · match w, hw with | 0, _ => rfl | 1, _ => rfl | ⟨n + 2, _⟩, h => exact absurd h (Nat.not_lt.2 (Nat.le_add_left _ _))
  · match w, hw with | 0, _ => rfl | 1, _ => rfl | ⟨n + 2, _⟩, h => exact absurd h (Nat.not_lt.2 (Nat.le_add_left _ _))
  · match w, hw, Y, X, hX with
    | 0, _, _, _, hX => exact hX
    | 1, _, _, _, hX => exact hX
    | ⟨n + 2, _⟩, h, _, _, _ => exact absurd h (Nat.not_lt.2 (Nat.le_add_left _ _))

theorem defs₀_row0 (t : Fin cfg0.N) :
    defs₀ (F := F) .tc cfg0.body (cfg0.bodyArgs t (cfg0.slots t)) = bodyAt0 t := by
  unfold defs₀; rw [Defs.onTc_tc]

/-- The scratch buffer held at some contents is its memref owned at some contents. -/
theorem scratch_owns (c : Dev nD) :
    (iprop(∃ f : Buf (Elt F) ((c : Thread nD τ).loc cc0_scratch0), ((c : Thread nD τ).loc cc0_scratch0) ↦{fullShare} f) : sProp 𝕄)
      = iprop(∃ d, owns (c : Thread nD τ) (Memref.whole cc0_scratch0) fullShare d) := by
  simp only [owns_whole]

/-- A point of the router: from the two inputs and the buffers for its results, the body leaves the places, weights and counts. -/
theorem router_run (c : Dev nD) (t : Fin cfg0.N) (x0 : Vec F S2048x1024 .f32) (x1 : Vec F S1024x8 .f32) (Q : PUnit → sProp 𝕄) :
    iprop(owns (c : Thread nD τ) (st0_0 t) fullShare x0 ∗ owns (c : Thread nD τ) (st0_1 t) fullShare x1
        ∗ (∃ d, owns (c : Thread nD τ) (st0_2 t) fullShare d) ∗ (∃ d, owns (c : Thread nD τ) (st0_3 t) fullShare d) ∗ (∃ d, owns (c : Thread nD τ) (st0_4 t) fullShare d)
        ∗ scopedRest (Val := Elt F) spec0 c
        ∗ (iprop(owns (c : Thread nD τ) (st0_0 t) fullShare x0 ∗ owns (c : Thread nD τ) (st0_1 t) fullShare x1
          ∗ owns (c : Thread nD τ) (st0_2 t) fullShare (placesW x0 x1) ∗ owns (c : Thread nD τ) (st0_3 t) fullShare (weightsW x0 x1)
          ∗ owns (c : Thread nD τ) (st0_4 t) fullShare (k0_pay13 x0 x1) ∗ scopedRest (Val := Elt F) spec0 c) -∗ Q ⟨⟩))
      ⊢ wp frame (wpE (defs₀ (F := F)) Variants.none c none) Set.univ (bodyAt0 t) Q := by
  rw [scopedRest0_eq]
  unfold bodyAt0
  iintro ⟨H0, H1, ⟨%d2, H2⟩, ⟨%d3, H3⟩, ⟨%d4, H4⟩, ⟨HS0, Hr⟩, Hk⟩
  iapply ((kernelRun0_A c _ _ _ _ _ _ _ _ _ _ _ _ x0 x1).2.2.2 Set.univ _)
  isplitl [H0]; · iexact H0
  isplitl [H1]; · iexact H1
  isplitl [H2]; · iexists _; iexact H2
  isplitl [H3]; · iexists _; iexact H3
  isplitl [H4]; · iexists _; iexact H4
  isplitl [HS0]; · iapply (Entails.of_eq (scratch_owns c)); iexact HS0
  iintro ⟨H0, H1, ⟨%e2, H2⟩, ⟨%e3, H3⟩, ⟨%e4, H4⟩, HS0⟩
  iapply Hk
  isplitl [H0]; · iexact H0
  isplitl [H1]; · iexact H1
  isplitl [H2]
  · unfold owns; iexists _; isplitr
    swap; · iexact H2
    ipureintro
    exact (View.read_writes_of_cover _ _ _ _ _ (cover0_A_2 c _ _ _ _ _ _ _ _ _ _ _ _ _ _)).trans (out2_eq c _ _ _ _ _ _ _ _ _ _ _ _ x0 x1)
  isplitl [H3]
  · unfold owns; iexists _; isplitr
    swap; · iexact H3
    ipureintro
    exact (View.read_writes_of_cover _ _ _ _ _ (cover0_A_3 c _ _ _ _ _ _ _ _ _ _ _ _ _ _)).trans (out3_eq c _ _ _ _ _ _ _ _ _ _ _ _ x0 x1)
  isplitl [H4]
  · unfold owns; iexists _; isplitr
    swap; · iexact H4
    ipureintro
    exact (View.read_writes_of_cover _ _ _ _ _ (cover0_A_4 c _ _ _ _ _ _ _ _ _ _ _ _ _ _)).trans (out4_eq c _ _ _ _ _ _ _ _ _ _ _ _ x0 x1)
  isplitl [HS0]; · iapply (Entails.of_eq (scratch_owns c).symm); iexact HS0
  iexact Hr

/-- The body meets its obligation. -/
theorem body0 (V : Dev nD → Valuation τ sig (Elt F)) (c : Dev nD) :
    (rd0 a V c).BodyObligation defs₀ Variants.none () Set.univ := by
  intro t Y hY
  have e0 : Y 0 = V c main_v0 := by
    obtain ⟨d, e⟩ := finds0_in V c 0 (by decide) t _ (hY 0)
    exact e.trans (read0_0 V c t d)
  have e1 : Y 1 = V c main_arg1 := by
    obtain ⟨d, e⟩ := finds0_in V c 1 (by decide) t _ (hY 1)
    exact e.trans (read0_1 V c t d)
  refine (sep_mono .rfl (sep_mono .rfl (Entails.of_eq (bigSep_W0 _)))).trans ?_
  refine BIBase.Entails.trans ?_ (wp_mono _ _ _ fun _ => sep_mono .rfl (sep_mono .rfl (Entails.of_eq (bigSep_W0 _).symm)))
  refine BIBase.Entails.trans ?_ (Entails.of_eq (congrArg (fun P => wp frame (wpE (defs₀ (F := F)) Variants.none c none) Set.univ P _) (defs₀_row0 t).symm))
  refine BIBase.Entails.trans ?_ (router_run c t (Y 0) (Y 1) _)
  have ho : (rd0 a V c).owesAt () t.castSucc = (rd0 a V c).owesAt () t.succ := rfl
  have hΦ : ∀ s, (rd0 a V c).Φ s = iprop(scopedRest spec0 c ∗ tablesAt pcfgs a 0 c) := fun s => rfl
  rw [hΦ, hΦ, ho]
  iintro ⟨⟨Hs, Ht⟩, HO, H0, H1, H2, H3, H4⟩
  isplitl [H0]; · iexact H0
  isplitl [H1]; · iexact H1
  isplitl [H2]; · iexists _; iexact H2
  isplitl [H3]; · iexists _; iexact H3
  isplitl [H4]; · iexists _; iexact H4
  isplitl [Hs]; · iexact Hs
  iintro ⟨H0, H1, H2, H3, H4, Hs⟩
  isplitl [Hs Ht]
  · isplitl [Hs]; · iexact Hs
    iexact Ht
  isplitl [HO]; · iexact HO
  isplitl [H0]
  · iexists Y 0; isplitr; · ipureintro; exact rfl
    iexact H0
  isplitl [H1]
  · iexists Y 1; isplitr; · ipureintro; exact rfl
    iexact H1
  isplitl [H2]
  · iexists _; isplitr; swap; · iexact H2
    ipureintro
    show _ = placesW (V c main_v0) (V c main_arg1)
    rw [e0, e1]
  isplitl [H3]
  · iexists _; isplitr; swap; · iexact H3
    ipureintro
    show _ = weightsW (V c main_v0) (V c main_arg1)
    rw [e0, e1]
  iexists _; isplitr; swap; · iexact H4
  ipureintro
  show _ = k0_pay13 (V c main_v0) (V c main_arg1)
  rw [e0, e1]

/-- The places' window covers its whole array. -/
theorem pos0_2 (y : S2048x2.Idx) : ((((pin pcfgs a 0).win 2).blk t0_0).view.emb y : S2048x2.Idx) = y := by
  refine funext fun (k : Fin 2) => Fin.ext ?_
  refine (((pin pcfgs a 0).win 2).rect_emb_val t0_0 y k rfl).trans ?_
  match k with
  | 0 => exact ((congrArg (· + (y 0).val) (Nat.zero_mul _)).trans (Nat.zero_add _))
  | 1 => exact ((congrArg (· + (y 1).val) (Nat.zero_mul _)).trans (Nat.zero_add _))

/-- The weights' window covers its whole array. -/
theorem pos0_3 (y : S2048x2.Idx) : ((((pin pcfgs a 0).win 3).blk t0_0).view.emb y : S2048x2.Idx) = y := by
  refine funext fun (k : Fin 2) => Fin.ext ?_
  refine (((pin pcfgs a 0).win 3).rect_emb_val t0_0 y k rfl).trans ?_
  match k with
  | 0 => exact ((congrArg (· + (y 0).val) (Nat.zero_mul _)).trans (Nat.zero_add _))
  | 1 => exact ((congrArg (· + (y 1).val) (Nat.zero_mul _)).trans (Nat.zero_add _))

/-- The counts' window covers its whole array. -/
theorem pos0_4 (y : S1x8.Idx) : ((((pin pcfgs a 0).win 4).blk t0_0).view.emb y : S1x8.Idx) = y := by
  refine funext fun (k : Fin 2) => Fin.ext ?_
  refine (((pin pcfgs a 0).win 4).rect_emb_val t0_0 y k rfl).trans ?_
  match k with
  | 0 => exact ((congrArg (· + (y 0).val) (Nat.zero_mul _)).trans (Nat.zero_add _))
  | 1 => exact ((congrArg (· + (y 1).val) (Nat.zero_mul _)).trans (Nat.zero_add _))

theorem result0_2 (V : Dev nD → Valuation τ sig (Elt F)) (c : Dev nD) (G : S2048x2.Idx → BitVec 32)
    (hG : (rd0 a V c).ArrAt 2 (pin pcfgs a 0).N G) : G = placesW (V c main_v0) (V c main_arg1) := by
  refine funext fun (y : S2048x2.Idx) => ?_
  refine arrAt_forall_rel (rd0 a V c) (2 : Fin 5) hG (fun x v => v = placesW (V c main_v0) (V c main_arg1) x) ?_ t0_0 (flush0_2 _) y
    (Finset.mem_map.mpr ⟨y, Finset.mem_univ _, pos0_2 (a := a) y⟩)
  intro t ht X hX y
  obtain rfl := fin_N0 t
  obtain ⟨Y, -, hX⟩ := hX
  have hX : X = placesW (V c main_v0) (V c main_arg1) := hX
  subst hX
  exact congrArg (placesW (V c main_v0) (V c main_arg1)) (pos0_2 (a := a) y).symm

theorem result0_3 (V : Dev nD → Valuation τ sig (Elt F)) (c : Dev nD) (G : S2048x2.Idx → Elt F .f32)
    (hG : (rd0 a V c).ArrAt 3 (pin pcfgs a 0).N G) : G = weightsW (V c main_v0) (V c main_arg1) := by
  refine funext fun (y : S2048x2.Idx) => ?_
  refine arrAt_forall_rel (rd0 a V c) (3 : Fin 5) hG (fun x v => v = weightsW (V c main_v0) (V c main_arg1) x) ?_ t0_0 (flush0_3 _) y
    (Finset.mem_map.mpr ⟨y, Finset.mem_univ _, pos0_3 (a := a) y⟩)
  intro t ht X hX y
  obtain rfl := fin_N0 t
  obtain ⟨Y, -, hX⟩ := hX
  have hX : X = weightsW (V c main_v0) (V c main_arg1) := hX
  subst hX
  exact congrArg (weightsW (V c main_v0) (V c main_arg1)) (pos0_3 (a := a) y).symm

theorem result0_4 (V : Dev nD → Valuation τ sig (Elt F)) (c : Dev nD) (G : S1x8.Idx → BitVec 32)
    (hG : (rd0 a V c).ArrAt 4 (pin pcfgs a 0).N G) : G = k0_pay13 (V c main_v0) (V c main_arg1) := by
  refine funext fun (y : S1x8.Idx) => ?_
  refine arrAt_forall_rel (rd0 a V c) (4 : Fin 5) hG (fun x v => v = k0_pay13 (V c main_v0) (V c main_arg1) x) ?_ t0_0 (flush0_4 _) y
    (Finset.mem_map.mpr ⟨y, Finset.mem_univ _, pos0_4 (a := a) y⟩)
  intro t ht X hX y
  obtain rfl := fin_N0 t
  obtain ⟨Y, -, hX⟩ := hX
  have hX : X = k0_pay13 (V c main_v0) (V c main_arg1) := hX
  subst hX
  exact congrArg (k0_pay13 (V c main_v0) (V c main_arg1)) (pos0_4 (a := a) y).symm

end Cert.Whole

end
-- ==== Proof.WholeRun.lean ====
/- The run of the whole program: the router, the host's layout of the rows, the two calls over the experts' tiles and the host's
   sum. From any memory whose table of tiles is admissible the program ends with its result as the host's last stretch computes
   it from rows of which every owned tile holds its expert's values. -/
module

public import proofs.«01_k».proof.Proof.WholeRegion0
public import proofs.«01_k».proof.Proof.RelRegion
public import Idealize.ShloMosaic.Lib.Pipeline.RegionsForgetR
public import Idealize.ShloMosaic.Lib.Pipeline.RegionsForgetLinks
public import Idealize.ShloMosaic.Lib.HostLoop.Plain
public import Idealize.ShloMosaic.Lib.HostLoop.Lifted
public import proofs.«01_k».proof.Proof.Gen.Kernel3Ideal.Regions

@[expose] public section

set_option maxRecDepth 16384
set_option backward.isDefEq.respectTransparency.types false

noncomputable section

namespace Cert.Whole

open Cert.Kernel3Ideal Cert.Kernel3Ideal.Gen Cert.Tiles
open Cert.Moe (wordOf startOf countOf Fit tileOf rowsAt slabAt relRegion)
open Idealize.ShloMosaic Idealize.ShloMosaic.TcCoe Idealize.ShloMosaic.Tactic Idealize.ShloMosaic.Rounds Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The launch memory, as the buffers' contents on each core. -/
def mem0 (m : (ℓ : Loc nD τ sig) → Buf (Elt F) ℓ) : Dev nD → Valuation τ sig (Elt F) := fun c b => m (c, b)

variable (m : (ℓ : Loc nD τ sig) → Buf (Elt F) ℓ)

/-- The buffers' contents after each of the items up to the first call over tiles. -/
@[irreducible] def mem1 (c : Dev nD) : Valuation τ sig (Elt F) := StableHlo.after hostOps0 (mem0 m c)
@[irreducible] def mem2 (c : Dev nD) : Valuation τ sig (Elt F) :=
  Function.update (Function.update (Function.update (mem1 m c) main_v1_0 (placesW (mem1 m c main_v0) (mem1 m c main_arg1)))
    main_v1_1 (weightsW (mem1 m c main_v0) (mem1 m c main_arg1))) main_v1_2 (k0_pay13 (mem1 m c main_v0) (mem1 m c main_arg1))
@[irreducible] def mem3 (c : Dev nD) : Valuation τ sig (Elt F) := StableHlo.after hostOps1 (mem2 m c)
@[irreducible] def mem4 (c : Dev nD) : Valuation τ sig (Elt F) := StableHlo.after hostOps1_1 (mem3 m c)
@[irreducible] def mem5 (c : Dev nD) : Valuation τ sig (Elt F) := StableHlo.after hostOps1_2 (mem4 m c)
@[irreducible] def mem6 (c : Dev nD) : Valuation τ sig (Elt F) := StableHlo.after hostOps1_3 (mem5 m c)

theorem mem1_eq (c : Dev nD) : mem1 m c = StableHlo.after hostOps0 (mem0 m c) := by rw [mem1]
theorem mem3_eq (c : Dev nD) : mem3 m c = StableHlo.after hostOps1 (mem2 m c) := by rw [mem3]
theorem mem4_eq (c : Dev nD) : mem4 m c = StableHlo.after hostOps1_1 (mem3 m c) := by rw [mem4]
theorem mem5_eq (c : Dev nD) : mem5 m c = StableHlo.after hostOps1_2 (mem4 m c) := by rw [mem5]
theorem mem6_eq (c : Dev nD) : mem6 m c = StableHlo.after hostOps1_3 (mem5 m c) := by rw [mem6]

/-- The table of tiles that the host computes from the counts. -/
def tableOf : S16.Idx → BitVec 32 := mem6 m 0 main_v8

variable (hfit : Fit (tableOf m))

/-- The router reads no table; both calls over tiles read the one above, and it is admissible for each. -/
def adm : (p : Fin 3) → (pcfgs (F := F) p).Adm
  | ⟨0, _⟩ => ⟨fun k => k.elim0, trivial⟩
  | ⟨1, _⟩ => ⟨fun k => mem6 m 0 (Proc.devRef .tc (pre1.ref k)), ok1_of_fit _ hfit⟩
  | ⟨2, _⟩ => ⟨fun k => mem6 m 0 (Proc.devRef .tc (pre2.ref k)), ok2_of_fit _ hfit⟩
  | ⟨_ + 3, h⟩ => absurd h (Nat.not_lt.2 (Nat.le_add_left _ _))

/-- The three calls' proof data at the buffers `V`. -/
def rds (V : Dev nD → Valuation τ sig (Elt F)) : (p : Fin 3) → (c : Dev nD) → RDat τ (Elt F) Unit ℕ UU ℕ (pin pcfgs (adm m hfit) p) c
  | ⟨0, _⟩ => rd0 (adm m hfit) V
  | ⟨1, _⟩ => rd1 (adm m hfit) V
  | ⟨2, _⟩ => rd2 (adm m hfit) V
  | ⟨_ + 3, h⟩ => absurd h (Nat.not_lt.2 (Nat.le_add_left _ _))

/-- No cell carries a level. -/
def lvSet : GSem nD τ sig → Finset Unit := fun _ => ∅
def lvOf : GSem nD τ sig → Unit → ℕ := fun _ _ => 0

/-- One ticket for each call, each in its own copy of the algebra. -/
def tickets (j : Fin 3) : Pipeline.Ticket (Ix := Unit) (Name := ℕ) (U := UU) (Lvl := ℕ) (nD := nD) (τ := τ) (pcfgs (F := F)) (adm m hfit) where
  p := j
  pdats _ _ := { A := fun _ => Classical.arbitrary _, after := fun _ _ _ => Classical.arbitrary _, Φ := fun _ => iprop(emp), q := fun _ => fullShare, owed := fun _ => 0 }
  EP := embAt j

/-- No loop is run on the host. -/
def noLoops : Fin 0 → Prog (TpuEff nD τ sig (Elt F) (HostLoop.Sig (Pipeline.Sig Λ₀ (Fin 3) fun p => (pcfgs (F := F) p).Adm) 0) .tc) PUnit := fun l => l.elim0

/-- The router, entered after the host's first stretch. -/
def reg0 : RDat.RegionSeg pcfgs (adm m hfit) (rds m hfit (mem1 m)) () defs₀ Variants.none lvSet lvOf 0 :=
  relRegion pcfgs (adm m hfit) (p := 0) (rds m hfit (mem1 m)) () defs₀ Variants.none lvSet lvOf launch0 (body0 (a := adm m hfit) (mem1 m)) (fun _ _ => rfl) (fun _ => rfl)
    (fun _ w => by show (if _ then fullShare else fullShare) = _; split <;> rfl) (fun _ _ => rfl) (mem1 m) (fun _ _ => rfl)
    (fun c k => k.elim0) (fun _ => iprop(emp))

/-- The gate-and-up call, entered at the buffers the host has laid out. -/
def reg1 : RDat.RegionSeg pcfgs (adm m hfit) (rds m hfit (mem6 m)) () defs₀ Variants.none lvSet lvOf 1 :=
  relRegion pcfgs (adm m hfit) (p := 1) (rds m hfit (mem6 m)) () defs₀ Variants.none lvSet lvOf launch1 (body1 (a := adm m hfit) hfit (mem6 m)) (fun _ _ => rfl) (fun _ => rfl)
    (fun _ w => by show (if _ then fullShare else fullShare) = _; split <;> rfl) (fun _ _ => rfl) (mem6 m) (fun _ _ => rfl)
    (fun c k => by rw [show c = (0 : Dev nD) from Subsingleton.elim _ _]; rfl) (fun _ => iprop(emp))

/-- The buffers the down call may be entered at: the table is still the host's. -/
def Ok2 : Type := {V : Dev nD → Valuation τ sig (Elt F) // ∀ c, V c main_v8 = tableOf m}

/-- The down call, entered at the buffers `V`. -/
def reg2 (V : Ok2 m) : RDat.RegionSeg pcfgs (adm m hfit) (rds m hfit V.1) () defs₀ Variants.none lvSet lvOf 2 :=
  relRegion pcfgs (adm m hfit) (p := 2) (rds m hfit V.1) () defs₀ Variants.none lvSet lvOf launch2 (body2 (a := adm m hfit) hfit V.1) (fun _ _ => rfl) (fun _ => rfl)
    (fun _ w => by show (if _ then fullShare else fullShare) = _; split <;> rfl) (fun _ _ => rfl) V.1 (fun _ _ => rfl)
    (fun c k => by
      match k with
      | ⟨0, _⟩ => exact (V.2 c).symm
      | ⟨_ + 1, h⟩ => exact absurd h (Nat.not_lt.2 (Nat.le_add_left _ _)))
    (fun _ => iprop(emp))

/-- What the gate-and-up call leaves: every other buffer as found, and every owned tile of its result at its expert's values. -/
def After1 (c : Dev nD) (V : Valuation τ sig (Elt F)) : Prop :=
  (∀ b, b ≠ Proc.devRef .tc main_v49 → V b = mem6 m c b) ∧ ∀ e i, e < 8 → i < countOf (tableOf m) e →
    rowsAt (n := 2880) (V main_v49 : S5120x2880.Idx → Elt F .bf16) (startOf (tableOf m) e + i)
      = tileH (mem6 m c main_v48) (mem6 m c main_arg2) (mem6 m c main_arg3) e (startOf (tableOf m) e + i)

/-- A tile of the rows: the down call's value at the tile of the intermediate array. -/
def tileOut (c : Dev nD) (e j : ℕ) : S128x1024.Idx → Elt F .f32 :=
  k2_pay1 (tileH (mem6 m c main_v48) (mem6 m c main_arg2) (mem6 m c main_arg3) e j)
    (slabAt (m := 2880) (n := 1024) (mem6 m c main_arg4 : S8x2880x1024.Idx → Elt F .f32) e) (rowsAt (n := 1) (mem6 m c main_v38 : S5120x1.Idx → Elt F .f32) j)

/-- What the down call leaves: every other buffer but the two results as found, and every owned tile at its expert's values. -/
def After2 (c : Dev nD) (V : Valuation τ sig (Elt F)) : Prop :=
  (∀ b, b ≠ Proc.devRef .tc main_v49 → b ≠ Proc.devRef .tc main_v50 → V b = mem6 m c b) ∧ ∀ e i, e < 8 → i < countOf (tableOf m) e →
    rowsAt (n := 1024) (V main_v50 : S5120x1024.Idx → Elt F .f32) (startOf (tableOf m) e + i) = tileOut m c e (startOf (tableOf m) e + i)

/-- A buffer among a call's arrays is one of them. -/
theorem arr_of_mem {p : Fin 3} {b : DevRef τ sig} (h : b ∈ arrRefs (pcfgs (F := F) p).spec) :
    ∃ w, b = Proc.devRef .tc (arrRef (pcfgs (F := F) p).spec w) := by
  obtain ⟨r, hr, rfl⟩ := Finset.mem_map.mp h
  obtain ⟨w, -, rfl⟩ := Finset.mem_image.mp hr
  exact ⟨w, rfl⟩

/-- From what the relational data of the router says of its arrays: the buffers are determined. -/
theorem after0_of (c : Dev nD) (V : Valuation τ sig (Elt F))
    (hA : ∀ w, (rds m hfit (mem1 m) 0 c).ArrAt w (pin pcfgs (adm m hfit) 0).N (V (Proc.devRef .tc (arrRef (pin pcfgs (adm m hfit) 0).spec w))))
    (hV : ∀ b, b ∉ arrRefs (pcfgs (F := F) 0).spec → V b = mem1 m c b) : V = mem2 m c := by
  have h2 : V main_v1_0 = placesW (mem1 m c main_v0) (mem1 m c main_arg1) := result0_2 (a := adm m hfit) (mem1 m) c _ (hA 2)
  have h3 : V main_v1_1 = weightsW (mem1 m c main_v0) (mem1 m c main_arg1) := result0_3 (a := adm m hfit) (mem1 m) c _ (hA 3)
  have h4 : V main_v1_2 = k0_pay13 (mem1 m c main_v0) (mem1 m c main_arg1) := result0_4 (a := adm m hfit) (mem1 m) c _ (hA 4)
  have hin (w : Fin (pin pcfgs (adm m hfit) 0).W) (h : ((pin pcfgs (adm m hfit) 0).win w).isOut = false) :
      V (Proc.devRef .tc (arrRef (pin pcfgs (adm m hfit) 0).spec w)) = mem1 m c (Proc.devRef .tc (arrRef (pin pcfgs (adm m hfit) 0).spec w)) :=
    (congrFun (RDat.ArrAt_in (rd0 (adm m hfit) (mem1 m) c) w h _) _).mp (hA w)
  funext b
  unfold mem2
  by_cases e4 : b = Proc.devRef .tc main_v1_2
  · subst e4; rw [Function.update_self]; exact h4
  rw [Function.update_of_ne e4]
  by_cases e3 : b = Proc.devRef .tc main_v1_1
  · subst e3; rw [Function.update_self]; exact h3
  rw [Function.update_of_ne e3]
  by_cases e2 : b = Proc.devRef .tc main_v1_0
  · subst e2; rw [Function.update_self]; exact h2
  rw [Function.update_of_ne e2]
  by_cases hb : b ∈ arrRefs (pcfgs (F := F) 0).spec
  · obtain ⟨w, rfl⟩ := arr_of_mem hb
    match w with
    | ⟨0, _⟩ => exact hin 0 rfl
    | ⟨1, _⟩ => exact hin 1 rfl
    | ⟨2, _⟩ => exact absurd rfl e2
    | ⟨3, _⟩ => exact absurd rfl e3
    | ⟨4, _⟩ => exact absurd rfl e4
    | ⟨_ + 5, h⟩ => exact absurd h (Nat.not_lt.2 (Nat.le_add_left _ _))
  · exact hV b hb

/-- From what the relational data of the gate-and-up call says of its arrays. -/
theorem after1_of (c : Dev nD) (V : Valuation τ sig (Elt F))
    (hA : ∀ w, (rds m hfit (mem6 m) 1 c).ArrAt w (pin pcfgs (adm m hfit) 1).N (V (Proc.devRef .tc (arrRef (pin pcfgs (adm m hfit) 1).spec w))))
    (hV : ∀ b, b ∉ arrRefs (pcfgs (F := F) 1).spec → V b = mem6 m c b) : After1 m c V := by
  have hin (w : Fin (pin pcfgs (adm m hfit) 1).W) (h : ((pin pcfgs (adm m hfit) 1).win w).isOut = false) :
      V (Proc.devRef .tc (arrRef (pin pcfgs (adm m hfit) 1).spec w)) = mem6 m c (Proc.devRef .tc (arrRef (pin pcfgs (adm m hfit) 1).spec w)) :=
    (congrFun (RDat.ArrAt_in (rd1 (adm m hfit) (mem6 m) c) w h _) _).mp (hA w)
  refine ⟨fun b e => ?_, fun e i he hi => result1 (a := adm m hfit) hfit (mem6 m) c _ (hA 3) e i he hi⟩
  by_cases hb : b ∈ arrRefs (pcfgs (F := F) 1).spec
  · obtain ⟨w, rfl⟩ := arr_of_mem hb
    match w with
    | ⟨0, _⟩ => exact hin 0 rfl
    | ⟨1, _⟩ => exact hin 1 rfl
    | ⟨2, _⟩ => exact hin 2 rfl
    | ⟨3, _⟩ => exact absurd rfl e
    | ⟨_ + 4, h⟩ => exact absurd h (Nat.not_lt.2 (Nat.le_add_left _ _))
  · exact hV b hb

/-- From what the relational data of the down call says of its arrays. -/
theorem after2_of (c : Dev nD) (V2 : Ok2 m) (h0 : After1 m c (V2.1 c)) (V : Valuation τ sig (Elt F))
    (hA : ∀ w, (rds m hfit V2.1 2 c).ArrAt w (pin pcfgs (adm m hfit) 2).N (V (Proc.devRef .tc (arrRef (pin pcfgs (adm m hfit) 2).spec w))))
    (hV : ∀ b, b ∉ arrRefs (pcfgs (F := F) 2).spec → V b = V2.1 c b) : After2 m c V := by
  have hin (w : Fin (pin pcfgs (adm m hfit) 2).W) (h : ((pin pcfgs (adm m hfit) 2).win w).isOut = false) :
      V (Proc.devRef .tc (arrRef (pin pcfgs (adm m hfit) 2).spec w)) = V2.1 c (Proc.devRef .tc (arrRef (pin pcfgs (adm m hfit) 2).spec w)) :=
    (congrFun (RDat.ArrAt_in (rd2 (adm m hfit) V2.1 c) w h _) _).mp (hA w)
  refine ⟨fun b e1 e => ?_, fun e i he hi => ?_⟩
  · refine Eq.trans ?_ (h0.1 b e1)
    by_cases hb : b ∈ arrRefs (pcfgs (F := F) 2).spec
    · obtain ⟨w, rfl⟩ := arr_of_mem hb
      match w with
      | ⟨0, _⟩ => exact hin 0 rfl
      | ⟨1, _⟩ => exact hin 1 rfl
      | ⟨2, _⟩ => exact hin 2 rfl
      | ⟨3, _⟩ => exact absurd rfl e
      | ⟨_ + 4, h⟩ => exact absurd h (Nat.not_lt.2 (Nat.le_add_left _ _))
    · exact hV b hb
  · refine (result2 (a := adm m hfit) hfit V2.1 c _ (hA 3) e i he hi).trans ?_
    have h1 := h0.2 e i he hi
    unfold tileY tileOut
    rw [h0.1 (Proc.devRef .tc main_arg4) (by decide), h0.1 (Proc.devRef .tc main_v38) (by decide)]
    exact congrArg (fun X => k2_pay1 X _ _) h1

/-- What rides along the host's stretches: nothing is owed. -/
def rest (c : Dev nD) : sProp 𝕄 := iprop(emp ∗ ∃ W, owes (c : Thread nD τ) 0 W)

/-- The same buffers under two descriptions. -/
theorem held_eq (c : Dev nD) {V W : Valuation τ sig (Elt F)} (h : W = V) :
    (iprop(StableHlo.held (c.tc : Thread nD τ) (Pipeline.ucRefs τ sig) V ∗ rest c) : sProp 𝕄)
      ⊢ iprop(StableHlo.held (c.tc : Thread nD τ) (Pipeline.ucRefs τ sig) W ∗ rest c) := by rw [h]

/-- A stretch of the host as a segment. -/
def host (ops : List (HloOp τ sig (Elt F))) (hs : ops.Forall fun op => op.bufs ⊆ StableHlo.tcRefs τ sig) (hf : ops.Forall fun op => op.fresh = ∅)
    (V : Dev nD → Valuation τ sig (Elt F)) : CSeg pcfgs (adm m hfit) (defs₀ (F := F)) Variants.none lvSet lvOf noLoops (tickets m hfit) :=
  CSeg.ofOps pcfgs (adm m hfit) defs₀ Variants.none lvSet lvOf noLoops (tickets m hfit) (Pipeline.ucRefs τ sig) ops
    (fun op h => Pipeline.sub_ucRefs op ((List.forall_iff_forall_mem.mp hs) op h))
    (fun op h => (List.forall_iff_forall_mem.mp hf) op h) V rest

/-- The items as segments of the run. -/
def segs : List (CSeg pcfgs (adm m hfit) (defs₀ (F := F)) Variants.none lvSet lvOf noLoops (tickets m hfit)) :=
  [host m hfit hostOps0 hostOps0_sub hostOps0_fresh (mem0 m),
   CSeg.regionAtR pcfgs (adm m hfit) () (cellOf_inj (adm m hfit)) defs₀ Variants.none lvSet lvOf noLoops (tickets m hfit) 0 (rds m hfit (mem1 m)) (reg0 m hfit),
   host m hfit hostOps1 hostOps1_sub hostOps1_fresh (mem2 m),
   host m hfit hostOps1_1 hostOps1_1_sub hostOps1_1_fresh (mem3 m),
   host m hfit hostOps1_2 hostOps1_2_sub hostOps1_2_fresh (mem4 m),
   host m hfit hostOps1_3 hostOps1_3_sub hostOps1_3_fresh (mem5 m),
   CSeg.regionAtR pcfgs (adm m hfit) () (cellOf_inj (adm m hfit)) defs₀ Variants.none lvSet lvOf noLoops (tickets m hfit) 1 (rds m hfit (mem6 m)) (reg1 m hfit),
   CSeg.regionFR pcfgs (adm m hfit) () (cellOf_inj (adm m hfit)) defs₀ Variants.none lvSet lvOf noLoops (tickets m hfit) 2 (fun V : Ok2 m => rds m hfit V.1) (reg2 m hfit)
     (fun V c => After1 m c (V.1 c)),
   CSeg.exSel (fun (V : Dev nD → Valuation τ sig (Elt F)) c => After2 m c (V c)) (fun V => host m hfit hostOps3 hostOps3_sub hostOps3_fresh V)
     (StableHlo.seq hostOps3) (fun _ => rfl) 0 (fun _ => le_rfl) ∅ (fun _ => rfl)]

/-- The state the run starts from, and the one it ends in. -/
def start (c : Dev nD) : sProp 𝕄 := iprop(StableHlo.held (c.tc : Thread nD τ) (Pipeline.ucRefs τ sig) (mem0 m c) ∗ rest c)
def finish (c : Dev nD) : sProp 𝕄 :=
  iprop(∃ V : Valuation τ sig (Elt F), ⌜After2 m c V⌝ ∗ StableHlo.held (c.tc : Thread nD τ) (Pipeline.ucRefs τ sig) (StableHlo.after hostOps3 V))

/-- The router's end is the host's next start. -/
theorem link0 (c : Dev nD) : (reg0 m hfit).post c ⊢ (iprop(StableHlo.held (c.tc : Thread nD τ) (ucRefs τ sig) (mem2 m c) ∗ rest c) : sProp 𝕄) := by
  have e : (reg0 m hfit).post c = iprop(∃ V' : Valuation τ sig (Elt F), ⌜(∀ w, (rds m hfit (mem1 m) 0 c).ArrAt w (pin pcfgs (adm m hfit) 0).N (V' (Proc.devRef .tc (arrRef (pin pcfgs (adm m hfit) 0).spec w))))
      ∧ ∀ b, b ∉ arrRefs (pcfgs (F := F) 0).spec → V' b = mem1 m c b⌝
    ∗ StableHlo.held (c.tc : Thread nD τ) (ucRefs τ sig) V' ∗ emp ∗ ∃ W, owes (c : Thread nD τ) 0 W) := rfl
  rw [e]
  iintro ⟨%V, %hV, Hh, HR⟩
  obtain rfl := after0_of m hfit c V hV.1 hV.2
  isplitl [Hh]; · iexact Hh
  unfold rest
  iexact HR

/-- The gate-and-up call's end is a possible entry of the down call. -/
theorem link12 (c : Dev nD) : (reg1 m hfit).post c ⊢ (iprop(∃ V : Ok2 m, ⌜After1 m c (V.1 c)⌝ ∗ (reg2 m hfit V).pre c) : sProp 𝕄) := by
  have e : (reg1 m hfit).post c = iprop(∃ V' : Valuation τ sig (Elt F), ⌜(∀ w, (rds m hfit (mem6 m) 1 c).ArrAt w (pin pcfgs (adm m hfit) 1).N (V' (Proc.devRef .tc (arrRef (pin pcfgs (adm m hfit) 1).spec w))))
      ∧ ∀ b, b ∉ arrRefs (pcfgs (F := F) 1).spec → V' b = mem6 m c b⌝
    ∗ StableHlo.held (c.tc : Thread nD τ) (ucRefs τ sig) V' ∗ emp ∗ ∃ W, owes (c : Thread nD τ) 0 W) := rfl
  rw [e]
  iintro ⟨%V, %hV, Hh, HR, HO⟩
  have h0 : After1 m c V := after1_of m hfit c V hV.1 hV.2
  have hT : ∀ c' : Dev nD, V main_v8 = tableOf m := fun c' => (h0.1 _ (by decide)).trans (by rw [show c = (0 : Dev nD) from Subsingleton.elim _ _]; rfl)
  iexists ⟨fun _ => V, hT⟩
  isplitr; · ipureintro; exact h0
  rw [show (reg2 m hfit ⟨fun _ => V, hT⟩).pre c = iprop(StableHlo.held (c.tc : Thread nD τ) (ucRefs τ sig) V ∗ emp ∗ ∃ W, owes (c : Thread nD τ) 0 W) from rfl]
  isplitl [Hh]; · iexact Hh
  isplitl [HR]; · iexact HR
  iexact HO

/-- The down call's end is a possible start of the host's last stretch. -/
theorem link23 (c : Dev nD) : (iprop(∃ V : Ok2 m, ⌜After1 m c (V.1 c)⌝ ∗ (reg2 m hfit V).post c) : sProp 𝕄)
    ⊢ iprop(∃ V : Dev nD → Valuation τ sig (Elt F), ⌜After2 m c (V c)⌝ ∗ (StableHlo.held (c.tc : Thread nD τ) (ucRefs τ sig) (V c) ∗ rest c)) := by
  have e (V : Ok2 m) : (reg2 m hfit V).post c = iprop(∃ V' : Valuation τ sig (Elt F), ⌜(∀ w, (rds m hfit V.1 2 c).ArrAt w (pin pcfgs (adm m hfit) 2).N (V' (Proc.devRef .tc (arrRef (pin pcfgs (adm m hfit) 2).spec w))))
      ∧ ∀ b, b ∉ arrRefs (pcfgs (F := F) 2).spec → V' b = V.1 c b⌝
    ∗ StableHlo.held (c.tc : Thread nD τ) (ucRefs τ sig) V' ∗ emp ∗ ∃ W, owes (c : Thread nD τ) 0 W) := rfl
  simp only [e]
  iintro ⟨%V1, %h0, %V, %hV, Hh, HR⟩
  have h1 : After2 m c V := after2_of m hfit c V1 h0 V hV.1 hV.2
  iexists (fun _ => V)
  isplitr; · ipureintro; exact h1
  isplitl [Hh]; · iexact Hh
  unfold rest
  iexact HR

/-- The host's last stretch ends the run. -/
theorem link3 (c : Dev nD) : (iprop(∃ V : Dev nD → Valuation τ sig (Elt F), ⌜After2 m c (V c)⌝ ∗ (StableHlo.held (c.tc : Thread nD τ) (ucRefs τ sig) (StableHlo.after hostOps3 (V c)) ∗ rest c)) : sProp 𝕄)
    ⊢ iprop(finish m c ∗ ∃ W, owes (c.tc : Thread nD τ) (0 : CellTallies nD τ sig Unit) W) := by
  unfold rest finish
  iintro ⟨%V, %h, Hh, -, HO⟩
  isplitl [Hh]
  · iexists (V c); isplitr; · ipureintro; exact h
    iexact Hh
  iexact HO

/-- The launch memory is the run's start. -/
theorem start_of (g : Dev nD → PrngReg) (c : Dev nD) :
    iprop(unscopedBufs c (fun b => m ((c.tc : Thread nD τ).loc b)) ∗ unscopedSems0 c ∗ owes (c.tc : Thread nD τ) (0 : CellTallies nD τ sig Unit) ∅
      ∗ Pipeline.launchCred (fun _ => (0 : CellTallies nD τ sig Unit)) c ∗ prngReg c (g c) ∗ emp) ⊢ (start m c : sProp 𝕄) := by
  rw [show unscopedBufs c (fun b => m ((c : Thread nD τ).loc b)) = StableHlo.held (c : Thread nD τ) (Pipeline.ucRefs τ sig) (mem0 m c) from Pipeline.unscopedBufs_held c (mem0 m c)]
  iintro ⟨Hh, -, HO, -⟩
  unfold start rest
  isplitl [Hh]; · iexact Hh
  isplitr; · iempintro
  iexists ∅; iexact HO

/-- What a memory holds at the end: its unscoped buffers are as the host's last stretch leaves them. -/
def Ends (c : Dev nD) (M : Valuation τ sig (Elt F)) : Prop :=
  ∃ V : Valuation τ sig (Elt F), After2 m c V ∧ ∀ r : Ref sig .tc, r.isScoped = false → M (Proc.devRef .tc r) = StableHlo.after hostOps3 V (Proc.devRef .tc r)

theorem finish_read (c : Dev nD) (s' : Phys nD τ sig (Elt F)) :
    (iprop(finish m c ∗ SI s') : sProp 𝕄) ⊢ |={Set.univ}=> iprop(⌜Ends m c (mem0 s'.mem.mem c)⌝ ∗ SI s') := by
  unfold finish StableHlo.held
  iintro ⟨⟨%V, %h1, Hh⟩, HSI⟩
  ihave Hr := (pointsTo_read_all (Pipeline.ucRefs τ sig) (fun b => ((c : Thread nD τ).1, b)) (StableHlo.after hostOps3 V) s') $$ [Hh HSI]
  · isplitl [Hh] <;> iassumption
  icases Hr with ⟨%h, HSI⟩
  imodintro
  isplitr
  · ipureintro
    exact ⟨V, h1, fun r hu => h (Proc.devRef .tc r) (Finset.mem_filter.mpr ⟨StableHlo.devRef_mem_tcRefs r, by simpa using hu⟩)⟩
  iexact HSI

/-- The items in turn, over the labels of a program with no loop. -/
abbrev items : Prog (TpuEff nD τ sig (Elt F) (HostLoop.Sig (Pipeline.Sig Λ₀ (Fin 3) fun p => (pcfgs (F := F) p).Adm) 0) .tc) PUnit :=
  Pipeline.chain [StableHlo.seq hostOps0, Prog.lift (.customCall (HostLoop.inner (Pipeline.entry 0)) ()), StableHlo.seq hostOps1, StableHlo.seq hostOps1_1,
    StableHlo.seq hostOps1_2, StableHlo.seq hostOps1_3, Prog.lift (.customCall (HostLoop.inner (Pipeline.entry 1)) ()),
    Prog.lift (.customCall (HostLoop.inner (Pipeline.entry 2)) ()), StableHlo.seq hostOps3]

include hfit in
/-- The run, over the labels of a program with no loop. -/
theorem run_items (g : Dev nD → PrngReg) :
    θ_run (HostLoop.defs noLoops (Pipeline.defs pcfgs (defs₀ (F := F)))) (onTc (τ := τ) fun _ => items) ⟨m, fun _ => 0, g⟩
      (fun r => (∀ c, Ends m c (mem0 r.2.mem c)) ∧ r.2.sem = fun _ => 0) :=
  Pipeline.θ_run_regions_loop_kit_sems pcfgs (adm m hfit) (cellOf_inj (adm m hfit)) defs₀ Variants.none lvSet lvOf noLoops (tickets m hfit) m g (fun _ => items) (segs m hfit)
    (fun c Q => .rfl)
    (by
      have h : ((segs m hfit).map fun s => s.T).Pairwise Disjoint := by
        show ([∅, {0}, ∅, ∅, ∅, ∅, {1}, {2}, ∅] : List (Finset (Fin 3))).Pairwise Disjoint
        decide
      exact List.pairwise_map.mp h)
    (O₀ := fun _ => 0) (hL := fun _ _ => rfl) (G := fun _ => iprop(emp))
    (u₀ := (fun _ => initOf (cells (pin pcfgs (adm m hfit)) (cellOf_inj (adm m hfit))) (launchToks (pin pcfgs (adm m hfit)) (cellOf_inj (adm m hfit))), 1))
    (hu₀ := by
      iintro Hu
      ihave H := (ownU_pair _ _) $$ Hu
      icases H with ⟨HX, -⟩
      imodintro
      isplitl
      · iapply (own_iprod _); iexact HX
      · iapply (show iprop(emp) ⊢ (bigSep Finset.univ fun _ : Dev nD => (iprop(emp) : sProp 𝕄)) from Entails.of_eq (bigSep_emp_const _).symm); iempintro)
    (T₀ := start m) (Tₙ := finish m)
    (hch := ⟨fun _ => .rfl, fun c => held_eq c (mem1_eq m c), link0 m hfit, fun c => held_eq c (mem3_eq m c), fun c => held_eq c (mem4_eq m c),
      fun c => held_eq c (mem5_eq m c), fun c => held_eq c (mem6_eq m c), link12 m hfit, link23 m hfit, link3 m⟩)
    (hinit := by
      iintro ⟨H, -⟩
      imodintro
      iapply (show _ ⊢ bigSep Finset.univ (start m) from bigSep_mono fun c _ => start_of m g c)
      iexact H)
    (QY := fun c s => Ends m c (mem0 s.mem c))
    (hfin := finish_read m)
    (hQ := fun s h hz => ⟨h, funext fun g => hz g (.inr (regions_no_unscoped g.2))⟩)

/-- The program over the labels of one with no loop is its items. -/
theorem lifted_main (d : Dev nD) : HostLoop.liftProg (L := 0) (main (F := F) d) = items := by
  rw [main_chain, HostLoop.liftProg_chain]
  simp only [List.map_cons, List.map_nil, HostLoop.liftProg_seq]
  rfl

include hfit in
/-- The whole program's run from a memory whose table of tiles is admissible. -/
theorem run_whole (g : Dev nD → PrngReg) :
    θ_run (defs (F := F)) (onTc (τ := τ) (main (F := F))) ⟨m, fun _ => 0, g⟩ (fun r => (∀ c, Ends m c (mem0 r.2.mem c)) ∧ r.2.sem = fun _ => 0) := by
  refine HostLoop.θ_run_of_lift noLoops _ _ _ _ ?_
  have h := run_items m hfit g
  simp only [lifted_main]
  exact h

end Cert.Whole

end
-- ==== Proof.WholePlan.lean ====
/- The tiles of the experts and the rows of the tokens, counted: no two choices share a row, and every row lies in a tile of its expert. -/
module

public import proofs.«01_k».proof.Proof.Choice

@[expose] public section

noncomputable section

namespace Cert.Router

open scoped BigOperators

variable (A B : ℕ → Fin 8)

/-- How many tiles expert `e` is given, and how many the experts before it are given. -/
def tiles (e : ℕ) : ℕ := (ahead A B 2048 e + 127) / 128
def first (e : ℕ) : ℕ := ∑ j ∈ Finset.range e, tiles A B j

theorem start_first (e : ℕ) : start A B e = 128 * first A B e := by
  unfold start first
  rw [Finset.mul_sum]
  exact Finset.sum_congr rfl fun j _ => by unfold room tiles; exact Nat.mul_comm _ _

theorem tiles_le (e : ℕ) : tiles A B e ≤ 16 := by
  have := ahead_le A B 2048 e
  unfold tiles; omega

theorem first_succ (e : ℕ) : first A B (e + 1) = first A B e + tiles A B e := Finset.sum_range_succ _ _

theorem first_mono {a b : ℕ} (h : a ≤ b) : first A B a ≤ first A B b :=
  Finset.sum_le_sum_of_subset (Finset.range_mono h)

theorem pair_total : ∀ a b : Fin 8, ∑ e ∈ Finset.range 8, (if e = a.val ∨ e = b.val then 1 else 0) ≤ 2 := by decide

theorem ahead_succ (t e : ℕ) : ahead A B (t + 1) e = ahead A B t e + one A B t e := Finset.sum_range_succ _ _

theorem ahead_mono {a b : ℕ} (h : a ≤ b) (e : ℕ) : ahead A B a e ≤ ahead A B b e :=
  Finset.sum_le_sum_of_subset (Finset.range_mono h)

theorem one_sel (t k : ℕ) : one A B t (sel A B t k).val = 1 := by
  unfold one sel
  split
  · exact if_pos (Or.inl rfl)
  · exact if_pos (Or.inr rfl)

/-- A choice's number among its expert's is below the number of all of them, and grows with the token. -/
theorem ahead_step {t u : ℕ} (h : t < u) (k : ℕ) : ahead A B t (sel A B t k).val + 1 ≤ ahead A B u (sel A B t k).val := by
  have h1 := ahead_succ A B t (sel A B t k).val
  have h2 := one_sel A B t k
  have h3 := ahead_mono A B (show t + 1 ≤ u from h) (sel A B t k).val
  omega

theorem ahead_total : ∑ e ∈ Finset.range 8, ahead A B 2048 e ≤ 4096 := by
  unfold ahead
  rw [Finset.sum_comm]
  refine (Finset.sum_le_sum fun t _ => ?_).trans (?_ : ∑ _t ∈ Finset.range 2048, 2 ≤ 4096)
  · exact pair_total (A t) (B t)
  · rw [Finset.sum_const, Finset.card_range, smul_eq_mul]

/-- The experts' tiles are at most thirty-nine. -/
theorem first_eight : first A B 8 ≤ 39 := by
  have h1 : 128 * first A B 8 ≤ ∑ e ∈ Finset.range 8, (ahead A B 2048 e + 127) := by
    unfold first
    rw [Finset.mul_sum]
    exact Finset.sum_le_sum fun e _ => by unfold tiles; omega
  rw [Finset.sum_add_distrib, Finset.sum_const, Finset.card_range] at h1
  simp only [smul_eq_mul] at h1
  have h2 := ahead_total A B
  omega

theorem first_le {e : ℕ} (h : e ≤ 8) : first A B e ≤ 39 := (first_mono A B h).trans (first_eight A B)

/-- A choice's row lies in a tile of its expert. -/
theorem place_tile {t : ℕ} (ht : t < 2048) (k : ℕ) : ∃ i, i < tiles A B (sel A B t k).val
    ∧ place A B t k / 128 = first A B (sel A B t k).val + i := by
  have h1 := start_first A B (sel A B t k).val
  have h2 := ahead_step A B ht k
  refine ⟨ahead A B t (sel A B t k).val / 128, ?_, ?_⟩
  · unfold tiles; omega
  · unfold place; omega

theorem place_row {t : ℕ} (ht : t < 2048) (k : ℕ) : place A B t k < 5120 := by
  obtain ⟨i, hi, hp⟩ := place_tile A B ht k
  have h1 := first_succ A B (sel A B t k).val
  have h2 := first_le A B (show (sel A B t k).val + 1 ≤ 8 from (sel A B t k).isLt)
  omega

theorem sel_of_place {t u k l : ℕ} (ht : t < 2048) (hu : u < 2048) (h : place A B t k = place A B u l) :
    ¬ (sel A B t k).val < (sel A B u l).val := by
  intro hlt
  obtain ⟨i, hi, hp⟩ := place_tile A B ht k
  obtain ⟨j, hj, hq⟩ := place_tile A B hu l
  have h1 := first_succ A B (sel A B t k).val
  have h2 := first_mono A B (show (sel A B t k).val + 1 ≤ (sel A B u l).val from hlt)
  rw [h] at hp
  omega

theorem token_of_place {t u k l : ℕ} (he : (sel A B t k).val = (sel A B u l).val) (h : place A B t k = place A B u l) : ¬ t < u := by
  intro hlt
  have h1 := ahead_step A B hlt k
  unfold place at h
  rw [he] at h h1
  omega

/-- No two choices share a row, where each token's two experts differ. -/
theorem place_inj (hne : ∀ t < 2048, A t ≠ B t) {t u k l : ℕ} (ht : t < 2048) (hu : u < 2048) (hk : k < 2) (hl : l < 2) (h : place A B t k = place A B u l) : t = u ∧ k = l := by
  have he : (sel A B t k).val = (sel A B u l).val := by
    have h1 := sel_of_place A B ht hu h
    have h2 := sel_of_place A B hu ht h.symm
    omega
  have e : t = u := by
    have h1 := token_of_place A B he h
    have h2 := token_of_place A B he.symm h.symm
    omega
  subst e
  refine ⟨rfl, ?_⟩
  have hn := hne t ht
  have hv : sel A B t k = sel A B t l := Fin.ext he
  unfold sel at hv
  by_cases h0 : k = 0 <;> by_cases h1 : l = 0
  · omega
  · rw [if_pos h0, if_neg h1] at hv; exact absurd hv hn
  · rw [if_neg h0, if_pos h1] at hv; exact absurd hv.symm hn
  · omega

end Cert.Router

end
-- ==== Proof.WholeWords.lean ====
/- The host's tables of the whole program, entry by entry: which row each choice takes, whose token and whose weight each row holds, and how the rows are added up. -/
module

public import proofs.«01_k».proof.Proof.WholeTables
public import proofs.«01_k».proof.Proof.WholePlan
public import proofs.«01_k».proof.Proof.RouterReference
public import Idealize.ShloMosaic.Lib.Routing.Ops
public import Idealize.ShloMosaic.Lib.Routing.OpsSet
public import Idealize.ShloMosaic.Lib.Routing.OpsPair
public import Idealize.ShloMosaic.Lib.Routing.OpsOne
public import Idealize.ShloMosaic.Lib.Routing.OpsSearch
public import Idealize.ShloMosaic.Lib.Pipeline.Value

@[expose] public section

set_option maxRecDepth 16384

noncomputable section

namespace Cert.Whole

open Cert.Kernel3Ideal Cert.Kernel3Ideal.Gen
open Idealize.ShloMosaic Idealize.ShloMosaic.ValueIdx Idealize.ShloMosaic.Routing Idealize.ShloMosaic.TcCoe
open Cert.Router (tiles first)

variable {F : FTy → Type} [FloatOps F]

/-! ## Words -/

theorem word_nat {n : ℕ} (h : n < 2 ^ 31) : (BitVec.ofNat 32 n).toNat = n := by
  rw [BitVec.toNat_ofNat]; exact Nat.mod_eq_of_lt (by omega)

theorem word_int {n : ℕ} (h : n < 2 ^ 31) : (BitVec.ofNat 32 n).toInt = (n : ℤ) := by
  rw [BitVec.toInt_eq_toNat_of_lt (by rw [word_nat h]; omega), word_nat h]

theorem word_inj {a b : ℕ} (ha : a < 2 ^ 31) (hb : b < 2 ^ 31) (h : BitVec.ofNat 32 a = BitVec.ofNat 32 b) : a = b := by
  rw [← word_nat ha, h, word_nat hb]

/-- A small word is not negative, so it is kept as it is. -/
theorem word_kept {n : ℕ} (h : n < 2 ^ 31) (a : BitVec 32) :
    Scalar.select (IntOp.cmpi .slt (BitVec.ofNat 32 n) 0#32) a (BitVec.ofNat 32 n) = BitVec.ofNat 32 n :=
  wrap_of_lt _ _ (by rw [word_nat h]; exact h)

/-! ## The choices, one after another -/

/-- A table of two columns, written as one line. -/
def line {α : Type} (p : S2048x2.Idx → α) : S4096.Idx → α := shapeCast S4096 p shapeCasts_S2048x2_S4096

theorem line_at {α : Type} (p : S2048x2.Idx → α) (j : Fin 4096) :
    line p (ix1 j) = p (ix2 ⟨j.val / 2, by have := j.isLt; omega⟩ ⟨j.val % 2, by omega⟩) :=
  cast21 (a := 2048) (b := 2) (n := 4096) p shapeCasts_S2048x2_S4096 _ _ j (by show j.val = j.val / 2 * 2 + j.val % 2; omega)

/-- A line of row numbers, a negative one counted from the end. -/
def kept (q : IVec S4096 32) : IVec S4096 32 :=
  select (cmpi .slt q (broadcastInDim S4096 ![] bcast_S_S4096 (constantI S_ 32 0#32)))
    (addi q (broadcastInDim S4096 ![] bcast_S_S4096 (constantI S_ 32 5120#32))) q

theorem kept_at (q : IVec S4096 32) (j : Fin 4096) (n : ℕ) (hn : n < 2 ^ 31) (h : q (ix1 j) = BitVec.ofNat 32 n) :
    kept q (ix1 j) = BitVec.ofNat 32 n := by
  show Scalar.select (IntOp.cmpi .slt (q (ix1 j)) 0#32) (IntOp.addi (q (ix1 j)) 5120#32) (q (ix1 j)) = _
  rw [h]
  exact word_kept hn _

/-- The number of a choice among both columns, the second column after the first. -/
def stack : IVec S4096 32 :=
  addi (muli (andi (iotaInDim S4096 32 0) (broadcastInDim S4096 ![] bcast_S_S4096 (constantI S_ 32 1#32)))
      (broadcastInDim S4096 ![] bcast_S_S4096 (constantI S_ 32 2048#32)))
    (Host.shrsi (iotaInDim S4096 32 0) (broadcastInDim S4096 ![] bcast_S_S4096 (constantI S_ 32 1#32)))

theorem stack_words : ∀ j : Fin 4096, IntOp.addi (IntOp.muli (IntOp.andi (BitVec.ofNat 32 j.val) 1#32) 2048#32) (IntOp.shrsi .host (BitVec.ofNat 32 j.val) 1#32)
    = BitVec.ofNat 32 (j.val % 2 * 2048 + j.val / 2) := by decide +kernel

theorem stack_at (j : Fin 4096) : stack (ix1 j) = BitVec.ofNat 32 (j.val % 2 * 2048 + j.val / 2) := stack_words j

/-! ## Which choice each row holds -/

/-- For each row the number of the choice placed there, or 4096. -/
def holders (p : IVec S2048x2 32) : IVec S5120 32 :=
  Host.scatter scatter_S5120_S4096x1_S4096_n_0_0_1 (fun _ b => b) (broadcastInDim S5120 ![] bcast_S_S5120 (constantI S_ 32 4096#32))
    (broadcastInDim S4096x1 ![0] bcast_S4096_S4096x1_0 (kept (line p))) stack

theorem lands_line (idx : IVec S4096x1 32) (j : Fin 4096) (r : Fin 5120) :
    scatter_S5120_S4096x1_S4096_n_0_0_1.resultIdx? (ix1 j) idx = some (ix1 r) ↔ (idx (ix2 j 0)).toInt = (r.val : ℤ) := by
  have hs : scatter_S5120_S4096x1_S4096_n_0_0_1.start (ix1 j) idx 0 = (idx (ix2 j 0)).toInt := by
    unfold ScatterDims.start
    rw [dif_pos (show (0 : Fin 1) ∈ scatter_S5120_S4096x1_S4096_n_0_0_1.scatterDimsToOperandDims from List.mem_singleton.2 rfl)]
    exact congrArg (fun i => (idx i).toInt) (funext fun b => match b with | ⟨0, _⟩ => rfl | ⟨1, _⟩ => rfl)
  have hw : scatter_S5120_S4096x1_S4096_n_0_0_1.window (ix1 j) 0 = 0 := rfl
  rw [resultIdx?_ix1 (N := 5120), hs, hw]
  simp

variable (p : IVec S2048x2 32) (g : ℕ → ℕ → ℕ) (hg : ∀ t k, g t k < 5120) (hp : ∀ (t : Fin 2048) (k : Fin 2), p (ix2 t k) = BitVec.ofNat 32 (g t.val k.val))
include hg hp

omit hg hp in
theorem column_of (q : IVec S4096 32) (j : Fin 4096) : broadcastInDim S4096x1 ![0] bcast_S4096_S4096x1_0 q (ix2 j 0) = q (ix1 j) :=
  bcCol bcast_S4096_S4096x1_0 q j

theorem kept_line (j : Fin 4096) : kept (line p) (ix1 j) = BitVec.ofNat 32 (g (j.val / 2) (j.val % 2)) :=
  kept_at _ j _ (lt_trans (hg _ _) (by norm_num)) ((line_at p j).trans (hp _ _))

theorem lands_holder (j : Fin 4096) (r : Fin 5120) :
    scatter_S5120_S4096x1_S4096_n_0_0_1.resultIdx? (ix1 j) (broadcastInDim S4096x1 ![0] bcast_S4096_S4096x1_0 (kept (line p))) = some (ix1 r)
      ↔ g (j.val / 2) (j.val % 2) = r.val := by
  rw [lands_line, column_of, kept_line p g hg hp, word_int (lt_trans (hg _ _) (by norm_num))]
  exact Int.natCast_inj

variable (hinj : ∀ t u k l, t < 2048 → u < 2048 → k < 2 → l < 2 → g t k = g u l → t = u ∧ k = l)

/-- The line position of choice `k` of token `t`. -/
def posOf (t : Fin 2048) (k : Fin 2) : Fin 4096 := ⟨2 * t.val + k.val, by have := t.isLt; have := k.isLt; omega⟩

omit hg hp in
theorem posOf_div (t : Fin 2048) (k : Fin 2) : (posOf t k).val / 2 = t.val := by
  have := k.isLt; show (2 * t.val + k.val) / 2 = _; omega
omit hg hp in
theorem posOf_mod (t : Fin 2048) (k : Fin 2) : (posOf t k).val % 2 = k.val := by
  have := k.isLt; show (2 * t.val + k.val) % 2 = _; omega

include hinj in
theorem holders_hit (t : Fin 2048) (k : Fin 2) : holders p (ix1 ⟨g t.val k.val, hg _ _⟩) = BitVec.ofNat 32 (k.val * 2048 + t.val) := by
  refine scatter_set_hit _ _ _ _ _ _ (fun j hj => ?_) (ix1 (posOf t k)) ((lands_holder p g hg hp _ _).2 (by rw [posOf_div, posOf_mod]))
  obtain ⟨i, rfl⟩ : ∃ i : Fin 4096, j = ix1 i := ⟨_, eq_ix1 j⟩
  have hi := i.isLt
  obtain ⟨h1, h2⟩ := hinj _ _ _ _ (by omega) t.isLt (Nat.mod_lt _ (by norm_num)) k.isLt ((lands_holder p g hg hp i _).1 hj)
  rw [stack_at, h1, h2]

theorem holders_cases (r : Fin 5120) : (∃ (t : Fin 2048) (k : Fin 2), g t.val k.val = r.val) ∨ holders p (ix1 r) = BitVec.ofNat 32 4096 := by
  by_cases h : ∃ (t : Fin 2048) (k : Fin 2), g t.val k.val = r.val
  · exact Or.inl h
  · right
    refine (scatter_set_miss _ _ _ _ _ fun j hj => h ?_).trans rfl
    obtain ⟨i, rfl⟩ : ∃ i : Fin 4096, j = ix1 i := ⟨_, eq_ix1 j⟩
    have hi := i.isLt
    exact ⟨⟨i.val / 2, by omega⟩, ⟨i.val % 2, Nat.mod_lt _ (by norm_num)⟩, (lands_holder p g hg hp i r).1 hj⟩

/-! ## The weight of each row -/

/-- For each row the weight of the choice placed there, or zero. -/
def shares (p : IVec S2048x2 32) (w : FVec F S2048x2 .f32) : FVec F S5120x1 .f32 :=
  Host.scatter scatter_S5120x1_S4096x2_S4096_n_01_01_1 (fun _ b => b) (broadcastInDim S5120x1 ![] bcast_S_S5120x1 (constant S_ .f32 0#32))
    (concatenate S4096x2 1 [⟨S4096x1, broadcastInDim S4096x1 ![0] bcast_S4096_S4096x1_0 (kept (line p))⟩,
      ⟨S4096x1, broadcastInDim S4096x1 ![0] bcast_S4096_S4096x1_0 (broadcastInDim S4096 ![] bcast_S_S4096 (constantI S_ 32 0#32))⟩] concatenates_S4096x1_S4096x1_S4096x2_d1) (line w)

omit hg hp in
theorem lands_pair (idx : IVec S4096x2 32) (j : Fin 4096) (r : Fin 5120) :
    scatter_S5120x1_S4096x2_S4096_n_01_01_1.resultIdx? (ix1 j) idx = some (ix2 r 0)
      ↔ (idx (ix2 j 0)).toInt = (r.val : ℤ) ∧ (idx (ix2 j 1)).toInt = 0 := by
  have h0 : scatter_S5120x1_S4096x2_S4096_n_01_01_1.start (ix1 j) idx 0 = (idx (ix2 j 0)).toInt := by
    unfold ScatterDims.start
    rw [dif_pos (show (0 : Fin 2) ∈ scatter_S5120x1_S4096x2_S4096_n_01_01_1.scatterDimsToOperandDims by decide)]
    exact congrArg (fun i => (idx i).toInt) (funext fun b => match b with | ⟨0, _⟩ => rfl | ⟨1, _⟩ => rfl)
  have h1 : scatter_S5120x1_S4096x2_S4096_n_01_01_1.start (ix1 j) idx 1 = (idx (ix2 j 1)).toInt := by
    unfold ScatterDims.start
    rw [dif_pos (show (1 : Fin 2) ∈ scatter_S5120x1_S4096x2_S4096_n_01_01_1.scatterDimsToOperandDims by decide)]
    exact congrArg (fun i => (idx i).toInt) (funext fun b => match b with | ⟨0, _⟩ => rfl | ⟨1, _⟩ => rfl)
  have w0 : scatter_S5120x1_S4096x2_S4096_n_01_01_1.window (ix1 j) 0 = 0 := rfl
  have w1 : scatter_S5120x1_S4096x2_S4096_n_01_01_1.window (ix1 j) 1 = 0 := rfl
  rw [resultIdx?_ix2 (R := 5120) (C := 1), h0, h1, w0, w1]
  simp

omit hg hp in
theorem pair_left {α : Type} {N : ℕ} (a b : (⟨2, ![N, 1]⟩ : Shape).Idx → α) (h : Shape.Concatenates [⟨2, ![N, 1]⟩, ⟨2, ![N, 1]⟩] ⟨2, ![N, 2]⟩ 1) (j : Fin N) :
    concatenate ⟨2, ![N, 2]⟩ 1 [⟨⟨2, ![N, 1]⟩, a⟩, ⟨⟨2, ![N, 1]⟩, b⟩] h (ix2 j 0) = a (ix2 j 0) :=
  concatenate_pair_apply_left (t := ⟨2, ![N, 2]⟩) 1 a b h (ix2 j 0) rfl (ix2 j 0) fun b => match b with | ⟨0, _⟩ => rfl | ⟨1, _⟩ => rfl

omit hg hp in
theorem pair_right {α : Type} {N : ℕ} (a b : (⟨2, ![N, 1]⟩ : Shape).Idx → α) (h : Shape.Concatenates [⟨2, ![N, 1]⟩, ⟨2, ![N, 1]⟩] ⟨2, ![N, 2]⟩ 1) (j : Fin N) :
    concatenate ⟨2, ![N, 2]⟩ 1 [⟨⟨2, ![N, 1]⟩, a⟩, ⟨⟨2, ![N, 1]⟩, b⟩] h (ix2 j 1) = b (ix2 j 0) :=
  concatenate_pair_apply_right (t := ⟨2, ![N, 2]⟩) 1 a b h (ix2 j 1) rfl rfl (ix2 j 0)
    (fun b hb => match b with | ⟨0, _⟩ => rfl | ⟨1, _⟩ => absurd rfl hb) rfl

omit hg hp in
theorem halves_left {α : Type} {N M : ℕ} (a b : (⟨1, ![N]⟩ : Shape).Idx → α) (h : Shape.Concatenates [⟨1, ![N]⟩, ⟨1, ![N]⟩] ⟨1, ![M]⟩ 0) (j : Fin M) (i : Fin N)
    (hi : i.val = j.val) : concatenate ⟨1, ![M]⟩ 0 [⟨⟨1, ![N]⟩, a⟩, ⟨⟨1, ![N]⟩, b⟩] h (ix1 j) = a (ix1 i) :=
  concatenate_pair_apply_left (t := ⟨1, ![M]⟩) 0 a b h (ix1 j) rfl (ix1 i) fun b => match b with | ⟨0, _⟩ => hi

omit hg hp in
theorem halves_right {α : Type} {N M : ℕ} (a b : (⟨1, ![N]⟩ : Shape).Idx → α) (h : Shape.Concatenates [⟨1, ![N]⟩, ⟨1, ![N]⟩] ⟨1, ![M]⟩ 0) (j : Fin M) (i : Fin N)
    (hi : i.val + N = j.val) : concatenate ⟨1, ![M]⟩ 0 [⟨⟨1, ![N]⟩, a⟩, ⟨⟨1, ![N]⟩, b⟩] h (ix1 j) = b (ix1 i) :=
  concatenate_pair_apply_right (t := ⟨1, ![M]⟩) 0 a b h (ix1 j) rfl rfl (ix1 i) (fun b hb => match b with | ⟨0, _⟩ => absurd rfl hb) hi

include hinj in
theorem shares_hit (w : FVec F S2048x2 .f32) (t : Fin 2048) (k : Fin 2) : shares p w (ix2 ⟨g t.val k.val, hg _ _⟩ 0) = w (ix2 t k) := by
  have hl : ∀ (j : Fin 4096) (r : Fin 5120), scatter_S5120x1_S4096x2_S4096_n_01_01_1.resultIdx? (ix1 j)
      (concatenate S4096x2 1 [⟨S4096x1, broadcastInDim S4096x1 ![0] bcast_S4096_S4096x1_0 (kept (line p))⟩,
      ⟨S4096x1, broadcastInDim S4096x1 ![0] bcast_S4096_S4096x1_0 (broadcastInDim S4096 ![] bcast_S_S4096 (constantI S_ 32 0#32))⟩] concatenates_S4096x1_S4096x1_S4096x2_d1) = some (ix2 r 0)
      ↔ g (j.val / 2) (j.val % 2) = r.val := by
    intro j r
    rw [lands_pair, pair_left, pair_right, column_of, kept_line p g hg hp, word_int (lt_trans (hg _ _) (by norm_num))]
    refine ⟨fun h => Int.natCast_inj.1 h.1, fun h => ⟨Int.natCast_inj.2 h, rfl⟩⟩
  refine scatter_set_hit _ _ _ _ _ _ (fun j hj => ?_) (ix1 (posOf t k)) ((hl _ _).2 (by rw [posOf_div, posOf_mod]))
  obtain ⟨i, rfl⟩ : ∃ i : Fin 4096, j = ix1 i := ⟨_, eq_ix1 j⟩
  have hi := i.isLt
  obtain ⟨h1, h2⟩ := hinj _ _ _ _ (by omega) t.isLt (Nat.mod_lt _ (by norm_num)) k.isLt ((hl i _).1 hj)
  rw [line_at]
  exact congrArg w (congrArg₂ ix2 (Fin.ext h1) (Fin.ext h2))

/-! ## The token of each row -/

omit hg hp

/-- For each row the number of its token. -/
def tokens (d : IVec S5120 32) : IVec S5120 32 := andi d (broadcastInDim S5120 ![] bcast_S_S5120 (constantI S_ 32 2047#32))

/-- The rows of the tokens. -/
def tokenRows (x : FVec F S2048x1024 .f32) (d : IVec S5120 32) : FVec F S5120x1024 .bf16 :=
  truncf .bf16 (Host.gather gather_S2048x1024_S5120x1_S5120x1024_1_0_n_n_0_1_11024 x
    (broadcastInDim S5120x1 ![0] bcast_S5120_S5120x1_0
      (select (cmpi .slt (tokens d) (broadcastInDim S5120 ![] bcast_S_S5120 (constantI S_ 32 0#32)))
        (addi (tokens d) (broadcastInDim S5120 ![] bcast_S_S5120 (constantI S_ 32 2048#32))) (tokens d)))) bitsLt_bf16_f32

theorem low_words : ∀ j : Fin 4097, IntOp.andi (BitVec.ofNat 32 j.val) 2047#32 = BitVec.ofNat 32 (j.val % 2048) := by decide +kernel

theorem tokenRows_hit (x : FVec Ideal S2048x1024 .f32) (d : IVec S5120 32) (r : Fin 5120) (t : Fin 2048) (k : Fin 2)
    (h : d (ix1 r) = BitVec.ofNat 32 (k.val * 2048 + t.val)) (c : Fin 1024) :
    tokenRows x d (ix2 r c) = x (ix2 t c) := by
  have ht := t.isLt
  have hk := k.isLt
  have h1 : tokens d (ix1 r) = BitVec.ofNat 32 t.val := by
    show IntOp.andi (d (ix1 r)) 2047#32 = _
    rw [h]
    refine (low_words ⟨k.val * 2048 + t.val, by omega⟩).trans (congrArg (BitVec.ofNat 32) ?_)
    show (k.val * 2048 + t.val) % 2048 = t.val
    omega
  refine gather_row (nb := 2048) (B := 1024) (n := 5120) gather_S2048x1024_S5120x1_S5120x1024_1_0_n_n_0_1_11024 rfl rfl rfl rfl rfl x _ r c t ?_ (by norm_num)
  refine (bcCol bcast_S5120_S5120x1_0 _ r).trans ?_
  show Scalar.select (IntOp.cmpi .slt (tokens d (ix1 r)) 0#32) (IntOp.addi (tokens d (ix1 r)) 2048#32) (tokens d (ix1 r)) = _
  rw [h1]
  exact word_kept (by omega) _

/-! ## The two rows of a token, added -/

theorem slice_rows {α : Type} {N M C o : ℕ} (x : (⟨2, ![N, C]⟩ : Shape).Idx → α) (h : (⟨2, ![N, C]⟩ : Shape).Slices ![o, 0] ⟨2, ![M, C]⟩)
    (t : Fin M) (c : Fin C) (q : Fin N) (hq : q.val = o + t.val) : extractStridedSlice ⟨2, ![M, C]⟩ ![o, 0] x h (ix2 t c) = x (ix2 q c) :=
  extractStridedSlice_apply ![o, 0] x h (ix2 t c) (ix2 q c) fun a => match a with
    | ⟨0, _⟩ => hq
    | ⟨1, _⟩ => (Nat.zero_add _).symm

theorem cast_lead {α : Type} {M C : ℕ} (x : (⟨2, ![M, C]⟩ : Shape).Idx → α) (h : (⟨2, ![M, C]⟩ : Shape).ShapeCasts ⟨3, ![1, M, C]⟩)
    (t : Fin M) (c : Fin C) : shapeCast ⟨3, ![1, M, C]⟩ x h (ix3 0 t c) = x (ix2 t c) := by
  refine shapeCast_apply x h _ _ ?_
  rw [Shape.rowMajor_val_two, Shape.rowMajor_val_three]
  show t.val * C + c.val = (0 * M + t.val) * C + c.val
  rw [Nat.zero_mul, Nat.zero_add]

/-- The rows put back at the numbers of their choices. -/
def spread (d : IVec S5120 32) (y : FVec F S5120x1024 .f32) : FVec F S4104x1024 .f32 :=
  Host.scatter scatter_S4104x1024_S5120x1_S5120x1024_1_0_0_1 (fun _ b => b) (broadcastInDim S4104x1024 ![] bcast_S_S4104x1024 (constant S_ .f32 0#32))
    (broadcastInDim S5120x1 ![0] bcast_S5120_S5120x1_0
      (select (cmpi .slt d (broadcastInDim S5120 ![] bcast_S_S5120 (constantI S_ 32 0#32)))
        (addi d (broadcastInDim S5120 ![] bcast_S_S5120 (constantI S_ 32 4104#32))) d)) y

/-- The result: for each token the sum of its two rows. -/
def summed (d : IVec S5120 32) (y : FVec F S5120x1024 .f32) : FVec F S1x2048x1024 .f32 :=
  shapeCast S1x2048x1024 (addf (extractStridedSlice S2048x1024 ![0, 0] (spread d y) slices_S4104x1024_S2048x1024_0_0)
    (extractStridedSlice S2048x1024 ![2048, 0] (spread d y) slices_S4104x1024_S2048x1024_2048_0)) shapeCasts_S2048x1024_S1x2048x1024

theorem lands_row (idx : IVec S5120x1 32) (r : Fin 5120) (b : Fin 1024) (q : Fin 4104) (c : Fin 1024) :
    scatter_S4104x1024_S5120x1_S5120x1024_1_0_0_1.resultIdx? (ix2 r b) idx = some (ix2 q c) ↔ (idx (ix2 r 0)).toInt = (q.val : ℤ) ∧ b = c := by
  have h0 : scatter_S4104x1024_S5120x1_S5120x1024_1_0_0_1.start (ix2 r b) idx 0 = (idx (ix2 r 0)).toInt := by
    unfold ScatterDims.start
    rw [dif_pos (show (0 : Fin 2) ∈ scatter_S4104x1024_S5120x1_S5120x1024_1_0_0_1.scatterDimsToOperandDims by decide)]
    exact congrArg (fun i => (idx i).toInt) (funext fun b => match b with | ⟨0, _⟩ => rfl | ⟨1, _⟩ => rfl)
  have h1 : scatter_S4104x1024_S5120x1_S5120x1024_1_0_0_1.start (ix2 r b) idx 1 = 0 := rfl
  have w0 : scatter_S4104x1024_S5120x1_S5120x1024_1_0_0_1.window (ix2 r b) 0 = 0 := rfl
  have w1 : scatter_S4104x1024_S5120x1_S5120x1024_1_0_0_1.window (ix2 r b) 1 = b.val := rfl
  rw [resultIdx?_ix2 (R := 4104) (C := 1024), h0, h1, w0, w1, Fin.ext_iff]
  omega

include hg hp hinj

theorem spread_hit (y : FVec F S5120x1024 .f32) (t : Fin 2048) (k : Fin 2) (c : Fin 1024) (q : Fin 4104) (hq : q.val = k.val * 2048 + t.val) :
    spread (holders p) y (ix2 q c) = y (ix2 ⟨g t.val k.val, hg _ _⟩ c) := by
  have ht := t.isLt
  have hk := k.isLt
  have hidx : ∀ (r : Fin 5120) (n : ℕ), n < 2 ^ 31 → holders p (ix1 r) = BitVec.ofNat 32 n →
      (broadcastInDim S5120x1 ![0] bcast_S5120_S5120x1_0
      (select (cmpi .slt (holders p) (broadcastInDim S5120 ![] bcast_S_S5120 (constantI S_ 32 0#32)))
        (addi (holders p) (broadcastInDim S5120 ![] bcast_S_S5120 (constantI S_ 32 4104#32))) (holders p)) (ix2 r 0)).toInt = (n : ℤ) := by
    intro r n hn h
    refine (congrArg BitVec.toInt ((bcCol bcast_S5120_S5120x1_0 _ r).trans ?_)).trans (word_int hn)
    show Scalar.select (IntOp.cmpi .slt (holders p (ix1 r)) 0#32) (IntOp.addi (holders p (ix1 r)) 4104#32) (holders p (ix1 r)) = _
    rw [h]
    exact word_kept hn _
  refine scatter_set_hit _ _ _ _ _ _ (fun j hj => ?_) (ix2 ⟨g t.val k.val, hg _ _⟩ c)
    ((lands_row _ _ _ _ _).2 ⟨(hidx _ _ (by omega) (holders_hit p g hg hp hinj t k)).trans (by rw [hq]), rfl⟩)
  obtain ⟨r, b, rfl⟩ : ∃ (r : Fin 5120) (b : Fin 1024), j = ix2 r b := ⟨_, _, eq_ix2 j⟩
  obtain ⟨h1, rfl⟩ := (lands_row _ _ _ _ _).1 hj
  rcases holders_cases p g hg hp r with ⟨u, l, hu⟩ | hz
  · have hr : r = ⟨g u.val l.val, hg _ _⟩ := Fin.ext hu.symm
    subst hr
    have hu' := u.isLt
    have hl := l.isLt
    have h2 := (hidx _ _ (by omega) (holders_hit p g hg hp hinj u l)).symm.trans h1
    have h3 : l.val * 2048 + u.val = k.val * 2048 + t.val := (Int.natCast_inj.1 h2).trans hq
    obtain rfl : u = t := Fin.ext (by omega)
    obtain rfl : l = k := Fin.ext (by omega)
    rfl
  · have h2 := (hidx r 4096 (by norm_num) hz).symm.trans h1
    have h3 : (4096 : ℕ) = q.val := Int.natCast_inj.1 h2
    omega

end Cert.Whole

end
-- ==== Proof.WholeSums.lean ====
/- The two rows of a token added, and the table of tiles in numbers. -/
module

public import proofs.«01_k».proof.Proof.WholeWords

@[expose] public section

set_option maxRecDepth 16384

noncomputable section

namespace Cert.Whole

open Cert.Kernel3Ideal Cert.Kernel3Ideal.Gen
open Idealize.ShloMosaic Idealize.ShloMosaic.ValueIdx Idealize.ShloMosaic.Routing Idealize.ShloMosaic.TcCoe
open Cert.Router (tiles first)

variable {F : FTy → Type} [FloatOps F]

theorem sum_slices (z : FVec Ideal S4104x1024 .f32) (t : Fin 2048) (c : Fin 1024) (q r : Fin 4104) (hq : q.val = 0 + t.val) (hr : r.val = 2048 + t.val) :
    shapeCast S1x2048x1024 (addf (extractStridedSlice S2048x1024 ![0, 0] z slices_S4104x1024_S2048x1024_0_0)
      (extractStridedSlice S2048x1024 ![2048, 0] z slices_S4104x1024_S2048x1024_2048_0)) shapeCasts_S2048x1024_S1x2048x1024 (ix3 0 t c)
      = (z (ix2 q c) + z (ix2 r c) : EReal) :=
  (cast_lead (M := 2048) (C := 1024) _ shapeCasts_S2048x1024_S1x2048x1024 t c).trans
    (congrArg₂ (fun a b : EReal => a + b) (slice_rows (N := 4104) (M := 2048) (C := 1024) (o := 0) z slices_S4104x1024_S2048x1024_0_0 t c q hq)
      (slice_rows (N := 4104) (M := 2048) (C := 1024) (o := 2048) z slices_S4104x1024_S2048x1024_2048_0 t c r hr))

theorem summed_at (p : IVec S2048x2 32) (g : ℕ → ℕ → ℕ) (hg : ∀ t k, g t k < 5120)
    (hp : ∀ (t : Fin 2048) (k : Fin 2), p (ix2 t k) = BitVec.ofNat 32 (g t.val k.val))
    (hinj : ∀ t u k l, t < 2048 → u < 2048 → k < 2 → l < 2 → g t k = g u l → t = u ∧ k = l)
    (y : FVec Ideal S5120x1024 .f32) (t : Fin 2048) (c : Fin 1024) :
    summed (F := Ideal) (holders p) y (ix3 0 t c)
      = (y (ix2 ⟨g t.val (0 : Fin 2).val, hg _ _⟩ c) + y (ix2 ⟨g t.val (1 : Fin 2).val, hg _ _⟩ c) : EReal) := by
  have ht := t.isLt
  obtain ⟨q, hq⟩ : ∃ q : Fin 4104, q.val = t.val := ⟨⟨t.val, by omega⟩, rfl⟩
  obtain ⟨r, hr⟩ : ∃ r : Fin 4104, r.val = 2048 + t.val := ⟨⟨2048 + t.val, by omega⟩, rfl⟩
  have e0 := spread_hit p g hg hp hinj y t 0 c q (by rw [hq]; simp)
  have e1 := spread_hit p g hg hp hinj y t 1 c r (by rw [hr]; simp)
  unfold summed
  rw [sum_slices (spread (holders p) y) t c q r (by rw [hq, Nat.zero_add]) hr, e0, e1]

/-! ## The table of tiles -/

/-- The tiles each count needs. -/
def tileCounts (n : IVec S1x8 32) : IVec S8 32 :=
  pyDiv bcast_S_S8 (addi (shapeCast S8 n shapeCasts_S1x8_S8) (broadcastInDim S8 ![] bcast_S_S8 (constantI S_ 32 127#32))) (constantI S_ 32 128#32)

/-- The tiles of an expert and of those before it. -/
def tileSums (r : IVec S8 32) : IVec S8 32 :=
  Host.reduceWindow IntOp.addi ![8] ![1] ![7] ![0] r (broadcastInDim S_ ![] bcast_S_S_ (constantI S_ 32 0#32)) reduceWindows_S8_S8_w8s1p7_0 h_S_

/-- The table: the first tile of each expert, then the number of its tiles. -/
def tileTable (n : IVec S1x8 32) : IVec S16 32 :=
  concatenate S16 0 [⟨S8, subi (tileSums (tileCounts n)) (tileCounts n)⟩, ⟨S8, tileCounts n⟩] concatenates_S8_S8_S16_d0

variable (A B : ℕ → Fin 8) (n : IVec S1x8 32) (hn : ∀ e : Fin 8, n (ix2 0 e) = BitVec.ofNat 32 (Cert.Router.ahead A B 2048 e.val))
include hn

theorem tileCounts_at (e : Fin 8) : tileCounts n (ix1 e) = BitVec.ofNat 32 (tiles A B e.val) := by
  have ha := Cert.Router.ahead_le A B 2048 e.val
  refine pyDiv_ap bcast_S_S8 _ _ (ix1 e) (a := Cert.Router.ahead A B 2048 e.val + 127) (b := 128) ?_ rfl (by omega) (by norm_num) (by norm_num)
  show IntOp.addi (shapeCast S8 n shapeCasts_S1x8_S8 (ix1 e)) 127#32 = _
  rw [show shapeCast S8 n shapeCasts_S1x8_S8 (ix1 e) = n (ix2 0 e) from cast21 (a := 1) (b := 8) (n := 8) n _ 0 e e (by show e.val = 0 * 8 + e.val; omega), hn e]
  exact (BitVec.ofNat_add _ _).symm

theorem tileSums_at (e : Fin 8) : subi (tileSums (tileCounts n)) (tileCounts n) (ix1 e) = BitVec.ofNat 32 (first A B e.val) := by
  rw [subi_ap, tileCounts_at A B n hn]
  refine (congrArg (· - BitVec.ofNat 32 (tiles A B e.val)) (cumsum1 (N := 8) (Nm1 := 7) rfl (tileCounts n) (tiles A B) (tileCounts_at A B n hn) _ rfl _ _ e)).trans ?_
  rw [Cert.Router.list_sum_range (tiles A B), Finset.sum_range_succ, ofNat32_sub (Nat.le_add_left _ _), Nat.add_sub_cancel]
  rfl

theorem table_start (e : ℕ) (he : e < 8) : Cert.Moe.wordOf (tileTable n) e = BitVec.ofNat 32 (first A B e) := by
  unfold Cert.Moe.wordOf
  rw [dif_pos (by omega)]
  exact (halves_left _ _ concatenates_S8_S8_S16_d0 ⟨e, by omega⟩ ⟨e, he⟩ rfl).trans (tileSums_at A B n hn ⟨e, he⟩)

theorem table_count (e : ℕ) (he : e < 8) : Cert.Moe.wordOf (tileTable n) (8 + e) = BitVec.ofNat 32 (tiles A B e) := by
  unfold Cert.Moe.wordOf
  rw [dif_pos (by omega)]
  exact (halves_right _ _ concatenates_S8_S8_S16_d0 ⟨8 + e, by omega⟩ ⟨e, he⟩ (Nat.add_comm _ _)).trans (tileCounts_at A B n hn ⟨e, he⟩)

theorem startOf_table (e : ℕ) (he : e < 8) : Cert.Moe.startOf (tileTable n) e = first A B e := by
  have h := Cert.Router.first_le A B (e := e) (by omega)
  unfold Cert.Moe.startOf
  rw [table_start A B n hn e he, word_nat (by omega)]

theorem countOf_table (e : ℕ) (he : e < 8) : Cert.Moe.countOf (tileTable n) e = tiles A B e := by
  have h := Cert.Router.tiles_le A B e
  unfold Cert.Moe.countOf
  rw [table_count A B n hn e he, word_nat (by omega)]

/-- The table fits: the tiles follow one another and there are at most thirty-nine. -/
theorem fit_table : Cert.Moe.Fit (tileTable n) where
  n_le e he := by rw [countOf_table A B n hn e he]; exact Cert.Router.tiles_le A B e
  s_zero := by rw [startOf_table A B n hn 0 (by norm_num)]; rfl
  s_succ e he := by
    rw [startOf_table A B n hn _ (by omega), startOf_table A B n hn _ (by omega), countOf_table A B n hn _ (by omega)]
    exact Cert.Router.first_succ A B e
  total := by
    rw [startOf_table A B n hn _ (by norm_num), countOf_table A B n hn _ (by norm_num), ← Cert.Router.first_succ A B 7]
    exact Cert.Router.first_eight A B

end Cert.Whole

end
-- ==== Proof.WholeHost.lean ====
/- What the host's stretches of the whole program leave in the buffers. -/
module

public import proofs.«01_k».proof.Proof.WholeRun
public import proofs.«01_k».proof.Proof.WholeSums
public import Idealize.ShloMosaic.Lib.StableHlo.RunRead

@[expose] public section

set_option maxRecDepth 16384

noncomputable section

namespace Cert.Whole

open Cert.Kernel3Ideal Cert.Kernel3Ideal.Gen
open Idealize.ShloMosaic Idealize.ShloMosaic.TcCoe Idealize.ShloMosaic.StableHlo Idealize.ShloMosaic.Routing

variable {F : FTy → Type} [FloatOps F] (V : Valuation τ sig (Elt F))

theorem host0_v0 : after hostOps0 V main_v0 = shapeCast S2048x1024 (V main_arg0) shapeCasts_S1x2048x1024_S2048x1024 := by
  after_reads_simp
  rfl

theorem host1_v4 : after hostOps1 V main_v4
    = addi (shapeCast S8 (V main_v1_2) shapeCasts_S1x8_S8) (broadcastInDim S8 ![] bcast_S_S8 (constantI S_ 32 127#32)) := by
  after_reads_simp
  rfl

theorem host1_c_0 : after hostOps1 V main_c_0 = constantI S_ 32 128#32 := by
  after_reads_simp

theorem host11_v5 : after hostOps1_1 V main_v5 = pyDiv bcast_S_S8 (V main_v4) (V main_c_0) := by
  after_reads_simp
  rfl

attribute [local irreducible] Host.reduceWindow in
theorem host12_v6 : after hostOps1_2 V main_v6 = tileSums (V main_v5) := by
  after_reads_simp
  unfold tileSums
  simp only [StableHlo.TRef.toBuf, StableHlo.TRef.ofBuf]
  rfl

theorem host13_v8 : after hostOps1_3 V main_v8
    = concatenate S16 0 [⟨S8, subi (V main_v6) (V main_v5)⟩, ⟨S8, V main_v5⟩] concatenates_S8_S8_S16_d0 := by
  after_reads_simp
  rfl

theorem host13_v25 : after hostOps1_3 V main_v25 = holders (V main_v1_0) := by
  after_reads_simp
  rfl

theorem host13_v38 : after hostOps1_3 V main_v38 = shares (V main_v1_0) (V main_v1_1) := by
  after_reads_simp
  rfl

theorem host13_v48 : after hostOps1_3 V main_v48 = tokenRows (V main_v0) (holders (V main_v1_0)) := by
  after_reads_simp
  rfl

theorem host3_v62 : after hostOps3 V main_v62 = summed (V main_v25) (V main_v50) := by
  after_reads_simp
  rfl

variable (m : (ℓ : Loc nD τ sig) → Buf (Elt F) ℓ) (c : Dev nD)

/-- A buffer that no host stretch before the expert calls writes keeps what the router's call left. -/
theorem mem6_kept (r : Ref sig .tc) (h0 : r ∉ hostOps1_W) (h1 : r ∉ hostOps1_1_W) (h2 : r ∉ hostOps1_2_W) (h3 : r ∉ hostOps1_3_W) :
    mem6 m c r = mem2 m c r := by
  rw [mem6_eq, after_of_writes_sub _ _ hostOps1_3_writes h3, mem5_eq, after_of_writes_sub _ _ hostOps1_2_writes h2,
    mem4_eq, after_of_writes_sub _ _ hostOps1_1_writes h1, mem3_eq, after_of_writes_sub _ _ hostOps1_writes h0]

theorem mem5_kept (r : Ref sig .tc) (h0 : r ∉ hostOps1_W) (h1 : r ∉ hostOps1_1_W) (h2 : r ∉ hostOps1_2_W) : mem5 m c r = mem2 m c r := by
  rw [mem5_eq, after_of_writes_sub _ _ hostOps1_2_writes h2,
    mem4_eq, after_of_writes_sub _ _ hostOps1_1_writes h1, mem3_eq, after_of_writes_sub _ _ hostOps1_writes h0]

/-- A buffer that is none of the router's results keeps what it held before. -/
theorem mem2_kept (r : Ref sig .tc) (h0 : r ≠ main_v1_0) (h1 : r ≠ main_v1_1) (h2 : r ≠ main_v1_2) : mem2 m c r = mem1 m c r := by
  rw [mem2]
  rw [Function.update_of_ne fun h => h2 (Proc.devRef_injective _ h), Function.update_of_ne fun h => h1 (Proc.devRef_injective _ h),
    Function.update_of_ne fun h => h0 (Proc.devRef_injective _ h)]

theorem mem1_kept (r : Ref sig .tc) (h : r ∉ hostOps0_W) : mem1 m c r = m (c, Proc.devRef .tc r) := by
  rw [mem1_eq, after_of_writes_sub _ _ hostOps0_writes h]
  rfl

/-- An argument is as it was given. -/
theorem mem6_arg (r : Ref sig .tc) (h : r ∈ [main_arg0, main_arg1, main_arg2, main_arg3, main_arg4]) : mem6 m c r = m (c, Proc.devRef .tc r) := by
  have key : r ∉ hostOps1_W ∧ r ∉ hostOps1_1_W ∧ r ∉ hostOps1_2_W ∧ r ∉ hostOps1_3_W ∧ r ≠ main_v1_0 ∧ r ≠ main_v1_1 ∧ r ≠ main_v1_2 ∧ r ∉ hostOps0_W := by
    revert h r; decide
  obtain ⟨h0, h1, h2, h3, n0, n1, n2, hz⟩ := key
  rw [mem6_kept m c r h0 h1 h2 h3, mem2_kept m c r n0 n1 n2, mem1_kept m c r hz]

theorem mem2_v1_0 : mem2 m c main_v1_0 = placesW (mem1 m c main_v0) (mem1 m c main_arg1) := by
  rw [mem2, Function.update_of_ne (by decide), Function.update_of_ne (by decide), Function.update_self]

theorem mem2_v1_1 : mem2 m c main_v1_1 = weightsW (mem1 m c main_v0) (mem1 m c main_arg1) := by
  rw [mem2, Function.update_of_ne (by decide), Function.update_self]

theorem mem2_v1_2 : mem2 m c main_v1_2 = k0_pay13 (mem1 m c main_v0) (mem1 m c main_arg1) := by
  rw [mem2, Function.update_self]

/-- The tokens as a matrix, and the router's matrix. -/
def hid : FVec F S2048x1024 .f32 := shapeCast S2048x1024 (m (c, Proc.devRef .tc main_arg0)) shapeCasts_S1x2048x1024_S2048x1024
def rout : FVec F S1024x8 .f32 := m (c, Proc.devRef .tc main_arg1)

theorem mem1_v0 : mem1 m c main_v0 = hid m c := by rw [mem1_eq, host0_v0]; rfl
theorem mem1_arg1 : mem1 m c main_arg1 = rout m c := mem1_kept m c main_arg1 (by decide)

theorem mem6_v25 : mem6 m c main_v25 = holders (placesW (hid m c) (rout m c)) := by
  rw [mem6_eq, host13_v25, mem5_kept m c main_v1_0 (by decide) (by decide) (by decide), mem2_v1_0, mem1_v0, mem1_arg1]

theorem mem6_v38 : mem6 m c main_v38 = shares (placesW (hid m c) (rout m c)) (weightsW (hid m c) (rout m c)) := by
  rw [mem6_eq, host13_v38, mem5_kept m c main_v1_0 (by decide) (by decide) (by decide), mem5_kept m c main_v1_1 (by decide) (by decide) (by decide),
    mem2_v1_0, mem2_v1_1, mem1_v0, mem1_arg1]

theorem mem6_v48 : mem6 m c main_v48 = tokenRows (hid m c) (holders (placesW (hid m c) (rout m c))) := by
  rw [mem6_eq, host13_v48, mem5_kept m c main_v1_0 (by decide) (by decide) (by decide), mem5_kept m c main_v0 (by decide) (by decide) (by decide),
    mem2_v1_0, mem2_kept m c main_v0 (by decide) (by decide) (by decide), mem1_v0, mem1_arg1]

theorem mem4_v5 : mem4 m c main_v5 = tileCounts (k0_pay13 (hid m c) (rout m c)) := by
  rw [mem4_eq, host11_v5, mem3_eq, host1_v4, host1_c_0, mem2_v1_2, mem1_v0, mem1_arg1]
  rfl

theorem mem6_v8 : mem6 m c main_v8 = tileTable (k0_pay13 (hid m c) (rout m c)) := by
  rw [mem6_eq, host13_v8, mem5_eq, host12_v6, after_of_writes_sub _ _ hostOps1_2_writes (r := main_v5) (by decide), mem4_v5]
  rfl

end Cert.Whole

end
-- ==== Proof.WholeTop.lean ====
/- The whole reference's choice of experts and its weights, read at a token. -/
module

public import proofs.«01_k».proof.Proof.RouterValues
public import proofs.«01_k».proof.Proof.Gen.Reference3Ideal.Read

@[expose] public section

set_option maxRecDepth 16384

noncomputable section

namespace Cert.WholeRef

open Cert.Reference3Ideal Cert.Reference3Ideal.Gen Cert.Reference3Ideal.Read
open Idealize.ShloMosaic Idealize.ShloMosaic.ValueIdx Idealize.ShloMosaic.TcCoe
open Cert.Router (ranked refScore fold_two bottom_f32 exp_zero_value)

/-- The tokens as a matrix. -/
def flat (x0 : S1x2048x1024.Idx → EReal) : (⟨2, ![2048, 1024]⟩ : Shape).Idx → EReal := fun i => x0 (ix3 0 (i 0) (i 1))

theorem score_flat (x0 : S1x2048x1024.Idx → EReal) (x1 : S1024x8.Idx → EReal) (t : Fin 2048) (e : Fin 8) :
    val_main_v0 (F := Ideal) x0 x1 (ix3 0 t e) = refScore (flat x0) x1 (ix2 t e) := by
  rw [val_main_v0_apply, Cert.Router.refScore_at]
  refine Finset.sum_congr rfl fun k _ => congrArg₂ (fun a b : EReal => a * b) (congrArg x0 (funext fun a => ?_)) (congrArg x1 (funext fun a => ?_))
  · match a with
    | ⟨0, _⟩ => rfl
    | ⟨1, _⟩ => rfl
    | ⟨2, _⟩ => rfl
  · match a with
    | ⟨0, _⟩ => rfl
    | ⟨1, _⟩ => rfl

theorem along_last (t : Fin 2048) (k e : Fin 8) : Shape.Idx.along (s := S1x2048x8) (ix3 0 t k) (2 : Fin 3) e = ix3 0 t e := by
  funext a
  match a with
  | ⟨0, _⟩ => rfl
  | ⟨1, _⟩ => rfl
  | ⟨2, _⟩ => rfl

section
variable (x : FVec Ideal S1x2048x8 .f32) (z : FVec Ideal ⟨2, ![2048, 8]⟩ .f32) (hx : ∀ (t : Fin 2048) (e : Fin 8), x (ix3 0 t e) = z (ix2 t e))
include hx

theorem sort_at (y : IVec S1x2048x8 32) (t : Fin 2048) (k : Fin 8) :
    (Host.sort2 S1x2048x8 2 (fun l r => FloatOps.cmpfTotal (F := Ideal) (φ := .f32) .gt l.1 r.1) x y).1 (ix3 0 t k) = z (ix2 t (ranked z t k))
    ∧ (Host.sort2 S1x2048x8 2 (fun l r => FloatOps.cmpfTotal (F := Ideal) (φ := .f32) .gt l.1 r.1) x y).2 (ix3 0 t k) = y (ix3 0 t (ranked z t k)) := by
  have hR : (fun i j : Fin 8 => FloatOps.cmpfTotal (F := Ideal) (φ := .f32) .gt (x (Shape.Idx.along (s := S1x2048x8) (ix3 0 t k) (2 : Fin 3) i))
      (x (Shape.Idx.along (s := S1x2048x8) (ix3 0 t k) (2 : Fin 3) j)) == 1#1)
      = fun i j : Fin 8 => FloatOps.cmpfTotal (F := Ideal) .gt (z (ix2 t i)) (z (ix2 t j)) == 1#1 := by
    funext i j
    rw [along_last, along_last, hx, hx]
  have hS : sortedFrom (fun i j : Fin 8 => FloatOps.cmpfTotal (F := Ideal) (φ := .f32) .gt (x (Shape.Idx.along (s := S1x2048x8) (ix3 0 t k) (2 : Fin 3) i))
      (x (Shape.Idx.along (s := S1x2048x8) (ix3 0 t k) (2 : Fin 3) j)) == 1#1) k = ranked z t k := congrArg (fun R => sortedFrom R k) hR
  unfold Host.sort2
  rw [dif_pos (show (2 : ℕ) < S1x2048x8.rank by decide)]
  constructor
  · refine Eq.trans (congrArg (fun e : Fin 8 => x (Shape.Idx.along (s := S1x2048x8) (ix3 0 t k) (2 : Fin 3) e)) hS) ?_
    exact (congrArg x (along_last t k _)).trans (hx _ _)
  · refine Eq.trans (congrArg (fun e : Fin 8 => y (Shape.Idx.along (s := S1x2048x8) (ix3 0 t k) (2 : Fin 3) e)) hS) ?_
    exact congrArg y (along_last t k _)

omit hx in
theorem slice_last {α : Type} (y : S1x2048x8.Idx → α) (h : S1x2048x8.Slices (fun _ => 0) S1x2048x2) (t : Fin 2048) (k : Fin 2) :
    extractStridedSlice S1x2048x2 (fun _ => 0) y h (ix3 0 t k) = y (ix3 0 t (k.castLE (by decide))) := by
  unfold extractStridedSlice
  refine congrArg y (funext fun a => Fin.ext ?_)
  match a with
  | ⟨0, _⟩ => rfl
  | ⟨1, _⟩ => exact Nat.zero_add _
  | ⟨2, _⟩ => exact Nat.zero_add _

/-- The numbers of the experts, which the sort carries along. -/
def lastNums : IVec S1x2048x8 32 := fun i => if hd : 2 < S1x2048x8.rank then iotaInDim S1x2048x8 32 ⟨2, hd⟩ i else 0#32

theorem top_val (h : S1x2048x8.Slices (fun _ => 0) S1x2048x2) (t : Fin 2048) (k : Fin 2) :
    (Host.topK S1x2048x2 2 (FloatOps.cmpfTotal (F := Ideal) (φ := .f32) .gt) x h).1 (ix3 0 t k) = z (ix2 t (ranked z t (k.castLE (by decide)))) := by
  unfold Host.topK
  exact (slice_last (Host.sort2 S1x2048x8 2 (fun l r => FloatOps.cmpfTotal (F := Ideal) (φ := .f32) .gt l.1 r.1) x lastNums).1 h t k).trans (sort_at x z hx lastNums t _).1

theorem top_num (h : S1x2048x8.Slices (fun _ => 0) S1x2048x2) (t : Fin 2048) (k : Fin 2) :
    (Host.topK S1x2048x2 2 (FloatOps.cmpfTotal (F := Ideal) (φ := .f32) .gt) x h).2 (ix3 0 t k)
      = BitVec.ofNat 32 (ranked z t (k.castLE (by decide))).val := by
  unfold Host.topK
  exact (slice_last (Host.sort2 S1x2048x8 2 (fun l r => FloatOps.cmpfTotal (F := Ideal) (φ := .f32) .gt l.1 r.1) x lastNums).2 h t k).trans (sort_at x z hx lastNums t _).2

end

/-! ## Reductions over the two choices -/

theorem reduces_last : S1x2048x2.Reduces [(2 : Fin 3)] S1x2048 := by decide

theorem lift_last (t : Fin 2048) (k : Fin 2) : reduces_last.lift (ix2 0 t) k = ix3 0 t k := by
  funext a
  match a with
  | ⟨0, _⟩ => rfl
  | ⟨1, _⟩ => rfl
  | ⟨2, _⟩ => rfl

theorem reduce_or (v : IVec S1x2048x2 1) (h : S1x2048x2.ReducesTo [(2 : Fin 3)] S1x2048) (t : Fin 2048) :
    Host.reduce IntOp.ori v (constantI S_ 1 0#1) h h_S_ (ix2 0 t) = IntOp.ori (v (ix3 0 t 0)) (v (ix3 0 t 1)) := by
  rw [Host.reduce_eq_fold, Shape.ReducesTo.drop_eq_drop h reduces_last]
  refine (reduces_last.fold_filter_drop_single IntOp.ori _ v (ix2 0 t)).trans ?_
  have hc : v ∘ reduces_last.lift (ix2 0 t) = fun k : Fin 2 => v (ix3 0 t k) := funext fun k => congrArg v (lift_last t k)
  refine (congrArg (fun f : Fin 2 → BitVec 1 => (Finset.univ : Finset (Fin 2)).fold IntOp.ori 0#1 f) hc).trans ?_
  rw [fold_two]
  show v (ix3 0 t 0) ||| (v (ix3 0 t 1) ||| 0#1) = _
  rw [BitVec.or_zero]
  rfl

theorem reduce_max (v : FVec Ideal S1x2048x2 .f32) (h : S1x2048x2.ReducesTo [(2 : Fin 3)] S1x2048) (t : Fin 2048) (z : S_.Idx → EReal) (hz : ∀ i, z i = ⊥) :
    Host.reduce (FloatOps.maximumf (F := Ideal) (φ := .f32)) v z h h_S_ (ix2 0 t) = max (v (ix3 0 t 0) : EReal) (v (ix3 0 t 1)) := by
  rw [Host.reduce_eq_fold, Shape.ReducesTo.drop_eq_drop h reduces_last]
  refine (reduces_last.fold_filter_drop_single (FloatOps.maximumf (F := Ideal) (φ := .f32)) _ v (ix2 0 t)).trans ?_
  have hc : v ∘ reduces_last.lift (ix2 0 t) = fun k : Fin 2 => v (ix3 0 t k) := funext fun k => congrArg v (lift_last t k)
  refine (congrArg (fun f : Fin 2 → EReal => (Finset.univ : Finset (Fin 2)).fold (FloatOps.maximumf (F := Ideal) (φ := .f32)) (z (Shape.Idx.first h_S_)) f) hc).trans ?_
  rw [fold_two, hz]
  show max (v (ix3 0 t 0) : EReal) (max (v (ix3 0 t 1) : EReal) ⊥) = _
  rw [max_bot_right]

theorem reduce_add (v : FVec Ideal S1x2048x2 .f32) (h : S1x2048x2.ReducesTo [(2 : Fin 3)] S1x2048) (t : Fin 2048) :
    Host.reduceAdd (F := Ideal) v (constant S_ .f32 0x00000000#32) h h_S_ (ix2 0 t) = (v (ix3 0 t 0) : EReal) + v (ix3 0 t 1) := by
  show Ideal.hostReduceAdd h v (Ideal.ofBits .f32 0x00000000#32) (ix2 0 t) = _
  rw [Ideal.hostReduceAdd_single h reduces_last, Ideal.ofBits_zero_f32, zero_add]
  refine (Finset.sum_congr rfl fun k _ => congrArg v (lift_last t k)).trans ?_
  exact Fin.sum_univ_two (fun k : Fin 2 => (v (ix3 0 t k) : EReal))

/-! ## The weights -/

def softExp (v : FVec Ideal S1x2048x2 .f32) : FVec Ideal S1x2048x2 .f32 :=
  Host.exp (subf v (broadcastInDim S1x2048x2 ![0, 1, 2] bcast_S1x2048x1_S1x2048x2_0_1_2 (broadcastInDim S1x2048x1 ![0, 1] bcast_S1x2048_S1x2048x1_0_1
    (maximumf (broadcastInDim S1x2048 ![] bcast_S_S1x2048 (constant S_ .f32 0xFF800000#32))
      (Host.reduce FloatOps.maximumf v (constant S_ .f32 0xFF800000#32) reducesTo_S1x2048x2_S1x2048_d2 h_S_)))))

def soft (v : FVec Ideal S1x2048x2 .f32) : FVec Ideal S1x2048x2 .f32 :=
  Host.divf (softExp v) (broadcastInDim S1x2048x2 ![0, 1, 2] bcast_S1x2048x1_S1x2048x2_0_1_2 (broadcastInDim S1x2048x1 ![0, 1] bcast_S1x2048_S1x2048x1_0_1
    (Host.reduceAdd (softExp v) (constant S_ .f32 0x00000000#32) reducesTo_S1x2048x2_S1x2048_d2 h_S_)))

theorem soft_eq (x0 : S1x2048x1024.Idx → EReal) (x1 : S1024x8.Idx → EReal) :
    val_main_v11 (F := Ideal) x0 x1 = soft (val_main_values (F := Ideal) x0 x1) := rfl

theorem unit_col {α : Type} (v : S1x2048.Idx → α) (t : Fin 2048) :
    broadcastInDim S1x2048x1 ![0, 1] bcast_S1x2048_S1x2048x1_0_1 v (ix3 0 t 0) = v (ix2 0 t) :=
  broadcastInDim_apply _ _ _ _ (ix2 0 t) fun a => match a with
    | ⟨0, _⟩ => rfl
    | ⟨1, _⟩ => rfl

theorem pair_col {α : Type} (v : S1x2048.Idx → α) (t : Fin 2048) (k : Fin 2) :
    broadcastInDim S1x2048x2 ![0, 1, 2] bcast_S1x2048x1_S1x2048x2_0_1_2 (broadcastInDim S1x2048x1 ![0, 1] bcast_S1x2048_S1x2048x1_0_1 v) (ix3 0 t k) = v (ix2 0 t) :=
  (broadcastInDim_apply _ _ _ _ (ix3 0 t 0) fun a => match a with
    | ⟨0, _⟩ => rfl
    | ⟨1, _⟩ => rfl
    | ⟨2, _⟩ => rfl).trans (unit_col v t)

theorem exp_sub_at (v w : FVec Ideal S1x2048x2 .f32) (i : S1x2048x2.Idx) : Host.exp (subf v w) i = Ideal.exp ((v i : EReal) - w i) := rfl

theorem div_at (v w : FVec Ideal S1x2048x2 .f32) (i : S1x2048x2.Idx) : Host.divf v w i = Ideal.div (v i) (w i) := rfl

theorem softExp_at (v : FVec Ideal S1x2048x2 .f32) (t : Fin 2048) (hle : (v (ix3 0 t 1) : EReal) ≤ v (ix3 0 t 0)) (k : Fin 2) :
    softExp v (ix3 0 t k) = Ideal.exp ((v (ix3 0 t k) : EReal) - v (ix3 0 t 0)) := by
  have hm : maximumf (broadcastInDim S1x2048 ![] bcast_S_S1x2048 (constant S_ .f32 0xFF800000#32))
      (Host.reduce FloatOps.maximumf v (constant S_ .f32 0xFF800000#32) reducesTo_S1x2048x2_S1x2048_d2 h_S_) (ix2 0 t) = (v (ix3 0 t 0) : EReal) := by
    show max (Ideal.ofBits .f32 0xFF800000#32) (Host.reduce (FloatOps.maximumf (F := Ideal) (φ := .f32)) v (constant S_ .f32 0xFF800000#32) reducesTo_S1x2048x2_S1x2048_d2 h_S_ (ix2 0 t)) = _
    refine (congrArg₂ max bottom_f32 (reduce_max v _ t _ (fun _ => bottom_f32))).trans ?_
    rw [max_bot_left, max_eq_left hle]
  unfold softExp
  exact (exp_sub_at _ _ _).trans (congrArg (fun z : EReal => Ideal.exp ((v (ix3 0 t k) : EReal) - z)) ((pair_col _ t k).trans hm))

theorem soft_at (v : FVec Ideal S1x2048x2 .f32) (t : Fin 2048) (hle : (v (ix3 0 t 1) : EReal) ≤ v (ix3 0 t 0)) (hb : (v (ix3 0 t 0) : EReal) ≠ ⊥)
    (ht : (v (ix3 0 t 0) : EReal) ≠ ⊤) (k : Fin 2) :
    soft v (ix3 0 t k) = if k = 0 then Ideal.div 1 (1 + Ideal.exp ((v (ix3 0 t 1) : EReal) - v (ix3 0 t 0)))
      else Ideal.div (Ideal.exp ((v (ix3 0 t 1) : EReal) - v (ix3 0 t 0))) (1 + Ideal.exp ((v (ix3 0 t 1) : EReal) - v (ix3 0 t 0))) := by
  have h0 : Ideal.exp ((v (ix3 0 t 0) : EReal) - v (ix3 0 t 0)) = 1 := by
    rw [EReal.sub_self ht hb, exp_zero_value]
  have hs : Host.reduceAdd (softExp v) (constant S_ .f32 0x00000000#32) reducesTo_S1x2048x2_S1x2048_d2 h_S_ (ix2 0 t)
      = 1 + Ideal.exp ((v (ix3 0 t 1) : EReal) - v (ix3 0 t 0)) := by
    rw [reduce_add, softExp_at v t hle, softExp_at v t hle, h0]
  unfold soft
  refine (div_at _ _ _).trans ?_
  refine (congrArg₂ Ideal.div (softExp_at v t hle k) ((pair_col _ t k).trans hs)).trans ?_
  match k with
  | ⟨0, _⟩ => exact congrArg (fun a => Ideal.div a _) h0
  | ⟨1, _⟩ => rfl

end Cert.WholeRef

end
-- ==== Proof.WholeTerms.lean ====
/- The whole reference's value: each expert's term is one function of its number and of its three weight slabs; at a token it
   is the expert's entry times the token's weight when the token chose it, and zero otherwise. -/
module

public import proofs.«01_k».proof.Proof.WholeTop
public import proofs.«01_k».proof.Proof.Reference

@[expose] public section

set_option maxRecDepth 16384

noncomputable section

namespace Cert.WholeRef

open Cert.Reference3Ideal Cert.Reference3Ideal.Gen Cert.Reference3Ideal.Read
open Idealize.ShloMosaic Idealize.ShloMosaic.ValueIdx Idealize.ShloMosaic.TcCoe
open Cert.Moe (actOf cell slab_slice)

theorem dot_up (x : FVec Ideal S1x2048x1024 .f32) (g : FVec Ideal S1024x2880 .f32) (t : Fin 2048) (j : Fin 2880) :
    Host.dotGeneral (F := Ideal) dot_S1x2048x1024_S1024x2880_S1x2048x2880_2_0_01_1_n_n none x g (ix3 0 t j)
      = ∑ k : Fin 1024, (x (ix3 0 t k) : EReal) * g (ix2 k j) := by
  simp only [Host.dotGeneral]
  rw [Ideal.dotGeneral_apply, ← Equiv.sum_comp (contrEquiv1 dot_S1x2048x1024_S1024x2880_S1x2048x2880_2_0_01_1_n_n 1024 rfl rfl).symm]
  refine Finset.sum_congr rfl fun k _ => ?_
  have hk := contrEquiv1_symm_val dot_S1x2048x1024_S1024x2880_S1x2048x2880_2_0_01_1_n_n 1024 rfl rfl k
  refine congrArg₂ (fun a b : EReal => a * b) (congrArg x (funext fun a => Fin.ext ?_)) (congrArg g (funext fun a => Fin.ext ?_))
  · match a with
    | ⟨0, _⟩ => exact lhs_main_v22_0 _ _
    | ⟨1, _⟩ => exact lhs_main_v22_1 _ _
    | ⟨2, _⟩ => exact (lhs_main_v22_2 _ _).trans hk
  · match a with
    | ⟨0, _⟩ => exact (rhs_main_v22_0 _ _).trans hk
    | ⟨1, _⟩ => exact rhs_main_v22_1 _ _

theorem dot_down (x : FVec Ideal S1x2048x2880 .f32) (d : FVec Ideal S2880x1024 .f32) (t : Fin 2048) (c : Fin 1024) :
    Host.dotGeneral (F := Ideal) dot_S1x2048x2880_S2880x1024_S1x2048x1024_2_0_01_1_n_n none x d (ix3 0 t c)
      = ∑ j : Fin 2880, (x (ix3 0 t j) : EReal) * d (ix2 j c) := by
  simp only [Host.dotGeneral]
  rw [Ideal.dotGeneral_apply, ← Equiv.sum_comp (contrEquiv1 dot_S1x2048x2880_S2880x1024_S1x2048x1024_2_0_01_1_n_n 2880 rfl rfl).symm]
  refine Finset.sum_congr rfl fun k _ => ?_
  have hk := contrEquiv1_symm_val dot_S1x2048x2880_S2880x1024_S1x2048x1024_2_0_01_1_n_n 2880 rfl rfl k
  refine congrArg₂ (fun a b : EReal => a * b) (congrArg x (funext fun a => Fin.ext ?_)) (congrArg d (funext fun a => Fin.ext ?_))
  · match a with
    | ⟨0, _⟩ => exact lhs_main_v31_0 _ _
    | ⟨1, _⟩ => exact lhs_main_v31_1 _ _
    | ⟨2, _⟩ => exact (lhs_main_v31_2 _ _).trans hk
  · match a with
    | ⟨0, _⟩ => exact (rhs_main_v31_0 _ _).trans hk
    | ⟨1, _⟩ => exact rhs_main_v31_1 _ _

theorem row_col {α : Type} (v : S1x2048x1.Idx → α) (t : Fin 2048) (c : Fin 1024) :
    broadcastInDim S1x2048x1024 ![0, 1, 2] bcast_S1x2048x1_S1x2048x1024_0_1_2 v (ix3 0 t c) = v (ix3 0 t 0) :=
  broadcastInDim_apply _ _ _ _ (ix3 0 t 0) fun a => match a with
    | ⟨0, _⟩ => rfl
    | ⟨1, _⟩ => rfl
    | ⟨2, _⟩ => rfl

/-- Which of the tokens' two choices are the expert of the word. -/
def hits (n : BitVec 32) (idx : IVec S1x2048x2 32) : IVec S1x2048x2 1 :=
  cmpi .eq idx (broadcastInDim S1x2048x2 ![] bcast_S_S1x2048x2 (constantI S_ 32 n))

/-- The tokens that chose the expert; the other rows are zero. -/
def chosen (n : BitVec 32) (idx : IVec S1x2048x2 32) (x : FVec Ideal S1x2048x1024 .f32) : FVec Ideal S1x2048x1024 .f32 :=
  mulf x (broadcastInDim S1x2048x1024 ![0, 1, 2] bcast_S1x2048x1_S1x2048x1024_0_1_2 (uitofp (F := Ideal) .f32
    (broadcastInDim S1x2048x1 ![0, 1] bcast_S1x2048_S1x2048x1_0_1
      (Host.reduce IntOp.ori (hits n idx) (constantI S_ 1 0#1) reducesTo_S1x2048x2_S1x2048_d2 h_S_))))

/-- The weight each token gives the expert. -/
def given (n : BitVec 32) (idx : IVec S1x2048x2 32) (w : FVec Ideal S1x2048x2 .f32) : FVec Ideal S1x2048 .f32 :=
  Host.reduceAdd (select (hits n idx) w (val_main_call2_v1 (F := Ideal))) (constant S_ .f32 0x00000000#32) reducesTo_S1x2048x2_S1x2048_d2 h_S_

def gateOf (xe : FVec Ideal S1x2048x1024 .f32) (g : FVec Ideal S1024x2880 .f32) : FVec Ideal S1x2048x2880 .f32 :=
  Host.dotGeneral dot_S1x2048x1024_S1024x2880_S1x2048x2880_2_0_01_1_n_n none xe g

/-- The activation of the gates' values. -/
def bent (gate : FVec Ideal S1x2048x2880 .f32) : FVec Ideal S1x2048x2880 .f32 :=
  minimumf (val_main_call1_v4 (F := Ideal)) (maximumf (val_main_call1_v1 (F := Ideal))
    (mulf gate (Host.divf (val_main_call0_v4 (F := Ideal)) (addf (val_main_call0_v2 (F := Ideal)) (Host.exp (Host.negf gate))))))

/-- An expert's term of the sum. -/
def term (n : BitVec 32) (idx : IVec S1x2048x2 32) (w : FVec Ideal S1x2048x2 .f32) (x : FVec Ideal S1x2048x1024 .f32)
    (g u : FVec Ideal S1024x2880 .f32) (d : FVec Ideal S2880x1024 .f32) : FVec Ideal S1x2048x1024 .f32 :=
  mulf (Host.dotGeneral dot_S1x2048x2880_S2880x1024_S1x2048x1024_2_0_01_1_n_n none
      (mulf (bent (gateOf (chosen n idx x) g)) (gateOf (chosen n idx x) u)) d)
    (broadcastInDim S1x2048x1024 ![0, 1, 2] bcast_S1x2048x1_S1x2048x1024_0_1_2 (broadcastInDim S1x2048x1 ![0, 1] bcast_S1x2048_S1x2048x1_0_1 (given n idx w)))

/-- Expert `e`'s term, its weights read from the three arrays. -/
def slot (e : Fin 8) (idx : IVec S1x2048x2 32) (w : FVec Ideal S1x2048x2 .f32) (x0 : S1x2048x1024.Idx → EReal) (x2 x3 : S8x1024x2880.Idx → EReal)
    (x4 : S8x2880x1024.Idx → EReal) : S1x2048x1024.Idx → EReal :=
  term (BitVec.ofNat 32 e.val) idx w x0 (fun i => x2 (ix3 e (i 0) (i 1))) (fun i => x3 (ix3 e (i 0) (i 1))) (fun i => x4 (ix3 e (i 0) (i 1)))

theorem term_slot (e : Fin 8) (idx : IVec S1x2048x2 32) (w : FVec Ideal S1x2048x2 .f32) (x0 : S1x2048x1024.Idx → EReal) (x2 x3 : S8x1024x2880.Idx → EReal)
    (x4 : S8x2880x1024.Idx → EReal) (h3 : S8x1024x2880.Slices ![e.val, 0, 0] S1x1024x2880) (h4 : S8x2880x1024.Slices ![e.val, 0, 0] S1x2880x1024) :
    term (BitVec.ofNat 32 e.val) idx w x0
      (shapeCast S1024x2880 (extractStridedSlice S1x1024x2880 ![e.val, 0, 0] x2 h3) shapeCasts_S1x1024x2880_S1024x2880)
      (shapeCast S1024x2880 (extractStridedSlice S1x1024x2880 ![e.val, 0, 0] x3 h3) shapeCasts_S1x1024x2880_S1024x2880)
      (shapeCast S2880x1024 (extractStridedSlice S1x2880x1024 ![e.val, 0, 0] x4 h4) shapeCasts_S1x2880x1024_S2880x1024)
      = slot e idx w x0 x2 x3 x4 := by
  unfold slot
  rw [slab_slice x2 e, slab_slice x3 e, slab_slice x4 e]

section Terms

variable (x0 : S1x2048x1024.Idx → EReal) (x1 : S1024x8.Idx → EReal) (x2 x3 : S8x1024x2880.Idx → EReal) (x4 : S8x2880x1024.Idx → EReal)

/-- Expert `e`'s term with the reference's choices and weights. -/
def part (e : Fin 8) : S1x2048x1024.Idx → EReal := slot e (val_main_indices (F := Ideal) x0 x1) (val_main_v11 (F := Ideal) x0 x1) x0 x2 x3 x4

theorem part_0 : val_main_v38 (F := Ideal) x0 x1 x2 x3 x4 = part x0 x1 x2 x3 x4 0 :=
  term_slot 0 (val_main_indices (F := Ideal) x0 x1) (val_main_v11 (F := Ideal) x0 x1) x0 x2 x3 x4 slices_S8x1024x2880_S1x1024x2880_0_0_0 slices_S8x2880x1024_S1x2880x1024_0_0_0

theorem part_1 : val_main_v65 (F := Ideal) x0 x1 x2 x3 x4 = part x0 x1 x2 x3 x4 1 :=
  term_slot 1 (val_main_indices (F := Ideal) x0 x1) (val_main_v11 (F := Ideal) x0 x1) x0 x2 x3 x4 slices_S8x1024x2880_S1x1024x2880_1_0_0 slices_S8x2880x1024_S1x2880x1024_1_0_0

theorem part_2 : val_main_v92 (F := Ideal) x0 x1 x2 x3 x4 = part x0 x1 x2 x3 x4 2 :=
  term_slot 2 (val_main_indices (F := Ideal) x0 x1) (val_main_v11 (F := Ideal) x0 x1) x0 x2 x3 x4 slices_S8x1024x2880_S1x1024x2880_2_0_0 slices_S8x2880x1024_S1x2880x1024_2_0_0

theorem part_3 : val_main_v119 (F := Ideal) x0 x1 x2 x3 x4 = part x0 x1 x2 x3 x4 3 :=
  term_slot 3 (val_main_indices (F := Ideal) x0 x1) (val_main_v11 (F := Ideal) x0 x1) x0 x2 x3 x4 slices_S8x1024x2880_S1x1024x2880_3_0_0 slices_S8x2880x1024_S1x2880x1024_3_0_0

theorem part_4 : val_main_v146 (F := Ideal) x0 x1 x2 x3 x4 = part x0 x1 x2 x3 x4 4 :=
  term_slot 4 (val_main_indices (F := Ideal) x0 x1) (val_main_v11 (F := Ideal) x0 x1) x0 x2 x3 x4 slices_S8x1024x2880_S1x1024x2880_4_0_0 slices_S8x2880x1024_S1x2880x1024_4_0_0

theorem part_5 : val_main_v173 (F := Ideal) x0 x1 x2 x3 x4 = part x0 x1 x2 x3 x4 5 :=
  term_slot 5 (val_main_indices (F := Ideal) x0 x1) (val_main_v11 (F := Ideal) x0 x1) x0 x2 x3 x4 slices_S8x1024x2880_S1x1024x2880_5_0_0 slices_S8x2880x1024_S1x2880x1024_5_0_0

theorem part_6 : val_main_v200 (F := Ideal) x0 x1 x2 x3 x4 = part x0 x1 x2 x3 x4 6 :=
  term_slot 6 (val_main_indices (F := Ideal) x0 x1) (val_main_v11 (F := Ideal) x0 x1) x0 x2 x3 x4 slices_S8x1024x2880_S1x1024x2880_6_0_0 slices_S8x2880x1024_S1x2880x1024_6_0_0

theorem part_7 : val_main_v227 (F := Ideal) x0 x1 x2 x3 x4 = part x0 x1 x2 x3 x4 7 :=
  term_slot 7 (val_main_indices (F := Ideal) x0 x1) (val_main_v11 (F := Ideal) x0 x1) x0 x2 x3 x4 slices_S8x1024x2880_S1x1024x2880_7_0_0 slices_S8x2880x1024_S1x2880x1024_7_0_0

/-- The reference's value is the sum of the eight terms, from zero. -/
theorem value_parts : val_main_v228 (F := Ideal) x0 x1 x2 x3 x4 = fun i =>
    ((((((((0 + part x0 x1 x2 x3 x4 0 i) + part x0 x1 x2 x3 x4 1 i) + part x0 x1 x2 x3 x4 2 i) + part x0 x1 x2 x3 x4 3 i)
      + part x0 x1 x2 x3 x4 4 i) + part x0 x1 x2 x3 x4 5 i) + part x0 x1 x2 x3 x4 6 i) + part x0 x1 x2 x3 x4 7 i) := by
  funext i
  rw [← part_0, ← part_1, ← part_2, ← part_3, ← part_4, ← part_5, ← part_6, ← part_7, ← Ideal.ofBits_zero_f32]
  rfl

end Terms

section Read

variable (a b e : Fin 8) (hab : a ≠ b) (idx : IVec S1x2048x2 32) (t : Fin 2048) (h0 : idx (ix3 0 t 0) = BitVec.ofNat 32 a.val)
    (h1 : idx (ix3 0 t 1) = BitVec.ofNat 32 b.val)

theorem word_eq : ∀ a e : Fin 8, IntOp.cmpi .eq (BitVec.ofNat 32 a.val) (BitVec.ofNat 32 e.val) = if e = a then 1#1 else 0#1 := by decide

include h0 in
theorem hits_first : hits (BitVec.ofNat 32 e.val) idx (ix3 0 t 0) = if e = a then 1#1 else 0#1 := by
  rw [← word_eq, ← h0]; rfl

include h1 in
theorem hits_second : hits (BitVec.ofNat 32 e.val) idx (ix3 0 t 1) = if e = b then 1#1 else 0#1 := by
  rw [← word_eq, ← h1]; rfl

theorem one_bit : (((1#1 : BitVec 1).toNat : ℕ) : EReal) = 1 := by
  rw [show (1#1 : BitVec 1).toNat = 1 from rfl, Nat.cast_one]

include h0 h1

/-- A token that chose the expert keeps its row. -/
theorem chosen_at (he : e = a ∨ e = b) (x : FVec Ideal S1x2048x1024 .f32) (k : Fin 1024) :
    chosen (BitVec.ofNat 32 e.val) idx x (ix3 0 t k) = x (ix3 0 t k) := by
  have hm : Host.reduce IntOp.ori (hits (BitVec.ofNat 32 e.val) idx) (constantI S_ 1 0#1) reducesTo_S1x2048x2_S1x2048_d2 h_S_ (ix2 0 t) = 1#1 := by
    rw [reduce_or, hits_first a e idx t h0, hits_second b e idx t h1]
    by_cases ha : e = a
    · rw [if_pos ha]
      by_cases hb : e = b
      · rw [if_pos hb]; rfl
      · rw [if_neg hb]; rfl
    · rw [if_neg ha, if_pos (he.resolve_left ha)]; rfl
  have hu : uitofp (F := Ideal) .f32 (broadcastInDim S1x2048x1 ![0, 1] bcast_S1x2048_S1x2048x1_0_1
      (Host.reduce IntOp.ori (hits (BitVec.ofNat 32 e.val) idx) (constantI S_ 1 0#1) reducesTo_S1x2048x2_S1x2048_d2 h_S_)) (ix3 0 t 0) = (1 : EReal) := by
    refine Eq.trans ?_ one_bit
    exact congrArg (fun z : BitVec 1 => ((z.toNat : ℕ) : EReal)) ((unit_col _ t).trans hm)
  unfold chosen
  refine Eq.trans (congrArg (fun z : EReal => (x (ix3 0 t k) : EReal) * z) ((row_col _ t k).trans hu)) ?_
  exact mul_one _

/-- The weight a token gives the expert. -/
theorem given_at (w : FVec Ideal S1x2048x2 .f32) : given (BitVec.ofNat 32 e.val) idx w (ix2 0 t)
    = (if e = a then (w (ix3 0 t 0) : EReal) else 0) + if e = b then (w (ix3 0 t 1) : EReal) else 0 := by
  unfold given
  rw [reduce_add]
  refine congrArg₂ (fun p q : EReal => p + q) ?_ ?_
  · show Scalar.select (hits (BitVec.ofNat 32 e.val) idx (ix3 0 t 0)) (w (ix3 0 t 0)) (Ideal.ofBits .f32 0x00000000#32) = _
    rw [hits_first a e idx t h0, Ideal.ofBits_zero_f32]
    by_cases ha : e = a
    · rw [if_pos ha, if_pos ha]; rfl
    · rw [if_neg ha, if_neg ha]; rfl
  · show Scalar.select (hits (BitVec.ofNat 32 e.val) idx (ix3 0 t 1)) (w (ix3 0 t 1)) (Ideal.ofBits .f32 0x00000000#32) = _
    rw [hits_second b e idx t h1, Ideal.ofBits_zero_f32]
    by_cases hb : e = b
    · rw [if_pos hb, if_pos hb]; rfl
    · rw [if_neg hb, if_neg hb]; rfl

omit h0 h1 in
theorem bent_at (gate : FVec Ideal S1x2048x2880 .f32) (i : S1x2048x2880.Idx) : bent gate i = actOf (gate i) := by
  unfold actOf Ideal.logistic
  rw [← Ideal.ofBits_one_f32]
  rfl

omit h0 h1 in
theorem mul_at {s : Shape} (v w : FVec Ideal s .f32) (i : s.Idx) : mulf v w i = (v i : EReal) * w i := rfl

/-- A term at a token: the entry times the weight the token gives the expert. -/
theorem term_at (w : FVec Ideal S1x2048x2 .f32) (x : FVec Ideal S1x2048x1024 .f32) (g u : FVec Ideal S1024x2880 .f32) (d : FVec Ideal S2880x1024 .f32)
    (c : Fin 1024) : term (BitVec.ofNat 32 e.val) idx w x g u d (ix3 0 t c)
      = if e = a ∨ e = b then cell (fun k => x (ix3 0 t k)) (fun k j => g (ix2 k j)) (fun k j => u (ix2 k j)) (fun j => d (ix2 j c))
          ((if e = a then (w (ix3 0 t 0) : EReal) else 0) + if e = b then (w (ix3 0 t 1) : EReal) else 0) else 0 := by
  have hg := ((row_col _ t c).trans (unit_col _ t)).trans (given_at a b e idx t h0 h1 w)
  unfold term
  refine (congrArg (fun z : EReal => _ * z) hg).trans ?_
  by_cases he : e = a ∨ e = b
  · rw [if_pos he]
    unfold cell
    refine congrArg (fun z : EReal => z * _) ?_
    refine (dot_down _ d t c).trans (Finset.sum_congr rfl fun j _ => ?_)
    refine congrArg (fun z : EReal => z * (d (ix2 j c) : EReal)) ?_
    refine (mul_at _ _ _).trans ?_
    rw [bent_at]
    unfold gateOf
    rw [dot_up, dot_up]
    simp only [chosen_at a b e idx t h0 h1 he]
  · rw [if_neg he, if_neg (fun h => he (Or.inl h)), if_neg (fun h => he (Or.inr h)), add_zero, mul_zero]

end Read

/-- The reference's value at a token, of its two choices. -/
theorem value_at (a b : Fin 8) (hab : a ≠ b) (x0 : S1x2048x1024.Idx → EReal) (x1 : S1024x8.Idx → EReal) (x2 x3 : S8x1024x2880.Idx → EReal)
    (x4 : S8x2880x1024.Idx → EReal) (t : Fin 2048) (h0 : val_main_indices (F := Ideal) x0 x1 (ix3 0 t 0) = BitVec.ofNat 32 a.val)
    (h1 : val_main_indices (F := Ideal) x0 x1 (ix3 0 t 1) = BitVec.ofNat 32 b.val) (c : Fin 1024) :
    val_main_v228 (F := Ideal) x0 x1 x2 x3 x4 (ix3 0 t c)
      = cell (fun k => x0 (ix3 0 t k)) (fun k j => x2 (ix3 a k j)) (fun k j => x3 (ix3 a k j)) (fun j => x4 (ix3 a j c)) (val_main_v11 (F := Ideal) x0 x1 (ix3 0 t 0))
        + cell (fun k => x0 (ix3 0 t k)) (fun k j => x2 (ix3 b k j)) (fun k j => x3 (ix3 b k j)) (fun j => x4 (ix3 b j c)) (val_main_v11 (F := Ideal) x0 x1 (ix3 0 t 1)) := by
  have hp : ∀ e : Fin 8, part x0 x1 x2 x3 x4 e (ix3 0 t c)
      = if e = a ∨ e = b then cell (fun k => x0 (ix3 0 t k)) (fun k j => x2 (ix3 e k j)) (fun k j => x3 (ix3 e k j)) (fun j => x4 (ix3 e j c))
          ((if e = a then (val_main_v11 (F := Ideal) x0 x1 (ix3 0 t 0) : EReal) else 0) + if e = b then (val_main_v11 (F := Ideal) x0 x1 (ix3 0 t 1) : EReal) else 0) else 0 :=
    fun e => term_at a b e _ t h0 h1 _ x0 _ _ _ c
  have hs : val_main_v228 (F := Ideal) x0 x1 x2 x3 x4 (ix3 0 t c) = ∑ e : Fin 8, part x0 x1 x2 x3 x4 e (ix3 0 t c) := by
    rw [value_parts, Fin.sum_univ_eight]
    beta_reduce
    rw [zero_add]
  rw [hs, Finset.sum_eq_add a b hab (fun e _ hn => by rw [hp e, if_neg (fun h => h.elim hn.1 hn.2)]) (fun h => absurd (Finset.mem_univ _) h)
    (fun h => absurd (Finset.mem_univ _) h), hp a, hp b, if_pos (Or.inl rfl), if_pos (Or.inr rfl), if_pos rfl, if_neg hab, if_neg (Ne.symm hab), if_pos rfl,
    add_zero, zero_add]

end Cert.WholeRef

end
-- ==== Proof.WholeMeet.lean ====
/- The whole reference's choices and weights are the router's. -/
module

public import proofs.«01_k».proof.Proof.WholeTerms

@[expose] public section

set_option maxRecDepth 16384

noncomputable section

namespace Cert.WholeRef

open Cert.Reference3Ideal Cert.Reference3Ideal.Gen Cert.Reference3Ideal.Read
open Idealize.ShloMosaic Idealize.ShloMosaic.ValueIdx Idealize.ShloMosaic.TcCoe
open Cert.Router (ranked rankedNat rankedNat_val refScore score score_ref score_top score_real weights weights_at)

variable (x0 : S1x2048x1024.Idx → EReal) (x1 : S1024x8.Idx → EReal) (t : Fin 2048)

theorem values_at (k : Fin 2) : val_main_values (F := Ideal) x0 x1 (ix3 0 t k)
    = refScore (flat x0) x1 (ix2 t (ranked (refScore (flat x0) x1) t (k.castLE (by decide)))) :=
  top_val _ _ (score_flat x0 x1) sliceFits_S1x2048x8_S1x2048x2 t k

theorem first_choice : val_main_indices (F := Ideal) x0 x1 (ix3 0 t 0) = BitVec.ofNat 32 (rankedNat (refScore (flat x0) x1) 0 t.val).val := by
  rw [rankedNat_val]
  exact top_num _ _ (score_flat x0 x1) sliceFits_S1x2048x8_S1x2048x2 t 0

theorem second_choice : val_main_indices (F := Ideal) x0 x1 (ix3 0 t 1) = BitVec.ofNat 32 (rankedNat (refScore (flat x0) x1) 1 t.val).val := by
  rw [rankedNat_val]
  exact top_num _ _ (score_flat x0 x1) sliceFits_S1x2048x8_S1x2048x2 t 1

/-- On finite arguments the reference's weights are the router's. -/
theorem weights_flat (h0 : ∀ i, ∃ r : ℝ, (flat x0 i : EReal) = (r : EReal)) (h1 : ∀ i, ∃ r : ℝ, (x1 i : EReal) = (r : EReal)) (k : Fin 2) :
    val_main_v11 (F := Ideal) x0 x1 (ix3 0 t k) = weights (F := Ideal) (flat x0) x1 (ix2 t k) := by
  have v0 : (val_main_values (F := Ideal) x0 x1 (ix3 0 t 0) : EReal) = score (flat x0) x1 t (rankedNat (refScore (flat x0) x1) 0 t.val) := by
    rw [score_ref, rankedNat_val]
    exact values_at x0 x1 t 0
  have v1 : (val_main_values (F := Ideal) x0 x1 (ix3 0 t 1) : EReal) = score (flat x0) x1 t (rankedNat (refScore (flat x0) x1) 1 t.val) := by
    rw [score_ref, rankedNat_val]
    exact values_at x0 x1 t 1
  obtain ⟨r, hr⟩ := score_real (flat x0) x1 h0 h1 t (rankedNat (refScore (flat x0) x1) 0 t.val)
  have hs : score (flat x0) x1 t (rankedNat (refScore (flat x0) x1) 0 t.val) = (r : EReal) := by rw [score_ref]; exact hr
  have hle : (val_main_values (F := Ideal) x0 x1 (ix3 0 t 1) : EReal) ≤ val_main_values (F := Ideal) x0 x1 (ix3 0 t 0) := by
    rw [v0, v1]
    exact (score_top (flat x0) x1 t).first_le _
  have hb : (val_main_values (F := Ideal) x0 x1 (ix3 0 t 0) : EReal) ≠ ⊥ := by rw [v0, hs]; exact EReal.coe_ne_bot r
  have ht : (val_main_values (F := Ideal) x0 x1 (ix3 0 t 0) : EReal) ≠ ⊤ := by rw [v0, hs]; exact EReal.coe_ne_top r
  refine Eq.trans ?_ (weights_at (flat x0) x1 (score_top (flat x0) x1) t k).symm
  rw [soft_eq, soft_at _ t hle hb ht k, v0, v1]

end Cert.WholeRef

end
-- ==== Proof.WholeSame.lean ====
/- The three calls of the whole program compute what the separate programs compute. -/
module

public import proofs.«01_k».proof.Proof.WholeRegion2
public import proofs.«01_k».proof.Proof.WholeRegion0
public import proofs.«01_k».proof.Proof.RouterRun
public import proofs.«01_k».proof.Proof.Values

@[expose] public section

set_option maxRecDepth 16384

noncomputable section

namespace Cert.Whole

open Cert.Kernel3Ideal Cert.Kernel3Ideal.Gen
open Idealize.ShloMosaic Idealize.ShloMosaic.TcCoe Idealize.ShloMosaic.ValueIdx

section Router

variable (x0 : FVec Ideal S2048x1024 .f32) (x1 : FVec Ideal S1024x8 .f32)

theorem pay2_same : k0_pay2 (F := Ideal) x0 x1 = Cert.Kernel2Ideal.Gen.k0_pay2 (F := Ideal) x0 x1 := by
  unfold k0_pay2 Cert.Kernel2Ideal.Gen.k0_pay2
  rw [shapeCast_self]
  rfl

theorem pay3_same : k0_pay3 (F := Ideal) x0 x1 = Cert.Kernel2Ideal.Gen.k0_pay3 (F := Ideal) x0 x1 := by
  unfold k0_pay3 Cert.Kernel2Ideal.Gen.k0_pay3
  rw [pay2_same]

theorem pay4_same : k0_pay4 (F := Ideal) x0 x1 = Cert.Kernel2Ideal.Gen.k0_pay4 (F := Ideal) x0 x1 := by
  unfold k0_pay4 Cert.Kernel2Ideal.Gen.k0_pay4
  rw [pay2_same, pay3_same]

theorem pay5_same : k0_pay5 (F := Ideal) x0 x1 = Cert.Kernel2Ideal.Gen.k0_pay5 (F := Ideal) x0 x1 := by
  unfold k0_pay5 Cert.Kernel2Ideal.Gen.k0_pay5
  rw [pay2_same, pay4_same]

theorem pay6_same : k0_pay6 (F := Ideal) x0 x1 = Cert.Kernel2Ideal.Gen.k0_pay6 (F := Ideal) x0 x1 := by
  unfold k0_pay6 Cert.Kernel2Ideal.Gen.k0_pay6
  rw [pay5_same]

theorem pay7_same : k0_pay7 (F := Ideal) x0 x1 = Cert.Kernel2Ideal.Gen.k0_pay7 (F := Ideal) x0 x1 := by
  unfold k0_pay7 Cert.Kernel2Ideal.Gen.k0_pay7
  rw [pay5_same, pay6_same]

theorem pay8_same : k0_pay8 (F := Ideal) x0 x1 = Cert.Kernel2Ideal.Gen.k0_pay8 (F := Ideal) x0 x1 := by
  unfold k0_pay8 Cert.Kernel2Ideal.Gen.k0_pay8
  rw [pay3_same, pay6_same]

theorem pay9_same : k0_pay9 (F := Ideal) x0 x1 = Cert.Kernel2Ideal.Gen.k0_pay9 (F := Ideal) x0 x1 := by
  unfold k0_pay9 Cert.Kernel2Ideal.Gen.k0_pay9
  rw [pay8_same]

theorem pay10_same : k0_pay10 (F := Ideal) x0 x1 = Cert.Kernel2Ideal.Gen.k0_pay10 (F := Ideal) x0 x1 := by
  unfold k0_pay10 Cert.Kernel2Ideal.Gen.k0_pay10
  rw [pay8_same]

theorem pay11_same : k0_pay11 (F := Ideal) x0 x1 = Cert.Kernel2Ideal.Gen.k0_pay11 (F := Ideal) x0 x1 := by
  unfold k0_pay11 Cert.Kernel2Ideal.Gen.k0_pay11
  rw [pay4_same, pay7_same]

theorem pay12_same : k0_pay12 (F := Ideal) x0 x1 = Cert.Kernel2Ideal.Gen.k0_pay12 (F := Ideal) x0 x1 := by
  unfold k0_pay12 Cert.Kernel2Ideal.Gen.k0_pay12
  rw [pay11_same]

theorem counts_same : k0_pay13 (F := Ideal) x0 x1 = Cert.Kernel2Ideal.Gen.k0_pay13 (F := Ideal) x0 x1 := by
  unfold k0_pay13 Cert.Kernel2Ideal.Gen.k0_pay13
  rw [pay12_same]

theorem scr_same (v : FVec Ideal S2048x8 .f32) : scr (F := Ideal) v = Cert.Router.scr (F := Ideal) v := by
  unfold scr Cert.Router.scr k0_pay14 Cert.Kernel2Ideal.Gen.k0_pay14
  rfl

theorem pay15_same (a : IVec S2048x8 32) (b d : IVec S2048x1 32) (v : FVec Ideal S1x8 .f32) (w : FVec Ideal S2048x8 .f32) :
    k0_pay15 (F := Ideal) a b d v w = Cert.Kernel2Ideal.Gen.k0_pay15 (F := Ideal) a b d v w := by
  unfold k0_pay15 Cert.Kernel2Ideal.Gen.k0_pay15
  rfl

theorem places_same : placesW (F := Ideal) x0 x1 = Cert.Router.places (F := Ideal) x0 x1 := by
  unfold placesW Cert.Router.places
  rw [pay15_same, pay4_same, pay7_same, pay12_same, pay11_same, scr_same]

theorem pay1_same (a b : FVec Ideal S2048x1 .f32) (v : IVec S2048x2 32) :
    k0_pay1 (F := Ideal) a b v 0#32 = Cert.Kernel2Ideal.Gen.k0_pay1 (F := Ideal) a b v Cert.Kernel2Ideal.Gen.k0_pay16 := by
  unfold k0_pay1 Cert.Kernel2Ideal.Gen.k0_pay1 Cert.Kernel2Ideal.Gen.k0_pay16
  rfl

theorem weights_same : weightsW (F := Ideal) x0 x1 = Cert.Router.weights (F := Ideal) x0 x1 := by
  unfold weightsW Cert.Router.weights
  rw [pay1_same, pay9_same, pay10_same]

end Router

theorem gate_same (x : S128x1024.Idx → EReal) (g u : S1x1024x2880.Idx → EReal) :
    k1_pay1 (F := Ideal) x g u = Cert.KernelIdeal.Gen.k0_pay1 (F := Ideal) x g u := by
  unfold k1_pay1 Cert.KernelIdeal.Gen.k0_pay1
  simp only [shapeCast_self]
  rfl

theorem down_same (v : S128x2880.Idx → EReal) (d : S1x2880x1024.Idx → EReal) (w : S128x1.Idx → EReal) :
    k2_pay1 (F := Ideal) v d w = Cert.KernelIdeal.Gen.k1_pay1 (F := Ideal) v d w := by
  unfold k2_pay1 Cert.KernelIdeal.Gen.k1_pay1
  simp only [shapeCast_self]
  rfl

end Cert.Whole

end
-- ==== Proof.WholeValues.lean ====
/- The whole program's result is the whole reference's on finite arguments. -/
module

public import proofs.«01_k».proof.Proof.WholeHost
public import proofs.«01_k».proof.Proof.WholeMeet
public import proofs.«01_k».proof.Proof.WholePlan
public import proofs.«01_k».proof.Proof.WholeSame
public import proofs.«01_k».proof.Proof.Values
public import proofs.«01_k».proof.Proof.Gen.Pre_finite3

@[expose] public section

set_option maxRecDepth 16384

noncomputable section

namespace Cert.Whole

open Cert.Kernel3Ideal Cert.Kernel3Ideal.Gen
open Idealize.ShloMosaic Idealize.ShloMosaic.TcCoe Idealize.ShloMosaic.ValueIdx
open Cert.Router (place sel ahead refScore rankedNat score_top score_ne_bot place_row place_inj place_tile places_at pay13_at pay4_at pay7_at pay7_word seconds)
open Cert.Moe (Fit startOf countOf rowsAt slabAt cell row_of_tile tile_gate_apply tile_down_apply slab_apply)
open Cert.WholeRef (flat value_at first_choice second_choice weights_flat)

/-- A tile's row of what the two calls leave, of the arrays they read. -/
theorem tile_entry (xs : S5120x1024.Idx → EReal) (gw uw : S8x1024x2880.Idx → EReal) (dw : S8x2880x1024.Idx → EReal) (ws : S5120x1.Idx → EReal)
    (e : Fin 8) (r : Fin 5120) (q : Fin 1024) :
    k2_pay1 (F := Ideal) (tileH (F := Ideal) xs gw uw e.val (r.val / 128)) (slabAt (m := 2880) (n := 1024) dw e.val) (rowsAt (n := 1) ws (r.val / 128))
        (ix2 ⟨r.val % 128, Nat.mod_lt _ (by decide)⟩ q)
      = cell (fun k => xs (ix2 r k)) (fun k j => gw (ix3 e k j)) (fun k j => uw (ix3 e k j)) (fun j => dw (ix3 e j q)) (ws (ix2 r ⟨0, Nat.one_pos⟩)) := by
  have hr : ∀ h : (r.val / 128 * 128 + r.val % 128) % 5120 < 5120, (⟨(r.val / 128 * 128 + r.val % 128) % 5120, h⟩ : Fin 5120) = r := fun _ =>
    Fin.ext (by have := r.isLt; show (r.val / 128 * 128 + r.val % 128) % 5120 = r.val; omega)
  have hE : ∀ h : e.val % 8 < 8, (⟨e.val % 8, h⟩ : Fin 8) = e := fun _ => Fin.ext (Nat.mod_eq_of_lt e.isLt)
  rw [down_same]
  refine (tile_down_apply _ _ _ _ q).trans ?_
  unfold cell tileH
  simp only [gate_same, tile_gate_apply]
  unfold rowsAt slabAt
  simp only [hE, hr]

/-! ## The plan -/

variable (m : (ℓ : Loc nD τ sig) → Buf (Elt Ideal) ℓ)

/-- The two experts of each token. -/
def one (t : ℕ) : Fin 8 := rankedNat (refScore (hid m 0) (rout m 0)) 0 t
def two (t : ℕ) : Fin 8 := rankedNat (refScore (hid m 0) (rout m 0)) 1 t

theorem distinct (t : ℕ) (ht : t < 2048) : one m t ≠ two m t := (score_top (hid m 0) (rout m 0) ⟨t, ht⟩).ne

/-- The row that choice `k` of token `t` takes. -/
def rowOf (t k : ℕ) : ℕ := if t < 2048 then place (one m) (two m) t k else 0

theorem rowOf_eq {t : ℕ} (ht : t < 2048) (k : ℕ) : rowOf m t k = place (one m) (two m) t k := if_pos ht

theorem rowOf_lt (t k : ℕ) : rowOf m t k < 5120 := by
  by_cases ht : t < 2048
  · rw [rowOf_eq m ht]
    exact place_row _ _ ht k
  · unfold rowOf
    rw [if_neg ht]
    norm_num

theorem rowOf_inj (t u k l : ℕ) (ht : t < 2048) (hu : u < 2048) (hk : k < 2) (hl : l < 2) (h : rowOf m t k = rowOf m u l) : t = u ∧ k = l := by
  rw [rowOf_eq m ht, rowOf_eq m hu] at h
  exact place_inj _ _ (distinct m) ht hu hk hl h

variable (h0 : ∀ i, ∃ r : ℝ, (hid m 0 i : EReal) = (r : EReal)) (h1 : ∀ i, ∃ r : ℝ, (rout m 0 i : EReal) = (r : EReal))

/-- The table the host computes fits, whatever the scores are. -/
theorem fit_whole : Fit (tableOf m) := by
  have hc : ∀ e : Fin 8, k0_pay13 (F := Ideal) (hid m 0) (rout m 0) (ix2 0 e)
      = BitVec.ofNat 32 (ahead (one m) (seconds (hid m 0) (rout m 0) (two m)) 2048 e.val) := by
    intro e
    rw [counts_same]
    exact pay13_at (hid m 0) (rout m 0) (pay4_at _ _ (score_top _ _)) (pay7_word _ _ (score_top _ _)) e
  unfold tableOf
  rw [mem6_v8]
  exact fit_table (one m) (seconds (hid m 0) (rout m 0) (two m)) _ hc

include h0 h1

theorem counts_of (e : Fin 8) : k0_pay13 (F := Ideal) (hid m 0) (rout m 0) (ix2 0 e) = BitVec.ofNat 32 (ahead (one m) (two m) 2048 e.val) := by
  rw [counts_same]
  exact pay13_at (hid m 0) (rout m 0) (pay4_at _ _ (score_top _ _)) (pay7_at _ _ (score_top _ _) (score_ne_bot _ _ h0 h1)) e

theorem places_of (t : Fin 2048) (k : Fin 2) : placesW (F := Ideal) (hid m 0) (rout m 0) (ix2 t k) = BitVec.ofNat 32 (rowOf m t.val k.val) := by
  rw [places_same, rowOf_eq m t.isLt]
  exact places_at (hid m 0) (rout m 0) (pay4_at _ _ (score_top _ _)) (pay7_at _ _ (score_top _ _) (score_ne_bot _ _ h0 h1)) t k

/-- The row of a token's choice holds its expert's entry times its weight. -/
theorem row_value (V : Valuation τ sig (Elt Ideal)) (h : After2 m 0 V) (t : Fin 2048) (k : Fin 2) (q : Fin 1024) :
    (V main_v50 : S5120x1024.Idx → EReal) (ix2 ⟨rowOf m t.val k.val, rowOf_lt m _ _⟩ q)
      = cell (fun i => hid m 0 (ix2 t i)) (fun i j => (m ((0 : Dev nD), Proc.devRef .tc main_arg2) : S8x1024x2880.Idx → EReal) (ix3 (sel (one m) (two m) t.val k.val) i j))
          (fun i j => (m ((0 : Dev nD), Proc.devRef .tc main_arg3) : S8x1024x2880.Idx → EReal) (ix3 (sel (one m) (two m) t.val k.val) i j))
          (fun j => (m ((0 : Dev nD), Proc.devRef .tc main_arg4) : S8x2880x1024.Idx → EReal) (ix3 (sel (one m) (two m) t.val k.val) j q))
          (weightsW (F := Ideal) (hid m 0) (rout m 0) (ix2 t k)) := by
  obtain ⟨i, hi, hp⟩ := place_tile (one m) (two m) t.isLt k.val
  rw [← rowOf_eq m t.isLt] at hp
  have ht : tableOf m = tileTable (k0_pay13 (F := Ideal) (hid m 0) (rout m 0)) := mem6_v8 m 0
  have hc := countOf_table (one m) (two m) _ (counts_of m h0 h1) _ (sel (one m) (two m) t.val k.val).isLt
  have hs := startOf_table (one m) (two m) _ (counts_of m h0 h1) _ (sel (one m) (two m) t.val k.val).isLt
  have h2 := h.2 (sel (one m) (two m) t.val k.val).val i (sel (one m) (two m) t.val k.val).isLt (by rw [ht, hc]; exact hi)
  rw [ht, hs, ← hp] at h2
  have hw : (mem6 m 0 main_v38 : S5120x1.Idx → EReal) (ix2 ⟨rowOf m t.val k.val, rowOf_lt m _ _⟩ ⟨0, Nat.one_pos⟩)
      = weightsW (F := Ideal) (hid m 0) (rout m 0) (ix2 t k) := by
    rw [mem6_v38]
    exact shares_hit _ (rowOf m) (rowOf_lt m) (places_of m h0 h1) (rowOf_inj m) _ t k
  have hx : ∀ i : Fin 1024, (mem6 m 0 main_v48 : S5120x1024.Idx → EReal) (ix2 ⟨rowOf m t.val k.val, rowOf_lt m _ _⟩ i) = hid m 0 (ix2 t i) := by
    intro i
    rw [mem6_v48]
    exact tokenRows_hit _ _ _ t k (holders_hit _ (rowOf m) (rowOf_lt m) (places_of m h0 h1) (rowOf_inj m) t k) i
  have hE := tile_entry (mem6 m 0 main_v48) (mem6 m 0 main_arg2) (mem6 m 0 main_arg3) (mem6 m 0 main_arg4) (mem6 m 0 main_v38)
    (sel (one m) (two m) t.val k.val) ⟨rowOf m t.val k.val, rowOf_lt m _ _⟩ q
  rw [hw, mem6_arg m 0 main_arg2 (by decide), mem6_arg m 0 main_arg3 (by decide), mem6_arg m 0 main_arg4 (by decide)] at hE
  simp only [hx] at hE
  rw [← hE]
  refine (row_of_tile _ _ q).trans ((congrFun h2 _).trans ?_)
  unfold tileOut
  rw [mem6_arg m 0 main_arg2 (by decide), mem6_arg m 0 main_arg3 (by decide), mem6_arg m 0 main_arg4 (by decide)]

omit h0 h1 in
theorem hid_flat : hid m 0 = flat (m ((0 : Dev nD), Proc.devRef .tc main_arg0)) := by
  funext i
  obtain ⟨t, c, rfl⟩ : ∃ (t : Fin 2048) (c : Fin 1024), i = ix2 t c := ⟨_, _, eq_ix2 i⟩
  exact slab_apply (m := 2048) (n := 1024) _ shapeCasts_S1x2048x1024_S2048x1024 t c

omit h0 h1 in
/-- The arguments the precondition accepts are real numbers. -/
theorem reals_of_finite (x0 : FVec Ideal S1x2048x1024 .f32) (x1 : FVec Ideal S1024x8 .f32) (x2 x3 : FVec Ideal S8x1024x2880 .f32) (x4 : FVec Ideal S8x2880x1024 .f32)
    (h : Cert.Pre_finite3.fn (F := Ideal) x0 x1 x2 x3 x4 = fun _ => 1#1) :
    (∀ i, ∃ r : ℝ, (x0 i : EReal) = (r : EReal)) ∧ ∀ i, ∃ r : ℝ, (x1 i : EReal) = (r : EReal) := by
  have and1 : ∀ x y : BitVec 1, IntOp.andi x y = 1#1 → x = 1#1 ∧ y = 1#1 := by decide
  have h' := congrFun h (fun a => a.elim0)
  unfold Cert.Pre_finite3.fn at h'
  obtain ⟨h0, h1⟩ := and1 _ _ h'
  exact ⟨fun i => Cert.Router.real_of_below x0 _ (fun _ => Cert.Router.infinity_f32) i (Host.reduce_andi_all _ _ _ _ _ h0 i),
    fun i => Cert.Router.real_of_below x1 _ (fun _ => Cert.Router.infinity_f32) i (Host.reduce_andi_all _ _ _ _ _ h1 i)⟩

/-- What the program leaves in its result is the reference's value. -/
theorem result_of_end (V : Valuation τ sig (Elt Ideal)) (h : After2 m 0 V) :
    StableHlo.after hostOps3 V main_v62 = Cert.Reference3Ideal.Read.val_main_v228 (F := Ideal) (m ((0 : Dev nD), Proc.devRef .tc main_arg0))
      (m ((0 : Dev nD), Proc.devRef .tc main_arg1)) (m ((0 : Dev nD), Proc.devRef .tc main_arg2)) (m ((0 : Dev nD), Proc.devRef .tc main_arg3))
      (m ((0 : Dev nD), Proc.devRef .tc main_arg4)) := by
  rw [host3_v62, h.1 main_v25 (by decide) (by decide), mem6_v25]
  funext i
  obtain ⟨z, t, c, rfl⟩ : ∃ (z : Fin 1) (t : Fin 2048) (c : Fin 1024), i = ix3 z t c := ⟨_, _, _, eq_ix3 i⟩
  obtain rfl : z = 0 := Subsingleton.elim _ _
  have hf := hid_flat m
  have e0 := first_choice (m ((0 : Dev nD), Proc.devRef .tc main_arg0)) (rout m 0) t
  have e1 := second_choice (m ((0 : Dev nD), Proc.devRef .tc main_arg0)) (rout m 0) t
  rw [← hf] at e0 e1
  have w := weights_flat (m ((0 : Dev nD), Proc.devRef .tc main_arg0)) (rout m 0) t (by rw [← hf]; exact h0) h1
  rw [← hf, ← weights_same] at w
  refine (summed_at _ (rowOf m) (rowOf_lt m) (places_of m h0 h1) (rowOf_inj m) _ t c).trans ?_
  rw [row_value m h0 h1 V h t 0 c, row_value m h0 h1 V h t 1 c, ← w, ← w]
  refine Eq.trans ?_ (value_at (one m t.val) (two m t.val) (distinct m _ t.isLt) _ (rout m 0) _ _ _ t e0 e1 c).symm
  rw [hf]
  rfl

omit h0 h1 in
/-- An argument ends as it was given. -/
theorem arg_of_end (V : Valuation τ sig (Elt Ideal)) (h : After2 m 0 V) (r : Ref sig .tc) (hr : r ∈ [main_arg0, main_arg1, main_arg2, main_arg3, main_arg4]) :
    StableHlo.after hostOps3 V r = m ((0 : Dev nD), Proc.devRef .tc r) := by
  have key : r ∉ hostOps3_W ∧ r ≠ main_v49 ∧ r ≠ main_v50 := by
    revert hr r; decide
  obtain ⟨k, n1, n2⟩ := key
  rw [StableHlo.after_of_writes_sub _ _ hostOps3_writes k, h.1 _ (fun e => n1 (Proc.devRef_injective _ e)) (fun e => n2 (Proc.devRef_injective _ e)), mem6_arg m 0 r hr]

end Cert.Whole

end
-- ==== Proof.lean ====
/- The proof of the claims: the two expert calls, the router and the whole kernel run to the end and leave their arguments as
   they were, and their results are the plain mathematics'. -/
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite
public import proofs.«01_k».proof.Proof.Gen.Kernel3Ideal
public import proofs.«01_k».proof.Proof.Gen.Kernel3Ideal.Regions
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel3Ideal.Skeleton
public import proofs.«01_k».proof.Proof.Gen.Kernel3Ideal.Loops
public import proofs.«01_k».proof.Proof.Gen.Kernel3Ideal.Points
public import proofs.«01_k».proof.Defs
public import proofs.«01_k».proof.Proof.Runs
public import proofs.«01_k».proof.Proof.Values
public import proofs.«01_k».proof.Proof.Mask
public import proofs.«01_k».proof.Proof.RouterRun
public import proofs.«01_k».proof.Proof.RouterValues
public import proofs.«01_k».proof.Proof.WholeValues
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tiles_fit
public import proofs.«01_k».proof.Proof.Gen.On_held_tiles

@[expose] public section

set_option maxRecDepth 16384

noncomputable section

namespace Cert.Proof

open Idealize.ShloMosaic Idealize.ShloMosaic.TcCoe Idealize.ShloMosaic.ValueIdx Idealize.SL.Sem Cert.Moe

/-- The table the precondition accepts is admissible. -/
theorem fit_first (m : (ℓ : Loc Cert.Kernel.nD Cert.Kernel.τ Cert.Kernel.sig) → Buf (Elt Bits) ℓ) (h : Cert.Pre_Kernel m) : Fit (tableOf m) :=
  fit_of_pre _ _ _ _ _ _ (h 0)

theorem fit_ideal (m : (ℓ : Loc Cert.KernelIdeal.nD Cert.KernelIdeal.τ Cert.KernelIdeal.sig) → Buf (Elt Ideal) ℓ) (h : Cert.Pre_KernelIdeal m) :
    Fit (tableOf m) :=
  fit_of_pre _ _ _ _ _ _ (h 0)

/-- The kernel ends quiescent with its arguments unchanged. -/
theorem frame_first : Cert.quiescent_Kernel := fun m g hp =>
  (θ_run _ _ _).mono (fun _ h => ⟨fun c => (h.1 c).1, h.2⟩) (run_first m (fit_first m hp) g)

/-- So does its idealization. -/
theorem frame_ideal : Cert.quiescent_KernelIdeal := fun m g hp =>
  (θ_run _ _ _).mono (fun _ h => ⟨fun c => (h.1 c).1, h.2⟩) (run_ideal m (fit_ideal m hp) g)

/-- The reference has no semaphore, so none is off zero. -/
theorem no_cells {N : Type} [OfNat N 0] (f : GSem Cert.ReferenceIdeal.nD Cert.ReferenceIdeal.τ Cert.ReferenceIdeal.sig → N) : f = fun _ => 0 :=
  funext fun
    | (_, .reg s) => (show Fin 0 from s).elim0
    | (_, .dma s) => (show Fin 0 from s).elim0

/-- The reference ends with its arguments unchanged. -/
theorem frame_reference : Cert.quiescent_ReferenceIdeal := fun m g _ =>
  (θ_run _ _ _).mono (fun _ h => ⟨fun c => (h c).2, no_cells _⟩) (Cert.ReferenceIdeal.Value.run m g)

/-- The reference's result, of its arguments. -/
theorem result_of_args (V : Valuation Cert.ReferenceIdeal.τ Cert.ReferenceIdeal.sig (Elt Ideal)) (x0 : Cert.ReferenceIdeal.S16.Idx → BitVec 32)
    (x1 : Cert.ReferenceIdeal.S5120x1024.Idx → EReal) (x2 x3 : Cert.ReferenceIdeal.S8x1024x2880.Idx → EReal)
    (x4 : Cert.ReferenceIdeal.S8x2880x1024.Idx → EReal) (x5 : Cert.ReferenceIdeal.S5120x1.Idx → EReal)
    (h0 : V Cert.ReferenceIdeal.main_arg0 = x0) (h1 : V Cert.ReferenceIdeal.main_arg1 = x1) (h2 : V Cert.ReferenceIdeal.main_arg2 = x2)
    (h3 : V Cert.ReferenceIdeal.main_arg3 = x3) (h4 : V Cert.ReferenceIdeal.main_arg4 = x4) (h5 : V Cert.ReferenceIdeal.main_arg5 = x5) :
    Cert.ReferenceIdeal.Value.res_main_v236 V = Cert.ReferenceIdeal.Read.val_main_v236 (F := Ideal) x0 x1 x2 x3 x4 x5 := by
  subst h0 h1 h2 h3 h4 h5
  exact Cert.ReferenceIdeal.Read.val_main_v236_eq V

/-- On the rows of the tiles the table holds, the kernel's result is the reference's. -/
theorem values : Cert.algebraic_KernelIdeal_ReferenceIdeal_on_held_tiles := by
  intro m g m' g' hp harg
  have hfit := fit_ideal m hp
  refine ⟨fun c => Cert.ReferenceIdeal.Read.val_main_v236 (F := Ideal) (mem0 m c Cert.KernelIdeal.main_arg0) (mem0 m c Cert.KernelIdeal.main_arg1)
    (mem0 m c Cert.KernelIdeal.main_arg2) (mem0 m c Cert.KernelIdeal.main_arg3) (mem0 m c Cert.KernelIdeal.main_arg4) (mem0 m c Cert.KernelIdeal.main_arg5),
    (θ_run _ _ _).mono (fun r h c => ⟨fun i hi => ?_, (h.1 c).1⟩) (run_ideal m hfit g),
    (θ_run _ _ _).mono (fun r h c => ⟨fun i _ => ?_, (h c).2⟩) (Cert.ReferenceIdeal.Value.run m' g')⟩
  · obtain rfl : c = 0 := Subsingleton.elim _ _
    obtain ⟨R, q, rfl⟩ : ∃ (R : Fin 5120) (q : Fin 1024), i = ix2 R q := ⟨_, _, eq_ix2 i⟩
    obtain ⟨e, k, he, hk, hR⟩ := owner_of_mask (x0 := tableOf m) hfit _ _ _ _ _ R q hi
    exact (entry_apply m 0 _ (h.1 0) he hk R q hR).trans (value_apply (x0 := tableOf m) hfit _ _ _ _ _ R q he hk hR).symm
  · obtain ⟨a0, a1, a2, a3, a4, a5⟩ := harg c
    exact congrFun ((h c).1.trans (result_of_args _ _ _ _ _ _ _ a0 a1 a2 a3 a4 a5)) i

/-! ## The router -/

section

open Cert.Router

theorem router_first : Cert.quiescent_Kernel2 := fun m g _ => Cert.Kernel2.Gen.frame m g

theorem router_ideal : Cert.quiescent_Kernel2Ideal := fun m g _ => Cert.Kernel2Ideal.Gen.frame m g

/-- The router's reference has no semaphore, so none is off zero. -/
theorem router_no_cells {N : Type} [OfNat N 0] (f : GSem Cert.Reference2Ideal.nD Cert.Reference2Ideal.τ Cert.Reference2Ideal.sig → N) : f = fun _ => 0 :=
  funext fun
    | (_, .reg s) => (show Fin 0 from s).elim0
    | (_, .dma s) => (show Fin 0 from s).elim0

theorem router_reference : Cert.quiescent_Reference2Ideal := fun m g _ =>
  (θ_run _ _ _).mono (fun _ h => ⟨fun c => (h c).2.2.2, router_no_cells _⟩) (Cert.Reference2Ideal.Value.run m g)

/-- The reference's run, with its three results named. -/
theorem router_reference_run (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ fun r =>
      ∀ c : Dev Cert.Reference2Ideal.nD,
        r.2.mem ((c.tc : Thread Cert.Reference2Ideal.nD Cert.Reference2Ideal.τ).loc Cert.Reference2Ideal.main_v33)
          = refPlaces (topNum (refScore (m ((c.tc : Thread Cert.Reference2Ideal.nD Cert.Reference2Ideal.τ).loc Cert.Reference2Ideal.main_arg0))
            (m ((c.tc : Thread Cert.Reference2Ideal.nD Cert.Reference2Ideal.τ).loc Cert.Reference2Ideal.main_arg1))))
        ∧ r.2.mem ((c.tc : Thread Cert.Reference2Ideal.nD Cert.Reference2Ideal.τ).loc Cert.Reference2Ideal.main_v11)
          = refWeights (topVal (refScore (m ((c.tc : Thread Cert.Reference2Ideal.nD Cert.Reference2Ideal.τ).loc Cert.Reference2Ideal.main_arg0))
            (m ((c.tc : Thread Cert.Reference2Ideal.nD Cert.Reference2Ideal.τ).loc Cert.Reference2Ideal.main_arg1))))
        ∧ r.2.mem ((c.tc : Thread Cert.Reference2Ideal.nD Cert.Reference2Ideal.τ).loc Cert.Reference2Ideal.main_v34)
          = refCounts (topNum (refScore (m ((c.tc : Thread Cert.Reference2Ideal.nD Cert.Reference2Ideal.τ).loc Cert.Reference2Ideal.main_arg0))
            (m ((c.tc : Thread Cert.Reference2Ideal.nD Cert.Reference2Ideal.τ).loc Cert.Reference2Ideal.main_arg1))))
        ∧ r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1)
          = m ((c.tc : Thread Cert.Reference2Ideal.nD Cert.Reference2Ideal.τ).loc Cert.Reference2Ideal.main_arg1) :=
  (θ_run _ _ _).mono (fun _ h c => ⟨(h c).1, (h c).2.1, (h c).2.2.1, (h c).2.2.2⟩) (Cert.Reference2Ideal.Value.run m g)

/-- On finite arguments the router's three results are the reference's. -/
theorem router_values : Cert.algebraic_Kernel2Ideal_Reference2Ideal_pre_finite := by
  intro m g m' g' hp harg
  refine ⟨fun c => places (F := Ideal) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)),
    fun c => weights (F := Ideal) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)),
    fun c => Cert.Kernel2Ideal.Gen.k0_pay13 (F := Ideal) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)),
    (θ_run _ _ _).mono (fun r h c => ?_) (Cert.Kernel2Ideal.Value.run_blocks m g),
    (θ_run _ _ _).mono (fun r h c => ?_) (router_reference_run m' g')⟩
  · obtain ⟨h2, h3, h4, hk⟩ := h c
    exact ⟨h2.trans (arr2_eq m c), h3.trans (arr3_eq m c), h4.trans (arr4_eq m c), hk⟩
  · obtain ⟨h2, h3, h4, hk⟩ := h c
    obtain ⟨a0, a1⟩ := harg c
    obtain ⟨f0, f1⟩ := reals_of_pre _ _ (hp c)
    rw [a0, a1] at h2 h3 h4
    exact ⟨h2.trans (places_meet _ _ f0 f1).symm, h3.trans (weights_meet _ _ f0 f1).symm, h4.trans (counts_meet _ _ f0 f1).symm, hk⟩

end

/-! ## The whole kernel -/

section

open Cert.Whole

/-- The precondition's reals, for the tokens as a matrix and for the router's matrix. -/
theorem whole_reals (m : (ℓ : Loc Cert.Kernel3Ideal.nD Cert.Kernel3Ideal.τ Cert.Kernel3Ideal.sig) → Buf (Elt Ideal) ℓ) (h : Cert.Pre_Kernel3Ideal_finite3 m) :
    (∀ i, ∃ r : ℝ, (hid m 0 i : EReal) = (r : EReal)) ∧ ∀ i, ∃ r : ℝ, (rout m 0 i : EReal) = (r : EReal) := by
  obtain ⟨f0, f1⟩ := reals_of_finite _ _ _ _ _ (h 0)
  exact ⟨fun i => by rw [hid_flat]; exact f0 _, f1⟩

/-- The whole kernel's run: its arguments stay, and where the tokens and the router's matrix are real its result is the reference's value. -/
theorem whole_run (m : (ℓ : Loc Cert.Kernel3Ideal.nD Cert.Kernel3Ideal.τ Cert.Kernel3Ideal.sig) → Buf (Elt Ideal) ℓ)
    (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩ fun r =>
      (∀ c : Dev Cert.Kernel3Ideal.nD,
        (((∀ i, ∃ r : ℝ, (hid m 0 i : EReal) = (r : EReal)) ∧ ∀ i, ∃ r : ℝ, (rout m 0 i : EReal) = (r : EReal)) →
          r.2.mem ((c.tc : Thread Cert.Kernel3Ideal.nD Cert.Kernel3Ideal.τ).loc Cert.Kernel3Ideal.main_v62)
            = Cert.Reference3Ideal.Read.val_main_v228 (F := Ideal) (m ((0 : Dev Cert.Kernel3Ideal.nD), Proc.devRef .tc Cert.Kernel3Ideal.main_arg0))
              (m ((0 : Dev Cert.Kernel3Ideal.nD), Proc.devRef .tc Cert.Kernel3Ideal.main_arg1)) (m ((0 : Dev Cert.Kernel3Ideal.nD), Proc.devRef .tc Cert.Kernel3Ideal.main_arg2))
              (m ((0 : Dev Cert.Kernel3Ideal.nD), Proc.devRef .tc Cert.Kernel3Ideal.main_arg3)) (m ((0 : Dev Cert.Kernel3Ideal.nD), Proc.devRef .tc Cert.Kernel3Ideal.main_arg4)))
        ∧ ∀ b ∈ [Cert.Kernel3Ideal.main_arg0, Cert.Kernel3Ideal.main_arg1, Cert.Kernel3Ideal.main_arg2, Cert.Kernel3Ideal.main_arg3, Cert.Kernel3Ideal.main_arg4],
          r.2.mem ((c.tc : Thread Cert.Kernel3Ideal.nD Cert.Kernel3Ideal.τ).loc b) = m ((c.tc : Thread Cert.Kernel3Ideal.nD Cert.Kernel3Ideal.τ).loc b))
      ∧ r.2.sem = fun _ => 0 := by
  refine (θ_run _ _ _).mono (fun r h => ⟨fun c => ?_, h.2⟩) (run_whole m (fit_whole m) g)
  obtain rfl : c = 0 := Subsingleton.elim _ _
  obtain ⟨V, hV, hr⟩ := h.1 0
  have hs : ∀ b ∈ [Cert.Kernel3Ideal.main_arg0, Cert.Kernel3Ideal.main_arg1, Cert.Kernel3Ideal.main_arg2, Cert.Kernel3Ideal.main_arg3, Cert.Kernel3Ideal.main_arg4],
      b.isScoped = false := by decide
  exact ⟨fun f => (hr Cert.Kernel3Ideal.main_v62 (by decide)).trans (result_of_end m f.1 f.2 V hV), fun b hb => (hr b (hs b hb)).trans (arg_of_end m V hV b hb)⟩

theorem whole_frame : Cert.quiescent_Kernel3Ideal := fun m g _ =>
  (θ_run _ _ _).mono (fun _ h => ⟨fun c => ⟨(h.1 c).2 _ (by decide), (h.1 c).2 _ (by decide), (h.1 c).2 _ (by decide), (h.1 c).2 _ (by decide), (h.1 c).2 _ (by decide)⟩, h.2⟩)
    (whole_run m g)

/-- The whole reference has no semaphore, so none is off zero. -/
theorem whole_no_cells {N : Type} [OfNat N 0] (f : GSem Cert.Reference3Ideal.nD Cert.Reference3Ideal.τ Cert.Reference3Ideal.sig → N) : f = fun _ => 0 :=
  funext fun
    | (_, .reg s) => (show Fin 0 from s).elim0
    | (_, .dma s) => (show Fin 0 from s).elim0

theorem whole_reference : Cert.quiescent_Reference3Ideal := fun m g _ =>
  (θ_run _ _ _).mono (fun _ h => ⟨fun c => (h c).2, whole_no_cells _⟩) (Cert.Reference3Ideal.Value.run m g)

/-- The whole reference's run, with its result named as a function of the arguments. -/
theorem whole_reference_run (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ fun r => ∀ c : Dev Cert.Reference3Ideal.nD,
      r.2.mem ((c.tc : Thread Cert.Reference3Ideal.nD Cert.Reference3Ideal.τ).loc Cert.Reference3Ideal.main_v228)
        = Cert.Reference3Ideal.Read.val_main_v228 (F := Ideal) (m ((c.tc : Thread Cert.Reference3Ideal.nD Cert.Reference3Ideal.τ).loc Cert.Reference3Ideal.main_arg0))
          (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))
          (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4) :=
  (θ_run _ _ _).mono (fun _ h c => ⟨(h c).1.trans (Cert.Reference3Ideal.Read.val_main_v228_eq (StableHlo.launchContents m c)), (h c).2⟩) (Cert.Reference3Ideal.Value.run m g)

/-- Equal arguments give the reference's same result. -/
theorem whole_of_args (v : Cert.Reference3Ideal.S1x2048x1024.Idx → EReal) (y0 x0 : Cert.Reference3Ideal.S1x2048x1024.Idx → EReal)
    (y1 x1 : Cert.Reference3Ideal.S1024x8.Idx → EReal) (y2 x2 y3 x3 : Cert.Reference3Ideal.S8x1024x2880.Idx → EReal) (y4 x4 : Cert.Reference3Ideal.S8x2880x1024.Idx → EReal)
    (h : v = Cert.Reference3Ideal.Read.val_main_v228 (F := Ideal) y0 y1 y2 y3 y4) (h0 : y0 = x0) (h1 : y1 = x1) (h2 : y2 = x2) (h3 : y3 = x3) (h4 : y4 = x4) :
    v = Cert.Reference3Ideal.Read.val_main_v228 (F := Ideal) x0 x1 x2 x3 x4 := by
  subst h0 h1 h2 h3 h4
  exact h

/-- On finite arguments the whole kernel's result is the reference's. -/
theorem whole_values : Cert.algebraic_Kernel3Ideal_Reference3Ideal_pre_finite3 := by
  intro m g m' g' hp harg
  refine ⟨fun _ => Cert.Reference3Ideal.Read.val_main_v228 (F := Ideal) (m ((0 : Dev Cert.Kernel3Ideal.nD), Proc.devRef .tc Cert.Kernel3Ideal.main_arg0))
      (m ((0 : Dev Cert.Kernel3Ideal.nD), Proc.devRef .tc Cert.Kernel3Ideal.main_arg1)) (m ((0 : Dev Cert.Kernel3Ideal.nD), Proc.devRef .tc Cert.Kernel3Ideal.main_arg2))
      (m ((0 : Dev Cert.Kernel3Ideal.nD), Proc.devRef .tc Cert.Kernel3Ideal.main_arg3)) (m ((0 : Dev Cert.Kernel3Ideal.nD), Proc.devRef .tc Cert.Kernel3Ideal.main_arg4)),
    (θ_run _ _ _).mono (fun r h c => ⟨(h.1 c).1 (whole_reals m hp), (h.1 c).2 _ (by decide), (h.1 c).2 _ (by decide), (h.1 c).2 _ (by decide), (h.1 c).2 _ (by decide), (h.1 c).2 _ (by decide)⟩)
      (whole_run m g),
    (θ_run _ _ _).mono (fun r h c => ⟨?_, (h c).2⟩) (whole_reference_run m' g')⟩
  obtain rfl : c = 0 := Subsingleton.elim _ _
  obtain ⟨a0, a1, a2, a3, a4⟩ := harg 0
  exact whole_of_args _ _ _ _ _ _ _ _ _ _ _ (h 0).1 a0 a1 a2 a3 a4

end

/-- Every claim holds. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3Ideal.Gen.facts, Cert.Reference3Ideal.Gen.facts,
  Cert.Pre_tiles_fit.Gen.facts, Cert.Pre_finite.Gen.facts, Cert.Pre_finite3.Gen.facts, Cert.On_held_tiles.Gen.facts,
  frame_first, frame_ideal, frame_reference, fun m g _ => frame_reference m g trivial,
  router_first, router_ideal, fun m g _ => router_ideal m g trivial, router_reference, fun m g _ => router_reference m g trivial,
  whole_frame, fun m g _ => whole_frame m g trivial, whole_reference, fun m g _ => whole_reference m g trivial,
  trivial, values, trivial, router_values, whole_values⟩

end Cert.Proof

end
